-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_v32) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S9x32768x128 : Shape := ⟨3, ![9, 32768, 128]⟩
abbrev S6x32768x128 : Shape := ⟨3, ![6, 32768, 128]⟩
abbrev S_ : Shape := ⟨0, ![]⟩

class Facts : Prop where
  slices_S9x32768x128_S6x32768x128_0_0_0 : S9x32768x128.Slices ![0, 0, 0] S6x32768x128
  bcast_S_S6x32768x128 : S_.BroadcastsInDim S6x32768x128 (![] : Fin 0 → Fin S6x32768x128.rank)

variable [Facts]

def fn {F : FTy → Type} [FloatOps F] (main_arg0 : FVec F S9x32768x128 .f32) : IVec S6x32768x128 1 :=
  let main_v0 : FVec F S6x32768x128 .f32 := (extractStridedSlice S6x32768x128 ![0, 0, 0] · slices_S9x32768x128_S6x32768x128_0_0_0) main_arg0
  let main_v1 : FVec F S6x32768x128 .f32 := Host.absf main_v0
  let main_cst : FVec F S_ .f32 := constant S_ .f32 0x7F800000#32
  let main_v2 : FVec F S6x32768x128 .f32 := broadcastInDim S6x32768x128 ![] bcast_S_S6x32768x128 main_cst
  let main_v3 : IVec S6x32768x128 1 := cmpf .olt main_v1 main_v2
  main_v3
-- ==== Kernel.lean ====
abbrev S9x32768x128 : Shape := ⟨3, ![9, 32768, 128]⟩
abbrev S32768x384 : Shape := ⟨2, ![32768, 384]⟩
abbrev S9x2048x128 : Shape := ⟨3, ![9, 2048, 128]⟩
abbrev S2048x384 : Shape := ⟨2, ![2048, 384]⟩
abbrev S2176x128 : Shape := ⟨2, ![2176, 128]⟩
abbrev S2560x128 : Shape := ⟨2, ![2560, 128]⟩
abbrev S4096x128 : Shape := ⟨2, ![4096, 128]⟩
abbrev S3x2048x128 : Shape := ⟨3, ![3, 2048, 128]⟩
abbrev S128x128 : Shape := ⟨2, ![128, 128]⟩
abbrev S128x256 : Shape := ⟨2, ![128, 256]⟩
abbrev S1x2048x128 : Shape := ⟨3, ![1, 2048, 128]⟩
abbrev S2048x128 : Shape := ⟨2, ![2048, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩
abbrev S512x128 : Shape := ⟨2, ![512, 128]⟩
abbrev S1x256x128 : Shape := ⟨3, ![1, 256, 128]⟩

abbrev nBuf : Space → Nat
  | .hbm => 2
  | .vmem => 12
  | .smem => 0
  | _ => 0

abbrev bufTy : (tb : Table) → Fin (tcTables nBuf tb) → BufTy
  | .hbm, ⟨0, _⟩ => ⟨S9x32768x128, .f32⟩
  | .hbm, ⟨1, _⟩ => ⟨S32768x384, .bf16⟩
  | .local _ .vmem, ⟨0, _⟩ => ⟨S9x2048x128, .f32⟩
  | .local _ .vmem, ⟨1, _⟩ => ⟨S9x2048x128, .f32⟩
  | .local _ .vmem, ⟨2, _⟩ => ⟨S2048x384, .bf16⟩
  | .local _ .vmem, ⟨3, _⟩ => ⟨S2048x384, .bf16⟩
  | .local _ .vmem, ⟨4, _⟩ => ⟨S2176x128, .f32⟩
  | .local _ .vmem, ⟨5, _⟩ => ⟨S2176x128, .f32⟩
  | .local _ .vmem, ⟨6, _⟩ => ⟨S2560x128, .f32⟩
  | .local _ .vmem, ⟨7, _⟩ => ⟨S2560x128, .f32⟩
  | .local _ .vmem, ⟨8, _⟩ => ⟨S4096x128, .f32⟩
  | .local _ .vmem, ⟨9, _⟩ => ⟨S4096x128, .f32⟩
  | .local _ .vmem, ⟨10, _⟩ => ⟨S3x2048x128, .f32⟩
  | .local _ .vmem, ⟨11, _⟩ => ⟨S3x2048x128, .f32⟩
  | _, _ => ⟨S9x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_9 : BitVec 32 := 0#32
  let c4_i32 : BitVec 32 := 4#32
  let v26 : BitVec 32 := Scalar.addi c0_i32_9 c4_i32
  let c1_i32 : BitVec 32 := 1#32
  ⟨c0_i32_9, v26, c1_i32⟩
def k0_off1 (k0_t1 : Fin k0_t1_loop.trips) (c0_i32_45 : BitVec 32) : Fin 3 → Nat :=
  let c0_57 : Index := 0#32
  let c0_i32_9 : BitVec 32 := 0#32
  let c1_i32 : BitVec 32 := 1#32
  let arg12 : BitVec 32 := Scf.iv c0_i32_9 c1_i32 k0_t1
  let c4_i32_44 : BitVec 32 := 4#32
  let v62 : BitVec 32 := Scalar.muli arg12 c4_i32_44
  let v63 : BitVec 32 := Scalar.addi v62 c0_i32_45
  let c0_i32_47 : BitVec 32 := 0#32
  let v65 : BitVec 1 := Scalar.cmpi .sgt v63 c0_i32_47
  let v66 : BitVec 32 := Scalar.extui v65
  let c0_i32_48 : BitVec 32 := 0#32
  let v67 : BitVec 1 := Scalar.cmpi .slt v63 c0_i32_48
  let v68 : BitVec 32 := Scalar.extui v67
  let v69 : BitVec 32 := Scalar.subi v66 v68
  let c1_i32_46 : BitVec 32 := 1#32
  let c0_i32_49 : BitVec 32 := 0#32
  let v70 : BitVec 1 := Scalar.cmpi .sgt c1_i32_46 c0_i32_49
  let v71 : BitVec 32 := Scalar.extui v70
  let c0_i32_50 : BitVec 32 := 0#32
  let v72 : BitVec 1 := Scalar.cmpi .slt c1_i32_46 c0_i32_50
  let v73 : BitVec 32 := Scalar.extui v72
  let v74 : BitVec 32 := Scalar.subi v71 v73
  let v75 : BitVec 1 := Scalar.cmpi .ne v69 v74
  let v76 : BitVec 32 := Scalar.remsi v63 c1_i32_46
  let c0_i32_51 : BitVec 32 := 0#32
  let v77 : BitVec 1 := Scalar.cmpi .ne v76 c0_i32_51
  let v78 : BitVec 1 := Scalar.andi v75 v77
  let v64 : BitVec 32 := Scalar.divsi v63 c1_i32_46
  let c1_i32_52 : BitVec 32 := 1#32
  let v79 : BitVec 32 := Scalar.subi v64 c1_i32_52
  let v80 : BitVec 32 := Scalar.select v78 v79 v64
  let c128_i32_53 : BitVec 32 := 128#32
  let v81 : BitVec 32 := Scalar.muli v80 c128_i32_53
  let c1_i32_54 : BitVec 32 := 1#32
  let v82 : BitVec 32 := Scalar.muli v80 c1_i32_54
  let v83 : BitVec 32 := Scalar.subi v63 v82
  let v84 : BitVec 32 := Scalar.addi v81 v83
  let v93 : Index := Scalar.indexCast v84
  let c0_58 : Index := 0#32
  ![0, v93.toNat, 0]
def k0_off2 (k0_t1 : Fin k0_t1_loop.trips) (c0_i32_45 : BitVec 32) : Fin 2 → Nat :=
  let c0_i32_9 : BitVec 32 := 0#32
  let c1_i32 : BitVec 32 := 1#32
  let arg12 : BitVec 32 := Scf.iv c0_i32_9 c1_i32 k0_t1
  let c4_i32_44 : BitVec 32 := 4#32
  let v62 : BitVec 32 := Scalar.muli arg12 c4_i32_44
  let v63 : BitVec 32 := Scalar.addi v62 c0_i32_45
  let c0_i32_47 : BitVec 32 := 0#32
  let v65 : BitVec 1 := Scalar.cmpi .sgt v63 c0_i32_47
  let v66 : BitVec 32 := Scalar.extui v65
  let c0_i32_48 : BitVec 32 := 0#32
  let v67 : BitVec 1 := Scalar.cmpi .slt v63 c0_i32_48
  let v68 : BitVec 32 := Scalar.extui v67
  let v69 : BitVec 32 := Scalar.subi v66 v68
  let c1_i32_46 : BitVec 32 := 1#32
  let c0_i32_49 : BitVec 32 := 0#32
  let v70 : BitVec 1 := Scalar.cmpi .sgt c1_i32_46 c0_i32_49
  let v71 : BitVec 32 := Scalar.extui v70
  let c0_i32_50 : BitVec 32 := 0#32
  let v72 : BitVec 1 := Scalar.cmpi .slt c1_i32_46 c0_i32_50
  let v73 : BitVec 32 := Scalar.extui v72
  let v74 : BitVec 32 := Scalar.subi v71 v73
  let v75 : BitVec 1 := Scalar.cmpi .ne v69 v74
  let v76 : BitVec 32 := Scalar.remsi v63 c1_i32_46
  let c0_i32_51 : BitVec 32 := 0#32
  let v77 : BitVec 1 := Scalar.cmpi .ne v76 c0_i32_51
  let v78 : BitVec 1 := Scalar.andi v75 v77
  let v64 : BitVec 32 := Scalar.divsi v63 c1_i32_46
  let c1_i32_52 : BitVec 32 := 1#32
  let v79 : BitVec 32 := Scalar.subi v64 c1_i32_52
  let v80 : BitVec 32 := Scalar.select v78 v79 v64
  let c128_i32_53 : BitVec 32 := 128#32
  let v81 : BitVec 32 := Scalar.muli v80 c128_i32_53
  let c1_i32_54 : BitVec 32 := 1#32
  let v82 : BitVec 32 := Scalar.muli v80 c1_i32_54
  let v83 : BitVec 32 := Scalar.subi v63 v82
  let v84 : BitVec 32 := Scalar.addi v81 v83
  let v98 : Index := Scalar.indexCast v84
  let c0_59 : Index := 0#32
  ![v98.toNat, 0]
def k0_off3 (k0_t1 : Fin k0_t1_loop.trips) (c0_i32_45 : BitVec 32) : Fin 3 → Nat :=
  let c0_162 : Index := 0#32
  let c0_i32_9 : BitVec 32 := 0#32
  let c1_i32 : BitVec 32 := 1#32
  let arg12 : BitVec 32 := Scf.iv c0_i32_9 c1_i32 k0_t1
  let c4_i32_44 : BitVec 32 := 4#32
  let v62 : BitVec 32 := Scalar.muli arg12 c4_i32_44
  let v63 : BitVec 32 := Scalar.addi v62 c0_i32_45
  let c0_i32_47 : BitVec 32 := 0#32
  let v65 : BitVec 1 := Scalar.cmpi .sgt v63 c0_i32_47
  let v66 : BitVec 32 := Scalar.extui v65
  let c0_i32_48 : BitVec 32 := 0#32
  let v67 : BitVec 1 := Scalar.cmpi .slt v63 c0_i32_48
  let v68 : BitVec 32 := Scalar.extui v67
  let v69 : BitVec 32 := Scalar.subi v66 v68
  let c1_i32_46 : BitVec 32 := 1#32
  let c0_i32_49 : BitVec 32 := 0#32
  let v70 : BitVec 1 := Scalar.cmpi .sgt c1_i32_46 c0_i32_49
  let v71 : BitVec 32 := Scalar.extui v70
  let c0_i32_50 : BitVec 32 := 0#32
  let v72 : BitVec 1 := Scalar.cmpi .slt c1_i32_46 c0_i32_50
  let v73 : BitVec 32 := Scalar.extui v72
  let v74 : BitVec 32 := Scalar.subi v71 v73
  let v75 : BitVec 1 := Scalar.cmpi .ne v69 v74
  let v76 : BitVec 32 := Scalar.remsi v63 c1_i32_46
  let c0_i32_51 : BitVec 32 := 0#32
  let v77 : BitVec 1 := Scalar.cmpi .ne v76 c0_i32_51
  let v78 : BitVec 1 := Scalar.andi v75 v77
  let v64 : BitVec 32 := Scalar.divsi v63 c1_i32_46
  let c1_i32_52 : BitVec 32 := 1#32
  let v79 : BitVec 32 := Scalar.subi v64 c1_i32_52
  let v80 : BitVec 32 := Scalar.select v78 v79 v64
  let c128_i32_53 : BitVec 32 := 128#32
  let v81 : BitVec 32 := Scalar.muli v80 c128_i32_53
  let c1_i32_54 : BitVec 32 := 1#32
  let v82 : BitVec 32 := Scalar.muli v80 c1_i32_54
  let v83 : BitVec 32 := Scalar.subi v63 v82
  let v84 : BitVec 32 := Scalar.addi v81 v83
  let v369 : Index := Scalar.indexCast v84
  let c0_163 : Index := 0#32
  ![0, v369.toNat, 0]
@[reducible] def k0_t2_loop : Scf.Loop 32 :=
  let c0_i32_22 : BitVec 32 := 0#32
  let c4_i32_23 : BitVec 32 := 4#32
  let v43 : BitVec 32 := Scalar.addi c0_i32_22 c4_i32_23
  let c1_i32_24 : BitVec 32 := 1#32
  ⟨c0_i32_22, v43, c1_i32_24⟩
def k0_off4 (k0_t2 : Fin k0_t2_loop.trips) (c0_i32_45 : BitVec 32) : Fin 3 → Nat :=
  let c1 : Index := 1#32
  let c0_i32_22 : BitVec 32 := 0#32
  let c1_i32_24 : BitVec 32 := 1#32
  let arg12 : BitVec 32 := Scf.iv c0_i32_22 c1_i32_24 k0_t2
  let c4_i32_44 : BitVec 32 := 4#32
  let v62 : BitVec 32 := Scalar.muli arg12 c4_i32_44
  let v63 : BitVec 32 := Scalar.addi v62 c0_i32_45
  let c0_i32_47 : BitVec 32 := 0#32
  let v65 : BitVec 1 := Scalar.cmpi .sgt v63 c0_i32_47
  let v66 : BitVec 32 := Scalar.extui v65
  let c0_i32_48 : BitVec 32 := 0#32
  let v67 : BitVec 1 := Scalar.cmpi .slt v63 c0_i32_48
  let v68 : BitVec 32 := Scalar.extui v67
  let v69 : BitVec 32 := Scalar.subi v66 v68
  let c4_i32_46 : BitVec 32 := 4#32
  let c0_i32_49 : BitVec 32 := 0#32
  let v70 : BitVec 1 := Scalar.cmpi .sgt c4_i32_46 c0_i32_49
  let v71 : BitVec 32 := Scalar.extui v70
  let c0_i32_50 : BitVec 32 := 0#32
  let v72 : BitVec 1 := Scalar.cmpi .slt c4_i32_46 c0_i32_50
  let v73 : BitVec 32 := Scalar.extui v72
  let v74 : BitVec 32 := Scalar.subi v71 v73
  let v75 : BitVec 1 := Scalar.cmpi .ne v69 v74
  let v76 : BitVec 32 := Scalar.remsi v63 c4_i32_46
  let c0_i32_51 : BitVec 32 := 0#32
  let v77 : BitVec 1 := Scalar.cmpi .ne v76 c0_i32_51
  let v78 : BitVec 1 := Scalar.andi v75 v77
  let v64 : BitVec 32 := Scalar.divsi v63 c4_i32_46
  let c1_i32_52 : BitVec 32 := 1#32
  let v79 : BitVec 32 := Scalar.subi v64 c1_i32_52
  let v80 : BitVec 32 := Scalar.select v78 v79 v64
  let c512_i32 : BitVec 32 := 512#32
  let v81 : BitVec 32 := Scalar.muli v80 c512_i32
  let c4_i32_53 : BitVec 32 := 4#32
  let v82 : BitVec 32 := Scalar.muli v80 c4_i32_53
  let v83 : BitVec 32 := Scalar.subi v63 v82
  let v84 : BitVec 32 := Scalar.addi v81 v83
  let v93 : Index := Scalar.indexCast v84
  let c0_57 : Index := 0#32
  ![1, v93.toNat, 0]
def k0_off5 (k0_t2 : Fin k0_t2_loop.trips) (c0_i32_45 : BitVec 32) : Fin 2 → Nat :=
  let c0_i32_22 : BitVec 32 := 0#32
  let c1_i32_24 : BitVec 32 := 1#32
  let arg12 : BitVec 32 := Scf.iv c0_i32_22 c1_i32_24 k0_t2
  let c4_i32_44 : BitVec 32 := 4#32
  let v62 : BitVec 32 := Scalar.muli arg12 c4_i32_44
  let v63 : BitVec 32 := Scalar.addi v62 c0_i32_45
  let c0_i32_47 : BitVec 32 := 0#32
  let v65 : BitVec 1 := Scalar.cmpi .sgt v63 c0_i32_47
  let v66 : BitVec 32 := Scalar.extui v65
  let c0_i32_48 : BitVec 32 := 0#32
  let v67 : BitVec 1 := Scalar.cmpi .slt v63 c0_i32_48
  let v68 : BitVec 32 := Scalar.extui v67
  let v69 : BitVec 32 := Scalar.subi v66 v68
  let c4_i32_46 : BitVec 32 := 4#32
  let c0_i32_49 : BitVec 32 := 0#32
  let v70 : BitVec 1 := Scalar.cmpi .sgt c4_i32_46 c0_i32_49
  let v71 : BitVec 32 := Scalar.extui v70
  let c0_i32_50 : BitVec 32 := 0#32
  let v72 : BitVec 1 := Scalar.cmpi .slt c4_i32_46 c0_i32_50
  let v73 : BitVec 32 := Scalar.extui v72
  let v74 : BitVec 32 := Scalar.subi v71 v73
  let v75 : BitVec 1 := Scalar.cmpi .ne v69 v74
  let v76 : BitVec 32 := Scalar.remsi v63 c4_i32_46
  let c0_i32_51 : BitVec 32 := 0#32
  let v77 : BitVec 1 := Scalar.cmpi .ne v76 c0_i32_51
  let v78 : BitVec 1 := Scalar.andi v75 v77
  let v64 : BitVec 32 := Scalar.divsi v63 c4_i32_46
  let c1_i32_52 : BitVec 32 := 1#32
  let v79 : BitVec 32 := Scalar.subi v64 c1_i32_52
  let v80 : BitVec 32 := Scalar.select v78 v79 v64
  let c512_i32 : BitVec 32 := 512#32
  let v81 : BitVec 32 := Scalar.muli v80 c512_i32
  let c4_i32_53 : BitVec 32 := 4#32
  let v82 : BitVec 32 := Scalar.muli v80 c4_i32_53
  let v83 : BitVec 32 := Scalar.subi v63 v82
  let v84 : BitVec 32 := Scalar.addi v81 v83
  let v98 : Index := Scalar.indexCast v84
  let c0_58 : Index := 0#32
  ![v98.toNat, 0]
def k0_off6 (k0_t2 : Fin k0_t2_loop.trips) (c0_i32_45 : BitVec 32) : Fin 3 → Nat :=
  let c1_161 : Index := 1#32
  let c0_i32_22 : BitVec 32 := 0#32
  let c1_i32_24 : BitVec 32 := 1#32
  let arg12 : BitVec 32 := Scf.iv c0_i32_22 c1_i32_24 k0_t2
  let c4_i32_44 : BitVec 32 := 4#32
  let v62 : BitVec 32 := Scalar.muli arg12 c4_i32_44
  let v63 : BitVec 32 := Scalar.addi v62 c0_i32_45
  let c0_i32_47 : BitVec 32 := 0#32
  let v65 : BitVec 1 := Scalar.cmpi .sgt v63 c0_i32_47
  let v66 : BitVec 32 := Scalar.extui v65
  let c0_i32_48 : BitVec 32 := 0#32
  let v67 : BitVec 1 := Scalar.cmpi .slt v63 c0_i32_48
  let v68 : BitVec 32 := Scalar.extui v67
  let v69 : BitVec 32 := Scalar.subi v66 v68
  let c4_i32_46 : BitVec 32 := 4#32
  let c0_i32_49 : BitVec 32 := 0#32
  let v70 : BitVec 1 := Scalar.cmpi .sgt c4_i32_46 c0_i32_49
  let v71 : BitVec 32 := Scalar.extui v70
  let c0_i32_50 : BitVec 32 := 0#32
  let v72 : BitVec 1 := Scalar.cmpi .slt c4_i32_46 c0_i32_50
  let v73 : BitVec 32 := Scalar.extui v72
  let v74 : BitVec 32 := Scalar.subi v71 v73
  let v75 : BitVec 1 := Scalar.cmpi .ne v69 v74
  let v76 : BitVec 32 := Scalar.remsi v63 c4_i32_46
  let c0_i32_51 : BitVec 32 := 0#32
  let v77 : BitVec 1 := Scalar.cmpi .ne v76 c0_i32_51
  let v78 : BitVec 1 := Scalar.andi v75 v77
  let v64 : BitVec 32 := Scalar.divsi v63 c4_i32_46
  let c1_i32_52 : BitVec 32 := 1#32
  let v79 : BitVec 32 := Scalar.subi v64 c1_i32_52
  let v80 : BitVec 32 := Scalar.select v78 v79 v64
  let c512_i32 : BitVec 32 := 512#32
  let v81 : BitVec 32 := Scalar.muli v80 c512_i32
  let c4_i32_53 : BitVec 32 := 4#32
  let v82 : BitVec 32 := Scalar.muli v80 c4_i32_53
  let v83 : BitVec 32 := Scalar.subi v63 v82
  let v84 : BitVec 32 := Scalar.addi v81 v83
  let v369 : Index := Scalar.indexCast v84
  let c0_162 : Index := 0#32
  ![1, v369.toNat, 0]
@[reducible] def k0_t3_loop : Scf.Loop 32 :=
  let c0_i32_37 : BitVec 32 := 0#32
  let c4_i32_38 : BitVec 32 := 4#32
  let v60 : BitVec 32 := Scalar.addi c0_i32_37 c4_i32_38
  let c1_i32_39 : BitVec 32 := 1#32
  ⟨c0_i32_37, v60, c1_i32_39⟩
def k0_off7 (k0_t3 : Fin k0_t3_loop.trips) (c0_i32_45 : BitVec 32) : Fin 3 → Nat :=
  let c2 : Index := 2#32
  let c0_i32_37 : BitVec 32 := 0#32
  let c1_i32_39 : BitVec 32 := 1#32
  let arg12 : BitVec 32 := Scf.iv c0_i32_37 c1_i32_39 k0_t3
  let c4_i32_44 : BitVec 32 := 4#32
  let v62 : BitVec 32 := Scalar.muli arg12 c4_i32_44
  let v63 : BitVec 32 := Scalar.addi v62 c0_i32_45
  let c0_i32_46 : BitVec 32 := 0#32
  let v65 : BitVec 1 := Scalar.cmpi .sgt v63 c0_i32_46
  let v66 : BitVec 32 := Scalar.extui v65
  let c0_i32_47 : BitVec 32 := 0#32
  let v67 : BitVec 1 := Scalar.cmpi .slt v63 c0_i32_47
  let v68 : BitVec 32 := Scalar.extui v67
  let v69 : BitVec 32 := Scalar.subi v66 v68
  let c16_i32 : BitVec 32 := 16#32
  let c0_i32_48 : BitVec 32 := 0#32
  let v70 : BitVec 1 := Scalar.cmpi .sgt c16_i32 c0_i32_48
  let v71 : BitVec 32 := Scalar.extui v70
  let c0_i32_49 : BitVec 32 := 0#32
  let v72 : BitVec 1 := Scalar.cmpi .slt c16_i32 c0_i32_49
  let v73 : BitVec 32 := Scalar.extui v72
  let v74 : BitVec 32 := Scalar.subi v71 v73
  let v75 : BitVec 1 := Scalar.cmpi .ne v69 v74
  let v76 : BitVec 32 := Scalar.remsi v63 c16_i32
  let c0_i32_50 : BitVec 32 := 0#32
  let v77 : BitVec 1 := Scalar.cmpi .ne v76 c0_i32_50
  let v78 : BitVec 1 := Scalar.andi v75 v77
  let v64 : BitVec 32 := Scalar.divsi v63 c16_i32
  let c1_i32_51 : BitVec 32 := 1#32
  let v79 : BitVec 32 := Scalar.subi v64 c1_i32_51
  let v80 : BitVec 32 := Scalar.select v78 v79 v64
  let c2048_i32 : BitVec 32 := 2048#32
  let v81 : BitVec 32 := Scalar.muli v80 c2048_i32
  let c16_i32_52 : BitVec 32 := 16#32
  let v82 : BitVec 32 := Scalar.muli v80 c16_i32_52
  let v83 : BitVec 32 := Scalar.subi v63 v82
  let v84 : BitVec 32 := Scalar.addi v81 v83
  let v93 : Index := Scalar.indexCast v84
  let c0_56 : Index := 0#32
  ![2, v93.toNat, 0]
def k0_off8 (k0_t3 : Fin k0_t3_loop.trips) (c0_i32_45 : BitVec 32) : Fin 2 → Nat :=
  let c0_i32_37 : BitVec 32 := 0#32
  let c1_i32_39 : BitVec 32 := 1#32
  let arg12 : BitVec 32 := Scf.iv c0_i32_37 c1_i32_39 k0_t3
  let c4_i32_44 : BitVec 32 := 4#32
  let v62 : BitVec 32 := Scalar.muli arg12 c4_i32_44
  let v63 : BitVec 32 := Scalar.addi v62 c0_i32_45
  let c0_i32_46 : BitVec 32 := 0#32
  let v65 : BitVec 1 := Scalar.cmpi .sgt v63 c0_i32_46
  let v66 : BitVec 32 := Scalar.extui v65
  let c0_i32_47 : BitVec 32 := 0#32
  let v67 : BitVec 1 := Scalar.cmpi .slt v63 c0_i32_47
  let v68 : BitVec 32 := Scalar.extui v67
  let v69 : BitVec 32 := Scalar.subi v66 v68
  let c16_i32 : BitVec 32 := 16#32
  let c0_i32_48 : BitVec 32 := 0#32
  let v70 : BitVec 1 := Scalar.cmpi .sgt c16_i32 c0_i32_48
  let v71 : BitVec 32 := Scalar.extui v70
  let c0_i32_49 : BitVec 32 := 0#32
  let v72 : BitVec 1 := Scalar.cmpi .slt c16_i32 c0_i32_49
  let v73 : BitVec 32 := Scalar.extui v72
  let v74 : BitVec 32 := Scalar.subi v71 v73
  let v75 : BitVec 1 := Scalar.cmpi .ne v69 v74
  let v76 : BitVec 32 := Scalar.remsi v63 c16_i32
  let c0_i32_50 : BitVec 32 := 0#32
  let v77 : BitVec 1 := Scalar.cmpi .ne v76 c0_i32_50
  let v78 : BitVec 1 := Scalar.andi v75 v77
  let v64 : BitVec 32 := Scalar.divsi v63 c16_i32
  let c1_i32_51 : BitVec 32 := 1#32
  let v79 : BitVec 32 := Scalar.subi v64 c1_i32_51
  let v80 : BitVec 32 := Scalar.select v78 v79 v64
  let c2048_i32 : BitVec 32 := 2048#32
  let v81 : BitVec 32 := Scalar.muli v80 c2048_i32
  let c16_i32_52 : BitVec 32 := 16#32
  let v82 : BitVec 32 := Scalar.muli v80 c16_i32_52
  let v83 : BitVec 32 := Scalar.subi v63 v82
  let v84 : BitVec 32 := Scalar.addi v81 v83
  let v98 : Index := Scalar.indexCast v84
  let c0_57 : Index := 0#32
  ![v98.toNat, 0]
def k0_off9 (k0_t3 : Fin k0_t3_loop.trips) (c0_i32_45 : BitVec 32) : Fin 3 → Nat :=
  let c2_160 : Index := 2#32
  let c0_i32_37 : BitVec 32 := 0#32
  let c1_i32_39 : BitVec 32 := 1#32
  let arg12 : BitVec 32 := Scf.iv c0_i32_37 c1_i32_39 k0_t3
  let c4_i32_44 : BitVec 32 := 4#32
  let v62 : BitVec 32 := Scalar.muli arg12 c4_i32_44
  let v63 : BitVec 32 := Scalar.addi v62 c0_i32_45
  let c0_i32_46 : BitVec 32 := 0#32
  let v65 : BitVec 1 := Scalar.cmpi .sgt v63 c0_i32_46
  let v66 : BitVec 32 := Scalar.extui v65
  let c0_i32_47 : BitVec 32 := 0#32
  let v67 : BitVec 1 := Scalar.cmpi .slt v63 c0_i32_47
  let v68 : BitVec 32 := Scalar.extui v67
  let v69 : BitVec 32 := Scalar.subi v66 v68
  let c16_i32 : BitVec 32 := 16#32
  let c0_i32_48 : BitVec 32 := 0#32
  let v70 : BitVec 1 := Scalar.cmpi .sgt c16_i32 c0_i32_48
  let v71 : BitVec 32 := Scalar.extui v70
  let c0_i32_49 : BitVec 32 := 0#32
  let v72 : BitVec 1 := Scalar.cmpi .slt c16_i32 c0_i32_49
  let v73 : BitVec 32 := Scalar.extui v72
  let v74 : BitVec 32 := Scalar.subi v71 v73
  let v75 : BitVec 1 := Scalar.cmpi .ne v69 v74
  let v76 : BitVec 32 := Scalar.remsi v63 c16_i32
  let c0_i32_50 : BitVec 32 := 0#32
  let v77 : BitVec 1 := Scalar.cmpi .ne v76 c0_i32_50
  let v78 : BitVec 1 := Scalar.andi v75 v77
  let v64 : BitVec 32 := Scalar.divsi v63 c16_i32
  let c1_i32_51 : BitVec 32 := 1#32
  let v79 : BitVec 32 := Scalar.subi v64 c1_i32_51
  let v80 : BitVec 32 := Scalar.select v78 v79 v64
  let c2048_i32 : BitVec 32 := 2048#32
  let v81 : BitVec 32 := Scalar.muli v80 c2048_i32
  let c16_i32_52 : BitVec 32 := 16#32
  let v82 : BitVec 32 := Scalar.muli v80 c16_i32_52
  let v83 : BitVec 32 := Scalar.subi v63 v82
  let v84 : BitVec 32 := Scalar.addi v81 v83
  let v369 : Index := Scalar.indexCast v84
  let c0_161 : Index := 0#32
  ![2, v369.toNat, 0]
@[reducible] def k0_t4_loop : Scf.Loop 32 :=
  let c0_i32_41 : BitVec 32 := 0#32
  let c8_i32 : BitVec 32 := 8#32
  let v61 : BitVec 32 := Scalar.addi c0_i32_41 c8_i32
  let c1_i32_42 : BitVec 32 := 1#32
  ⟨c0_i32_41, v61, c1_i32_42⟩
def k0_mult1 (k0_t4 : Fin k0_t4_loop.trips) : BitVec 32 :=
  let c0_i32_41 : BitVec 32 := 0#32
  let c1_i32_42 : BitVec 32 := 1#32
  let arg12 : BitVec 32 := Scf.iv c0_i32_41 c1_i32_42 k0_t4
  let c256_i32 : BitVec 32 := 256#32
  let v62 : BitVec 32 := Scalar.muli arg12 c256_i32
  v62
def k0_off10 (k0_t4 : Fin k0_t4_loop.trips) : Fin 3 → Nat :=
  let c0_44 : Index := 0#32
  let c0_i32_41 : BitVec 32 := 0#32
  let c1_i32_42 : BitVec 32 := 1#32
  let arg12 : BitVec 32 := Scf.iv c0_i32_41 c1_i32_42 k0_t4
  let c256_i32 : BitVec 32 := 256#32
  let v62 : BitVec 32 := Scalar.muli arg12 c256_i32
  let v63 : BitVec 32 := v62
  let v64 : Index := Scalar.indexCast v63
  let c0_45 : Index := 0#32
  ![0, v64.toNat, 0]
def k0_off11 (k0_t4 : Fin k0_t4_loop.trips) : Fin 3 → Nat :=
  let c1 : Index := 1#32
  let c0_i32_41 : BitVec 32 := 0#32
  let c1_i32_42 : BitVec 32 := 1#32
  let arg12 : BitVec 32 := Scf.iv c0_i32_41 c1_i32_42 k0_t4
  let c256_i32 : BitVec 32 := 256#32
  let v62 : BitVec 32 := Scalar.muli arg12 c256_i32
  let v63 : BitVec 32 := v62
  let v67 : Index := Scalar.indexCast v63
  let c0_46 : Index := 0#32
  ![1, v67.toNat, 0]
def k0_off12 (k0_t4 : Fin k0_t4_loop.trips) : Fin 3 → Nat :=
  let c2 : Index := 2#32
  let c0_i32_41 : BitVec 32 := 0#32
  let c1_i32_42 : BitVec 32 := 1#32
  let arg12 : BitVec 32 := Scf.iv c0_i32_41 c1_i32_42 k0_t4
  let c256_i32 : BitVec 32 := 256#32
  let v62 : BitVec 32 := Scalar.muli arg12 c256_i32
  let v63 : BitVec 32 := v62
  let v70 : Index := Scalar.indexCast v63
  let c0_47 : Index := 0#32
  ![2, v70.toNat, 0]
def k0_off13 (k0_t4 : Fin k0_t4_loop.trips) : Fin 2 → Nat :=
  let c0_i32_41 : BitVec 32 := 0#32
  let c1_i32_42 : BitVec 32 := 1#32
  let arg12 : BitVec 32 := Scf.iv c0_i32_41 c1_i32_42 k0_t4
  let c256_i32 : BitVec 32 := 256#32
  let v62 : BitVec 32 := Scalar.muli arg12 c256_i32
  let v63 : BitVec 32 := v62
  let v89 : Index := Scalar.indexCast v63
  let c0_50 : Index := 0#32
  ![v89.toNat, 0]
def k0_off14 (k0_t4 : Fin k0_t4_loop.trips) : Fin 2 → Nat :=
  let c0_i32_41 : BitVec 32 := 0#32
  let c1_i32_42 : BitVec 32 := 1#32
  let arg12 : BitVec 32 := Scf.iv c0_i32_41 c1_i32_42 k0_t4
  let c256_i32 : BitVec 32 := 256#32
  let v62 : BitVec 32 := Scalar.muli arg12 c256_i32
  let v63 : BitVec 32 := v62
  let v97 : Index := Scalar.indexCast v63
  let c128_53 : Index := 128#32
  ![v97.toNat, 128]
def k0_off15 (k0_t4 : Fin k0_t4_loop.trips) : Fin 2 → Nat :=
  let c0_i32_41 : BitVec 32 := 0#32
  let c1_i32_42 : BitVec 32 := 1#32
  let arg12 : BitVec 32 := Scf.iv c0_i32_41 c1_i32_42 k0_t4
  let c256_i32 : BitVec 32 := 256#32
  let v62 : BitVec 32 := Scalar.muli arg12 c256_i32
  let v63 : BitVec 32 := v62
  let v105 : Index := Scalar.indexCast v63
  let c256 : Index := 256#32
  ![v105.toNat, 256]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S9x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S9x32768x128 : Shape := ⟨3, ![9, 32768, 128]⟩
abbrev S9x8x4096x2x64 : Shape := ⟨5, ![9, 8, 4096, 2, 64]⟩
abbrev S3x8x4096x2x64 : Shape := ⟨5, ![3, 8, 4096, 2, 64]⟩
abbrev S3x8x2x4096x4096 : Shape := ⟨5, ![3, 8, 2, 4096, 4096]⟩
abbrev S_ : Shape := ⟨0, ![]⟩
abbrev S3 : Shape := ⟨1, ![3]⟩
abbrev S3x1x1 : Shape := ⟨3, ![3, 1, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S3x4096x4096 : Shape := ⟨3, ![3, 4096, 4096]⟩
abbrev S3x1x1x4096x4096 : Shape := ⟨5, ![3, 1, 1, 4096, 4096]⟩
abbrev S3x8x2x4096 : Shape := ⟨4, ![3, 8, 2, 4096]⟩
abbrev S3x8x2x4096x1 : Shape := ⟨5, ![3, 8, 2, 4096, 1]⟩
abbrev S3x8x2x4096x64 : Shape := ⟨5, ![3, 8, 2, 4096, 64]⟩
abbrev S8x2x4096 : Shape := ⟨3, ![8, 2, 4096]⟩
abbrev S1x8x2x4096 : Shape := ⟨4, ![1, 8, 2, 4096]⟩
abbrev S8x4096x3x2x64 : Shape := ⟨5, ![8, 4096, 3, 2, 64]⟩
abbrev S32768x384 : Shape := ⟨2, ![32768, 384]⟩

abbrev nBuf : Space → Nat
  | .hbm => 89
  | .vmem => 0
  | .smem => 0
  | _ => 0

abbrev bufTy : (tb : Table) → Fin (tcTables nBuf tb) → BufTy
  | .hbm, ⟨0, _⟩ => ⟨S9x32768x128, .f32⟩
  | .hbm, ⟨1, _⟩ => ⟨S9x8x4096x2x64, .f32⟩
  | .hbm, ⟨2, _⟩ => ⟨S3x8x4096x2x64, .f32⟩
  | .hbm, ⟨3, _⟩ => ⟨S3x8x4096x2x64, .f32⟩
  | .hbm, ⟨4, _⟩ => ⟨S3x8x4096x2x64, .f32⟩
  | .hbm, ⟨5, _⟩ => ⟨S3x8x2x4096x4096, .f32⟩
  | .hbm, ⟨6, _⟩ => ⟨S_, .f32⟩
  | .hbm, ⟨7, _⟩ => ⟨S3x8x2x4096x4096, .f32⟩
  | .hbm, ⟨8, _⟩ => ⟨S3x8x2x4096x4096, .f32⟩
  | .hbm, ⟨9, _⟩ => ⟨S3, .i32⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S_, .i32⟩
  | .hbm, ⟨14, _⟩ => ⟨S3, .i32⟩
  | .hbm, ⟨15, _⟩ => ⟨S3, .i32⟩
  | .hbm, ⟨16, _⟩ => ⟨S3x1x1, .i32⟩
  | .hbm, ⟨17, _⟩ => ⟨S4096, .i32⟩
  | .hbm, ⟨18, _⟩ => ⟨S4096x1, .i32⟩
  | .hbm, ⟨19, _⟩ => ⟨S4096, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i1⟩
  | .hbm, ⟨27, _⟩ => ⟨S_, .i32⟩
  | .hbm, ⟨28, _⟩ => ⟨S3x1x1, .i32⟩
  | .hbm, ⟨29, _⟩ => ⟨S3x1x1, .i32⟩
  | .hbm, ⟨30, _⟩ => ⟨S1x4096x4096, .i32⟩
  | .hbm, ⟨31, _⟩ => ⟨S3x4096x4096, .i32⟩
  | .hbm, ⟨32, _⟩ => ⟨S3x4096x4096, .i32⟩
  | .hbm, ⟨33, _⟩ => ⟨S3x4096x4096, .i1⟩
  | .hbm, ⟨34, _⟩ => ⟨S1x4096x4096, .i1⟩
  | .hbm, ⟨35, _⟩ => ⟨S3x4096x4096, .i1⟩
  | .hbm, ⟨36, _⟩ => ⟨S3x4096x4096, .i1⟩
  | .hbm, ⟨37, _⟩ => ⟨S_, .i32⟩
  | .hbm, ⟨38, _⟩ => ⟨S3x1x1, .i32⟩
  | .hbm, ⟨39, _⟩ => ⟨S3x1x1, .i32⟩
  | .hbm, ⟨40, _⟩ => ⟨S1x4096x4096, .i32⟩
  | .hbm, ⟨41, _⟩ => ⟨S3x4096x4096, .i32⟩
  | .hbm, ⟨42, _⟩ => ⟨S3x4096x4096, .i32⟩
  | .hbm, ⟨43, _⟩ => ⟨S3x4096x4096, .i32⟩
  | .hbm, ⟨44, _⟩ => ⟨S_, .i32⟩
  | .hbm, ⟨45, _⟩ => ⟨S3x4096x4096, .i32⟩
  | .hbm, ⟨46, _⟩ => ⟨S3x4096x4096, .i1⟩
  | .hbm, ⟨47, _⟩ => ⟨S3x4096x4096, .i1⟩
  | .hbm, ⟨48, _⟩ => ⟨S3x1x1x4096x4096, .i1⟩
  | .hbm, ⟨49, _⟩ => ⟨S_, .f32⟩
  | .hbm, ⟨50, _⟩ => ⟨S_, .f32⟩
  | .hbm, ⟨51, _⟩ => ⟨S3x8x2x4096x4096, .i1⟩
  | .hbm, ⟨52, _⟩ => ⟨S3x8x2x4096x4096, .f32⟩
  | .hbm, ⟨53, _⟩ => ⟨S3x8x2x4096x4096, .f32⟩
  | .hbm, ⟨54, _⟩ => ⟨S_, .f32⟩
  | .hbm, ⟨55, _⟩ => ⟨S3x8x2x4096, .f32⟩
  | .hbm, ⟨56, _⟩ => ⟨S3x8x2x4096x1, .f32⟩
  | .hbm, ⟨57, _⟩ => ⟨S3x8x2x4096x4096, .f32⟩
  | .hbm, ⟨58, _⟩ => ⟨S3x8x2x4096x4096, .f32⟩
  | .hbm, ⟨59, _⟩ => ⟨S3x8x2x4096x4096, .f32⟩
  | .hbm, ⟨60, _⟩ => ⟨S_, .f32⟩
  | .hbm, ⟨61, _⟩ => ⟨S3x8x2x4096, .f32⟩
  | .hbm, ⟨62, _⟩ => ⟨S3x8x2x4096x1, .f32⟩
  | .hbm, ⟨63, _⟩ => ⟨S3x8x2x4096x4096, .f32⟩
  | .hbm, ⟨64, _⟩ => ⟨S3x8x2x4096x4096, .f32⟩
  | .hbm, ⟨65, _⟩ => ⟨S3x8x2x4096x64, .f32⟩
  | .hbm, ⟨66, _⟩ => ⟨S3x8x2x4096x1, .f32⟩
  | .hbm, ⟨67, _⟩ => ⟨S3x8x2x4096x1, .f32⟩
  | .hbm, ⟨68, _⟩ => ⟨S3x8x2x4096, .f32⟩
  | .hbm, ⟨69, _⟩ => ⟨S_, .f32⟩
  | .hbm, ⟨70, _⟩ => ⟨S8x2x4096, .f32⟩
  | .hbm, ⟨71, _⟩ => ⟨S_, .f32⟩
  | .hbm, ⟨72, _⟩ => ⟨S8x2x4096, .f32⟩
  | .hbm, ⟨73, _⟩ => ⟨S8x2x4096, .f32⟩
  | .hbm, ⟨74, _⟩ => ⟨S1x8x2x4096, .f32⟩
  | .hbm, ⟨75, _⟩ => ⟨S3x8x2x4096, .f32⟩
  | .hbm, ⟨76, _⟩ => ⟨S3x8x2x4096, .f32⟩
  | .hbm, ⟨77, _⟩ => ⟨S3x8x2x4096, .f32⟩
  | .hbm, ⟨78, _⟩ => ⟨S_, .f32⟩
  | .hbm, ⟨79, _⟩ => ⟨S8x2x4096, .f32⟩
  | .hbm, ⟨80, _⟩ => ⟨S1x8x2x4096, .f32⟩
  | .hbm, ⟨81, _⟩ => ⟨S3x8x2x4096, .f32⟩
  | .hbm, ⟨82, _⟩ => ⟨S3x8x2x4096, .f32⟩
  | .hbm, ⟨83, _⟩ => ⟨S3x8x2x4096x1, .f32⟩
  | .hbm, ⟨84, _⟩ => ⟨S3x8x2x4096x64, .f32⟩
  | .hbm, ⟨85, _⟩ => ⟨S3x8x2x4096x64, .f32⟩
  | .hbm, ⟨86, _⟩ => ⟨S8x4096x3x2x64, .f32⟩
  | .hbm, ⟨87, _⟩ => ⟨S32768x384, .f32⟩
  | .hbm, ⟨88, _⟩ => ⟨S32768x384, .bf16⟩
  | _, _ => ⟨S9x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel2.lean ====
abbrev S32768x384 : Shape := ⟨2, ![32768, 384]⟩
abbrev S2x32768x128 : Shape := ⟨3, ![2, 32768, 128]⟩
abbrev S32768x3072 : Shape := ⟨2, ![32768, 3072]⟩
abbrev S32768x1024 : Shape := ⟨2, ![32768, 1024]⟩
abbrev S2x384x1024 : Shape := ⟨3, ![2, 384, 1024]⟩
abbrev S2x256x1024 : Shape := ⟨3, ![2, 256, 1024]⟩
abbrev S2x256x256 : Shape := ⟨3, ![2, 256, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S512x384 : Shape := ⟨2, ![512, 384]⟩
abbrev S2x512x128 : Shape := ⟨3, ![2, 512, 128]⟩
abbrev S512x3072 : Shape := ⟨2, ![512, 3072]⟩
abbrev S512x1024 : Shape := ⟨2, ![512, 1024]⟩
abbrev S1x384x1024 : Shape := ⟨3, ![1, 384, 1024]⟩
abbrev S1x256x1024 : Shape := ⟨3, ![1, 256, 1024]⟩
abbrev S1x256x256 : Shape := ⟨3, ![1, 256, 256]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x512x128 : Shape := ⟨3, ![1, 512, 128]⟩
abbrev S512x128 : Shape := ⟨2, ![512, 128]⟩
abbrev S512x256 : Shape := ⟨2, ![512, 256]⟩
abbrev S256x256 : Shape := ⟨2, ![256, 256]⟩
abbrev S384x1024 : Shape := ⟨2, ![384, 1024]⟩
abbrev S256x1024 : Shape := ⟨2, ![256, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩

abbrev nBuf : Space → Nat
  | .hbm => 28
  | .vmem => 22
  | .smem => 0
  | _ => 0

abbrev bufTy : (tb : Table) → Fin (tcTables nBuf tb) → BufTy
  | .hbm, ⟨0, _⟩ => ⟨S32768x384, .bf16⟩
  | .hbm, ⟨1, _⟩ => ⟨S32768x384, .bf16⟩
  | .hbm, ⟨2, _⟩ => ⟨S2x32768x128, .f32⟩
  | .hbm, ⟨3, _⟩ => ⟨S32768x3072, .bf16⟩
  | .hbm, ⟨4, _⟩ => ⟨S32768x1024, .f32⟩
  | .hbm, ⟨5, _⟩ => ⟨S2x384x1024, .f32⟩
  | .hbm, ⟨6, _⟩ => ⟨S2x384x1024, .f32⟩
  | .hbm, ⟨7, _⟩ => ⟨S2x256x1024, .f32⟩
  | .hbm, ⟨8, _⟩ => ⟨S2x256x256, .f32⟩
  | .hbm, ⟨9, _⟩ => ⟨S2x256x256, .f32⟩
  | .hbm, ⟨10, _⟩ => ⟨S2x1024x1024, .f32⟩
  | .hbm, ⟨11, _⟩ => ⟨S2x1024, .f32⟩
  | .hbm, ⟨12, _⟩ => ⟨S2x1024x5632, .f32⟩
  | .hbm, ⟨13, _⟩ => ⟨S2x2816x1024, .f32⟩
  | .hbm, ⟨14, _⟩ => ⟨S1024, .f32⟩
  | .hbm, ⟨15, _⟩ => ⟨S2x1024x5632, .bf16⟩
  | .hbm, ⟨16, _⟩ => ⟨S2x2816x1024, .bf16⟩
  | .hbm, ⟨17, _⟩ => ⟨S2x384x1024, .bf16⟩
  | .hbm, ⟨18, _⟩ => ⟨S2x384x1024, .bf16⟩
  | .hbm, ⟨19, _⟩ => ⟨S2x256x1024, .bf16⟩
  | .hbm, ⟨20, _⟩ => ⟨S2x256x256, .bf16⟩
  | .hbm, ⟨21, _⟩ => ⟨S2x256x256, .bf16⟩
  | .hbm, ⟨22, _⟩ => ⟨S2x1024x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S32768x1024, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S2x512x128, .f32⟩
  | .local _ .vmem, ⟨5, _⟩ => ⟨S2x512x128, .f32⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S1x384x1024, .bf16⟩
  | .local _ .vmem, ⟨11, _⟩ => ⟨S1x384x1024, .bf16⟩
  | .local _ .vmem, ⟨12, _⟩ => ⟨S1x256x1024, .bf16⟩
  | .local _ .vmem, ⟨13, _⟩ => ⟨S1x256x256, .bf16⟩
  | .local _ .vmem, ⟨14, _⟩ => ⟨S1x256x256, .bf16⟩
  | .local _ .vmem, ⟨15, _⟩ => ⟨S1x1024x1024, .bf16⟩
  | .local _ .vmem, ⟨16, _⟩ => ⟨S1x1024, .f32⟩
  | .local _ .vmem, ⟨17, _⟩ => ⟨S1x1024x5632, .bf16⟩
  | .local _ .vmem, ⟨18, _⟩ => ⟨S1x2816x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S32768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S32768x384 : Shape := ⟨2, ![32768, 384]⟩
abbrev S2x32768x128 : Shape := ⟨3, ![2, 32768, 128]⟩
abbrev S32768x3072 : Shape := ⟨2, ![32768, 3072]⟩
abbrev S32768x1024 : Shape := ⟨2, ![32768, 1024]⟩
abbrev S2x384x1024 : Shape := ⟨3, ![2, 384, 1024]⟩
abbrev S2x256x1024 : Shape := ⟨3, ![2, 256, 1024]⟩
abbrev S2x256x256 : Shape := ⟨3, ![2, 256, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S32768x2x128 : Shape := ⟨3, ![32768, 2, 128]⟩
abbrev S32768x256 : Shape := ⟨2, ![32768, 256]⟩
abbrev S_ : Shape := ⟨0, ![]⟩
abbrev S1x256x256 : Shape := ⟨3, ![1, 256, 256]⟩
abbrev S256x256 : Shape := ⟨2, ![256, 256]⟩
abbrev S1x384x1024 : Shape := ⟨3, ![1, 384, 1024]⟩
abbrev S384x1024 : Shape := ⟨2, ![384, 1024]⟩
abbrev S1x256x1024 : Shape := ⟨3, ![1, 256, 1024]⟩
abbrev S256x1024 : Shape := ⟨2, ![256, 1024]⟩
abbrev S32768x3x1024 : Shape := ⟨3, ![32768, 3, 1024]⟩
abbrev S32768x1x1024 : Shape := ⟨3, ![32768, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S32768x5632 : Shape := ⟨2, ![32768, 5632]⟩
abbrev S32768x2816 : Shape := ⟨2, ![32768, 2816]⟩
abbrev S1x2816x1024 : Shape := ⟨3, ![1, 2816, 1024]⟩
abbrev S2816x1024 : Shape := ⟨2, ![2816, 1024]⟩

abbrev nBuf : Space → Nat
  | .hbm => 130
  | .vmem => 0
  | .smem => 0
  | _ => 0

abbrev hbmTy0_0 (i : Nat) : BufTy := match i % 128 with
  | 0 => ⟨S32768x384, .bf16⟩
  | 1 => ⟨S32768x384, .bf16⟩
  | 2 => ⟨S2x32768x128, .f32⟩
  | 3 => ⟨S32768x3072, .bf16⟩
  | 4 => ⟨S32768x1024, .f32⟩
  | 5 => ⟨S2x384x1024, .f32⟩
  | 6 => ⟨S2x384x1024, .f32⟩
  | 7 => ⟨S2x256x1024, .f32⟩
  | 8 => ⟨S2x256x256, .f32⟩
  | 9 => ⟨S2x256x256, .f32⟩
  | 10 => ⟨S2x1024x1024, .f32⟩
  | 11 => ⟨S2x1024, .f32⟩
  | 12 => ⟨S2x1024x5632, .f32⟩
  | 13 => ⟨S2x2816x1024, .f32⟩
  | 14 => ⟨S1024, .f32⟩
  | 15 => ⟨S32768x2x128, .f32⟩
  | 16 => ⟨S32768x256, .f32⟩
  | 17 => ⟨S32768x256, .f32⟩
  | 18 => ⟨S32768x256, .f32⟩
  | 19 => ⟨S_, .f32⟩
  | 20 => ⟨S32768x256, .f32⟩
  | 21 => ⟨S32768x256, .f32⟩
  | 22 => ⟨S32768x256, .f32⟩
  | 23 => ⟨S_, .f32⟩
  | 24 => ⟨S32768x256, .f32⟩
  | 25 => ⟨S32768x256, .f32⟩
  | 26 => ⟨S32768x256, .f32⟩
  | 27 => ⟨S_, .f32⟩
  | 28 => ⟨S32768x256, .f32⟩
  | 29 => ⟨S32768x256, .f32⟩
  | 30 => ⟨S_, .f32⟩
  | 31 => ⟨S32768x256, .f32⟩
  | 32 => ⟨S32768x256, .f32⟩
  | 33 => ⟨S32768x256, .f32⟩
  | 34 => ⟨S1x256x256, .f32⟩
  | 35 => ⟨S256x256, .f32⟩
  | 36 => ⟨S32768x256, .f32⟩
  | 37 => ⟨S1x256x256, .f32⟩
  | 38 => ⟨S256x256, .f32⟩
  | 39 => ⟨S32768x256, .f32⟩
  | 40 => ⟨S32768x256, .f32⟩
  | 41 => ⟨S32768x256, .f32⟩
  | 42 => ⟨S_, .f32⟩
  | 43 => ⟨S32768x256, .f32⟩
  | 44 => ⟨S32768x256, .f32⟩
  | 45 => ⟨S_, .f32⟩
  | 46 => ⟨S32768x256, .f32⟩
  | 47 => ⟨S32768x256, .f32⟩
  | 48 => ⟨S32768x256, .f32⟩
  | 49 => ⟨S32768x384, .f32⟩
  | 50 => ⟨S1x384x1024, .f32⟩
  | 51 => ⟨S384x1024, .f32⟩
  | 52 => ⟨S32768x1024, .f32⟩
  | 53 => ⟨S32768x384, .f32⟩
  | 54 => ⟨S1x384x1024, .f32⟩
  | 55 => ⟨S384x1024, .f32⟩
  | 56 => ⟨S32768x1024, .f32⟩
  | 57 => ⟨S1x256x1024, .f32⟩
  | 58 => ⟨S256x1024, .f32⟩
  | 59 => ⟨S32768x1024, .f32⟩
  | 60 => ⟨S32768x3072, .f32⟩
  | 61 => ⟨S32768x3x1024, .f32⟩
  | 62 => ⟨S32768x1x1024, .f32⟩
  | 63 => ⟨S32768x1024, .f32⟩
  | 64 => ⟨S32768x1024, .f32⟩
  | 65 => ⟨S32768x1x1024, .f32⟩
  | 66 => ⟨S32768x1024, .f32⟩
  | 67 => ⟨S32768x1024, .f32⟩
  | 68 => ⟨S32768x1024, .f32⟩
  | 69 => ⟨S32768x1x1024, .f32⟩
  | 70 => ⟨S32768x1024, .f32⟩
  | 71 => ⟨S32768x1024, .f32⟩
  | 72 => ⟨S32768x1024, .f32⟩
  | 73 => ⟨S1x1024x1024, .f32⟩
  | 74 => ⟨S1024x1024, .f32⟩
  | 75 => ⟨S32768x1024, .f32⟩
  | 76 => ⟨S32768x1024, .f32⟩
  | 77 => ⟨S1x1024, .f32⟩
  | 78 => ⟨S1024, .f32⟩
  | 79 => ⟨S32768x1024, .f32⟩
  | 80 => ⟨S_, .f32⟩
  | 81 => ⟨S32768, .f32⟩
  | 82 => ⟨S32768x1, .f32⟩
  | 83 => ⟨S_, .f32⟩
  | 84 => ⟨S32768x1, .f32⟩
  | 85 => ⟨S32768x1, .f32⟩
  | 86 => ⟨S_, .f32⟩
  | 87 => ⟨S32768x1, .f32⟩
  | 88 => ⟨S32768x1, .f32⟩
  | 89 => ⟨S32768x1, .f32⟩
  | 90 => ⟨S32768x1024, .f32⟩
  | 91 => ⟨S32768x1024, .f32⟩
  | 92 => ⟨S1x1024, .f32⟩
  | 93 => ⟨S32768x1024, .f32⟩
  | 94 => ⟨S32768x1024, .f32⟩
  | 95 => ⟨S1x1024x5632, .f32⟩
  | 96 => ⟨S1024x5632, .f32⟩
  | 97 => ⟨S32768x5632, .f32⟩
  | 98 => ⟨S32768x2816, .f32⟩
  | 99 => ⟨S32768x2816, .f32⟩
  | 100 => ⟨S32768x2816, .f32⟩
  | 101 => ⟨S32768x2816, .f32⟩
  | 102 => ⟨S_, .f32⟩
  | 103 => ⟨S32768x2816, .f32⟩
  | 104 => ⟨S32768x2816, .f32⟩
  | 105 => ⟨S_, .f32⟩
  | 106 => ⟨S32768x2816, .f32⟩
  | 107 => ⟨S32768x2816, .f32⟩
  | 108 => ⟨S32768x2816, .f32⟩
  | 109 => ⟨S32768x2816, .f32⟩
  | 110 => ⟨S1x2816x1024, .f32⟩
  | 111 => ⟨S2816x1024, .f32⟩
  | 112 => ⟨S32768x1024, .f32⟩
  | 113 => ⟨S32768x1024, .f32⟩
  | 114 => ⟨S32768x1024, .f32⟩
  | 115 => ⟨S_, .f32⟩
  | 116 => ⟨S32768, .f32⟩
  | 117 => ⟨S32768x1, .f32⟩
  | 118 => ⟨S_, .f32⟩
  | 119 => ⟨S32768x1, .f32⟩
  | 120 => ⟨S32768x1, .f32⟩
  | 121 => ⟨S_, .f32⟩
  | 122 => ⟨S32768x1, .f32⟩
  | 123 => ⟨S32768x1, .f32⟩
  | 124 => ⟨S32768x1, .f32⟩
  | 125 => ⟨S32768x1024, .f32⟩
  | 126 => ⟨S32768x1024, .f32⟩
  | 127 => ⟨S1x1024, .f32⟩
  | _ => ⟨S32768x384, .bf16⟩

abbrev hbmTy0_1 (i : Nat) : BufTy := match i % 128 with
  | 0 => ⟨S32768x1024, .f32⟩
  | 1 => ⟨S32768x1024, .f32⟩
  | _ => ⟨S32768x384, .bf16⟩

abbrev hbmTy (i : Nat) : BufTy := match i / 128 with
  | 0 => hbmTy0_0 i
  | 1 => hbmTy0_1 i
  | _ => ⟨S32768x384, .bf16⟩

abbrev bufTy : (tb : Table) → Fin (tcTables nBuf tb) → BufTy
  | .hbm, ⟨i, _⟩ => hbmTy i
  | _, _ => ⟨S32768x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_5 : Ref sig .tc := ⟨.hbm, 80, rfl⟩
abbrev main_v59 : Ref sig .tc := ⟨.hbm, 81, rfl⟩
abbrev main_v60 : Ref sig .tc := ⟨.hbm, 82, rfl⟩
abbrev main_cst_6 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_call0_v5 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_8 : Ref sig .tc := ⟨.hbm, 115, rfl⟩
abbrev main_v83 : Ref sig .tc := ⟨.hbm, 116, rfl⟩
abbrev main_v84 : Ref sig .tc := ⟨.hbm, 117, rfl⟩
abbrev main_cst_9 : Ref sig .tc := ⟨.hbm, 118, rfl⟩
abbrev main_v85 : Ref sig .tc := ⟨.hbm, 119, rfl⟩
abbrev main_v86 : Ref sig .tc := ⟨.hbm, 120, rfl⟩
abbrev main_cst_10 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]
-- ==== Kernel3.lean ====
abbrev S32768x1024 : Shape := ⟨2, ![32768, 1024]⟩
abbrev S2x1024 : Shape := ⟨2, ![2, 1024]⟩
abbrev S2x1024x5888 : Shape := ⟨3, ![2, 1024, 5888]⟩
abbrev S1x1024 : Shape := ⟨2, ![1, 1024]⟩
abbrev S1024 : Shape := ⟨1, ![1024]⟩
abbrev S9x32768x128 : Shape := ⟨3, ![9, 32768, 128]⟩
abbrev S32768x1408 : Shape := ⟨2, ![32768, 1408]⟩
abbrev S2x32768x128 : Shape := ⟨3, ![2, 32768, 128]⟩
abbrev S32768x3072 : Shape := ⟨2, ![32768, 3072]⟩
abbrev S512x1024 : Shape := ⟨2, ![512, 1024]⟩
abbrev S1x1024x5888 : Shape := ⟨3, ![1, 1024, 5888]⟩
abbrev S9x512x128 : Shape := ⟨3, ![9, 512, 128]⟩
abbrev S512x1408 : Shape := ⟨2, ![512, 1408]⟩
abbrev S2x512x128 : Shape := ⟨3, ![2, 512, 128]⟩
abbrev S512x3072 : Shape := ⟨2, ![512, 3072]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩

abbrev nBuf : Space → Nat
  | .hbm => 11
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5888, .f32⟩
  | .hbm, ⟨3, _⟩ => ⟨S1x1024, .f32⟩
  | .hbm, ⟨4, _⟩ => ⟨S1024, .f32⟩
  | .hbm, ⟨5, _⟩ => ⟨S2x1024x5888, .bf16⟩
  | .hbm, ⟨6, _⟩ => ⟨S1x1024, .f32⟩
  | .hbm, ⟨7, _⟩ => ⟨S9x32768x128, .f32⟩
  | .hbm, ⟨8, _⟩ => ⟨S32768x1408, .f32⟩
  | .hbm, ⟨9, _⟩ => ⟨S2x32768x128, .f32⟩
  | .hbm, ⟨10, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5888, .bf16⟩
  | .local _ .vmem, ⟨4, _⟩ => ⟨S9x512x128, .f32⟩
  | .local _ .vmem, ⟨5, _⟩ => ⟨S9x512x128, .f32⟩
  | .local _ .vmem, ⟨6, _⟩ => ⟨S512x1408, .f32⟩
  | .local _ .vmem, ⟨7, _⟩ => ⟨S512x1408, .f32⟩
  | .local _ .vmem, ⟨8, _⟩ => ⟨S2x512x128, .f32⟩
  | .local _ .vmem, ⟨9, _⟩ => ⟨S2x512x128, .f32⟩
  | .local _ .vmem, ⟨10, _⟩ => ⟨S512x3072, .bf16⟩
  | .local _ .vmem, ⟨11, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S9x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S2x1024 : Shape := ⟨2, ![2, 1024]⟩
abbrev S2x1024x5888 : Shape := ⟨3, ![2, 1024, 5888]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x5888 : Shape := ⟨3, ![1, 1024, 5888]⟩
abbrev S1024x5888 : Shape := ⟨2, ![1024, 5888]⟩
abbrev S32768x5888 : Shape := ⟨2, ![32768, 5888]⟩
abbrev S32768x1152 : Shape := ⟨2, ![32768, 1152]⟩
abbrev S32768x9x128 : Shape := ⟨3, ![32768, 9, 128]⟩
abbrev S9x32768x128 : Shape := ⟨3, ![9, 32768, 128]⟩
abbrev S32768x256 : Shape := ⟨2, ![32768, 256]⟩
abbrev S32768x2x128 : Shape := ⟨3, ![32768, 2, 128]⟩
abbrev S2x32768x128 : Shape := ⟨3, ![2, 32768, 128]⟩
abbrev S32768x1408 : Shape := ⟨2, ![32768, 1408]⟩
abbrev S32768x3072 : Shape := ⟨2, ![32768, 3072]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5888, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x5888, .f32⟩
  | .hbm, ⟨22, _⟩ => ⟨S1024x5888, .f32⟩
  | .hbm, ⟨23, _⟩ => ⟨S32768x5888, .f32⟩
  | .hbm, ⟨24, _⟩ => ⟨S32768x1152, .f32⟩
  | .hbm, ⟨25, _⟩ => ⟨S32768x9x128, .f32⟩
  | .hbm, ⟨26, _⟩ => ⟨S9x32768x128, .f32⟩
  | .hbm, ⟨27, _⟩ => ⟨S32768x256, .f32⟩
  | .hbm, ⟨28, _⟩ => ⟨S32768x2x128, .f32⟩
  | .hbm, ⟨29, _⟩ => ⟨S2x32768x128, .f32⟩
  | .hbm, ⟨30, _⟩ => ⟨S32768x1408, .f32⟩
  | .hbm, ⟨31, _⟩ => ⟨S32768x3072, .f32⟩
  | .hbm, ⟨32, _⟩ => ⟨S32768x3072, .f32⟩
  | .hbm, ⟨33, _⟩ => ⟨S32768x3072, .f32⟩
  | .hbm, ⟨34, _⟩ => ⟨S_, .f32⟩
  | .hbm, ⟨35, _⟩ => ⟨S32768x3072, .f32⟩
  | .hbm, ⟨36, _⟩ => ⟨S32768x3072, .f32⟩
  | .hbm, ⟨37, _⟩ => ⟨S_, .f32⟩
  | .hbm, ⟨38, _⟩ => ⟨S32768x3072, .f32⟩
  | .hbm, ⟨39, _⟩ => ⟨S32768x3072, .f32⟩
  | .hbm, ⟨40, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.Attn.Loops.lean ====
/-
  The three attention loops of the dilated attention call, one trip at a time: where each access lies, and what a trip
  stores into the two accumulation buffers.
-/
module

public import proofs.«01_k».proof.Proof.Gen.KernelIdeal.Loops
public import proofs.«01_k».proof.Proof.Gen.KernelIdeal.Frame

@[expose] public section

set_option maxRecDepth 16384
set_option maxHeartbeats 2000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The loop over group 0 -/

theorem off1_0 : ∀ k : Fin k0_t1_loop.trips, k0_off1 k 0#32 = ![0, 512 * k.val + 0, 0] := by decide +kernel
instance (k : Fin k0_t1_loop.trips) : ClosedOff (k0_off1 k 0#32) := ⟨_, off1_0 k⟩
theorem off2_0 : ∀ k : Fin k0_t1_loop.trips, k0_off2 k 0#32 = ![512 * k.val + 0, 0] := by decide +kernel
instance (k : Fin k0_t1_loop.trips) : ClosedOff (k0_off2 k 0#32) := ⟨_, off2_0 k⟩
theorem off3_0 : ∀ k : Fin k0_t1_loop.trips, k0_off3 k 0#32 = ![0, 512 * k.val + 0, 0] := by decide +kernel
instance (k : Fin k0_t1_loop.trips) : ClosedOff (k0_off3 k 0#32) := ⟨_, off3_0 k⟩
theorem off1_1 : ∀ k : Fin k0_t1_loop.trips, k0_off1 k 1#32 = ![0, 512 * k.val + 128, 0] := by decide +kernel
instance (k : Fin k0_t1_loop.trips) : ClosedOff (k0_off1 k 1#32) := ⟨_, off1_1 k⟩
theorem off2_1 : ∀ k : Fin k0_t1_loop.trips, k0_off2 k 1#32 = ![512 * k.val + 128, 0] := by decide +kernel
instance (k : Fin k0_t1_loop.trips) : ClosedOff (k0_off2 k 1#32) := ⟨_, off2_1 k⟩
theorem off3_1 : ∀ k : Fin k0_t1_loop.trips, k0_off3 k 1#32 = ![0, 512 * k.val + 128, 0] := by decide +kernel
instance (k : Fin k0_t1_loop.trips) : ClosedOff (k0_off3 k 1#32) := ⟨_, off3_1 k⟩
theorem off1_2 : ∀ k : Fin k0_t1_loop.trips, k0_off1 k 2#32 = ![0, 512 * k.val + 256, 0] := by decide +kernel
instance (k : Fin k0_t1_loop.trips) : ClosedOff (k0_off1 k 2#32) := ⟨_, off1_2 k⟩
theorem off2_2 : ∀ k : Fin k0_t1_loop.trips, k0_off2 k 2#32 = ![512 * k.val + 256, 0] := by decide +kernel
instance (k : Fin k0_t1_loop.trips) : ClosedOff (k0_off2 k 2#32) := ⟨_, off2_2 k⟩
theorem off3_2 : ∀ k : Fin k0_t1_loop.trips, k0_off3 k 2#32 = ![0, 512 * k.val + 256, 0] := by decide +kernel
instance (k : Fin k0_t1_loop.trips) : ClosedOff (k0_off3 k 2#32) := ⟨_, off3_2 k⟩
theorem off1_3 : ∀ k : Fin k0_t1_loop.trips, k0_off1 k 3#32 = ![0, 512 * k.val + 384, 0] := by decide +kernel
instance (k : Fin k0_t1_loop.trips) : ClosedOff (k0_off1 k 3#32) := ⟨_, off1_3 k⟩
theorem off2_3 : ∀ k : Fin k0_t1_loop.trips, k0_off2 k 3#32 = ![512 * k.val + 384, 0] := by decide +kernel
instance (k : Fin k0_t1_loop.trips) : ClosedOff (k0_off2 k 3#32) := ⟨_, off2_3 k⟩
theorem off3_3 : ∀ k : Fin k0_t1_loop.trips, k0_off3 k 3#32 = ![0, 512 * k.val + 384, 0] := by decide +kernel
instance (k : Fin k0_t1_loop.trips) : ClosedOff (k0_off3 k 3#32) := ⟨_, off3_3 k⟩

/-- What a trip of the loop over group 0 holds: queries, keys and values it reads, the two buffers it writes. -/
abbrev Trip1 (c : Dev nD) (arg2 : Memref sig .tc .vmem S9x2048x128 .f32) (arg4 : Memref sig .tc .vmem S2176x128 .f32) (arg5 : Memref sig .tc .vmem S2176x128 .f32) (arg10 arg11 : Memref sig .tc .vmem S3x2048x128 .f32)
    (X2 : BufTy.Contents (Elt F) arg2.view.ty) (XK : BufTy.Contents (Elt F) arg4.view.ty) (XV : BufTy.Contents (Elt F) arg5.view.ty) (f10 : BufTy.Contents (Elt F) arg10.view.ty) (f11 : BufTy.Contents (Elt F) arg11.view.ty) : sProp 𝕄 :=
  iprop((arg2.view.loc (c : Thread nD τ) ↦[arg2.view.set]{fullShare} X2) ∗ (arg4.view.loc (c : Thread nD τ) ↦[arg4.view.set]{fullShare} XK) ∗ (arg5.view.loc (c : Thread nD τ) ↦[arg5.view.set]{fullShare} XV) ∗ (arg10.view.loc (c : Thread nD τ) ↦[arg10.view.set]{fullShare} f10) ∗ (arg11.view.loc (c : Thread nD τ) ↦[arg11.view.set]{fullShare} f11))

/-- One trip of the loop over group 0: the pieces it leaves in the two buffers. -/
@[irreducible] def trip1 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v4 : IVec S128x256 32) (X2 : BufTy.Contents (Elt F) arg2.view.ty) (XK : BufTy.Contents (Elt F) arg4.view.ty) (XV : BufTy.Contents (Elt F) arg5.view.ty) (k : Fin k0_t1_loop.trips) :
    Σ' (L10 : List (View.Piece (Elt F) S3x2048x128 .f32)), { L11 : List (View.Piece (Elt F) S3x2048x128 .f32) // ∀ (E : Set ℕ) (f10 : BufTy.Contents (Elt F) arg10.view.ty) (f11 : BufTy.Contents (Elt F) arg11.view.ty),
      Trip1 (F := F) c arg2 arg4 arg5 arg10 arg11 X2 XK XV f10 f11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg1 v4 k PUnit.unit)
          (fun _ => Trip1 (F := F) c arg2 arg4 arg5 arg10 arg11 X2 XK XV (arg10.view.writes (Elt F) f10 L10) (arg11.view.writes (Elt F) f11 L11)) } := by
  have hk : k.val < 4 := Nat.lt_of_lt_of_le k.isLt (by decide)
  refine ⟨?_, ?_, fun E f10 f11 => ?run⟩
  case run =>
    unfold k0_t1_body
    iintro ⟨H2, HK, HV, H10, H11⟩
    sl_exec
    sl_step
    sl_close

/-- What trip `k` of the loop over group 0 stores into the outputs' and the log-sums' buffers. -/
abbrev tripO1 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v4 : IVec S128x256 32) (X2 : BufTy.Contents (Elt F) arg2.view.ty) (XK : BufTy.Contents (Elt F) arg4.view.ty) (XV : BufTy.Contents (Elt F) arg5.view.ty) (k : Fin k0_t1_loop.trips) : List (View.Piece (Elt F) S3x2048x128 .f32) := (trip1 (F := F) 𝒱 c bd i arg2 harg2 arg3 harg3 arg4 harg4 arg5 harg5 arg6 harg6 arg7 harg7 arg8 harg8 arg9 harg9 arg10 harg10 arg11 harg11 arg1 v4 X2 XK XV k).1
abbrev tripL1 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v4 : IVec S128x256 32) (X2 : BufTy.Contents (Elt F) arg2.view.ty) (XK : BufTy.Contents (Elt F) arg4.view.ty) (XV : BufTy.Contents (Elt F) arg5.view.ty) (k : Fin k0_t1_loop.trips) : List (View.Piece (Elt F) S3x2048x128 .f32) := (trip1 (F := F) 𝒱 c bd i arg2 harg2 arg3 harg3 arg4 harg4 arg5 harg5 arg6 harg6 arg7 harg7 arg8 harg8 arg9 harg9 arg10 harg10 arg11 harg11 arg1 v4 X2 XK XV k).2.1

/-- The pieces of the trips before `k`, the last first. -/
def pbO1 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v4 : IVec S128x256 32) (X2 : BufTy.Contents (Elt F) arg2.view.ty) (XK : BufTy.Contents (Elt F) arg4.view.ty) (XV : BufTy.Contents (Elt F) arg5.view.ty) : ℕ → List (View.Piece (Elt F) S3x2048x128 .f32)
  | 0 => []
  | k + 1 => if h : k < k0_t1_loop.trips then tripO1 (F := F) 𝒱 c bd i arg2 harg2 arg3 harg3 arg4 harg4 arg5 harg5 arg6 harg6 arg7 harg7 arg8 harg8 arg9 harg9 arg10 harg10 arg11 harg11 arg1 v4 X2 XK XV ⟨k, h⟩ ++ pbO1 𝒱 c bd i arg2 harg2 arg3 harg3 arg4 harg4 arg5 harg5 arg6 harg6 arg7 harg7 arg8 harg8 arg9 harg9 arg10 harg10 arg11 harg11 arg1 v4 X2 XK XV k else pbO1 𝒱 c bd i arg2 harg2 arg3 harg3 arg4 harg4 arg5 harg5 arg6 harg6 arg7 harg7 arg8 harg8 arg9 harg9 arg10 harg10 arg11 harg11 arg1 v4 X2 XK XV k
def pbL1 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v4 : IVec S128x256 32) (X2 : BufTy.Contents (Elt F) arg2.view.ty) (XK : BufTy.Contents (Elt F) arg4.view.ty) (XV : BufTy.Contents (Elt F) arg5.view.ty) : ℕ → List (View.Piece (Elt F) S3x2048x128 .f32)
  | 0 => []
  | k + 1 => if h : k < k0_t1_loop.trips then tripL1 (F := F) 𝒱 c bd i arg2 harg2 arg3 harg3 arg4 harg4 arg5 harg5 arg6 harg6 arg7 harg7 arg8 harg8 arg9 harg9 arg10 harg10 arg11 harg11 arg1 v4 X2 XK XV ⟨k, h⟩ ++ pbL1 𝒱 c bd i arg2 harg2 arg3 harg3 arg4 harg4 arg5 harg5 arg6 harg6 arg7 harg7 arg8 harg8 arg9 harg9 arg10 harg10 arg11 harg11 arg1 v4 X2 XK XV k else pbL1 𝒱 c bd i arg2 harg2 arg3 harg3 arg4 harg4 arg5 harg5 arg6 harg6 arg7 harg7 arg8 harg8 arg9 harg9 arg10 harg10 arg11 harg11 arg1 v4 X2 XK XV k

theorem pbO1_succ (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v4 : IVec S128x256 32) (X2 : BufTy.Contents (Elt F) arg2.view.ty) (XK : BufTy.Contents (Elt F) arg4.view.ty) (XV : BufTy.Contents (Elt F) arg5.view.ty) (k : Fin k0_t1_loop.trips) :
    pbO1 (F := F) 𝒱 c bd i arg2 harg2 arg3 harg3 arg4 harg4 arg5 harg5 arg6 harg6 arg7 harg7 arg8 harg8 arg9 harg9 arg10 harg10 arg11 harg11 arg1 v4 X2 XK XV (k.val + 1) = tripO1 (F := F) 𝒱 c bd i arg2 harg2 arg3 harg3 arg4 harg4 arg5 harg5 arg6 harg6 arg7 harg7 arg8 harg8 arg9 harg9 arg10 harg10 arg11 harg11 arg1 v4 X2 XK XV k ++ pbO1 (F := F) 𝒱 c bd i arg2 harg2 arg3 harg3 arg4 harg4 arg5 harg5 arg6 harg6 arg7 harg7 arg8 harg8 arg9 harg9 arg10 harg10 arg11 harg11 arg1 v4 X2 XK XV k.val := by
  rw [pbO1.eq_2]; exact dif_pos k.isLt
theorem pbL1_succ (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v4 : IVec S128x256 32) (X2 : BufTy.Contents (Elt F) arg2.view.ty) (XK : BufTy.Contents (Elt F) arg4.view.ty) (XV : BufTy.Contents (Elt F) arg5.view.ty) (k : Fin k0_t1_loop.trips) :
    pbL1 (F := F) 𝒱 c bd i arg2 harg2 arg3 harg3 arg4 harg4 arg5 harg5 arg6 harg6 arg7 harg7 arg8 harg8 arg9 harg9 arg10 harg10 arg11 harg11 arg1 v4 X2 XK XV (k.val + 1) = tripL1 (F := F) 𝒱 c bd i arg2 harg2 arg3 harg3 arg4 harg4 arg5 harg5 arg6 harg6 arg7 harg7 arg8 harg8 arg9 harg9 arg10 harg10 arg11 harg11 arg1 v4 X2 XK XV k ++ pbL1 (F := F) 𝒱 c bd i arg2 harg2 arg3 harg3 arg4 harg4 arg5 harg5 arg6 harg6 arg7 harg7 arg8 harg8 arg9 harg9 arg10 harg10 arg11 harg11 arg1 v4 X2 XK XV k.val := by
  rw [pbL1.eq_2]; exact dif_pos k.isLt

/-- Before trip `k`: the operands as they were, the two buffers with the pieces of the trips before `k` over what they
    held at the loop's entry. -/
abbrev inv1 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v4 : IVec S128x256 32) (X2 : BufTy.Contents (Elt F) arg2.view.ty) (XK : BufTy.Contents (Elt F) arg4.view.ty) (XV : BufTy.Contents (Elt F) arg5.view.ty) (G10 : BufTy.Contents (Elt F) arg10.view.ty) (G11 : BufTy.Contents (Elt F) arg11.view.ty) (k : ℕ) (_u : PUnit) : sProp 𝕄 :=
  iprop((arg2.view.loc (c : Thread nD τ) ↦[arg2.view.set]{fullShare} X2) ∗ (arg4.view.loc (c : Thread nD τ) ↦[arg4.view.set]{fullShare} XK) ∗ (arg5.view.loc (c : Thread nD τ) ↦[arg5.view.set]{fullShare} XV)
    ∗ (∃ f, (arg10.view.loc (c : Thread nD τ) ↦[arg10.view.set]{fullShare} f) ∗ ⌜f = arg10.view.writes (Elt F) G10 (pbO1 (F := F) 𝒱 c bd i arg2 harg2 arg3 harg3 arg4 harg4 arg5 harg5 arg6 harg6 arg7 harg7 arg8 harg8 arg9 harg9 arg10 harg10 arg11 harg11 arg1 v4 X2 XK XV k)⌝)
    ∗ (∃ f, (arg11.view.loc (c : Thread nD τ) ↦[arg11.view.set]{fullShare} f) ∗ ⌜f = arg11.view.writes (Elt F) G11 (pbL1 (F := F) 𝒱 c bd i arg2 harg2 arg3 harg3 arg4 harg4 arg5 harg5 arg6 harg6 arg7 harg7 arg8 harg8 arg9 harg9 arg10 harg10 arg11 harg11 arg1 v4 X2 XK XV k)⌝))

set_option warn.classDefReducibility false in
/-- The loop over group 0, by that invariant. -/
@[sl_loop] def loop1 (𝒱 : Variants) (c : Dev nD) (bd : Option 𝒱.V) (E : Set ℕ) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v4 : IVec S128x256 32) (X2 : BufTy.Contents (Elt F) arg2.view.ty) (XK : BufTy.Contents (Elt F) arg4.view.ty) (XV : BufTy.Contents (Elt F) arg5.view.ty) (G10 : BufTy.Contents (Elt F) arg10.view.ty) (G11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg1 v4 where
  inv := inv1 (F := F) 𝒱 c bd i arg2 harg2 arg3 harg3 arg4 harg4 arg5 harg5 arg6 harg6 arg7 harg7 arg8 harg8 arg9 harg9 arg10 harg10 arg11 harg11 arg1 v4 X2 XK XV G10 G11
  step k acc := by
    iintro ⟨H2, HK, HV, ⟨%f10, H10, %h10⟩, ⟨%f11, H11, %h11⟩⟩
    iapply (wp_wand_r Idealize.ShloMosaic.frame (wpE (defs₀ (F := F)) 𝒱 (c : Thread nD τ) bd) E)
    isplitl [H2 HK HV H10 H11]
    · iapply ((trip1 (F := F) 𝒱 c bd i arg2 harg2 arg3 harg3 arg4 harg4 arg5 harg5 arg6 harg6 arg7 harg7 arg8 harg8 arg9 harg9 arg10 harg10 arg11 harg11 arg1 v4 X2 XK XV k).2.2 E f10 f11)
      isplitl [H2]; · iexact H2
      isplitl [HK]; · iexact HK
      isplitl [HV]; · iexact HV
      isplitl [H10]; · iexact H10
      iexact H11
    · iintro %_ ⟨H2, HK, HV, H10, H11⟩
      isplitl [H2]; · iexact H2
      isplitl [HK]; · iexact HK
      isplitl [HV]; · iexact HV
      rw [pbO1_succ, pbL1_succ]
      isplitl [H10]
      · iexists _; isplitl [H10]; · iexact H10
        ipureintro; rw [h10, ← View.writes_append]
      iexists _; isplitl [H11]; · iexact H11
      ipureintro; rw [h11, ← View.writes_append]

/-! ## The loop over group 1 -/

theorem off4_0 : ∀ k : Fin k0_t2_loop.trips, k0_off4 k 0#32 = ![1, 512 * k.val + 0, 0] := by decide +kernel
instance (k : Fin k0_t2_loop.trips) : ClosedOff (k0_off4 k 0#32) := ⟨_, off4_0 k⟩
theorem off5_0 : ∀ k : Fin k0_t2_loop.trips, k0_off5 k 0#32 = ![512 * k.val + 0, 0] := by decide +kernel
instance (k : Fin k0_t2_loop.trips) : ClosedOff (k0_off5 k 0#32) := ⟨_, off5_0 k⟩
theorem off6_0 : ∀ k : Fin k0_t2_loop.trips, k0_off6 k 0#32 = ![1, 512 * k.val + 0, 0] := by decide +kernel
instance (k : Fin k0_t2_loop.trips) : ClosedOff (k0_off6 k 0#32) := ⟨_, off6_0 k⟩
theorem off4_1 : ∀ k : Fin k0_t2_loop.trips, k0_off4 k 1#32 = ![1, 512 * k.val + 1, 0] := by decide +kernel
instance (k : Fin k0_t2_loop.trips) : ClosedOff (k0_off4 k 1#32) := ⟨_, off4_1 k⟩
theorem off5_1 : ∀ k : Fin k0_t2_loop.trips, k0_off5 k 1#32 = ![512 * k.val + 1, 0] := by decide +kernel
instance (k : Fin k0_t2_loop.trips) : ClosedOff (k0_off5 k 1#32) := ⟨_, off5_1 k⟩
theorem off6_1 : ∀ k : Fin k0_t2_loop.trips, k0_off6 k 1#32 = ![1, 512 * k.val + 1, 0] := by decide +kernel
instance (k : Fin k0_t2_loop.trips) : ClosedOff (k0_off6 k 1#32) := ⟨_, off6_1 k⟩
theorem off4_2 : ∀ k : Fin k0_t2_loop.trips, k0_off4 k 2#32 = ![1, 512 * k.val + 2, 0] := by decide +kernel
instance (k : Fin k0_t2_loop.trips) : ClosedOff (k0_off4 k 2#32) := ⟨_, off4_2 k⟩
theorem off5_2 : ∀ k : Fin k0_t2_loop.trips, k0_off5 k 2#32 = ![512 * k.val + 2, 0] := by decide +kernel
instance (k : Fin k0_t2_loop.trips) : ClosedOff (k0_off5 k 2#32) := ⟨_, off5_2 k⟩
theorem off6_2 : ∀ k : Fin k0_t2_loop.trips, k0_off6 k 2#32 = ![1, 512 * k.val + 2, 0] := by decide +kernel
instance (k : Fin k0_t2_loop.trips) : ClosedOff (k0_off6 k 2#32) := ⟨_, off6_2 k⟩
theorem off4_3 : ∀ k : Fin k0_t2_loop.trips, k0_off4 k 3#32 = ![1, 512 * k.val + 3, 0] := by decide +kernel
instance (k : Fin k0_t2_loop.trips) : ClosedOff (k0_off4 k 3#32) := ⟨_, off4_3 k⟩
theorem off5_3 : ∀ k : Fin k0_t2_loop.trips, k0_off5 k 3#32 = ![512 * k.val + 3, 0] := by decide +kernel
instance (k : Fin k0_t2_loop.trips) : ClosedOff (k0_off5 k 3#32) := ⟨_, off5_3 k⟩
theorem off6_3 : ∀ k : Fin k0_t2_loop.trips, k0_off6 k 3#32 = ![1, 512 * k.val + 3, 0] := by decide +kernel
instance (k : Fin k0_t2_loop.trips) : ClosedOff (k0_off6 k 3#32) := ⟨_, off6_3 k⟩

/-- What a trip of the loop over group 1 holds: queries, keys and values it reads, the two buffers it writes. -/
abbrev Trip2 (c : Dev nD) (arg2 : Memref sig .tc .vmem S9x2048x128 .f32) (arg6 : Memref sig .tc .vmem S2560x128 .f32) (arg7 : Memref sig .tc .vmem S2560x128 .f32) (arg10 arg11 : Memref sig .tc .vmem S3x2048x128 .f32)
    (X2 : BufTy.Contents (Elt F) arg2.view.ty) (XK : BufTy.Contents (Elt F) arg6.view.ty) (XV : BufTy.Contents (Elt F) arg7.view.ty) (f10 : BufTy.Contents (Elt F) arg10.view.ty) (f11 : BufTy.Contents (Elt F) arg11.view.ty) : sProp 𝕄 :=
  iprop((arg2.view.loc (c : Thread nD τ) ↦[arg2.view.set]{fullShare} X2) ∗ (arg6.view.loc (c : Thread nD τ) ↦[arg6.view.set]{fullShare} XK) ∗ (arg7.view.loc (c : Thread nD τ) ↦[arg7.view.set]{fullShare} XV) ∗ (arg10.view.loc (c : Thread nD τ) ↦[arg10.view.set]{fullShare} f10) ∗ (arg11.view.loc (c : Thread nD τ) ↦[arg11.view.set]{fullShare} f11))

/-- One trip of the loop over group 1: the pieces it leaves in the two buffers. -/
@[irreducible] def trip2 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg6.view.ty) (XV : BufTy.Contents (Elt F) arg7.view.ty) (k : Fin k0_t2_loop.trips) :
    Σ' (L10 : List (View.Piece (Elt F) S3x2048x128 .f32)), { L11 : List (View.Piece (Elt F) S3x2048x128 .f32) // ∀ (E : Set ℕ) (f10 : BufTy.Contents (Elt F) arg10.view.ty) (f11 : BufTy.Contents (Elt F) arg11.view.ty),
      Trip2 (F := F) c arg2 arg6 arg7 arg10 arg11 X2 XK XV f10 f11
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg1 v2 v4 v9 k PUnit.unit)
          (fun _ => Trip2 (F := F) c arg2 arg6 arg7 arg10 arg11 X2 XK XV (arg10.view.writes (Elt F) f10 L10) (arg11.view.writes (Elt F) f11 L11)) } := by
  have hk : k.val < 4 := Nat.lt_of_lt_of_le k.isLt (by decide)
  refine ⟨?_, ?_, fun E f10 f11 => ?run⟩
  case run =>
    unfold k0_t2_body
    iintro ⟨H2, HK, HV, H10, H11⟩
    sl_exec
    sl_step
    sl_close

/-- What trip `k` of the loop over group 1 stores into the outputs' and the log-sums' buffers. -/
abbrev tripO2 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg6.view.ty) (XV : BufTy.Contents (Elt F) arg7.view.ty) (k : Fin k0_t2_loop.trips) : List (View.Piece (Elt F) S3x2048x128 .f32) := (trip2 (F := F) 𝒱 c bd i arg2 harg2 arg3 harg3 arg4 harg4 arg5 harg5 arg6 harg6 arg7 harg7 arg8 harg8 arg9 harg9 arg10 harg10 arg11 harg11 arg1 v2 v4 v9 X2 XK XV k).1
abbrev tripL2 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg6.view.ty) (XV : BufTy.Contents (Elt F) arg7.view.ty) (k : Fin k0_t2_loop.trips) : List (View.Piece (Elt F) S3x2048x128 .f32) := (trip2 (F := F) 𝒱 c bd i arg2 harg2 arg3 harg3 arg4 harg4 arg5 harg5 arg6 harg6 arg7 harg7 arg8 harg8 arg9 harg9 arg10 harg10 arg11 harg11 arg1 v2 v4 v9 X2 XK XV k).2.1

/-- The pieces of the trips before `k`, the last first. -/
def pbO2 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg6.view.ty) (XV : BufTy.Contents (Elt F) arg7.view.ty) : ℕ → List (View.Piece (Elt F) S3x2048x128 .f32)
  | 0 => []
  | k + 1 => if h : k < k0_t2_loop.trips then tripO2 (F := F) 𝒱 c bd i arg2 harg2 arg3 harg3 arg4 harg4 arg5 harg5 arg6 harg6 arg7 harg7 arg8 harg8 arg9 harg9 arg10 harg10 arg11 harg11 arg1 v2 v4 v9 X2 XK XV ⟨k, h⟩ ++ pbO2 𝒱 c bd i arg2 harg2 arg3 harg3 arg4 harg4 arg5 harg5 arg6 harg6 arg7 harg7 arg8 harg8 arg9 harg9 arg10 harg10 arg11 harg11 arg1 v2 v4 v9 X2 XK XV k else pbO2 𝒱 c bd i arg2 harg2 arg3 harg3 arg4 harg4 arg5 harg5 arg6 harg6 arg7 harg7 arg8 harg8 arg9 harg9 arg10 harg10 arg11 harg11 arg1 v2 v4 v9 X2 XK XV k
def pbL2 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg6.view.ty) (XV : BufTy.Contents (Elt F) arg7.view.ty) : ℕ → List (View.Piece (Elt F) S3x2048x128 .f32)
  | 0 => []
  | k + 1 => if h : k < k0_t2_loop.trips then tripL2 (F := F) 𝒱 c bd i arg2 harg2 arg3 harg3 arg4 harg4 arg5 harg5 arg6 harg6 arg7 harg7 arg8 harg8 arg9 harg9 arg10 harg10 arg11 harg11 arg1 v2 v4 v9 X2 XK XV ⟨k, h⟩ ++ pbL2 𝒱 c bd i arg2 harg2 arg3 harg3 arg4 harg4 arg5 harg5 arg6 harg6 arg7 harg7 arg8 harg8 arg9 harg9 arg10 harg10 arg11 harg11 arg1 v2 v4 v9 X2 XK XV k else pbL2 𝒱 c bd i arg2 harg2 arg3 harg3 arg4 harg4 arg5 harg5 arg6 harg6 arg7 harg7 arg8 harg8 arg9 harg9 arg10 harg10 arg11 harg11 arg1 v2 v4 v9 X2 XK XV k

theorem pbO2_succ (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg6.view.ty) (XV : BufTy.Contents (Elt F) arg7.view.ty) (k : Fin k0_t2_loop.trips) :
    pbO2 (F := F) 𝒱 c bd i arg2 harg2 arg3 harg3 arg4 harg4 arg5 harg5 arg6 harg6 arg7 harg7 arg8 harg8 arg9 harg9 arg10 harg10 arg11 harg11 arg1 v2 v4 v9 X2 XK XV (k.val + 1) = tripO2 (F := F) 𝒱 c bd i arg2 harg2 arg3 harg3 arg4 harg4 arg5 harg5 arg6 harg6 arg7 harg7 arg8 harg8 arg9 harg9 arg10 harg10 arg11 harg11 arg1 v2 v4 v9 X2 XK XV k ++ pbO2 (F := F) 𝒱 c bd i arg2 harg2 arg3 harg3 arg4 harg4 arg5 harg5 arg6 harg6 arg7 harg7 arg8 harg8 arg9 harg9 arg10 harg10 arg11 harg11 arg1 v2 v4 v9 X2 XK XV k.val := by
  rw [pbO2.eq_2]; exact dif_pos k.isLt
theorem pbL2_succ (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg6.view.ty) (XV : BufTy.Contents (Elt F) arg7.view.ty) (k : Fin k0_t2_loop.trips) :
    pbL2 (F := F) 𝒱 c bd i arg2 harg2 arg3 harg3 arg4 harg4 arg5 harg5 arg6 harg6 arg7 harg7 arg8 harg8 arg9 harg9 arg10 harg10 arg11 harg11 arg1 v2 v4 v9 X2 XK XV (k.val + 1) = tripL2 (F := F) 𝒱 c bd i arg2 harg2 arg3 harg3 arg4 harg4 arg5 harg5 arg6 harg6 arg7 harg7 arg8 harg8 arg9 harg9 arg10 harg10 arg11 harg11 arg1 v2 v4 v9 X2 XK XV k ++ pbL2 (F := F) 𝒱 c bd i arg2 harg2 arg3 harg3 arg4 harg4 arg5 harg5 arg6 harg6 arg7 harg7 arg8 harg8 arg9 harg9 arg10 harg10 arg11 harg11 arg1 v2 v4 v9 X2 XK XV k.val := by
  rw [pbL2.eq_2]; exact dif_pos k.isLt

/-- Before trip `k`: the operands as they were, the two buffers with the pieces of the trips before `k` over what they
    held at the loop's entry. -/
abbrev inv2 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg6.view.ty) (XV : BufTy.Contents (Elt F) arg7.view.ty) (G10 : BufTy.Contents (Elt F) arg10.view.ty) (G11 : BufTy.Contents (Elt F) arg11.view.ty) (k : ℕ) (_u : PUnit) : sProp 𝕄 :=
  iprop((arg2.view.loc (c : Thread nD τ) ↦[arg2.view.set]{fullShare} X2) ∗ (arg6.view.loc (c : Thread nD τ) ↦[arg6.view.set]{fullShare} XK) ∗ (arg7.view.loc (c : Thread nD τ) ↦[arg7.view.set]{fullShare} XV)
    ∗ (∃ f, (arg10.view.loc (c : Thread nD τ) ↦[arg10.view.set]{fullShare} f) ∗ ⌜f = arg10.view.writes (Elt F) G10 (pbO2 (F := F) 𝒱 c bd i arg2 harg2 arg3 harg3 arg4 harg4 arg5 harg5 arg6 harg6 arg7 harg7 arg8 harg8 arg9 harg9 arg10 harg10 arg11 harg11 arg1 v2 v4 v9 X2 XK XV k)⌝)
    ∗ (∃ f, (arg11.view.loc (c : Thread nD τ) ↦[arg11.view.set]{fullShare} f) ∗ ⌜f = arg11.view.writes (Elt F) G11 (pbL2 (F := F) 𝒱 c bd i arg2 harg2 arg3 harg3 arg4 harg4 arg5 harg5 arg6 harg6 arg7 harg7 arg8 harg8 arg9 harg9 arg10 harg10 arg11 harg11 arg1 v2 v4 v9 X2 XK XV k)⌝))

set_option warn.classDefReducibility false in
/-- The loop over group 1, by that invariant. -/
@[sl_loop] def loop2 (𝒱 : Variants) (c : Dev nD) (bd : Option 𝒱.V) (E : Set ℕ) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg6.view.ty) (XV : BufTy.Contents (Elt F) arg7.view.ty) (G10 : BufTy.Contents (Elt F) arg10.view.ty) (G11 : BufTy.Contents (Elt F) arg11.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg1 v2 v4 v9 where
  inv := inv2 (F := F) 𝒱 c bd i arg2 harg2 arg3 harg3 arg4 harg4 arg5 harg5 arg6 harg6 arg7 harg7 arg8 harg8 arg9 harg9 arg10 harg10 arg11 harg11 arg1 v2 v4 v9 X2 XK XV G10 G11
  step k acc := by
    iintro ⟨H2, HK, HV, ⟨%f10, H10, %h10⟩, ⟨%f11, H11, %h11⟩⟩
    iapply (wp_wand_r Idealize.ShloMosaic.frame (wpE (defs₀ (F := F)) 𝒱 (c : Thread nD τ) bd) E)
    isplitl [H2 HK HV H10 H11]
    · iapply ((trip2 (F := F) 𝒱 c bd i arg2 harg2 arg3 harg3 arg4 harg4 arg5 harg5 arg6 harg6 arg7 harg7 arg8 harg8 arg9 harg9 arg10 harg10 arg11 harg11 arg1 v2 v4 v9 X2 XK XV k).2.2 E f10 f11)
      isplitl [H2]; · iexact H2
      isplitl [HK]; · iexact HK
      isplitl [HV]; · iexact HV
      isplitl [H10]; · iexact H10
      iexact H11
    · iintro %_ ⟨H2, HK, HV, H10, H11⟩
      isplitl [H2]; · iexact H2
      isplitl [HK]; · iexact HK
      isplitl [HV]; · iexact HV
      rw [pbO2_succ, pbL2_succ]
      isplitl [H10]
      · iexists _; isplitl [H10]; · iexact H10
        ipureintro; rw [h10, ← View.writes_append]
      iexists _; isplitl [H11]; · iexact H11
      ipureintro; rw [h11, ← View.writes_append]

/-! ## The loop over group 2 -/

theorem off7_0 : ∀ k : Fin k0_t3_loop.trips, k0_off7 k 0#32 = ![2, 4 * k.val + 0, 0] := by decide +kernel
instance (k : Fin k0_t3_loop.trips) : ClosedOff (k0_off7 k 0#32) := ⟨_, off7_0 k⟩
theorem off8_0 : ∀ k : Fin k0_t3_loop.trips, k0_off8 k 0#32 = ![4 * k.val + 0, 0] := by decide +kernel
instance (k : Fin k0_t3_loop.trips) : ClosedOff (k0_off8 k 0#32) := ⟨_, off8_0 k⟩
theorem off9_0 : ∀ k : Fin k0_t3_loop.trips, k0_off9 k 0#32 = ![2, 4 * k.val + 0, 0] := by decide +kernel
instance (k : Fin k0_t3_loop.trips) : ClosedOff (k0_off9 k 0#32) := ⟨_, off9_0 k⟩
theorem off7_1 : ∀ k : Fin k0_t3_loop.trips, k0_off7 k 1#32 = ![2, 4 * k.val + 1, 0] := by decide +kernel
instance (k : Fin k0_t3_loop.trips) : ClosedOff (k0_off7 k 1#32) := ⟨_, off7_1 k⟩
theorem off8_1 : ∀ k : Fin k0_t3_loop.trips, k0_off8 k 1#32 = ![4 * k.val + 1, 0] := by decide +kernel
instance (k : Fin k0_t3_loop.trips) : ClosedOff (k0_off8 k 1#32) := ⟨_, off8_1 k⟩
theorem off9_1 : ∀ k : Fin k0_t3_loop.trips, k0_off9 k 1#32 = ![2, 4 * k.val + 1, 0] := by decide +kernel
instance (k : Fin k0_t3_loop.trips) : ClosedOff (k0_off9 k 1#32) := ⟨_, off9_1 k⟩
theorem off7_2 : ∀ k : Fin k0_t3_loop.trips, k0_off7 k 2#32 = ![2, 4 * k.val + 2, 0] := by decide +kernel
instance (k : Fin k0_t3_loop.trips) : ClosedOff (k0_off7 k 2#32) := ⟨_, off7_2 k⟩
theorem off8_2 : ∀ k : Fin k0_t3_loop.trips, k0_off8 k 2#32 = ![4 * k.val + 2, 0] := by decide +kernel
instance (k : Fin k0_t3_loop.trips) : ClosedOff (k0_off8 k 2#32) := ⟨_, off8_2 k⟩
theorem off9_2 : ∀ k : Fin k0_t3_loop.trips, k0_off9 k 2#32 = ![2, 4 * k.val + 2, 0] := by decide +kernel
instance (k : Fin k0_t3_loop.trips) : ClosedOff (k0_off9 k 2#32) := ⟨_, off9_2 k⟩
theorem off7_3 : ∀ k : Fin k0_t3_loop.trips, k0_off7 k 3#32 = ![2, 4 * k.val + 3, 0] := by decide +kernel
instance (k : Fin k0_t3_loop.trips) : ClosedOff (k0_off7 k 3#32) := ⟨_, off7_3 k⟩
theorem off8_3 : ∀ k : Fin k0_t3_loop.trips, k0_off8 k 3#32 = ![4 * k.val + 3, 0] := by decide +kernel
instance (k : Fin k0_t3_loop.trips) : ClosedOff (k0_off8 k 3#32) := ⟨_, off8_3 k⟩
theorem off9_3 : ∀ k : Fin k0_t3_loop.trips, k0_off9 k 3#32 = ![2, 4 * k.val + 3, 0] := by decide +kernel
instance (k : Fin k0_t3_loop.trips) : ClosedOff (k0_off9 k 3#32) := ⟨_, off9_3 k⟩

/-- What a trip of the loop over group 2 holds: queries, keys and values it reads, the two buffers it writes. -/
abbrev Trip3 (c : Dev nD) (arg2 : Memref sig .tc .vmem S9x2048x128 .f32) (arg8 : Memref sig .tc .vmem S4096x128 .f32) (arg9 : Memref sig .tc .vmem S4096x128 .f32) (arg10 arg11 : Memref sig .tc .vmem S3x2048x128 .f32)
    (X2 : BufTy.Contents (Elt F) arg2.view.ty) (XK : BufTy.Contents (Elt F) arg8.view.ty) (XV : BufTy.Contents (Elt F) arg9.view.ty) (f10 : BufTy.Contents (Elt F) arg10.view.ty) (f11 : BufTy.Contents (Elt F) arg11.view.ty) : sProp 𝕄 :=
  iprop((arg2.view.loc (c : Thread nD τ) ↦[arg2.view.set]{fullShare} X2) ∗ (arg8.view.loc (c : Thread nD τ) ↦[arg8.view.set]{fullShare} XK) ∗ (arg9.view.loc (c : Thread nD τ) ↦[arg9.view.set]{fullShare} XV) ∗ (arg10.view.loc (c : Thread nD τ) ↦[arg10.view.set]{fullShare} f10) ∗ (arg11.view.loc (c : Thread nD τ) ↦[arg11.view.set]{fullShare} f11))

/-- One trip of the loop over group 2: the pieces it leaves in the two buffers. -/
@[irreducible] def trip3 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg8.view.ty) (XV : BufTy.Contents (Elt F) arg9.view.ty) (k : Fin k0_t3_loop.trips) :
    Σ' (L10 : List (View.Piece (Elt F) S3x2048x128 .f32)), { L11 : List (View.Piece (Elt F) S3x2048x128 .f32) // ∀ (E : Set ℕ) (f10 : BufTy.Contents (Elt F) arg10.view.ty) (f11 : BufTy.Contents (Elt F) arg11.view.ty),
      Trip3 (F := F) c arg2 arg8 arg9 arg10 arg11 X2 XK XV f10 f11
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg1 v2 v4 v9 k PUnit.unit)
          (fun _ => Trip3 (F := F) c arg2 arg8 arg9 arg10 arg11 X2 XK XV (arg10.view.writes (Elt F) f10 L10) (arg11.view.writes (Elt F) f11 L11)) } := by
  have hk : k.val < 4 := Nat.lt_of_lt_of_le k.isLt (by decide)
  refine ⟨?_, ?_, fun E f10 f11 => ?run⟩
  case run =>
    unfold k0_t3_body
    iintro ⟨H2, HK, HV, H10, H11⟩
    sl_exec
    sl_step
    sl_close

/-- What trip `k` of the loop over group 2 stores into the outputs' and the log-sums' buffers. -/
abbrev tripO3 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg8.view.ty) (XV : BufTy.Contents (Elt F) arg9.view.ty) (k : Fin k0_t3_loop.trips) : List (View.Piece (Elt F) S3x2048x128 .f32) := (trip3 (F := F) 𝒱 c bd i arg2 harg2 arg3 harg3 arg4 harg4 arg5 harg5 arg6 harg6 arg7 harg7 arg8 harg8 arg9 harg9 arg10 harg10 arg11 harg11 arg1 v2 v4 v9 X2 XK XV k).1
abbrev tripL3 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg8.view.ty) (XV : BufTy.Contents (Elt F) arg9.view.ty) (k : Fin k0_t3_loop.trips) : List (View.Piece (Elt F) S3x2048x128 .f32) := (trip3 (F := F) 𝒱 c bd i arg2 harg2 arg3 harg3 arg4 harg4 arg5 harg5 arg6 harg6 arg7 harg7 arg8 harg8 arg9 harg9 arg10 harg10 arg11 harg11 arg1 v2 v4 v9 X2 XK XV k).2.1

/-- The pieces of the trips before `k`, the last first. -/
def pbO3 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg8.view.ty) (XV : BufTy.Contents (Elt F) arg9.view.ty) : ℕ → List (View.Piece (Elt F) S3x2048x128 .f32)
  | 0 => []
  | k + 1 => if h : k < k0_t3_loop.trips then tripO3 (F := F) 𝒱 c bd i arg2 harg2 arg3 harg3 arg4 harg4 arg5 harg5 arg6 harg6 arg7 harg7 arg8 harg8 arg9 harg9 arg10 harg10 arg11 harg11 arg1 v2 v4 v9 X2 XK XV ⟨k, h⟩ ++ pbO3 𝒱 c bd i arg2 harg2 arg3 harg3 arg4 harg4 arg5 harg5 arg6 harg6 arg7 harg7 arg8 harg8 arg9 harg9 arg10 harg10 arg11 harg11 arg1 v2 v4 v9 X2 XK XV k else pbO3 𝒱 c bd i arg2 harg2 arg3 harg3 arg4 harg4 arg5 harg5 arg6 harg6 arg7 harg7 arg8 harg8 arg9 harg9 arg10 harg10 arg11 harg11 arg1 v2 v4 v9 X2 XK XV k
def pbL3 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg8.view.ty) (XV : BufTy.Contents (Elt F) arg9.view.ty) : ℕ → List (View.Piece (Elt F) S3x2048x128 .f32)
  | 0 => []
  | k + 1 => if h : k < k0_t3_loop.trips then tripL3 (F := F) 𝒱 c bd i arg2 harg2 arg3 harg3 arg4 harg4 arg5 harg5 arg6 harg6 arg7 harg7 arg8 harg8 arg9 harg9 arg10 harg10 arg11 harg11 arg1 v2 v4 v9 X2 XK XV ⟨k, h⟩ ++ pbL3 𝒱 c bd i arg2 harg2 arg3 harg3 arg4 harg4 arg5 harg5 arg6 harg6 arg7 harg7 arg8 harg8 arg9 harg9 arg10 harg10 arg11 harg11 arg1 v2 v4 v9 X2 XK XV k else pbL3 𝒱 c bd i arg2 harg2 arg3 harg3 arg4 harg4 arg5 harg5 arg6 harg6 arg7 harg7 arg8 harg8 arg9 harg9 arg10 harg10 arg11 harg11 arg1 v2 v4 v9 X2 XK XV k

theorem pbO3_succ (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg8.view.ty) (XV : BufTy.Contents (Elt F) arg9.view.ty) (k : Fin k0_t3_loop.trips) :
    pbO3 (F := F) 𝒱 c bd i arg2 harg2 arg3 harg3 arg4 harg4 arg5 harg5 arg6 harg6 arg7 harg7 arg8 harg8 arg9 harg9 arg10 harg10 arg11 harg11 arg1 v2 v4 v9 X2 XK XV (k.val + 1) = tripO3 (F := F) 𝒱 c bd i arg2 harg2 arg3 harg3 arg4 harg4 arg5 harg5 arg6 harg6 arg7 harg7 arg8 harg8 arg9 harg9 arg10 harg10 arg11 harg11 arg1 v2 v4 v9 X2 XK XV k ++ pbO3 (F := F) 𝒱 c bd i arg2 harg2 arg3 harg3 arg4 harg4 arg5 harg5 arg6 harg6 arg7 harg7 arg8 harg8 arg9 harg9 arg10 harg10 arg11 harg11 arg1 v2 v4 v9 X2 XK XV k.val := by
  rw [pbO3.eq_2]; exact dif_pos k.isLt
theorem pbL3_succ (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg8.view.ty) (XV : BufTy.Contents (Elt F) arg9.view.ty) (k : Fin k0_t3_loop.trips) :
    pbL3 (F := F) 𝒱 c bd i arg2 harg2 arg3 harg3 arg4 harg4 arg5 harg5 arg6 harg6 arg7 harg7 arg8 harg8 arg9 harg9 arg10 harg10 arg11 harg11 arg1 v2 v4 v9 X2 XK XV (k.val + 1) = tripL3 (F := F) 𝒱 c bd i arg2 harg2 arg3 harg3 arg4 harg4 arg5 harg5 arg6 harg6 arg7 harg7 arg8 harg8 arg9 harg9 arg10 harg10 arg11 harg11 arg1 v2 v4 v9 X2 XK XV k ++ pbL3 (F := F) 𝒱 c bd i arg2 harg2 arg3 harg3 arg4 harg4 arg5 harg5 arg6 harg6 arg7 harg7 arg8 harg8 arg9 harg9 arg10 harg10 arg11 harg11 arg1 v2 v4 v9 X2 XK XV k.val := by
  rw [pbL3.eq_2]; exact dif_pos k.isLt

/-- Before trip `k`: the operands as they were, the two buffers with the pieces of the trips before `k` over what they
    held at the loop's entry. -/
abbrev inv3 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg8.view.ty) (XV : BufTy.Contents (Elt F) arg9.view.ty) (G10 : BufTy.Contents (Elt F) arg10.view.ty) (G11 : BufTy.Contents (Elt F) arg11.view.ty) (k : ℕ) (_u : PUnit) : sProp 𝕄 :=
  iprop((arg2.view.loc (c : Thread nD τ) ↦[arg2.view.set]{fullShare} X2) ∗ (arg8.view.loc (c : Thread nD τ) ↦[arg8.view.set]{fullShare} XK) ∗ (arg9.view.loc (c : Thread nD τ) ↦[arg9.view.set]{fullShare} XV)
    ∗ (∃ f, (arg10.view.loc (c : Thread nD τ) ↦[arg10.view.set]{fullShare} f) ∗ ⌜f = arg10.view.writes (Elt F) G10 (pbO3 (F := F) 𝒱 c bd i arg2 harg2 arg3 harg3 arg4 harg4 arg5 harg5 arg6 harg6 arg7 harg7 arg8 harg8 arg9 harg9 arg10 harg10 arg11 harg11 arg1 v2 v4 v9 X2 XK XV k)⌝)
    ∗ (∃ f, (arg11.view.loc (c : Thread nD τ) ↦[arg11.view.set]{fullShare} f) ∗ ⌜f = arg11.view.writes (Elt F) G11 (pbL3 (F := F) 𝒱 c bd i arg2 harg2 arg3 harg3 arg4 harg4 arg5 harg5 arg6 harg6 arg7 harg7 arg8 harg8 arg9 harg9 arg10 harg10 arg11 harg11 arg1 v2 v4 v9 X2 XK XV k)⌝))

set_option warn.classDefReducibility false in
/-- The loop over group 2, by that invariant. -/
@[sl_loop] def loop3 (𝒱 : Variants) (c : Dev nD) (bd : Option 𝒱.V) (E : Set ℕ) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (arg1 : BitVec 32) (v2 : IVec S128x128 1) (v4 : IVec S128x256 32) (v9 : IVec S128x256 1) (X2 : BufTy.Contents (Elt F) arg2.view.ty) (XK : BufTy.Contents (Elt F) arg8.view.ty) (XV : BufTy.Contents (Elt F) arg9.view.ty) (G10 : BufTy.Contents (Elt F) arg10.view.ty) (G11 : BufTy.Contents (Elt F) arg11.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg1 v2 v4 v9 where
  inv := inv3 (F := F) 𝒱 c bd i arg2 harg2 arg3 harg3 arg4 harg4 arg5 harg5 arg6 harg6 arg7 harg7 arg8 harg8 arg9 harg9 arg10 harg10 arg11 harg11 arg1 v2 v4 v9 X2 XK XV G10 G11
  step k acc := by
    iintro ⟨H2, HK, HV, ⟨%f10, H10, %h10⟩, ⟨%f11, H11, %h11⟩⟩
    iapply (wp_wand_r Idealize.ShloMosaic.frame (wpE (defs₀ (F := F)) 𝒱 (c : Thread nD τ) bd) E)
    isplitl [H2 HK HV H10 H11]
    · iapply ((trip3 (F := F) 𝒱 c bd i arg2 harg2 arg3 harg3 arg4 harg4 arg5 harg5 arg6 harg6 arg7 harg7 arg8 harg8 arg9 harg9 arg10 harg10 arg11 harg11 arg1 v2 v4 v9 X2 XK XV k).2.2 E f10 f11)
      isplitl [H2]; · iexact H2
      isplitl [HK]; · iexact HK
      isplitl [HV]; · iexact HV
      isplitl [H10]; · iexact H10
      iexact H11
    · iintro %_ ⟨H2, HK, HV, H10, H11⟩
      isplitl [H2]; · iexact H2
      isplitl [HK]; · iexact HK
      isplitl [HV]; · iexact HV
      rw [pbO3_succ, pbL3_succ]
      isplitl [H10]
      · iexists _; isplitl [H10]; · iexact H10
        ipureintro; rw [h10, ← View.writes_append]
      iexists _; isplitl [H11]; · iexact H11
      ipureintro; rw [h11, ← View.writes_append]

end Cert.KernelIdeal.Attn

end
-- ==== Proof.Attn.Units.lean ====
/-
  One unit of the dilated attention: 128 queries against their 256 keys and values, and each trip of the three loops
  as four such units.
-/
module

public import proofs.«01_k».proof.Proof.Attn.Loops

@[expose] public section

set_option maxRecDepth 16384
set_option maxHeartbeats 400000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The scores of the unit's queries against its keys, over the first head's lanes and over the second's. -/
def unitS0 (q : Vec F S1x128x128 .f32) (k : Vec F S256x128 .f32) : FVec F S128x256 .f32 := k0_pay19 k0_pay269 (k0_pay4 q) (k0_pay5 k)
def unitS1 (q : Vec F S1x128x128 .f32) (k : Vec F S256x128 .f32) : FVec F S128x256 .f32 := k0_pay20 k0_pay269 (k0_pay4 q) (k0_pay5 k)

/-- The unit's outputs, and the logarithms of its softmax denominators. -/
def unitO (m : IVec S128x256 1) (q : Vec F S1x128x128 .f32) (k v : Vec F S256x128 .f32) : FVec F S1x128x128 .f32 :=
  k0_pay78 k0_pay269 (k0_pay6 v) (k0_pay31 m (unitS0 q k)) (k0_pay32 m (unitS0 q k)) (k0_pay37 m (unitS1 q k)) (k0_pay38 m (unitS1 q k))
def unitL (m : IVec S128x256 1) (q : Vec F S1x128x128 .f32) (k : Vec F S256x128 .f32) : FVec F S1x128x128 .f32 :=
  k0_pay79 k0_pay269 (k0_pay33 m (unitS0 q k)) (k0_pay39 m (unitS1 q k))

/-- The column number of each score. -/
def colIx : IVec S128x256 32 := iota .tc S128x256 32 [1] iota_S128x256_d1_w32

/-- Which scores count: the band of 128 keys back, and before the sequence's first key none. -/
def maskOf (h : BitVec 1) : IVec S128x256 1 := andi k0_pay270 (ori (cmpi .sge colIx (broadcast S128x256 128#32)) (broadcast S128x256 h))

/-- Whether keys precede the `j`th window of the point's block: they do but in the first of the sequence. -/
def prevBit (a j : ℕ) : BitVec 1 := if a = 0 ∧ j = 0 then 0#1 else 1#1

/-- The bit the loop over group 0 computes for its unit 0. -/
theorem bit1_0 (a : ℕ) (ha : a < 2) (k : Fin k0_t1_loop.trips) :
    Scalar.cmpi .sgt (Scalar.addi (Scalar.muli (BitVec.ofNat 32 a) 16#32) (Scalar.select (0#1) (Scalar.subi (Scalar.divsi (Scalar.addi (Scalar.muli (Scf.iv 0#32 1#32 k.val) 4#32) 0#32) 1#32) 1#32) (Scalar.divsi (Scalar.addi (Scalar.muli (Scf.iv 0#32 1#32 k.val) 4#32) 0#32) 1#32))) 0#32 = prevBit a (4 * k.val + 0) := by
  have h : ∀ (a : Fin 2) (k : Fin k0_t1_loop.trips), Scalar.cmpi .sgt (Scalar.addi (Scalar.muli (BitVec.ofNat 32 a.val) 16#32) (Scalar.select (0#1) (Scalar.subi (Scalar.divsi (Scalar.addi (Scalar.muli (Scf.iv 0#32 1#32 k.val) 4#32) 0#32) 1#32) 1#32) (Scalar.divsi (Scalar.addi (Scalar.muli (Scf.iv 0#32 1#32 k.val) 4#32) 0#32) 1#32))) 0#32 = prevBit a.val (4 * k.val + 0) := by decide +kernel
  exact h ⟨a, ha⟩ k

/-- The bit the loop over group 0 computes for its unit 1. -/
theorem bit1_1 (a : ℕ) (ha : a < 2) (k : Fin k0_t1_loop.trips) :
    Scalar.cmpi .sgt (Scalar.addi (Scalar.muli (BitVec.ofNat 32 a) 16#32) (Scalar.select (0#1) (Scalar.subi (Scalar.divsi (Scalar.addi (Scalar.muli (Scf.iv 0#32 1#32 k.val) 4#32) 1#32) 1#32) 1#32) (Scalar.divsi (Scalar.addi (Scalar.muli (Scf.iv 0#32 1#32 k.val) 4#32) 1#32) 1#32))) 0#32 = prevBit a (4 * k.val + 1) := by
  have h : ∀ (a : Fin 2) (k : Fin k0_t1_loop.trips), Scalar.cmpi .sgt (Scalar.addi (Scalar.muli (BitVec.ofNat 32 a.val) 16#32) (Scalar.select (0#1) (Scalar.subi (Scalar.divsi (Scalar.addi (Scalar.muli (Scf.iv 0#32 1#32 k.val) 4#32) 1#32) 1#32) 1#32) (Scalar.divsi (Scalar.addi (Scalar.muli (Scf.iv 0#32 1#32 k.val) 4#32) 1#32) 1#32))) 0#32 = prevBit a.val (4 * k.val + 1) := by decide +kernel
  exact h ⟨a, ha⟩ k

/-- The bit the loop over group 0 computes for its unit 2. -/
theorem bit1_2 (a : ℕ) (ha : a < 2) (k : Fin k0_t1_loop.trips) :
    Scalar.cmpi .sgt (Scalar.addi (Scalar.muli (BitVec.ofNat 32 a) 16#32) (Scalar.select (0#1) (Scalar.subi (Scalar.divsi (Scalar.addi (Scalar.muli (Scf.iv 0#32 1#32 k.val) 4#32) 2#32) 1#32) 1#32) (Scalar.divsi (Scalar.addi (Scalar.muli (Scf.iv 0#32 1#32 k.val) 4#32) 2#32) 1#32))) 0#32 = prevBit a (4 * k.val + 2) := by
  have h : ∀ (a : Fin 2) (k : Fin k0_t1_loop.trips), Scalar.cmpi .sgt (Scalar.addi (Scalar.muli (BitVec.ofNat 32 a.val) 16#32) (Scalar.select (0#1) (Scalar.subi (Scalar.divsi (Scalar.addi (Scalar.muli (Scf.iv 0#32 1#32 k.val) 4#32) 2#32) 1#32) 1#32) (Scalar.divsi (Scalar.addi (Scalar.muli (Scf.iv 0#32 1#32 k.val) 4#32) 2#32) 1#32))) 0#32 = prevBit a.val (4 * k.val + 2) := by decide +kernel
  exact h ⟨a, ha⟩ k

/-- The bit the loop over group 0 computes for its unit 3. -/
theorem bit1_3 (a : ℕ) (ha : a < 2) (k : Fin k0_t1_loop.trips) :
    Scalar.cmpi .sgt (Scalar.addi (Scalar.muli (BitVec.ofNat 32 a) 16#32) (Scalar.select (0#1) (Scalar.subi (Scalar.divsi (Scalar.addi (Scalar.muli (Scf.iv 0#32 1#32 k.val) 4#32) 3#32) 1#32) 1#32) (Scalar.divsi (Scalar.addi (Scalar.muli (Scf.iv 0#32 1#32 k.val) 4#32) 3#32) 1#32))) 0#32 = prevBit a (4 * k.val + 3) := by
  have h : ∀ (a : Fin 2) (k : Fin k0_t1_loop.trips), Scalar.cmpi .sgt (Scalar.addi (Scalar.muli (BitVec.ofNat 32 a.val) 16#32) (Scalar.select (0#1) (Scalar.subi (Scalar.divsi (Scalar.addi (Scalar.muli (Scf.iv 0#32 1#32 k.val) 4#32) 3#32) 1#32) 1#32) (Scalar.divsi (Scalar.addi (Scalar.muli (Scf.iv 0#32 1#32 k.val) 4#32) 3#32) 1#32))) 0#32 = prevBit a.val (4 * k.val + 3) := by decide +kernel
  exact h ⟨a, ha⟩ k

theorem tripO1_eq (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (k : Fin k0_t1_loop.trips) :
    tripO1 (F := F) 𝒱 c bd i arg2 harg2 arg3 harg3 arg4 harg4 arg5 harg5 arg6 harg6 arg7 harg7 arg8 harg8 arg9 harg9 arg10 harg10 arg11 harg11 (BitVec.ofNat 32 a) colIx X2 XK XV k = [⟨(Rect.unit (s := S3x2048x128) (k0_off3 k 3#32) S1x128x128.size (k0_off3_inb k 3)), unitO (maskOf (prevBit a (4 * k.val + 3))) (arg2.view.readAt (Elt F) (Rect.unit (s := S9x2048x128) (k0_off1 k 3#32) S1x128x128.size (k0_off1_inb k 3)).toLoadRect X2) (arg4.view.readAt (Elt F) (Rect.unit (s := S2176x128) (k0_off2 k 3#32) S256x128.size (k0_off2_inb k 3)).toLoadRect XK) (arg5.view.readAt (Elt F) (Rect.unit (s := S2176x128) (k0_off2 k 3#32) S256x128.size (k0_off2_inb k 3)).toLoadRect XV)⟩,
      ⟨(Rect.unit (s := S3x2048x128) (k0_off3 k 2#32) S1x128x128.size (k0_off3_inb k 2)), unitO (maskOf (prevBit a (4 * k.val + 2))) (arg2.view.readAt (Elt F) (Rect.unit (s := S9x2048x128) (k0_off1 k 2#32) S1x128x128.size (k0_off1_inb k 2)).toLoadRect X2) (arg4.view.readAt (Elt F) (Rect.unit (s := S2176x128) (k0_off2 k 2#32) S256x128.size (k0_off2_inb k 2)).toLoadRect XK) (arg5.view.readAt (Elt F) (Rect.unit (s := S2176x128) (k0_off2 k 2#32) S256x128.size (k0_off2_inb k 2)).toLoadRect XV)⟩,
      ⟨(Rect.unit (s := S3x2048x128) (k0_off3 k 1#32) S1x128x128.size (k0_off3_inb k 1)), unitO (maskOf (prevBit a (4 * k.val + 1))) (arg2.view.readAt (Elt F) (Rect.unit (s := S9x2048x128) (k0_off1 k 1#32) S1x128x128.size (k0_off1_inb k 1)).toLoadRect X2) (arg4.view.readAt (Elt F) (Rect.unit (s := S2176x128) (k0_off2 k 1#32) S256x128.size (k0_off2_inb k 1)).toLoadRect XK) (arg5.view.readAt (Elt F) (Rect.unit (s := S2176x128) (k0_off2 k 1#32) S256x128.size (k0_off2_inb k 1)).toLoadRect XV)⟩,
      ⟨(Rect.unit (s := S3x2048x128) (k0_off3 k 0#32) S1x128x128.size (k0_off3_inb k 0)), unitO (maskOf (prevBit a (4 * k.val + 0))) (arg2.view.readAt (Elt F) (Rect.unit (s := S9x2048x128) (k0_off1 k 0#32) S1x128x128.size (k0_off1_inb k 0)).toLoadRect X2) (arg4.view.readAt (Elt F) (Rect.unit (s := S2176x128) (k0_off2 k 0#32) S256x128.size (k0_off2_inb k 0)).toLoadRect XK) (arg5.view.readAt (Elt F) (Rect.unit (s := S2176x128) (k0_off2 k 0#32) S256x128.size (k0_off2_inb k 0)).toLoadRect XV)⟩] := by
  unfold tripO1 trip1
  dsimp only [trip1.sl.arg12, trip1.sl.cst, trip1.sl.cst_116, trip1.sl.cst_117, trip1.sl.cst_118, trip1.sl.cst_160, trip1.sl.r, trip1.sl.r_1, trip1.sl.r_10, trip1.sl.r_11, trip1.sl.r_12, trip1.sl.r_13, trip1.sl.r_14, trip1.sl.r_15, trip1.sl.r_16, trip1.sl.r_17, trip1.sl.r_18, trip1.sl.r_19, trip1.sl.r_2, trip1.sl.r_20, trip1.sl.r_21, trip1.sl.r_22, trip1.sl.r_23, trip1.sl.r_24, trip1.sl.r_25, trip1.sl.r_26, trip1.sl.r_27, trip1.sl.r_28, trip1.sl.r_29, trip1.sl.r_3, trip1.sl.r_4, trip1.sl.r_5, trip1.sl.r_6, trip1.sl.r_7, trip1.sl.r_8, trip1.sl.r_9, trip1.sl.v100, trip1.sl.v103, trip1.sl.v105, trip1.sl.v106, trip1.sl.v121, trip1.sl.v122, trip1.sl.v123, trip1.sl.v124, trip1.sl.v126, trip1.sl.v130, trip1.sl.v131, trip1.sl.v132, trip1.sl.v133, trip1.sl.v134, trip1.sl.v135, trip1.sl.v137, trip1.sl.v139, trip1.sl.v142, trip1.sl.v145, trip1.sl.v147, trip1.sl.v148, trip1.sl.v163, trip1.sl.v164, trip1.sl.v165, trip1.sl.v166, trip1.sl.v168, trip1.sl.v172, trip1.sl.v173, trip1.sl.v174, trip1.sl.v175, trip1.sl.v176, trip1.sl.v177, trip1.sl.v179, trip1.sl.v181, trip1.sl.v184, trip1.sl.v187, trip1.sl.v189, trip1.sl.v190, trip1.sl.v205, trip1.sl.v206, trip1.sl.v207, trip1.sl.v208, trip1.sl.v210, trip1.sl.v214, trip1.sl.v215, trip1.sl.v216, trip1.sl.v217, trip1.sl.v218, trip1.sl.v219, trip1.sl.v221, trip1.sl.v223, trip1.sl.v226, trip1.sl.v229, trip1.sl.v231, trip1.sl.v232, trip1.sl.v233, trip1.sl.v234, trip1.sl.v236, trip1.sl.v237, trip1.sl.v238, trip1.sl.v241, trip1.sl.v242, trip1.sl.v243, trip1.sl.v245, trip1.sl.v246, trip1.sl.v247, trip1.sl.v250, trip1.sl.v251, trip1.sl.v252, trip1.sl.v254, trip1.sl.v255, trip1.sl.v256, trip1.sl.v259, trip1.sl.v260, trip1.sl.v261, trip1.sl.v263, trip1.sl.v264, trip1.sl.v361, trip1.sl.v362, trip1.sl.v363, trip1.sl.v364, trip1.sl.v365, trip1.sl.v366, trip1.sl.v367, trip1.sl.v368, trip1.sl.v371, trip1.sl.v372, trip1.sl.v373, trip1.sl.v374, trip1.sl.v375, trip1.sl.v376, trip1.sl.v377, trip1.sl.v380, trip1.sl.v381, trip1.sl.v382, trip1.sl.v383, trip1.sl.v384, trip1.sl.v385, trip1.sl.v386, trip1.sl.v387, trip1.sl.v388, trip1.sl.v390, trip1.sl.v391, trip1.sl.v392, trip1.sl.v393, trip1.sl.v394, trip1.sl.v395, trip1.sl.v396, trip1.sl.v397, trip1.sl.v399, trip1.sl.v400, trip1.sl.v401, trip1.sl.v402, trip1.sl.v403, trip1.sl.v62, trip1.sl.v63, trip1.sl.v64, trip1.sl.v65, trip1.sl.v66, trip1.sl.v69, trip1.sl.v75, trip1.sl.v79, trip1.sl.v80, trip1.sl.v81, trip1.sl.v82, trip1.sl.v84, trip1.sl.v85, trip1.sl.v86, trip1.sl.v87, trip1.sl.v88, trip1.sl.v89, trip1.sl.v90, trip1.sl.v91, trip1.sl.v92, trip1.sl.v93, trip1.sl.v95, trip1.sl.v96, trip1.sl.v97]
  dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, unitO, unitL, unitS0, unitS1, maskOf]
  rw [bit1_0 a ha k, bit1_1 a ha k, bit1_2 a ha k, bit1_3 a ha k]

theorem tripL1_eq (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (k : Fin k0_t1_loop.trips) :
    tripL1 (F := F) 𝒱 c bd i arg2 harg2 arg3 harg3 arg4 harg4 arg5 harg5 arg6 harg6 arg7 harg7 arg8 harg8 arg9 harg9 arg10 harg10 arg11 harg11 (BitVec.ofNat 32 a) colIx X2 XK XV k = [⟨(Rect.unit (s := S3x2048x128) (k0_off3 k 3#32) S1x128x128.size (k0_off3_inb k 3)), unitL (maskOf (prevBit a (4 * k.val + 3))) (arg2.view.readAt (Elt F) (Rect.unit (s := S9x2048x128) (k0_off1 k 3#32) S1x128x128.size (k0_off1_inb k 3)).toLoadRect X2) (arg4.view.readAt (Elt F) (Rect.unit (s := S2176x128) (k0_off2 k 3#32) S256x128.size (k0_off2_inb k 3)).toLoadRect XK)⟩,
      ⟨(Rect.unit (s := S3x2048x128) (k0_off3 k 2#32) S1x128x128.size (k0_off3_inb k 2)), unitL (maskOf (prevBit a (4 * k.val + 2))) (arg2.view.readAt (Elt F) (Rect.unit (s := S9x2048x128) (k0_off1 k 2#32) S1x128x128.size (k0_off1_inb k 2)).toLoadRect X2) (arg4.view.readAt (Elt F) (Rect.unit (s := S2176x128) (k0_off2 k 2#32) S256x128.size (k0_off2_inb k 2)).toLoadRect XK)⟩,
      ⟨(Rect.unit (s := S3x2048x128) (k0_off3 k 1#32) S1x128x128.size (k0_off3_inb k 1)), unitL (maskOf (prevBit a (4 * k.val + 1))) (arg2.view.readAt (Elt F) (Rect.unit (s := S9x2048x128) (k0_off1 k 1#32) S1x128x128.size (k0_off1_inb k 1)).toLoadRect X2) (arg4.view.readAt (Elt F) (Rect.unit (s := S2176x128) (k0_off2 k 1#32) S256x128.size (k0_off2_inb k 1)).toLoadRect XK)⟩,
      ⟨(Rect.unit (s := S3x2048x128) (k0_off3 k 0#32) S1x128x128.size (k0_off3_inb k 0)), unitL (maskOf (prevBit a (4 * k.val + 0))) (arg2.view.readAt (Elt F) (Rect.unit (s := S9x2048x128) (k0_off1 k 0#32) S1x128x128.size (k0_off1_inb k 0)).toLoadRect X2) (arg4.view.readAt (Elt F) (Rect.unit (s := S2176x128) (k0_off2 k 0#32) S256x128.size (k0_off2_inb k 0)).toLoadRect XK)⟩] := by
  unfold tripL1 trip1
  dsimp only [trip1.sl.arg12, trip1.sl.cst, trip1.sl.cst_116, trip1.sl.cst_117, trip1.sl.cst_118, trip1.sl.cst_160, trip1.sl.r, trip1.sl.r_1, trip1.sl.r_10, trip1.sl.r_11, trip1.sl.r_12, trip1.sl.r_13, trip1.sl.r_14, trip1.sl.r_15, trip1.sl.r_16, trip1.sl.r_17, trip1.sl.r_18, trip1.sl.r_19, trip1.sl.r_2, trip1.sl.r_20, trip1.sl.r_21, trip1.sl.r_22, trip1.sl.r_23, trip1.sl.r_24, trip1.sl.r_25, trip1.sl.r_26, trip1.sl.r_27, trip1.sl.r_28, trip1.sl.r_29, trip1.sl.r_3, trip1.sl.r_4, trip1.sl.r_5, trip1.sl.r_6, trip1.sl.r_7, trip1.sl.r_8, trip1.sl.r_9, trip1.sl.v100, trip1.sl.v103, trip1.sl.v105, trip1.sl.v106, trip1.sl.v121, trip1.sl.v122, trip1.sl.v123, trip1.sl.v124, trip1.sl.v126, trip1.sl.v130, trip1.sl.v131, trip1.sl.v132, trip1.sl.v133, trip1.sl.v134, trip1.sl.v135, trip1.sl.v137, trip1.sl.v139, trip1.sl.v142, trip1.sl.v145, trip1.sl.v147, trip1.sl.v148, trip1.sl.v163, trip1.sl.v164, trip1.sl.v165, trip1.sl.v166, trip1.sl.v168, trip1.sl.v172, trip1.sl.v173, trip1.sl.v174, trip1.sl.v175, trip1.sl.v176, trip1.sl.v177, trip1.sl.v179, trip1.sl.v181, trip1.sl.v184, trip1.sl.v187, trip1.sl.v189, trip1.sl.v190, trip1.sl.v205, trip1.sl.v206, trip1.sl.v207, trip1.sl.v208, trip1.sl.v210, trip1.sl.v214, trip1.sl.v215, trip1.sl.v216, trip1.sl.v217, trip1.sl.v218, trip1.sl.v219, trip1.sl.v221, trip1.sl.v223, trip1.sl.v226, trip1.sl.v229, trip1.sl.v231, trip1.sl.v232, trip1.sl.v233, trip1.sl.v234, trip1.sl.v236, trip1.sl.v237, trip1.sl.v238, trip1.sl.v241, trip1.sl.v242, trip1.sl.v243, trip1.sl.v245, trip1.sl.v246, trip1.sl.v247, trip1.sl.v250, trip1.sl.v251, trip1.sl.v252, trip1.sl.v254, trip1.sl.v255, trip1.sl.v256, trip1.sl.v259, trip1.sl.v260, trip1.sl.v261, trip1.sl.v263, trip1.sl.v264, trip1.sl.v361, trip1.sl.v362, trip1.sl.v363, trip1.sl.v364, trip1.sl.v365, trip1.sl.v366, trip1.sl.v367, trip1.sl.v368, trip1.sl.v371, trip1.sl.v372, trip1.sl.v373, trip1.sl.v374, trip1.sl.v375, trip1.sl.v376, trip1.sl.v377, trip1.sl.v380, trip1.sl.v381, trip1.sl.v382, trip1.sl.v383, trip1.sl.v384, trip1.sl.v385, trip1.sl.v386, trip1.sl.v387, trip1.sl.v388, trip1.sl.v390, trip1.sl.v391, trip1.sl.v392, trip1.sl.v393, trip1.sl.v394, trip1.sl.v395, trip1.sl.v396, trip1.sl.v397, trip1.sl.v399, trip1.sl.v400, trip1.sl.v401, trip1.sl.v402, trip1.sl.v403, trip1.sl.v62, trip1.sl.v63, trip1.sl.v64, trip1.sl.v65, trip1.sl.v66, trip1.sl.v69, trip1.sl.v75, trip1.sl.v79, trip1.sl.v80, trip1.sl.v81, trip1.sl.v82, trip1.sl.v84, trip1.sl.v85, trip1.sl.v86, trip1.sl.v87, trip1.sl.v88, trip1.sl.v89, trip1.sl.v90, trip1.sl.v91, trip1.sl.v92, trip1.sl.v93, trip1.sl.v95, trip1.sl.v96, trip1.sl.v97]
  dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, unitO, unitL, unitS0, unitS1, maskOf]
  rw [bit1_0 a ha k, bit1_1 a ha k, bit1_2 a ha k, bit1_3 a ha k]

/-- The bit the loop over group 1 computes for its unit 0. -/
theorem bit2_0 (a : ℕ) (ha : a < 2) (k : Fin k0_t2_loop.trips) :
    Scalar.cmpi .sgt (Scalar.addi (Scalar.muli (BitVec.ofNat 32 a) 4#32) (Scalar.select (0#1) (Scalar.subi (Scalar.divsi (Scalar.addi (Scalar.muli (Scf.iv 0#32 1#32 k.val) 4#32) 0#32) 4#32) 1#32) (Scalar.divsi (Scalar.addi (Scalar.muli (Scf.iv 0#32 1#32 k.val) 4#32) 0#32) 4#32))) 0#32 = prevBit a (k.val) := by
  have h : ∀ (a : Fin 2) (k : Fin k0_t2_loop.trips), Scalar.cmpi .sgt (Scalar.addi (Scalar.muli (BitVec.ofNat 32 a.val) 4#32) (Scalar.select (0#1) (Scalar.subi (Scalar.divsi (Scalar.addi (Scalar.muli (Scf.iv 0#32 1#32 k.val) 4#32) 0#32) 4#32) 1#32) (Scalar.divsi (Scalar.addi (Scalar.muli (Scf.iv 0#32 1#32 k.val) 4#32) 0#32) 4#32))) 0#32 = prevBit a.val (k.val) := by decide +kernel
  exact h ⟨a, ha⟩ k

/-- The bit the loop over group 1 computes for its unit 1. -/
theorem bit2_1 (a : ℕ) (ha : a < 2) (k : Fin k0_t2_loop.trips) :
    Scalar.cmpi .sgt (Scalar.addi (Scalar.muli (BitVec.ofNat 32 a) 4#32) (Scalar.select (0#1) (Scalar.subi (Scalar.divsi (Scalar.addi (Scalar.muli (Scf.iv 0#32 1#32 k.val) 4#32) 1#32) 4#32) 1#32) (Scalar.divsi (Scalar.addi (Scalar.muli (Scf.iv 0#32 1#32 k.val) 4#32) 1#32) 4#32))) 0#32 = prevBit a (k.val) := by
  have h : ∀ (a : Fin 2) (k : Fin k0_t2_loop.trips), Scalar.cmpi .sgt (Scalar.addi (Scalar.muli (BitVec.ofNat 32 a.val) 4#32) (Scalar.select (0#1) (Scalar.subi (Scalar.divsi (Scalar.addi (Scalar.muli (Scf.iv 0#32 1#32 k.val) 4#32) 1#32) 4#32) 1#32) (Scalar.divsi (Scalar.addi (Scalar.muli (Scf.iv 0#32 1#32 k.val) 4#32) 1#32) 4#32))) 0#32 = prevBit a.val (k.val) := by decide +kernel
  exact h ⟨a, ha⟩ k

/-- The bit the loop over group 1 computes for its unit 2. -/
theorem bit2_2 (a : ℕ) (ha : a < 2) (k : Fin k0_t2_loop.trips) :
    Scalar.cmpi .sgt (Scalar.addi (Scalar.muli (BitVec.ofNat 32 a) 4#32) (Scalar.select (0#1) (Scalar.subi (Scalar.divsi (Scalar.addi (Scalar.muli (Scf.iv 0#32 1#32 k.val) 4#32) 2#32) 4#32) 1#32) (Scalar.divsi (Scalar.addi (Scalar.muli (Scf.iv 0#32 1#32 k.val) 4#32) 2#32) 4#32))) 0#32 = prevBit a (k.val) := by
  have h : ∀ (a : Fin 2) (k : Fin k0_t2_loop.trips), Scalar.cmpi .sgt (Scalar.addi (Scalar.muli (BitVec.ofNat 32 a.val) 4#32) (Scalar.select (0#1) (Scalar.subi (Scalar.divsi (Scalar.addi (Scalar.muli (Scf.iv 0#32 1#32 k.val) 4#32) 2#32) 4#32) 1#32) (Scalar.divsi (Scalar.addi (Scalar.muli (Scf.iv 0#32 1#32 k.val) 4#32) 2#32) 4#32))) 0#32 = prevBit a.val (k.val) := by decide +kernel
  exact h ⟨a, ha⟩ k

/-- The bit the loop over group 1 computes for its unit 3. -/
theorem bit2_3 (a : ℕ) (ha : a < 2) (k : Fin k0_t2_loop.trips) :
    Scalar.cmpi .sgt (Scalar.addi (Scalar.muli (BitVec.ofNat 32 a) 4#32) (Scalar.select (0#1) (Scalar.subi (Scalar.divsi (Scalar.addi (Scalar.muli (Scf.iv 0#32 1#32 k.val) 4#32) 3#32) 4#32) 1#32) (Scalar.divsi (Scalar.addi (Scalar.muli (Scf.iv 0#32 1#32 k.val) 4#32) 3#32) 4#32))) 0#32 = prevBit a (k.val) := by
  have h : ∀ (a : Fin 2) (k : Fin k0_t2_loop.trips), Scalar.cmpi .sgt (Scalar.addi (Scalar.muli (BitVec.ofNat 32 a.val) 4#32) (Scalar.select (0#1) (Scalar.subi (Scalar.divsi (Scalar.addi (Scalar.muli (Scf.iv 0#32 1#32 k.val) 4#32) 3#32) 4#32) 1#32) (Scalar.divsi (Scalar.addi (Scalar.muli (Scf.iv 0#32 1#32 k.val) 4#32) 3#32) 4#32))) 0#32 = prevBit a.val (k.val) := by decide +kernel
  exact h ⟨a, ha⟩ k

theorem tripO2_eq (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (k : Fin k0_t2_loop.trips) :
    tripO2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k = [⟨(⟨(⟨(k0_off6 k 3#32), S1x128x128.size, ![1, 4, 1], (k0_off6_inb k 3)⟩ : LoadRect S3x2048x128), spos_1_4_1⟩ : Rect S3x2048x128), unitO (maskOf (prevBit a (k.val))) (arg2.view.readAt (Elt F) (⟨(k0_off4 k 3#32), S1x128x128.size, ![1, 4, 1], (k0_off4_inb k 3)⟩ : LoadRect S9x2048x128) X2) (arg6.view.readAt (Elt F) (⟨(k0_off5 k 3#32), S256x128.size, ![4, 1], (k0_off5_inb k 3)⟩ : LoadRect S2560x128) XK) (arg7.view.readAt (Elt F) (⟨(k0_off5 k 3#32), S256x128.size, ![4, 1], (k0_off5_inb k 3)⟩ : LoadRect S2560x128) XV)⟩,
      ⟨(⟨(⟨(k0_off6 k 2#32), S1x128x128.size, ![1, 4, 1], (k0_off6_inb k 2)⟩ : LoadRect S3x2048x128), spos_1_4_1⟩ : Rect S3x2048x128), unitO (maskOf (prevBit a (k.val))) (arg2.view.readAt (Elt F) (⟨(k0_off4 k 2#32), S1x128x128.size, ![1, 4, 1], (k0_off4_inb k 2)⟩ : LoadRect S9x2048x128) X2) (arg6.view.readAt (Elt F) (⟨(k0_off5 k 2#32), S256x128.size, ![4, 1], (k0_off5_inb k 2)⟩ : LoadRect S2560x128) XK) (arg7.view.readAt (Elt F) (⟨(k0_off5 k 2#32), S256x128.size, ![4, 1], (k0_off5_inb k 2)⟩ : LoadRect S2560x128) XV)⟩,
      ⟨(⟨(⟨(k0_off6 k 1#32), S1x128x128.size, ![1, 4, 1], (k0_off6_inb k 1)⟩ : LoadRect S3x2048x128), spos_1_4_1⟩ : Rect S3x2048x128), unitO (maskOf (prevBit a (k.val))) (arg2.view.readAt (Elt F) (⟨(k0_off4 k 1#32), S1x128x128.size, ![1, 4, 1], (k0_off4_inb k 1)⟩ : LoadRect S9x2048x128) X2) (arg6.view.readAt (Elt F) (⟨(k0_off5 k 1#32), S256x128.size, ![4, 1], (k0_off5_inb k 1)⟩ : LoadRect S2560x128) XK) (arg7.view.readAt (Elt F) (⟨(k0_off5 k 1#32), S256x128.size, ![4, 1], (k0_off5_inb k 1)⟩ : LoadRect S2560x128) XV)⟩,
      ⟨(⟨(⟨(k0_off6 k 0#32), S1x128x128.size, ![1, 4, 1], (k0_off6_inb k 0)⟩ : LoadRect S3x2048x128), spos_1_4_1⟩ : Rect S3x2048x128), unitO (maskOf (prevBit a (k.val))) (arg2.view.readAt (Elt F) (⟨(k0_off4 k 0#32), S1x128x128.size, ![1, 4, 1], (k0_off4_inb k 0)⟩ : LoadRect S9x2048x128) X2) (arg6.view.readAt (Elt F) (⟨(k0_off5 k 0#32), S256x128.size, ![4, 1], (k0_off5_inb k 0)⟩ : LoadRect S2560x128) XK) (arg7.view.readAt (Elt F) (⟨(k0_off5 k 0#32), S256x128.size, ![4, 1], (k0_off5_inb k 0)⟩ : LoadRect S2560x128) XV)⟩] := by
  unfold tripO2 trip2
  dsimp only [trip2.sl.H10_1, trip2.sl.H11_1, trip2.sl.arg12, trip2.sl.cst, trip2.sl.cst_115, trip2.sl.cst_116, trip2.sl.cst_117, trip2.sl.cst_159, trip2.sl.r, trip2.sl.r_1, trip2.sl.r_10, trip2.sl.r_11, trip2.sl.r_12, trip2.sl.r_13, trip2.sl.r_14, trip2.sl.r_15, trip2.sl.r_16, trip2.sl.r_17, trip2.sl.r_18, trip2.sl.r_19, trip2.sl.r_2, trip2.sl.r_20, trip2.sl.r_21, trip2.sl.r_22, trip2.sl.r_23, trip2.sl.r_24, trip2.sl.r_25, trip2.sl.r_26, trip2.sl.r_27, trip2.sl.r_28, trip2.sl.r_29, trip2.sl.r_3, trip2.sl.r_4, trip2.sl.r_5, trip2.sl.r_6, trip2.sl.r_7, trip2.sl.r_8, trip2.sl.r_9, trip2.sl.v100, trip2.sl.v103, trip2.sl.v105, trip2.sl.v106, trip2.sl.v121, trip2.sl.v122, trip2.sl.v123, trip2.sl.v124, trip2.sl.v126, trip2.sl.v130, trip2.sl.v131, trip2.sl.v132, trip2.sl.v133, trip2.sl.v134, trip2.sl.v135, trip2.sl.v137, trip2.sl.v139, trip2.sl.v142, trip2.sl.v145, trip2.sl.v147, trip2.sl.v148, trip2.sl.v163, trip2.sl.v164, trip2.sl.v165, trip2.sl.v166, trip2.sl.v168, trip2.sl.v172, trip2.sl.v173, trip2.sl.v174, trip2.sl.v175, trip2.sl.v176, trip2.sl.v177, trip2.sl.v179, trip2.sl.v181, trip2.sl.v184, trip2.sl.v187, trip2.sl.v189, trip2.sl.v190, trip2.sl.v205, trip2.sl.v206, trip2.sl.v207, trip2.sl.v208, trip2.sl.v210, trip2.sl.v214, trip2.sl.v215, trip2.sl.v216, trip2.sl.v217, trip2.sl.v218, trip2.sl.v219, trip2.sl.v221, trip2.sl.v223, trip2.sl.v226, trip2.sl.v229, trip2.sl.v230, trip2.sl.v231, trip2.sl.v232, trip2.sl.v233, trip2.sl.v234, trip2.sl.v236, trip2.sl.v237, trip2.sl.v238, trip2.sl.v241, trip2.sl.v242, trip2.sl.v243, trip2.sl.v245, trip2.sl.v246, trip2.sl.v247, trip2.sl.v250, trip2.sl.v251, trip2.sl.v252, trip2.sl.v254, trip2.sl.v255, trip2.sl.v256, trip2.sl.v259, trip2.sl.v260, trip2.sl.v261, trip2.sl.v263, trip2.sl.v264, trip2.sl.v361, trip2.sl.v362, trip2.sl.v363, trip2.sl.v364, trip2.sl.v365, trip2.sl.v366, trip2.sl.v367, trip2.sl.v368, trip2.sl.v371, trip2.sl.v372, trip2.sl.v373, trip2.sl.v374, trip2.sl.v375, trip2.sl.v376, trip2.sl.v377, trip2.sl.v380, trip2.sl.v381, trip2.sl.v382, trip2.sl.v383, trip2.sl.v384, trip2.sl.v385, trip2.sl.v386, trip2.sl.v387, trip2.sl.v388, trip2.sl.v391, trip2.sl.v392, trip2.sl.v393, trip2.sl.v394, trip2.sl.v395, trip2.sl.v396, trip2.sl.v397, trip2.sl.v400, trip2.sl.v401, trip2.sl.v402, trip2.sl.v403, trip2.sl.v62, trip2.sl.v63, trip2.sl.v64, trip2.sl.v65, trip2.sl.v66, trip2.sl.v69, trip2.sl.v75, trip2.sl.v79, trip2.sl.v80, trip2.sl.v81, trip2.sl.v82, trip2.sl.v84, trip2.sl.v85, trip2.sl.v86, trip2.sl.v87, trip2.sl.v88, trip2.sl.v89, trip2.sl.v90, trip2.sl.v91, trip2.sl.v92, trip2.sl.v93, trip2.sl.v95, trip2.sl.v96, trip2.sl.v97]
  dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, unitO, unitL, unitS0, unitS1, maskOf]
  rw [bit2_0 a ha k, bit2_1 a ha k, bit2_2 a ha k, bit2_3 a ha k]

theorem tripL2_eq (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (k : Fin k0_t2_loop.trips) :
    tripL2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k = [⟨(⟨(⟨(k0_off6 k 3#32), S1x128x128.size, ![1, 4, 1], (k0_off6_inb k 3)⟩ : LoadRect S3x2048x128), spos_1_4_1⟩ : Rect S3x2048x128), unitL (maskOf (prevBit a (k.val))) (arg2.view.readAt (Elt F) (⟨(k0_off4 k 3#32), S1x128x128.size, ![1, 4, 1], (k0_off4_inb k 3)⟩ : LoadRect S9x2048x128) X2) (arg6.view.readAt (Elt F) (⟨(k0_off5 k 3#32), S256x128.size, ![4, 1], (k0_off5_inb k 3)⟩ : LoadRect S2560x128) XK)⟩,
      ⟨(⟨(⟨(k0_off6 k 2#32), S1x128x128.size, ![1, 4, 1], (k0_off6_inb k 2)⟩ : LoadRect S3x2048x128), spos_1_4_1⟩ : Rect S3x2048x128), unitL (maskOf (prevBit a (k.val))) (arg2.view.readAt (Elt F) (⟨(k0_off4 k 2#32), S1x128x128.size, ![1, 4, 1], (k0_off4_inb k 2)⟩ : LoadRect S9x2048x128) X2) (arg6.view.readAt (Elt F) (⟨(k0_off5 k 2#32), S256x128.size, ![4, 1], (k0_off5_inb k 2)⟩ : LoadRect S2560x128) XK)⟩,
      ⟨(⟨(⟨(k0_off6 k 1#32), S1x128x128.size, ![1, 4, 1], (k0_off6_inb k 1)⟩ : LoadRect S3x2048x128), spos_1_4_1⟩ : Rect S3x2048x128), unitL (maskOf (prevBit a (k.val))) (arg2.view.readAt (Elt F) (⟨(k0_off4 k 1#32), S1x128x128.size, ![1, 4, 1], (k0_off4_inb k 1)⟩ : LoadRect S9x2048x128) X2) (arg6.view.readAt (Elt F) (⟨(k0_off5 k 1#32), S256x128.size, ![4, 1], (k0_off5_inb k 1)⟩ : LoadRect S2560x128) XK)⟩,
      ⟨(⟨(⟨(k0_off6 k 0#32), S1x128x128.size, ![1, 4, 1], (k0_off6_inb k 0)⟩ : LoadRect S3x2048x128), spos_1_4_1⟩ : Rect S3x2048x128), unitL (maskOf (prevBit a (k.val))) (arg2.view.readAt (Elt F) (⟨(k0_off4 k 0#32), S1x128x128.size, ![1, 4, 1], (k0_off4_inb k 0)⟩ : LoadRect S9x2048x128) X2) (arg6.view.readAt (Elt F) (⟨(k0_off5 k 0#32), S256x128.size, ![4, 1], (k0_off5_inb k 0)⟩ : LoadRect S2560x128) XK)⟩] := by
  unfold tripL2 trip2
  dsimp only [trip2.sl.H10_1, trip2.sl.H11_1, trip2.sl.arg12, trip2.sl.cst, trip2.sl.cst_115, trip2.sl.cst_116, trip2.sl.cst_117, trip2.sl.cst_159, trip2.sl.r, trip2.sl.r_1, trip2.sl.r_10, trip2.sl.r_11, trip2.sl.r_12, trip2.sl.r_13, trip2.sl.r_14, trip2.sl.r_15, trip2.sl.r_16, trip2.sl.r_17, trip2.sl.r_18, trip2.sl.r_19, trip2.sl.r_2, trip2.sl.r_20, trip2.sl.r_21, trip2.sl.r_22, trip2.sl.r_23, trip2.sl.r_24, trip2.sl.r_25, trip2.sl.r_26, trip2.sl.r_27, trip2.sl.r_28, trip2.sl.r_29, trip2.sl.r_3, trip2.sl.r_4, trip2.sl.r_5, trip2.sl.r_6, trip2.sl.r_7, trip2.sl.r_8, trip2.sl.r_9, trip2.sl.v100, trip2.sl.v103, trip2.sl.v105, trip2.sl.v106, trip2.sl.v121, trip2.sl.v122, trip2.sl.v123, trip2.sl.v124, trip2.sl.v126, trip2.sl.v130, trip2.sl.v131, trip2.sl.v132, trip2.sl.v133, trip2.sl.v134, trip2.sl.v135, trip2.sl.v137, trip2.sl.v139, trip2.sl.v142, trip2.sl.v145, trip2.sl.v147, trip2.sl.v148, trip2.sl.v163, trip2.sl.v164, trip2.sl.v165, trip2.sl.v166, trip2.sl.v168, trip2.sl.v172, trip2.sl.v173, trip2.sl.v174, trip2.sl.v175, trip2.sl.v176, trip2.sl.v177, trip2.sl.v179, trip2.sl.v181, trip2.sl.v184, trip2.sl.v187, trip2.sl.v189, trip2.sl.v190, trip2.sl.v205, trip2.sl.v206, trip2.sl.v207, trip2.sl.v208, trip2.sl.v210, trip2.sl.v214, trip2.sl.v215, trip2.sl.v216, trip2.sl.v217, trip2.sl.v218, trip2.sl.v219, trip2.sl.v221, trip2.sl.v223, trip2.sl.v226, trip2.sl.v229, trip2.sl.v230, trip2.sl.v231, trip2.sl.v232, trip2.sl.v233, trip2.sl.v234, trip2.sl.v236, trip2.sl.v237, trip2.sl.v238, trip2.sl.v241, trip2.sl.v242, trip2.sl.v243, trip2.sl.v245, trip2.sl.v246, trip2.sl.v247, trip2.sl.v250, trip2.sl.v251, trip2.sl.v252, trip2.sl.v254, trip2.sl.v255, trip2.sl.v256, trip2.sl.v259, trip2.sl.v260, trip2.sl.v261, trip2.sl.v263, trip2.sl.v264, trip2.sl.v361, trip2.sl.v362, trip2.sl.v363, trip2.sl.v364, trip2.sl.v365, trip2.sl.v366, trip2.sl.v367, trip2.sl.v368, trip2.sl.v371, trip2.sl.v372, trip2.sl.v373, trip2.sl.v374, trip2.sl.v375, trip2.sl.v376, trip2.sl.v377, trip2.sl.v380, trip2.sl.v381, trip2.sl.v382, trip2.sl.v383, trip2.sl.v384, trip2.sl.v385, trip2.sl.v386, trip2.sl.v387, trip2.sl.v388, trip2.sl.v391, trip2.sl.v392, trip2.sl.v393, trip2.sl.v394, trip2.sl.v395, trip2.sl.v396, trip2.sl.v397, trip2.sl.v400, trip2.sl.v401, trip2.sl.v402, trip2.sl.v403, trip2.sl.v62, trip2.sl.v63, trip2.sl.v64, trip2.sl.v65, trip2.sl.v66, trip2.sl.v69, trip2.sl.v75, trip2.sl.v79, trip2.sl.v80, trip2.sl.v81, trip2.sl.v82, trip2.sl.v84, trip2.sl.v85, trip2.sl.v86, trip2.sl.v87, trip2.sl.v88, trip2.sl.v89, trip2.sl.v90, trip2.sl.v91, trip2.sl.v92, trip2.sl.v93, trip2.sl.v95, trip2.sl.v96, trip2.sl.v97]
  dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, unitO, unitL, unitS0, unitS1, maskOf]
  rw [bit2_0 a ha k, bit2_1 a ha k, bit2_2 a ha k, bit2_3 a ha k]

/-- The bit the loop over group 2 computes for its unit k. -/
theorem bit3_0 (a : ℕ) (ha : a < 2) (k : Fin k0_t3_loop.trips) :
    Scalar.cmpi .sgt (Scalar.addi (Scalar.muli (BitVec.ofNat 32 a) 1#32) 0#32) 0#32 = prevBit a (0) := by
  have h : ∀ (a : Fin 2) (k : Fin k0_t3_loop.trips), Scalar.cmpi .sgt (Scalar.addi (Scalar.muli (BitVec.ofNat 32 a.val) 1#32) 0#32) 0#32 = prevBit a.val (0) := by decide +kernel
  exact h ⟨a, ha⟩ k

theorem tripO3_eq (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (k : Fin k0_t3_loop.trips) :
    tripO3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k = [⟨(⟨(⟨(k0_off9 k 3#32), S1x128x128.size, ![1, 16, 1], (k0_off9_inb k 3)⟩ : LoadRect S3x2048x128), spos_1_16_1⟩ : Rect S3x2048x128), unitO (maskOf (prevBit a (0))) (arg2.view.readAt (Elt F) (⟨(k0_off7 k 3#32), S1x128x128.size, ![1, 16, 1], (k0_off7_inb k 3)⟩ : LoadRect S9x2048x128) X2) (arg8.view.readAt (Elt F) (⟨(k0_off8 k 3#32), S256x128.size, ![16, 1], (k0_off8_inb k 3)⟩ : LoadRect S4096x128) XK) (arg9.view.readAt (Elt F) (⟨(k0_off8 k 3#32), S256x128.size, ![16, 1], (k0_off8_inb k 3)⟩ : LoadRect S4096x128) XV)⟩,
      ⟨(⟨(⟨(k0_off9 k 2#32), S1x128x128.size, ![1, 16, 1], (k0_off9_inb k 2)⟩ : LoadRect S3x2048x128), spos_1_16_1⟩ : Rect S3x2048x128), unitO (maskOf (prevBit a (0))) (arg2.view.readAt (Elt F) (⟨(k0_off7 k 2#32), S1x128x128.size, ![1, 16, 1], (k0_off7_inb k 2)⟩ : LoadRect S9x2048x128) X2) (arg8.view.readAt (Elt F) (⟨(k0_off8 k 2#32), S256x128.size, ![16, 1], (k0_off8_inb k 2)⟩ : LoadRect S4096x128) XK) (arg9.view.readAt (Elt F) (⟨(k0_off8 k 2#32), S256x128.size, ![16, 1], (k0_off8_inb k 2)⟩ : LoadRect S4096x128) XV)⟩,
      ⟨(⟨(⟨(k0_off9 k 1#32), S1x128x128.size, ![1, 16, 1], (k0_off9_inb k 1)⟩ : LoadRect S3x2048x128), spos_1_16_1⟩ : Rect S3x2048x128), unitO (maskOf (prevBit a (0))) (arg2.view.readAt (Elt F) (⟨(k0_off7 k 1#32), S1x128x128.size, ![1, 16, 1], (k0_off7_inb k 1)⟩ : LoadRect S9x2048x128) X2) (arg8.view.readAt (Elt F) (⟨(k0_off8 k 1#32), S256x128.size, ![16, 1], (k0_off8_inb k 1)⟩ : LoadRect S4096x128) XK) (arg9.view.readAt (Elt F) (⟨(k0_off8 k 1#32), S256x128.size, ![16, 1], (k0_off8_inb k 1)⟩ : LoadRect S4096x128) XV)⟩,
      ⟨(⟨(⟨(k0_off9 k 0#32), S1x128x128.size, ![1, 16, 1], (k0_off9_inb k 0)⟩ : LoadRect S3x2048x128), spos_1_16_1⟩ : Rect S3x2048x128), unitO (maskOf (prevBit a (0))) (arg2.view.readAt (Elt F) (⟨(k0_off7 k 0#32), S1x128x128.size, ![1, 16, 1], (k0_off7_inb k 0)⟩ : LoadRect S9x2048x128) X2) (arg8.view.readAt (Elt F) (⟨(k0_off8 k 0#32), S256x128.size, ![16, 1], (k0_off8_inb k 0)⟩ : LoadRect S4096x128) XK) (arg9.view.readAt (Elt F) (⟨(k0_off8 k 0#32), S256x128.size, ![16, 1], (k0_off8_inb k 0)⟩ : LoadRect S4096x128) XV)⟩] := by
  unfold tripO3 trip3
  dsimp only [trip3.sl.H10_1, trip3.sl.H11_1, trip3.sl.arg12, trip3.sl.cst, trip3.sl.cst_114, trip3.sl.cst_115, trip3.sl.cst_116, trip3.sl.cst_158, trip3.sl.r, trip3.sl.r_1, trip3.sl.r_10, trip3.sl.r_11, trip3.sl.r_12, trip3.sl.r_13, trip3.sl.r_14, trip3.sl.r_15, trip3.sl.r_16, trip3.sl.r_17, trip3.sl.r_18, trip3.sl.r_19, trip3.sl.r_2, trip3.sl.r_20, trip3.sl.r_21, trip3.sl.r_22, trip3.sl.r_23, trip3.sl.r_24, trip3.sl.r_25, trip3.sl.r_26, trip3.sl.r_27, trip3.sl.r_28, trip3.sl.r_29, trip3.sl.r_3, trip3.sl.r_4, trip3.sl.r_5, trip3.sl.r_6, trip3.sl.r_7, trip3.sl.r_8, trip3.sl.r_9, trip3.sl.v100, trip3.sl.v103, trip3.sl.v105, trip3.sl.v118, trip3.sl.v125, trip3.sl.v126, trip3.sl.v135, trip3.sl.v137, trip3.sl.v139, trip3.sl.v142, trip3.sl.v145, trip3.sl.v147, trip3.sl.v160, trip3.sl.v167, trip3.sl.v168, trip3.sl.v177, trip3.sl.v179, trip3.sl.v181, trip3.sl.v184, trip3.sl.v187, trip3.sl.v189, trip3.sl.v202, trip3.sl.v209, trip3.sl.v210, trip3.sl.v219, trip3.sl.v221, trip3.sl.v223, trip3.sl.v226, trip3.sl.v229, trip3.sl.v230, trip3.sl.v231, trip3.sl.v232, trip3.sl.v233, trip3.sl.v234, trip3.sl.v236, trip3.sl.v237, trip3.sl.v238, trip3.sl.v241, trip3.sl.v242, trip3.sl.v243, trip3.sl.v245, trip3.sl.v246, trip3.sl.v247, trip3.sl.v250, trip3.sl.v251, trip3.sl.v252, trip3.sl.v254, trip3.sl.v255, trip3.sl.v256, trip3.sl.v259, trip3.sl.v260, trip3.sl.v261, trip3.sl.v263, trip3.sl.v264, trip3.sl.v361, trip3.sl.v362, trip3.sl.v363, trip3.sl.v364, trip3.sl.v365, trip3.sl.v366, trip3.sl.v367, trip3.sl.v368, trip3.sl.v371, trip3.sl.v372, trip3.sl.v373, trip3.sl.v374, trip3.sl.v375, trip3.sl.v376, trip3.sl.v377, trip3.sl.v380, trip3.sl.v381, trip3.sl.v382, trip3.sl.v383, trip3.sl.v384, trip3.sl.v385, trip3.sl.v386, trip3.sl.v387, trip3.sl.v388, trip3.sl.v391, trip3.sl.v392, trip3.sl.v393, trip3.sl.v394, trip3.sl.v395, trip3.sl.v396, trip3.sl.v397, trip3.sl.v400, trip3.sl.v401, trip3.sl.v402, trip3.sl.v403, trip3.sl.v62, trip3.sl.v63, trip3.sl.v65, trip3.sl.v66, trip3.sl.v69, trip3.sl.v75, trip3.sl.v76, trip3.sl.v77, trip3.sl.v83, trip3.sl.v84, trip3.sl.v85, trip3.sl.v86, trip3.sl.v87, trip3.sl.v88, trip3.sl.v89, trip3.sl.v90, trip3.sl.v91, trip3.sl.v92, trip3.sl.v93, trip3.sl.v95, trip3.sl.v96, trip3.sl.v97]
  dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, unitO, unitL, unitS0, unitS1, maskOf]
  rw [bit3_0 a ha k]

theorem tripL3_eq (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (k : Fin k0_t3_loop.trips) :
    tripL3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k = [⟨(⟨(⟨(k0_off9 k 3#32), S1x128x128.size, ![1, 16, 1], (k0_off9_inb k 3)⟩ : LoadRect S3x2048x128), spos_1_16_1⟩ : Rect S3x2048x128), unitL (maskOf (prevBit a (0))) (arg2.view.readAt (Elt F) (⟨(k0_off7 k 3#32), S1x128x128.size, ![1, 16, 1], (k0_off7_inb k 3)⟩ : LoadRect S9x2048x128) X2) (arg8.view.readAt (Elt F) (⟨(k0_off8 k 3#32), S256x128.size, ![16, 1], (k0_off8_inb k 3)⟩ : LoadRect S4096x128) XK)⟩,
      ⟨(⟨(⟨(k0_off9 k 2#32), S1x128x128.size, ![1, 16, 1], (k0_off9_inb k 2)⟩ : LoadRect S3x2048x128), spos_1_16_1⟩ : Rect S3x2048x128), unitL (maskOf (prevBit a (0))) (arg2.view.readAt (Elt F) (⟨(k0_off7 k 2#32), S1x128x128.size, ![1, 16, 1], (k0_off7_inb k 2)⟩ : LoadRect S9x2048x128) X2) (arg8.view.readAt (Elt F) (⟨(k0_off8 k 2#32), S256x128.size, ![16, 1], (k0_off8_inb k 2)⟩ : LoadRect S4096x128) XK)⟩,
      ⟨(⟨(⟨(k0_off9 k 1#32), S1x128x128.size, ![1, 16, 1], (k0_off9_inb k 1)⟩ : LoadRect S3x2048x128), spos_1_16_1⟩ : Rect S3x2048x128), unitL (maskOf (prevBit a (0))) (arg2.view.readAt (Elt F) (⟨(k0_off7 k 1#32), S1x128x128.size, ![1, 16, 1], (k0_off7_inb k 1)⟩ : LoadRect S9x2048x128) X2) (arg8.view.readAt (Elt F) (⟨(k0_off8 k 1#32), S256x128.size, ![16, 1], (k0_off8_inb k 1)⟩ : LoadRect S4096x128) XK)⟩,
      ⟨(⟨(⟨(k0_off9 k 0#32), S1x128x128.size, ![1, 16, 1], (k0_off9_inb k 0)⟩ : LoadRect S3x2048x128), spos_1_16_1⟩ : Rect S3x2048x128), unitL (maskOf (prevBit a (0))) (arg2.view.readAt (Elt F) (⟨(k0_off7 k 0#32), S1x128x128.size, ![1, 16, 1], (k0_off7_inb k 0)⟩ : LoadRect S9x2048x128) X2) (arg8.view.readAt (Elt F) (⟨(k0_off8 k 0#32), S256x128.size, ![16, 1], (k0_off8_inb k 0)⟩ : LoadRect S4096x128) XK)⟩] := by
  unfold tripL3 trip3
  dsimp only [trip3.sl.H10_1, trip3.sl.H11_1, trip3.sl.arg12, trip3.sl.cst, trip3.sl.cst_114, trip3.sl.cst_115, trip3.sl.cst_116, trip3.sl.cst_158, trip3.sl.r, trip3.sl.r_1, trip3.sl.r_10, trip3.sl.r_11, trip3.sl.r_12, trip3.sl.r_13, trip3.sl.r_14, trip3.sl.r_15, trip3.sl.r_16, trip3.sl.r_17, trip3.sl.r_18, trip3.sl.r_19, trip3.sl.r_2, trip3.sl.r_20, trip3.sl.r_21, trip3.sl.r_22, trip3.sl.r_23, trip3.sl.r_24, trip3.sl.r_25, trip3.sl.r_26, trip3.sl.r_27, trip3.sl.r_28, trip3.sl.r_29, trip3.sl.r_3, trip3.sl.r_4, trip3.sl.r_5, trip3.sl.r_6, trip3.sl.r_7, trip3.sl.r_8, trip3.sl.r_9, trip3.sl.v100, trip3.sl.v103, trip3.sl.v105, trip3.sl.v118, trip3.sl.v125, trip3.sl.v126, trip3.sl.v135, trip3.sl.v137, trip3.sl.v139, trip3.sl.v142, trip3.sl.v145, trip3.sl.v147, trip3.sl.v160, trip3.sl.v167, trip3.sl.v168, trip3.sl.v177, trip3.sl.v179, trip3.sl.v181, trip3.sl.v184, trip3.sl.v187, trip3.sl.v189, trip3.sl.v202, trip3.sl.v209, trip3.sl.v210, trip3.sl.v219, trip3.sl.v221, trip3.sl.v223, trip3.sl.v226, trip3.sl.v229, trip3.sl.v230, trip3.sl.v231, trip3.sl.v232, trip3.sl.v233, trip3.sl.v234, trip3.sl.v236, trip3.sl.v237, trip3.sl.v238, trip3.sl.v241, trip3.sl.v242, trip3.sl.v243, trip3.sl.v245, trip3.sl.v246, trip3.sl.v247, trip3.sl.v250, trip3.sl.v251, trip3.sl.v252, trip3.sl.v254, trip3.sl.v255, trip3.sl.v256, trip3.sl.v259, trip3.sl.v260, trip3.sl.v261, trip3.sl.v263, trip3.sl.v264, trip3.sl.v361, trip3.sl.v362, trip3.sl.v363, trip3.sl.v364, trip3.sl.v365, trip3.sl.v366, trip3.sl.v367, trip3.sl.v368, trip3.sl.v371, trip3.sl.v372, trip3.sl.v373, trip3.sl.v374, trip3.sl.v375, trip3.sl.v376, trip3.sl.v377, trip3.sl.v380, trip3.sl.v381, trip3.sl.v382, trip3.sl.v383, trip3.sl.v384, trip3.sl.v385, trip3.sl.v386, trip3.sl.v387, trip3.sl.v388, trip3.sl.v391, trip3.sl.v392, trip3.sl.v393, trip3.sl.v394, trip3.sl.v395, trip3.sl.v396, trip3.sl.v397, trip3.sl.v400, trip3.sl.v401, trip3.sl.v402, trip3.sl.v403, trip3.sl.v62, trip3.sl.v63, trip3.sl.v65, trip3.sl.v66, trip3.sl.v69, trip3.sl.v75, trip3.sl.v76, trip3.sl.v77, trip3.sl.v83, trip3.sl.v84, trip3.sl.v85, trip3.sl.v86, trip3.sl.v87, trip3.sl.v88, trip3.sl.v89, trip3.sl.v90, trip3.sl.v91, trip3.sl.v92, trip3.sl.v93, trip3.sl.v95, trip3.sl.v96, trip3.sl.v97]
  dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, unitO, unitL, unitS0, unitS1, maskOf]
  rw [bit3_0 a ha k]

end Cert.KernelIdeal.Attn

end

end
-- ==== Proof.Attn.Values.lean ====
/-
  What the three loops leave in the two accumulation buffers, row by row: every row of every group is one row of one
  unit, whatever the buffers held before.
-/
module

public import proofs.«01_k».proof.Proof.Attn.Units
public import Idealize.ShloMosaic.Lib.Writes
public import Idealize.ShloMosaic.Lib.Pointwise

@[expose] public section

set_option maxRecDepth 16384
set_option maxHeartbeats 100000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The queries of the unit at window `j`, residue `c` of a group whose dilation is `d`; its keys or values. -/
def qU (g d j c : ℕ) (x : ℕ → ℕ → Fin 128 → Elt F .f32) : Vec F S1x128x128 .f32 := fun y => x g (128 * d * j + c + d * (y 1).val) (y 2)
def kU (d j c : ℕ) (kb : ℕ → Fin 128 → Elt F .f32) : Vec F S256x128 .f32 := fun y => kb (128 * d * j + c + d * (y 0).val) (y 1)

/-- Row `r`, lane `l` of a group's outputs and of the logarithms of its denominators. -/
def rowO (a g d : ℕ) (x : ℕ → ℕ → Fin 128 → Elt F .f32) (kb vb : ℕ → Fin 128 → Elt F .f32) (r : ℕ) (l : Fin 128) : Elt F .f32 :=
  unitO (maskOf (prevBit a (r / (128 * d)))) (qU g d (r / (128 * d)) (r % d) x) (kU d (r / (128 * d)) (r % d) kb) (kU d (r / (128 * d)) (r % d) vb)
    (ix3 0 ⟨r % (128 * d) / d % 128, Nat.mod_lt _ (by decide)⟩ l)
def rowL (a g d : ℕ) (x : ℕ → ℕ → Fin 128 → Elt F .f32) (kb : ℕ → Fin 128 → Elt F .f32) (r : ℕ) (l : Fin 128) : Elt F .f32 :=
  unitL (maskOf (prevBit a (r / (128 * d)))) (qU g d (r / (128 * d)) (r % d) x) (kU d (r / (128 * d)) (r % d) kb)
    (ix3 0 ⟨r % (128 * d) / d % 128, Nat.mod_lt _ (by decide)⟩ l)

/-- The dilation of each group. -/
def dil : ℕ → ℕ
  | 0 => 1
  | 1 => 4
  | _ => 16

/-- The two buffers after the three loops. -/
def bufO (a : ℕ) (x : ℕ → ℕ → Fin 128 → Elt F .f32) (kb vb : ℕ → ℕ → Fin 128 → Elt F .f32) : S3x2048x128.Idx → Elt F .f32 :=
  fun y => rowO a (y 0).val (dil (y 0).val) x (kb (y 0).val) (vb (y 0).val) (y 1).val (y 2)
def bufL (a : ℕ) (x : ℕ → ℕ → Fin 128 → Elt F .f32) (kb : ℕ → ℕ → Fin 128 → Elt F .f32) : S3x2048x128.Idx → Elt F .f32 :=
  fun y => rowL a (y 0).val (dil (y 0).val) x (kb (y 0).val) (y 1).val (y 2)

theorem ixeta (x : S1x128x128.Idx) : x = ix3 0 (x 1) (x 2) := by
  funext a
  fin_cases a
  · exact Fin.ext (by have : (x 0).val < 1 := (x 0).isLt; show (x 0).val = 0; omega)
  · rfl
  · rfl

theorem q_read {arg2 : Memref sig .tc .vmem S9x2048x128 .f32} {X2 : BufTy.Contents (Elt F) arg2.view.ty} {x : ℕ → ℕ → Fin 128 → Elt F .f32}
    (hX : ∀ y : S9x2048x128.Idx, arg2.view.read (Elt F) X2 y = x (y 0).val (y 1).val (y 2)) (g d j c : ℕ) (off st : Fin 3 → ℕ) (inb)
    (ho : off = ![g, 128 * d * j + c, 0]) (hs1 : st 1 = d) (hs2 : st 2 = 1) :
    arg2.view.readAt (Elt F) (⟨off, S1x128x128.size, st, inb⟩ : LoadRect S9x2048x128) X2 = qU g d j c x := by
  subst ho
  funext y
  rw [View.readAt_apply, hX]
  have h0 : (y 0).val = 0 := by have : (y 0).val < 1 := (y 0).isLt; omega
  have e0 : g + st 0 * (y 0).val = g := by rw [h0]; rfl
  have e1 : 128 * d * j + c + st 1 * (y 1).val = 128 * d * j + c + d * (y 1).val := by rw [hs1]
  have e2 : 0 + st 2 * (y 2).val = (y 2).val := by rw [hs2]; omega
  show x (g + st 0 * (y 0).val) (128 * d * j + c + st 1 * (y 1).val) _ = x g (128 * d * j + c + d * (y 1).val) (y 2)
  rw [e0, e1]
  exact congrArg _ (Fin.ext e2)

theorem k_read4 {arg : Memref sig .tc .vmem S2176x128 .f32} {X : BufTy.Contents (Elt F) arg.view.ty} {kb : ℕ → Fin 128 → Elt F .f32}
    (hX : ∀ y : S2176x128.Idx, arg.view.read (Elt F) X y = kb (y 0).val (y 1)) (d j c : ℕ) (off st : Fin 2 → ℕ) (inb)
    (ho : off = ![128 * d * j + c, 0]) (hs1 : st 0 = d) (hs2 : st 1 = 1) :
    arg.view.readAt (Elt F) (⟨off, S256x128.size, st, inb⟩ : LoadRect S2176x128) X = kU d j c kb := by
  subst ho
  funext y
  rw [View.readAt_apply, hX]
  have e1 : 128 * d * j + c + st 0 * (y 0).val = 128 * d * j + c + d * (y 0).val := by rw [hs1]
  have e2 : 0 + st 1 * (y 1).val = (y 1).val := by rw [hs2]; omega
  show kb (128 * d * j + c + st 0 * (y 0).val) _ = kb (128 * d * j + c + d * (y 0).val) (y 1)
  rw [e1]
  exact congrArg _ (Fin.ext e2)

theorem k_read6 {arg : Memref sig .tc .vmem S2560x128 .f32} {X : BufTy.Contents (Elt F) arg.view.ty} {kb : ℕ → Fin 128 → Elt F .f32}
    (hX : ∀ y : S2560x128.Idx, arg.view.read (Elt F) X y = kb (y 0).val (y 1)) (d j c : ℕ) (off st : Fin 2 → ℕ) (inb)
    (ho : off = ![128 * d * j + c, 0]) (hs1 : st 0 = d) (hs2 : st 1 = 1) :
    arg.view.readAt (Elt F) (⟨off, S256x128.size, st, inb⟩ : LoadRect S2560x128) X = kU d j c kb := by
  subst ho
  funext y
  rw [View.readAt_apply, hX]
  have e1 : 128 * d * j + c + st 0 * (y 0).val = 128 * d * j + c + d * (y 0).val := by rw [hs1]
  have e2 : 0 + st 1 * (y 1).val = (y 1).val := by rw [hs2]; omega
  show kb (128 * d * j + c + st 0 * (y 0).val) _ = kb (128 * d * j + c + d * (y 0).val) (y 1)
  rw [e1]
  exact congrArg _ (Fin.ext e2)

theorem k_read8 {arg : Memref sig .tc .vmem S4096x128 .f32} {X : BufTy.Contents (Elt F) arg.view.ty} {kb : ℕ → Fin 128 → Elt F .f32}
    (hX : ∀ y : S4096x128.Idx, arg.view.read (Elt F) X y = kb (y 0).val (y 1)) (d j c : ℕ) (off st : Fin 2 → ℕ) (inb)
    (ho : off = ![128 * d * j + c, 0]) (hs1 : st 0 = d) (hs2 : st 1 = 1) :
    arg.view.readAt (Elt F) (⟨off, S256x128.size, st, inb⟩ : LoadRect S4096x128) X = kU d j c kb := by
  subst ho
  funext y
  rw [View.readAt_apply, hX]
  have e1 : 128 * d * j + c + st 0 * (y 0).val = 128 * d * j + c + d * (y 0).val := by rw [hs1]
  have e2 : 0 + st 1 * (y 1).val = (y 1).val := by rw [hs2]; omega
  show kb (128 * d * j + c + st 0 * (y 0).val) _ = kb (128 * d * j + c + d * (y 0).val) (y 1)
  rw [e1]
  exact congrArg _ (Fin.ext e2)

theorem pieceO1 (a : ℕ) (x : ℕ → ℕ → Fin 128 → Elt F .f32) (kb vb : ℕ → ℕ → Fin 128 → Elt F .f32) (j c : ℕ) (hj : j < 16) (hc : c < 1)
    (off st : Fin 3 → ℕ) (inb) (pos) (ho : off = ![0, 128 * 1 * j + c, 0]) (hs1 : st 1 = 1) (hs2 : st 2 = 1) (y : S1x128x128.Idx) :
    unitO (maskOf (prevBit a j)) (qU 0 1 j c x) (kU 1 j c (kb 0)) (kU 1 j c (vb 0)) y
      = bufO a x kb vb ((⟨⟨off, S1x128x128.size, st, inb⟩, pos⟩ : Rect S3x2048x128).emb y) := by
  subst ho
  have h0 : (y 0).val = 0 := by have : (y 0).val < 1 := (y 0).isLt; omega
  have h1 : (y 1).val < 128 := (y 1).isLt
  have e0 : 0 + st 0 * (y 0).val = 0 := by rw [h0]; rfl
  have e1 : 128 * 1 * j + c + st 1 * (y 1).val = 128 * 1 * j + c + 1 * (y 1).val := by rw [hs1]
  have e2 : 0 + st 2 * (y 2).val = (y 2).val := by rw [hs2]; omega
  have a1 : (128 * 1 * j + c + 1 * (y 1).val) / (128 * 1) = j := by omega
  have a2 : (128 * 1 * j + c + 1 * (y 1).val) % 1 = c := by omega
  have a3 : (128 * 1 * j + c + 1 * (y 1).val) % (128 * 1) / 1 % 128 = (y 1).val := by omega
  show _ = rowO a (0 + st 0 * (y 0).val) (dil (0 + st 0 * (y 0).val)) x (kb (0 + st 0 * (y 0).val)) (vb (0 + st 0 * (y 0).val)) (128 * 1 * j + c + st 1 * (y 1).val) _
  rw [e0, e1]
  unfold rowO
  show _ = unitO (maskOf (prevBit a ((128 * 1 * j + c + 1 * (y 1).val) / (128 * 1)))) (qU 0 1 ((128 * 1 * j + c + 1 * (y 1).val) / (128 * 1)) ((128 * 1 * j + c + 1 * (y 1).val) % 1) x)
    (kU 1 ((128 * 1 * j + c + 1 * (y 1).val) / (128 * 1)) ((128 * 1 * j + c + 1 * (y 1).val) % 1) (kb 0)) (kU 1 ((128 * 1 * j + c + 1 * (y 1).val) / (128 * 1)) ((128 * 1 * j + c + 1 * (y 1).val) % 1) (vb 0))
    (ix3 0 ⟨(128 * 1 * j + c + 1 * (y 1).val) % (128 * 1) / 1 % 128, _⟩ _)
  rw [a1, a2]
  refine congrArg _ ((ixeta y).trans ?_)
  exact congrArg₂ (fun p q : Fin 128 => (ix3 (0 : Fin 1) p q : S1x128x128.Idx)) (Fin.ext a3.symm) (Fin.ext e2.symm)

theorem pieceL1 (a : ℕ) (x : ℕ → ℕ → Fin 128 → Elt F .f32) (kb : ℕ → ℕ → Fin 128 → Elt F .f32) (j c : ℕ) (hj : j < 16) (hc : c < 1)
    (off st : Fin 3 → ℕ) (inb) (pos) (ho : off = ![0, 128 * 1 * j + c, 0]) (hs1 : st 1 = 1) (hs2 : st 2 = 1) (y : S1x128x128.Idx) :
    unitL (maskOf (prevBit a j)) (qU 0 1 j c x) (kU 1 j c (kb 0)) y
      = bufL a x kb ((⟨⟨off, S1x128x128.size, st, inb⟩, pos⟩ : Rect S3x2048x128).emb y) := by
  subst ho
  have h0 : (y 0).val = 0 := by have : (y 0).val < 1 := (y 0).isLt; omega
  have h1 : (y 1).val < 128 := (y 1).isLt
  have e0 : 0 + st 0 * (y 0).val = 0 := by rw [h0]; rfl
  have e1 : 128 * 1 * j + c + st 1 * (y 1).val = 128 * 1 * j + c + 1 * (y 1).val := by rw [hs1]
  have e2 : 0 + st 2 * (y 2).val = (y 2).val := by rw [hs2]; omega
  have a1 : (128 * 1 * j + c + 1 * (y 1).val) / (128 * 1) = j := by omega
  have a2 : (128 * 1 * j + c + 1 * (y 1).val) % 1 = c := by omega
  have a3 : (128 * 1 * j + c + 1 * (y 1).val) % (128 * 1) / 1 % 128 = (y 1).val := by omega
  show _ = rowL a (0 + st 0 * (y 0).val) (dil (0 + st 0 * (y 0).val)) x (kb (0 + st 0 * (y 0).val)) (128 * 1 * j + c + st 1 * (y 1).val) _
  rw [e0, e1]
  unfold rowL
  show _ = unitL (maskOf (prevBit a ((128 * 1 * j + c + 1 * (y 1).val) / (128 * 1)))) (qU 0 1 ((128 * 1 * j + c + 1 * (y 1).val) / (128 * 1)) ((128 * 1 * j + c + 1 * (y 1).val) % 1) x)
    (kU 1 ((128 * 1 * j + c + 1 * (y 1).val) / (128 * 1)) ((128 * 1 * j + c + 1 * (y 1).val) % 1) (kb 0))
    (ix3 0 ⟨(128 * 1 * j + c + 1 * (y 1).val) % (128 * 1) / 1 % 128, _⟩ _)
  rw [a1, a2]
  refine congrArg _ ((ixeta y).trans ?_)
  exact congrArg₂ (fun p q : Fin 128 => (ix3 (0 : Fin 1) p q : S1x128x128.Idx)) (Fin.ext a3.symm) (Fin.ext e2.symm)

theorem pieceO2 (a : ℕ) (x : ℕ → ℕ → Fin 128 → Elt F .f32) (kb vb : ℕ → ℕ → Fin 128 → Elt F .f32) (j c : ℕ) (hj : j < 4) (hc : c < 4)
    (off st : Fin 3 → ℕ) (inb) (pos) (ho : off = ![1, 128 * 4 * j + c, 0]) (hs1 : st 1 = 4) (hs2 : st 2 = 1) (y : S1x128x128.Idx) :
    unitO (maskOf (prevBit a j)) (qU 1 4 j c x) (kU 4 j c (kb 1)) (kU 4 j c (vb 1)) y
      = bufO a x kb vb ((⟨⟨off, S1x128x128.size, st, inb⟩, pos⟩ : Rect S3x2048x128).emb y) := by
  subst ho
  have h0 : (y 0).val = 0 := by have : (y 0).val < 1 := (y 0).isLt; omega
  have h1 : (y 1).val < 128 := (y 1).isLt
  have e0 : 1 + st 0 * (y 0).val = 1 := by rw [h0]; rfl
  have e1 : 128 * 4 * j + c + st 1 * (y 1).val = 128 * 4 * j + c + 4 * (y 1).val := by rw [hs1]
  have e2 : 0 + st 2 * (y 2).val = (y 2).val := by rw [hs2]; omega
  have a1 : (128 * 4 * j + c + 4 * (y 1).val) / (128 * 4) = j := by omega
  have a2 : (128 * 4 * j + c + 4 * (y 1).val) % 4 = c := by omega
  have a3 : (128 * 4 * j + c + 4 * (y 1).val) % (128 * 4) / 4 % 128 = (y 1).val := by omega
  show _ = rowO a (1 + st 0 * (y 0).val) (dil (1 + st 0 * (y 0).val)) x (kb (1 + st 0 * (y 0).val)) (vb (1 + st 0 * (y 0).val)) (128 * 4 * j + c + st 1 * (y 1).val) _
  rw [e0, e1]
  unfold rowO
  show _ = unitO (maskOf (prevBit a ((128 * 4 * j + c + 4 * (y 1).val) / (128 * 4)))) (qU 1 4 ((128 * 4 * j + c + 4 * (y 1).val) / (128 * 4)) ((128 * 4 * j + c + 4 * (y 1).val) % 4) x)
    (kU 4 ((128 * 4 * j + c + 4 * (y 1).val) / (128 * 4)) ((128 * 4 * j + c + 4 * (y 1).val) % 4) (kb 1)) (kU 4 ((128 * 4 * j + c + 4 * (y 1).val) / (128 * 4)) ((128 * 4 * j + c + 4 * (y 1).val) % 4) (vb 1))
    (ix3 0 ⟨(128 * 4 * j + c + 4 * (y 1).val) % (128 * 4) / 4 % 128, _⟩ _)
  rw [a1, a2]
  refine congrArg _ ((ixeta y).trans ?_)
  exact congrArg₂ (fun p q : Fin 128 => (ix3 (0 : Fin 1) p q : S1x128x128.Idx)) (Fin.ext a3.symm) (Fin.ext e2.symm)

theorem pieceL2 (a : ℕ) (x : ℕ → ℕ → Fin 128 → Elt F .f32) (kb : ℕ → ℕ → Fin 128 → Elt F .f32) (j c : ℕ) (hj : j < 4) (hc : c < 4)
    (off st : Fin 3 → ℕ) (inb) (pos) (ho : off = ![1, 128 * 4 * j + c, 0]) (hs1 : st 1 = 4) (hs2 : st 2 = 1) (y : S1x128x128.Idx) :
    unitL (maskOf (prevBit a j)) (qU 1 4 j c x) (kU 4 j c (kb 1)) y
      = bufL a x kb ((⟨⟨off, S1x128x128.size, st, inb⟩, pos⟩ : Rect S3x2048x128).emb y) := by
  subst ho
  have h0 : (y 0).val = 0 := by have : (y 0).val < 1 := (y 0).isLt; omega
  have h1 : (y 1).val < 128 := (y 1).isLt
  have e0 : 1 + st 0 * (y 0).val = 1 := by rw [h0]; rfl
  have e1 : 128 * 4 * j + c + st 1 * (y 1).val = 128 * 4 * j + c + 4 * (y 1).val := by rw [hs1]
  have e2 : 0 + st 2 * (y 2).val = (y 2).val := by rw [hs2]; omega
  have a1 : (128 * 4 * j + c + 4 * (y 1).val) / (128 * 4) = j := by omega
  have a2 : (128 * 4 * j + c + 4 * (y 1).val) % 4 = c := by omega
  have a3 : (128 * 4 * j + c + 4 * (y 1).val) % (128 * 4) / 4 % 128 = (y 1).val := by omega
  show _ = rowL a (1 + st 0 * (y 0).val) (dil (1 + st 0 * (y 0).val)) x (kb (1 + st 0 * (y 0).val)) (128 * 4 * j + c + st 1 * (y 1).val) _
  rw [e0, e1]
  unfold rowL
  show _ = unitL (maskOf (prevBit a ((128 * 4 * j + c + 4 * (y 1).val) / (128 * 4)))) (qU 1 4 ((128 * 4 * j + c + 4 * (y 1).val) / (128 * 4)) ((128 * 4 * j + c + 4 * (y 1).val) % 4) x)
    (kU 4 ((128 * 4 * j + c + 4 * (y 1).val) / (128 * 4)) ((128 * 4 * j + c + 4 * (y 1).val) % 4) (kb 1))
    (ix3 0 ⟨(128 * 4 * j + c + 4 * (y 1).val) % (128 * 4) / 4 % 128, _⟩ _)
  rw [a1, a2]
  refine congrArg _ ((ixeta y).trans ?_)
  exact congrArg₂ (fun p q : Fin 128 => (ix3 (0 : Fin 1) p q : S1x128x128.Idx)) (Fin.ext a3.symm) (Fin.ext e2.symm)

theorem pieceO3 (a : ℕ) (x : ℕ → ℕ → Fin 128 → Elt F .f32) (kb vb : ℕ → ℕ → Fin 128 → Elt F .f32) (j c : ℕ) (hj : j < 1) (hc : c < 16)
    (off st : Fin 3 → ℕ) (inb) (pos) (ho : off = ![2, 128 * 16 * j + c, 0]) (hs1 : st 1 = 16) (hs2 : st 2 = 1) (y : S1x128x128.Idx) :
    unitO (maskOf (prevBit a j)) (qU 2 16 j c x) (kU 16 j c (kb 2)) (kU 16 j c (vb 2)) y
      = bufO a x kb vb ((⟨⟨off, S1x128x128.size, st, inb⟩, pos⟩ : Rect S3x2048x128).emb y) := by
  subst ho
  have h0 : (y 0).val = 0 := by have : (y 0).val < 1 := (y 0).isLt; omega
  have h1 : (y 1).val < 128 := (y 1).isLt
  have e0 : 2 + st 0 * (y 0).val = 2 := by rw [h0]; rfl
  have e1 : 128 * 16 * j + c + st 1 * (y 1).val = 128 * 16 * j + c + 16 * (y 1).val := by rw [hs1]
  have e2 : 0 + st 2 * (y 2).val = (y 2).val := by rw [hs2]; omega
  have a1 : (128 * 16 * j + c + 16 * (y 1).val) / (128 * 16) = j := by omega
  have a2 : (128 * 16 * j + c + 16 * (y 1).val) % 16 = c := by omega
  have a3 : (128 * 16 * j + c + 16 * (y 1).val) % (128 * 16) / 16 % 128 = (y 1).val := by omega
  show _ = rowO a (2 + st 0 * (y 0).val) (dil (2 + st 0 * (y 0).val)) x (kb (2 + st 0 * (y 0).val)) (vb (2 + st 0 * (y 0).val)) (128 * 16 * j + c + st 1 * (y 1).val) _
  rw [e0, e1]
  unfold rowO
  show _ = unitO (maskOf (prevBit a ((128 * 16 * j + c + 16 * (y 1).val) / (128 * 16)))) (qU 2 16 ((128 * 16 * j + c + 16 * (y 1).val) / (128 * 16)) ((128 * 16 * j + c + 16 * (y 1).val) % 16) x)
    (kU 16 ((128 * 16 * j + c + 16 * (y 1).val) / (128 * 16)) ((128 * 16 * j + c + 16 * (y 1).val) % 16) (kb 2)) (kU 16 ((128 * 16 * j + c + 16 * (y 1).val) / (128 * 16)) ((128 * 16 * j + c + 16 * (y 1).val) % 16) (vb 2))
    (ix3 0 ⟨(128 * 16 * j + c + 16 * (y 1).val) % (128 * 16) / 16 % 128, _⟩ _)
  rw [a1, a2]
  refine congrArg _ ((ixeta y).trans ?_)
  exact congrArg₂ (fun p q : Fin 128 => (ix3 (0 : Fin 1) p q : S1x128x128.Idx)) (Fin.ext a3.symm) (Fin.ext e2.symm)

theorem pieceL3 (a : ℕ) (x : ℕ → ℕ → Fin 128 → Elt F .f32) (kb : ℕ → ℕ → Fin 128 → Elt F .f32) (j c : ℕ) (hj : j < 1) (hc : c < 16)
    (off st : Fin 3 → ℕ) (inb) (pos) (ho : off = ![2, 128 * 16 * j + c, 0]) (hs1 : st 1 = 16) (hs2 : st 2 = 1) (y : S1x128x128.Idx) :
    unitL (maskOf (prevBit a j)) (qU 2 16 j c x) (kU 16 j c (kb 2)) y
      = bufL a x kb ((⟨⟨off, S1x128x128.size, st, inb⟩, pos⟩ : Rect S3x2048x128).emb y) := by
  subst ho
  have h0 : (y 0).val = 0 := by have : (y 0).val < 1 := (y 0).isLt; omega
  have h1 : (y 1).val < 128 := (y 1).isLt
  have e0 : 2 + st 0 * (y 0).val = 2 := by rw [h0]; rfl
  have e1 : 128 * 16 * j + c + st 1 * (y 1).val = 128 * 16 * j + c + 16 * (y 1).val := by rw [hs1]
  have e2 : 0 + st 2 * (y 2).val = (y 2).val := by rw [hs2]; omega
  have a1 : (128 * 16 * j + c + 16 * (y 1).val) / (128 * 16) = j := by omega
  have a2 : (128 * 16 * j + c + 16 * (y 1).val) % 16 = c := by omega
  have a3 : (128 * 16 * j + c + 16 * (y 1).val) % (128 * 16) / 16 % 128 = (y 1).val := by omega
  show _ = rowL a (2 + st 0 * (y 0).val) (dil (2 + st 0 * (y 0).val)) x (kb (2 + st 0 * (y 0).val)) (128 * 16 * j + c + st 1 * (y 1).val) _
  rw [e0, e1]
  unfold rowL
  show _ = unitL (maskOf (prevBit a ((128 * 16 * j + c + 16 * (y 1).val) / (128 * 16)))) (qU 2 16 ((128 * 16 * j + c + 16 * (y 1).val) / (128 * 16)) ((128 * 16 * j + c + 16 * (y 1).val) % 16) x)
    (kU 16 ((128 * 16 * j + c + 16 * (y 1).val) / (128 * 16)) ((128 * 16 * j + c + 16 * (y 1).val) % 16) (kb 2))
    (ix3 0 ⟨(128 * 16 * j + c + 16 * (y 1).val) % (128 * 16) / 16 % 128, _⟩ _)
  rw [a1, a2]
  refine congrArg _ ((ixeta y).trans ?_)
  exact congrArg₂ (fun p q : Fin 128 => (ix3 (0 : Fin 1) p q : S1x128x128.Idx)) (Fin.ext a3.symm) (Fin.ext e2.symm)

attribute [local irreducible] unitO unitL maskOf prevBit qU kU k0_off1 k0_off2 k0_off3 k0_off4 k0_off5 k0_off6 k0_off7 k0_off8 k0_off9

theorem agreeO1 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (x : ℕ → ℕ → Fin 128 → Elt F .f32) (kbf vbf : ℕ → ℕ → Fin 128 → Elt F .f32)
    (h2 : ∀ y : S9x2048x128.Idx, arg2.view.read (Elt F) X2 y = x (y 0).val (y 1).val (y 2))
    (hk : ∀ y : S2176x128.Idx, arg4.view.read (Elt F) XK y = kbf 0 (y 0).val (y 1))
    (hv : ∀ y : S2176x128.Idx, arg5.view.read (Elt F) XV y = vbf 0 (y 0).val (y 1)) (k : Fin k0_t1_loop.trips) :
    ∀ p ∈ tripO1 (F := F) 𝒱 c bd i arg2 harg2 arg3 harg3 arg4 harg4 arg5 harg5 arg6 harg6 arg7 harg7 arg8 harg8 arg9 harg9 arg10 harg10 arg11 harg11 (BitVec.ofNat 32 a) colIx X2 XK XV k, ∀ y : p.1.shape.Idx, p.2 y = bufO a x kbf vbf (p.1.emb y) := by
  have hk4 : k.val < 4 := Nat.lt_of_lt_of_le k.isLt (by decide)
  rw [tripO1_eq 𝒱 c bd i a ha]
  intro p hp
  simp only [List.mem_cons, List.not_mem_nil, or_false] at hp
  rcases hp with rfl | rfl | rfl | rfl
  · intro y
    refine (congrFun (congrArg₂ (fun q kv => unitO (maskOf (prevBit a (4 * k.val + 3))) q kv.1 kv.2) (q_read h2 0 1 (4 * k.val + 3) 0 (k0_off1 k 3#32) (fun _ => 1) (Rect.unit (s := S9x2048x128) (k0_off1 k 3#32) S1x128x128.size (k0_off1_inb k 3)).toLoadRect.inb ((off1_3 k).trans (congrArg (fun n => ![0, n, 0]) (by omega))) rfl rfl) (congrArg₂ Prod.mk (k_read4 hk 1 (4 * k.val + 3) 0 (k0_off2 k 3#32) (fun _ => 1) (Rect.unit (s := S2176x128) (k0_off2 k 3#32) S256x128.size (k0_off2_inb k 3)).toLoadRect.inb ((off2_3 k).trans (congrArg (fun n => ![n, 0]) (by omega))) rfl rfl) (k_read4 hv 1 (4 * k.val + 3) 0 (k0_off2 k 3#32) (fun _ => 1) (Rect.unit (s := S2176x128) (k0_off2 k 3#32) S256x128.size (k0_off2_inb k 3)).toLoadRect.inb ((off2_3 k).trans (congrArg (fun n => ![n, 0]) (by omega))) rfl rfl))) y).trans ?_
    exact pieceO1 a x kbf vbf (4 * k.val + 3) 0 (by omega) (by omega) _ _ _ _ ((off3_3 k).trans (congrArg (fun n => ![0, n, 0]) (by omega))) rfl rfl y
  · intro y
    refine (congrFun (congrArg₂ (fun q kv => unitO (maskOf (prevBit a (4 * k.val + 2))) q kv.1 kv.2) (q_read h2 0 1 (4 * k.val + 2) 0 (k0_off1 k 2#32) (fun _ => 1) (Rect.unit (s := S9x2048x128) (k0_off1 k 2#32) S1x128x128.size (k0_off1_inb k 2)).toLoadRect.inb ((off1_2 k).trans (congrArg (fun n => ![0, n, 0]) (by omega))) rfl rfl) (congrArg₂ Prod.mk (k_read4 hk 1 (4 * k.val + 2) 0 (k0_off2 k 2#32) (fun _ => 1) (Rect.unit (s := S2176x128) (k0_off2 k 2#32) S256x128.size (k0_off2_inb k 2)).toLoadRect.inb ((off2_2 k).trans (congrArg (fun n => ![n, 0]) (by omega))) rfl rfl) (k_read4 hv 1 (4 * k.val + 2) 0 (k0_off2 k 2#32) (fun _ => 1) (Rect.unit (s := S2176x128) (k0_off2 k 2#32) S256x128.size (k0_off2_inb k 2)).toLoadRect.inb ((off2_2 k).trans (congrArg (fun n => ![n, 0]) (by omega))) rfl rfl))) y).trans ?_
    exact pieceO1 a x kbf vbf (4 * k.val + 2) 0 (by omega) (by omega) _ _ _ _ ((off3_2 k).trans (congrArg (fun n => ![0, n, 0]) (by omega))) rfl rfl y
  · intro y
    refine (congrFun (congrArg₂ (fun q kv => unitO (maskOf (prevBit a (4 * k.val + 1))) q kv.1 kv.2) (q_read h2 0 1 (4 * k.val + 1) 0 (k0_off1 k 1#32) (fun _ => 1) (Rect.unit (s := S9x2048x128) (k0_off1 k 1#32) S1x128x128.size (k0_off1_inb k 1)).toLoadRect.inb ((off1_1 k).trans (congrArg (fun n => ![0, n, 0]) (by omega))) rfl rfl) (congrArg₂ Prod.mk (k_read4 hk 1 (4 * k.val + 1) 0 (k0_off2 k 1#32) (fun _ => 1) (Rect.unit (s := S2176x128) (k0_off2 k 1#32) S256x128.size (k0_off2_inb k 1)).toLoadRect.inb ((off2_1 k).trans (congrArg (fun n => ![n, 0]) (by omega))) rfl rfl) (k_read4 hv 1 (4 * k.val + 1) 0 (k0_off2 k 1#32) (fun _ => 1) (Rect.unit (s := S2176x128) (k0_off2 k 1#32) S256x128.size (k0_off2_inb k 1)).toLoadRect.inb ((off2_1 k).trans (congrArg (fun n => ![n, 0]) (by omega))) rfl rfl))) y).trans ?_
    exact pieceO1 a x kbf vbf (4 * k.val + 1) 0 (by omega) (by omega) _ _ _ _ ((off3_1 k).trans (congrArg (fun n => ![0, n, 0]) (by omega))) rfl rfl y
  · intro y
    refine (congrFun (congrArg₂ (fun q kv => unitO (maskOf (prevBit a (4 * k.val + 0))) q kv.1 kv.2) (q_read h2 0 1 (4 * k.val + 0) 0 (k0_off1 k 0#32) (fun _ => 1) (Rect.unit (s := S9x2048x128) (k0_off1 k 0#32) S1x128x128.size (k0_off1_inb k 0)).toLoadRect.inb ((off1_0 k).trans (congrArg (fun n => ![0, n, 0]) (by omega))) rfl rfl) (congrArg₂ Prod.mk (k_read4 hk 1 (4 * k.val + 0) 0 (k0_off2 k 0#32) (fun _ => 1) (Rect.unit (s := S2176x128) (k0_off2 k 0#32) S256x128.size (k0_off2_inb k 0)).toLoadRect.inb ((off2_0 k).trans (congrArg (fun n => ![n, 0]) (by omega))) rfl rfl) (k_read4 hv 1 (4 * k.val + 0) 0 (k0_off2 k 0#32) (fun _ => 1) (Rect.unit (s := S2176x128) (k0_off2 k 0#32) S256x128.size (k0_off2_inb k 0)).toLoadRect.inb ((off2_0 k).trans (congrArg (fun n => ![n, 0]) (by omega))) rfl rfl))) y).trans ?_
    exact pieceO1 a x kbf vbf (4 * k.val + 0) 0 (by omega) (by omega) _ _ _ _ ((off3_0 k).trans (congrArg (fun n => ![0, n, 0]) (by omega))) rfl rfl y

theorem agreeAllO1 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (x : ℕ → ℕ → Fin 128 → Elt F .f32) (kbf vbf : ℕ → ℕ → Fin 128 → Elt F .f32)
    (h2 : ∀ y : S9x2048x128.Idx, arg2.view.read (Elt F) X2 y = x (y 0).val (y 1).val (y 2))
    (hk : ∀ y : S2176x128.Idx, arg4.view.read (Elt F) XK y = kbf 0 (y 0).val (y 1))
    (hv : ∀ y : S2176x128.Idx, arg5.view.read (Elt F) XV y = vbf 0 (y 0).val (y 1)) (n : ℕ) :
    ∀ p ∈ pbO1 (F := F) 𝒱 c bd i arg2 harg2 arg3 harg3 arg4 harg4 arg5 harg5 arg6 harg6 arg7 harg7 arg8 harg8 arg9 harg9 arg10 harg10 arg11 harg11 (BitVec.ofNat 32 a) colIx X2 XK XV n, ∀ y : p.1.shape.Idx, p.2 y = bufO a x kbf vbf (p.1.emb y) := by
  induction n with
  | zero => intro p hp; exact absurd hp List.not_mem_nil
  | succ n ih =>
    intro p hp
    rw [pbO1.eq_2] at hp
    split at hp
    · rename_i h
      rcases List.mem_append.mp hp with hp | hp
      · exact agreeO1 𝒱 c bd i a ha arg2 harg2 arg3 harg3 arg4 harg4 arg5 harg5 arg6 harg6 arg7 harg7 arg8 harg8 arg9 harg9 arg10 harg10 arg11 harg11 X2 XK XV x kbf vbf h2 hk hv ⟨n, h⟩ p hp
      · exact ih p hp
    · exact ih p hp

theorem memO1 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (k : Fin k0_t1_loop.trips) (p) (hp : p ∈ tripO1 (F := F) 𝒱 c bd i arg2 harg2 arg3 harg3 arg4 harg4 arg5 harg5 arg6 harg6 arg7 harg7 arg8 harg8 arg9 harg9 arg10 harg10 arg11 harg11 (BitVec.ofNat 32 a) colIx X2 XK XV k) (n : ℕ) (hn : k.val < n) :
    p ∈ pbO1 (F := F) 𝒱 c bd i arg2 harg2 arg3 harg3 arg4 harg4 arg5 harg5 arg6 harg6 arg7 harg7 arg8 harg8 arg9 harg9 arg10 harg10 arg11 harg11 (BitVec.ofNat 32 a) colIx X2 XK XV n := by
  induction n with
  | zero => exact absurd hn (Nat.not_lt_zero _)
  | succ n ih =>
    rw [pbO1.eq_2]
    split
    · rename_i h
      by_cases hk : k.val = n
      · subst hk; exact List.mem_append_left _ hp
      · exact List.mem_append_right _ (ih (by omega))
    · rename_i h
      exact ih (by have := k.isLt; omega)

theorem coverO1 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (y : S3x2048x128.Idx) (hy : (y 0).val = 0) :
    ∃ p ∈ pbO1 (F := F) 𝒱 c bd i arg2 harg2 arg3 harg3 arg4 harg4 arg5 harg5 arg6 harg6 arg7 harg7 arg8 harg8 arg9 harg9 arg10 harg10 arg11 harg11 (BitVec.ofNat 32 a) colIx X2 XK XV (Scf.trips k0_t1_loop.lb k0_t1_loop.ub k0_t1_loop.st), y ∈ p.1.set := by
  have h1 : (y 1).val < 2048 := (y 1).isLt
  have ht : Scf.trips k0_t1_loop.lb k0_t1_loop.ub k0_t1_loop.st = 4 := by decide
  rw [ht]
  have hk : (y 1).val / 512 < k0_t1_loop.trips := lt_of_lt_of_eq (by omega : _ < 4) (by decide)
  have hm := fun p hp => memO1 𝒱 c bd i a ha arg2 harg2 arg3 harg3 arg4 harg4 arg5 harg5 arg6 harg6 arg7 harg7 arg8 harg8 arg9 harg9 arg10 harg10 arg11 harg11 X2 XK XV ⟨(y 1).val / 512, hk⟩ p hp 4 (show (y 1).val / 512 < 4 by omega)
  rw [tripO1_eq 𝒱 c bd i a ha] at hm
  have hcc : (y 1).val / 128 % 4 = 0 ∨ (y 1).val / 128 % 4 = 1 ∨ (y 1).val / 128 % 4 = 2 ∨ (y 1).val / 128 % 4 = 3 := by omega
  rcases hcc with hcc | hcc | hcc | hcc
  · refine ⟨_, hm _ (List.mem_cons_of_mem _ (List.mem_cons_of_mem _ (List.mem_cons_of_mem _ List.mem_cons_self))), ?_⟩
    have ho := off3_0 ⟨(y 1).val / 512, hk⟩
    refine (LoadRect.mem_set _).mpr fun b => ?_
    have e : ∀ b, (k0_off3 ⟨(y 1).val / 512, hk⟩ 0#32) b = _ := fun b => congrFun ho b
    fin_cases b
    · exact ⟨0, (show 0 < 1 from Nat.one_pos), by show (y 0).val = (k0_off3 ⟨(y 1).val / 512, hk⟩ 0#32) 0 + 1 * 0; rw [e 0]; exact hy⟩
    · exact ⟨(y 1).val % 128, show (y 1).val % 128 < 128 by omega, by show (y 1).val = (k0_off3 ⟨(y 1).val / 512, hk⟩ 0#32) 1 + 1 * ((y 1).val % 128); rw [e 1]; show (y 1).val = 512 * ((y 1).val / 512) + 0 + 1 * ((y 1).val % 128); omega⟩
    · exact ⟨(y 2).val, (y 2).isLt, by show (y 2).val = (k0_off3 ⟨(y 1).val / 512, hk⟩ 0#32) 2 + 1 * (y 2).val; rw [e 2]; show (y 2).val = 0 + 1 * (y 2).val; omega⟩
  · refine ⟨_, hm _ (List.mem_cons_of_mem _ (List.mem_cons_of_mem _ List.mem_cons_self)), ?_⟩
    have ho := off3_1 ⟨(y 1).val / 512, hk⟩
    refine (LoadRect.mem_set _).mpr fun b => ?_
    have e : ∀ b, (k0_off3 ⟨(y 1).val / 512, hk⟩ 1#32) b = _ := fun b => congrFun ho b
    fin_cases b
    · exact ⟨0, (show 0 < 1 from Nat.one_pos), by show (y 0).val = (k0_off3 ⟨(y 1).val / 512, hk⟩ 1#32) 0 + 1 * 0; rw [e 0]; exact hy⟩
    · exact ⟨(y 1).val % 128, show (y 1).val % 128 < 128 by omega, by show (y 1).val = (k0_off3 ⟨(y 1).val / 512, hk⟩ 1#32) 1 + 1 * ((y 1).val % 128); rw [e 1]; show (y 1).val = 512 * ((y 1).val / 512) + 128 + 1 * ((y 1).val % 128); omega⟩
    · exact ⟨(y 2).val, (y 2).isLt, by show (y 2).val = (k0_off3 ⟨(y 1).val / 512, hk⟩ 1#32) 2 + 1 * (y 2).val; rw [e 2]; show (y 2).val = 0 + 1 * (y 2).val; omega⟩
  · refine ⟨_, hm _ (List.mem_cons_of_mem _ List.mem_cons_self), ?_⟩
    have ho := off3_2 ⟨(y 1).val / 512, hk⟩
    refine (LoadRect.mem_set _).mpr fun b => ?_
    have e : ∀ b, (k0_off3 ⟨(y 1).val / 512, hk⟩ 2#32) b = _ := fun b => congrFun ho b
    fin_cases b
    · exact ⟨0, (show 0 < 1 from Nat.one_pos), by show (y 0).val = (k0_off3 ⟨(y 1).val / 512, hk⟩ 2#32) 0 + 1 * 0; rw [e 0]; exact hy⟩
    · exact ⟨(y 1).val % 128, show (y 1).val % 128 < 128 by omega, by show (y 1).val = (k0_off3 ⟨(y 1).val / 512, hk⟩ 2#32) 1 + 1 * ((y 1).val % 128); rw [e 1]; show (y 1).val = 512 * ((y 1).val / 512) + 256 + 1 * ((y 1).val % 128); omega⟩
    · exact ⟨(y 2).val, (y 2).isLt, by show (y 2).val = (k0_off3 ⟨(y 1).val / 512, hk⟩ 2#32) 2 + 1 * (y 2).val; rw [e 2]; show (y 2).val = 0 + 1 * (y 2).val; omega⟩
  · refine ⟨_, hm _ List.mem_cons_self, ?_⟩
    have ho := off3_3 ⟨(y 1).val / 512, hk⟩
    refine (LoadRect.mem_set _).mpr fun b => ?_
    have e : ∀ b, (k0_off3 ⟨(y 1).val / 512, hk⟩ 3#32) b = _ := fun b => congrFun ho b
    fin_cases b
    · exact ⟨0, (show 0 < 1 from Nat.one_pos), by show (y 0).val = (k0_off3 ⟨(y 1).val / 512, hk⟩ 3#32) 0 + 1 * 0; rw [e 0]; exact hy⟩
    · exact ⟨(y 1).val % 128, show (y 1).val % 128 < 128 by omega, by show (y 1).val = (k0_off3 ⟨(y 1).val / 512, hk⟩ 3#32) 1 + 1 * ((y 1).val % 128); rw [e 1]; show (y 1).val = 512 * ((y 1).val / 512) + 384 + 1 * ((y 1).val % 128); omega⟩
    · exact ⟨(y 2).val, (y 2).isLt, by show (y 2).val = (k0_off3 ⟨(y 1).val / 512, hk⟩ 3#32) 2 + 1 * (y 2).val; rw [e 2]; show (y 2).val = 0 + 1 * (y 2).val; omega⟩

theorem agreeL1 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (x : ℕ → ℕ → Fin 128 → Elt F .f32) (kbf : ℕ → ℕ → Fin 128 → Elt F .f32)
    (h2 : ∀ y : S9x2048x128.Idx, arg2.view.read (Elt F) X2 y = x (y 0).val (y 1).val (y 2))
    (hk : ∀ y : S2176x128.Idx, arg4.view.read (Elt F) XK y = kbf 0 (y 0).val (y 1)) (k : Fin k0_t1_loop.trips) :
    ∀ p ∈ tripL1 (F := F) 𝒱 c bd i arg2 harg2 arg3 harg3 arg4 harg4 arg5 harg5 arg6 harg6 arg7 harg7 arg8 harg8 arg9 harg9 arg10 harg10 arg11 harg11 (BitVec.ofNat 32 a) colIx X2 XK XV k, ∀ y : p.1.shape.Idx, p.2 y = bufL a x kbf (p.1.emb y) := by
  have hk4 : k.val < 4 := Nat.lt_of_lt_of_le k.isLt (by decide)
  rw [tripL1_eq 𝒱 c bd i a ha]
  intro p hp
  simp only [List.mem_cons, List.not_mem_nil, or_false] at hp
  rcases hp with rfl | rfl | rfl | rfl
  · intro y
    refine (congrFun (congrArg₂ (fun q kk => unitL (maskOf (prevBit a (4 * k.val + 3))) q kk) (q_read h2 0 1 (4 * k.val + 3) 0 (k0_off1 k 3#32) (fun _ => 1) (Rect.unit (s := S9x2048x128) (k0_off1 k 3#32) S1x128x128.size (k0_off1_inb k 3)).toLoadRect.inb ((off1_3 k).trans (congrArg (fun n => ![0, n, 0]) (by omega))) rfl rfl) (k_read4 hk 1 (4 * k.val + 3) 0 (k0_off2 k 3#32) (fun _ => 1) (Rect.unit (s := S2176x128) (k0_off2 k 3#32) S256x128.size (k0_off2_inb k 3)).toLoadRect.inb ((off2_3 k).trans (congrArg (fun n => ![n, 0]) (by omega))) rfl rfl)) y).trans ?_
    exact pieceL1 a x kbf (4 * k.val + 3) 0 (by omega) (by omega) _ _ _ _ ((off3_3 k).trans (congrArg (fun n => ![0, n, 0]) (by omega))) rfl rfl y
  · intro y
    refine (congrFun (congrArg₂ (fun q kk => unitL (maskOf (prevBit a (4 * k.val + 2))) q kk) (q_read h2 0 1 (4 * k.val + 2) 0 (k0_off1 k 2#32) (fun _ => 1) (Rect.unit (s := S9x2048x128) (k0_off1 k 2#32) S1x128x128.size (k0_off1_inb k 2)).toLoadRect.inb ((off1_2 k).trans (congrArg (fun n => ![0, n, 0]) (by omega))) rfl rfl) (k_read4 hk 1 (4 * k.val + 2) 0 (k0_off2 k 2#32) (fun _ => 1) (Rect.unit (s := S2176x128) (k0_off2 k 2#32) S256x128.size (k0_off2_inb k 2)).toLoadRect.inb ((off2_2 k).trans (congrArg (fun n => ![n, 0]) (by omega))) rfl rfl)) y).trans ?_
    exact pieceL1 a x kbf (4 * k.val + 2) 0 (by omega) (by omega) _ _ _ _ ((off3_2 k).trans (congrArg (fun n => ![0, n, 0]) (by omega))) rfl rfl y
  · intro y
    refine (congrFun (congrArg₂ (fun q kk => unitL (maskOf (prevBit a (4 * k.val + 1))) q kk) (q_read h2 0 1 (4 * k.val + 1) 0 (k0_off1 k 1#32) (fun _ => 1) (Rect.unit (s := S9x2048x128) (k0_off1 k 1#32) S1x128x128.size (k0_off1_inb k 1)).toLoadRect.inb ((off1_1 k).trans (congrArg (fun n => ![0, n, 0]) (by omega))) rfl rfl) (k_read4 hk 1 (4 * k.val + 1) 0 (k0_off2 k 1#32) (fun _ => 1) (Rect.unit (s := S2176x128) (k0_off2 k 1#32) S256x128.size (k0_off2_inb k 1)).toLoadRect.inb ((off2_1 k).trans (congrArg (fun n => ![n, 0]) (by omega))) rfl rfl)) y).trans ?_
    exact pieceL1 a x kbf (4 * k.val + 1) 0 (by omega) (by omega) _ _ _ _ ((off3_1 k).trans (congrArg (fun n => ![0, n, 0]) (by omega))) rfl rfl y
  · intro y
    refine (congrFun (congrArg₂ (fun q kk => unitL (maskOf (prevBit a (4 * k.val + 0))) q kk) (q_read h2 0 1 (4 * k.val + 0) 0 (k0_off1 k 0#32) (fun _ => 1) (Rect.unit (s := S9x2048x128) (k0_off1 k 0#32) S1x128x128.size (k0_off1_inb k 0)).toLoadRect.inb ((off1_0 k).trans (congrArg (fun n => ![0, n, 0]) (by omega))) rfl rfl) (k_read4 hk 1 (4 * k.val + 0) 0 (k0_off2 k 0#32) (fun _ => 1) (Rect.unit (s := S2176x128) (k0_off2 k 0#32) S256x128.size (k0_off2_inb k 0)).toLoadRect.inb ((off2_0 k).trans (congrArg (fun n => ![n, 0]) (by omega))) rfl rfl)) y).trans ?_
    exact pieceL1 a x kbf (4 * k.val + 0) 0 (by omega) (by omega) _ _ _ _ ((off3_0 k).trans (congrArg (fun n => ![0, n, 0]) (by omega))) rfl rfl y

theorem agreeAllL1 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (x : ℕ → ℕ → Fin 128 → Elt F .f32) (kbf : ℕ → ℕ → Fin 128 → Elt F .f32)
    (h2 : ∀ y : S9x2048x128.Idx, arg2.view.read (Elt F) X2 y = x (y 0).val (y 1).val (y 2))
    (hk : ∀ y : S2176x128.Idx, arg4.view.read (Elt F) XK y = kbf 0 (y 0).val (y 1)) (n : ℕ) :
    ∀ p ∈ pbL1 (F := F) 𝒱 c bd i arg2 harg2 arg3 harg3 arg4 harg4 arg5 harg5 arg6 harg6 arg7 harg7 arg8 harg8 arg9 harg9 arg10 harg10 arg11 harg11 (BitVec.ofNat 32 a) colIx X2 XK XV n, ∀ y : p.1.shape.Idx, p.2 y = bufL a x kbf (p.1.emb y) := by
  induction n with
  | zero => intro p hp; exact absurd hp List.not_mem_nil
  | succ n ih =>
    intro p hp
    rw [pbL1.eq_2] at hp
    split at hp
    · rename_i h
      rcases List.mem_append.mp hp with hp | hp
      · exact agreeL1 𝒱 c bd i a ha arg2 harg2 arg3 harg3 arg4 harg4 arg5 harg5 arg6 harg6 arg7 harg7 arg8 harg8 arg9 harg9 arg10 harg10 arg11 harg11 X2 XK XV x kbf h2 hk  ⟨n, h⟩ p hp
      · exact ih p hp
    · exact ih p hp

theorem memL1 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (k : Fin k0_t1_loop.trips) (p) (hp : p ∈ tripL1 (F := F) 𝒱 c bd i arg2 harg2 arg3 harg3 arg4 harg4 arg5 harg5 arg6 harg6 arg7 harg7 arg8 harg8 arg9 harg9 arg10 harg10 arg11 harg11 (BitVec.ofNat 32 a) colIx X2 XK XV k) (n : ℕ) (hn : k.val < n) :
    p ∈ pbL1 (F := F) 𝒱 c bd i arg2 harg2 arg3 harg3 arg4 harg4 arg5 harg5 arg6 harg6 arg7 harg7 arg8 harg8 arg9 harg9 arg10 harg10 arg11 harg11 (BitVec.ofNat 32 a) colIx X2 XK XV n := by
  induction n with
  | zero => exact absurd hn (Nat.not_lt_zero _)
  | succ n ih =>
    rw [pbL1.eq_2]
    split
    · rename_i h
      by_cases hk : k.val = n
      · subst hk; exact List.mem_append_left _ hp
      · exact List.mem_append_right _ (ih (by omega))
    · rename_i h
      exact ih (by have := k.isLt; omega)

theorem coverL1 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg4.view.ty) (XV : BufTy.Contents (Elt F) arg5.view.ty) (y : S3x2048x128.Idx) (hy : (y 0).val = 0) :
    ∃ p ∈ pbL1 (F := F) 𝒱 c bd i arg2 harg2 arg3 harg3 arg4 harg4 arg5 harg5 arg6 harg6 arg7 harg7 arg8 harg8 arg9 harg9 arg10 harg10 arg11 harg11 (BitVec.ofNat 32 a) colIx X2 XK XV (Scf.trips k0_t1_loop.lb k0_t1_loop.ub k0_t1_loop.st), y ∈ p.1.set := by
  have h1 : (y 1).val < 2048 := (y 1).isLt
  have ht : Scf.trips k0_t1_loop.lb k0_t1_loop.ub k0_t1_loop.st = 4 := by decide
  rw [ht]
  have hk : (y 1).val / 512 < k0_t1_loop.trips := lt_of_lt_of_eq (by omega : _ < 4) (by decide)
  have hm := fun p hp => memL1 𝒱 c bd i a ha arg2 harg2 arg3 harg3 arg4 harg4 arg5 harg5 arg6 harg6 arg7 harg7 arg8 harg8 arg9 harg9 arg10 harg10 arg11 harg11 X2 XK XV ⟨(y 1).val / 512, hk⟩ p hp 4 (show (y 1).val / 512 < 4 by omega)
  rw [tripL1_eq 𝒱 c bd i a ha] at hm
  have hcc : (y 1).val / 128 % 4 = 0 ∨ (y 1).val / 128 % 4 = 1 ∨ (y 1).val / 128 % 4 = 2 ∨ (y 1).val / 128 % 4 = 3 := by omega
  rcases hcc with hcc | hcc | hcc | hcc
  · refine ⟨_, hm _ (List.mem_cons_of_mem _ (List.mem_cons_of_mem _ (List.mem_cons_of_mem _ List.mem_cons_self))), ?_⟩
    have ho := off3_0 ⟨(y 1).val / 512, hk⟩
    refine (LoadRect.mem_set _).mpr fun b => ?_
    have e : ∀ b, (k0_off3 ⟨(y 1).val / 512, hk⟩ 0#32) b = _ := fun b => congrFun ho b
    fin_cases b
    · exact ⟨0, (show 0 < 1 from Nat.one_pos), by show (y 0).val = (k0_off3 ⟨(y 1).val / 512, hk⟩ 0#32) 0 + 1 * 0; rw [e 0]; exact hy⟩
    · exact ⟨(y 1).val % 128, show (y 1).val % 128 < 128 by omega, by show (y 1).val = (k0_off3 ⟨(y 1).val / 512, hk⟩ 0#32) 1 + 1 * ((y 1).val % 128); rw [e 1]; show (y 1).val = 512 * ((y 1).val / 512) + 0 + 1 * ((y 1).val % 128); omega⟩
    · exact ⟨(y 2).val, (y 2).isLt, by show (y 2).val = (k0_off3 ⟨(y 1).val / 512, hk⟩ 0#32) 2 + 1 * (y 2).val; rw [e 2]; show (y 2).val = 0 + 1 * (y 2).val; omega⟩
  · refine ⟨_, hm _ (List.mem_cons_of_mem _ (List.mem_cons_of_mem _ List.mem_cons_self)), ?_⟩
    have ho := off3_1 ⟨(y 1).val / 512, hk⟩
    refine (LoadRect.mem_set _).mpr fun b => ?_
    have e : ∀ b, (k0_off3 ⟨(y 1).val / 512, hk⟩ 1#32) b = _ := fun b => congrFun ho b
    fin_cases b
    · exact ⟨0, (show 0 < 1 from Nat.one_pos), by show (y 0).val = (k0_off3 ⟨(y 1).val / 512, hk⟩ 1#32) 0 + 1 * 0; rw [e 0]; exact hy⟩
    · exact ⟨(y 1).val % 128, show (y 1).val % 128 < 128 by omega, by show (y 1).val = (k0_off3 ⟨(y 1).val / 512, hk⟩ 1#32) 1 + 1 * ((y 1).val % 128); rw [e 1]; show (y 1).val = 512 * ((y 1).val / 512) + 128 + 1 * ((y 1).val % 128); omega⟩
    · exact ⟨(y 2).val, (y 2).isLt, by show (y 2).val = (k0_off3 ⟨(y 1).val / 512, hk⟩ 1#32) 2 + 1 * (y 2).val; rw [e 2]; show (y 2).val = 0 + 1 * (y 2).val; omega⟩
  · refine ⟨_, hm _ (List.mem_cons_of_mem _ List.mem_cons_self), ?_⟩
    have ho := off3_2 ⟨(y 1).val / 512, hk⟩
    refine (LoadRect.mem_set _).mpr fun b => ?_
    have e : ∀ b, (k0_off3 ⟨(y 1).val / 512, hk⟩ 2#32) b = _ := fun b => congrFun ho b
    fin_cases b
    · exact ⟨0, (show 0 < 1 from Nat.one_pos), by show (y 0).val = (k0_off3 ⟨(y 1).val / 512, hk⟩ 2#32) 0 + 1 * 0; rw [e 0]; exact hy⟩
    · exact ⟨(y 1).val % 128, show (y 1).val % 128 < 128 by omega, by show (y 1).val = (k0_off3 ⟨(y 1).val / 512, hk⟩ 2#32) 1 + 1 * ((y 1).val % 128); rw [e 1]; show (y 1).val = 512 * ((y 1).val / 512) + 256 + 1 * ((y 1).val % 128); omega⟩
    · exact ⟨(y 2).val, (y 2).isLt, by show (y 2).val = (k0_off3 ⟨(y 1).val / 512, hk⟩ 2#32) 2 + 1 * (y 2).val; rw [e 2]; show (y 2).val = 0 + 1 * (y 2).val; omega⟩
  · refine ⟨_, hm _ List.mem_cons_self, ?_⟩
    have ho := off3_3 ⟨(y 1).val / 512, hk⟩
    refine (LoadRect.mem_set _).mpr fun b => ?_
    have e : ∀ b, (k0_off3 ⟨(y 1).val / 512, hk⟩ 3#32) b = _ := fun b => congrFun ho b
    fin_cases b
    · exact ⟨0, (show 0 < 1 from Nat.one_pos), by show (y 0).val = (k0_off3 ⟨(y 1).val / 512, hk⟩ 3#32) 0 + 1 * 0; rw [e 0]; exact hy⟩
    · exact ⟨(y 1).val % 128, show (y 1).val % 128 < 128 by omega, by show (y 1).val = (k0_off3 ⟨(y 1).val / 512, hk⟩ 3#32) 1 + 1 * ((y 1).val % 128); rw [e 1]; show (y 1).val = 512 * ((y 1).val / 512) + 384 + 1 * ((y 1).val % 128); omega⟩
    · exact ⟨(y 2).val, (y 2).isLt, by show (y 2).val = (k0_off3 ⟨(y 1).val / 512, hk⟩ 3#32) 2 + 1 * (y 2).val; rw [e 2]; show (y 2).val = 0 + 1 * (y 2).val; omega⟩

theorem agreeO2 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (x : ℕ → ℕ → Fin 128 → Elt F .f32) (kbf vbf : ℕ → ℕ → Fin 128 → Elt F .f32)
    (h2 : ∀ y : S9x2048x128.Idx, arg2.view.read (Elt F) X2 y = x (y 0).val (y 1).val (y 2))
    (hk : ∀ y : S2560x128.Idx, arg6.view.read (Elt F) XK y = kbf 1 (y 0).val (y 1))
    (hv : ∀ y : S2560x128.Idx, arg7.view.read (Elt F) XV y = vbf 1 (y 0).val (y 1)) (k : Fin k0_t2_loop.trips) :
    ∀ p ∈ tripO2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k, ∀ y : p.1.shape.Idx, p.2 y = bufO a x kbf vbf (p.1.emb y) := by
  have hk4 : k.val < 4 := Nat.lt_of_lt_of_le k.isLt (by decide)
  rw [tripO2_eq 𝒱 c bd i a ha]
  intro p hp
  simp only [List.mem_cons, List.not_mem_nil, or_false] at hp
  rcases hp with rfl | rfl | rfl | rfl
  · intro y
    refine (congrFun (congrArg₂ (fun q kv => unitO (maskOf (prevBit a k.val)) q kv.1 kv.2) (q_read h2 1 4 k.val 3 (k0_off4 k 3#32) ![1, 4, 1] (k0_off4_inb k 3) ((off4_3 k).trans (congrArg (fun n => ![1, n, 0]) (by omega))) rfl rfl) (congrArg₂ Prod.mk (k_read6 hk 4 k.val 3 (k0_off5 k 3#32) ![4, 1] (k0_off5_inb k 3) ((off5_3 k).trans (congrArg (fun n => ![n, 0]) (by omega))) rfl rfl) (k_read6 hv 4 k.val 3 (k0_off5 k 3#32) ![4, 1] (k0_off5_inb k 3) ((off5_3 k).trans (congrArg (fun n => ![n, 0]) (by omega))) rfl rfl))) y).trans ?_
    exact pieceO2 a x kbf vbf k.val 3 (by omega) (by omega) _ _ _ _ ((off6_3 k).trans (congrArg (fun n => ![1, n, 0]) (by omega))) rfl rfl y
  · intro y
    refine (congrFun (congrArg₂ (fun q kv => unitO (maskOf (prevBit a k.val)) q kv.1 kv.2) (q_read h2 1 4 k.val 2 (k0_off4 k 2#32) ![1, 4, 1] (k0_off4_inb k 2) ((off4_2 k).trans (congrArg (fun n => ![1, n, 0]) (by omega))) rfl rfl) (congrArg₂ Prod.mk (k_read6 hk 4 k.val 2 (k0_off5 k 2#32) ![4, 1] (k0_off5_inb k 2) ((off5_2 k).trans (congrArg (fun n => ![n, 0]) (by omega))) rfl rfl) (k_read6 hv 4 k.val 2 (k0_off5 k 2#32) ![4, 1] (k0_off5_inb k 2) ((off5_2 k).trans (congrArg (fun n => ![n, 0]) (by omega))) rfl rfl))) y).trans ?_
    exact pieceO2 a x kbf vbf k.val 2 (by omega) (by omega) _ _ _ _ ((off6_2 k).trans (congrArg (fun n => ![1, n, 0]) (by omega))) rfl rfl y
  · intro y
    refine (congrFun (congrArg₂ (fun q kv => unitO (maskOf (prevBit a k.val)) q kv.1 kv.2) (q_read h2 1 4 k.val 1 (k0_off4 k 1#32) ![1, 4, 1] (k0_off4_inb k 1) ((off4_1 k).trans (congrArg (fun n => ![1, n, 0]) (by omega))) rfl rfl) (congrArg₂ Prod.mk (k_read6 hk 4 k.val 1 (k0_off5 k 1#32) ![4, 1] (k0_off5_inb k 1) ((off5_1 k).trans (congrArg (fun n => ![n, 0]) (by omega))) rfl rfl) (k_read6 hv 4 k.val 1 (k0_off5 k 1#32) ![4, 1] (k0_off5_inb k 1) ((off5_1 k).trans (congrArg (fun n => ![n, 0]) (by omega))) rfl rfl))) y).trans ?_
    exact pieceO2 a x kbf vbf k.val 1 (by omega) (by omega) _ _ _ _ ((off6_1 k).trans (congrArg (fun n => ![1, n, 0]) (by omega))) rfl rfl y
  · intro y
    refine (congrFun (congrArg₂ (fun q kv => unitO (maskOf (prevBit a k.val)) q kv.1 kv.2) (q_read h2 1 4 k.val 0 (k0_off4 k 0#32) ![1, 4, 1] (k0_off4_inb k 0) ((off4_0 k).trans (congrArg (fun n => ![1, n, 0]) (by omega))) rfl rfl) (congrArg₂ Prod.mk (k_read6 hk 4 k.val 0 (k0_off5 k 0#32) ![4, 1] (k0_off5_inb k 0) ((off5_0 k).trans (congrArg (fun n => ![n, 0]) (by omega))) rfl rfl) (k_read6 hv 4 k.val 0 (k0_off5 k 0#32) ![4, 1] (k0_off5_inb k 0) ((off5_0 k).trans (congrArg (fun n => ![n, 0]) (by omega))) rfl rfl))) y).trans ?_
    exact pieceO2 a x kbf vbf k.val 0 (by omega) (by omega) _ _ _ _ ((off6_0 k).trans (congrArg (fun n => ![1, n, 0]) (by omega))) rfl rfl y

theorem agreeAllO2 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (x : ℕ → ℕ → Fin 128 → Elt F .f32) (kbf vbf : ℕ → ℕ → Fin 128 → Elt F .f32)
    (h2 : ∀ y : S9x2048x128.Idx, arg2.view.read (Elt F) X2 y = x (y 0).val (y 1).val (y 2))
    (hk : ∀ y : S2560x128.Idx, arg6.view.read (Elt F) XK y = kbf 1 (y 0).val (y 1))
    (hv : ∀ y : S2560x128.Idx, arg7.view.read (Elt F) XV y = vbf 1 (y 0).val (y 1)) (n : ℕ) :
    ∀ p ∈ pbO2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV n, ∀ y : p.1.shape.Idx, p.2 y = bufO a x kbf vbf (p.1.emb y) := by
  induction n with
  | zero => intro p hp; exact absurd hp List.not_mem_nil
  | succ n ih =>
    intro p hp
    rw [pbO2.eq_2] at hp
    split at hp
    · rename_i h
      rcases List.mem_append.mp hp with hp | hp
      · exact agreeO2 𝒱 c bd i a ha arg2 harg2 arg3 harg3 arg4 harg4 arg5 harg5 arg6 harg6 arg7 harg7 arg8 harg8 arg9 harg9 arg10 harg10 arg11 harg11 X2 XK XV x kbf vbf h2 hk hv ⟨n, h⟩ p hp
      · exact ih p hp
    · exact ih p hp

theorem memO2 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (k : Fin k0_t2_loop.trips) (p) (hp : p ∈ tripO2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k) (n : ℕ) (hn : k.val < n) :
    p ∈ pbO2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV n := by
  induction n with
  | zero => exact absurd hn (Nat.not_lt_zero _)
  | succ n ih =>
    rw [pbO2.eq_2]
    split
    · rename_i h
      by_cases hk : k.val = n
      · subst hk; exact List.mem_append_left _ hp
      · exact List.mem_append_right _ (ih (by omega))
    · rename_i h
      exact ih (by have := k.isLt; omega)

theorem coverO2 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (y : S3x2048x128.Idx) (hy : (y 0).val = 1) :
    ∃ p ∈ pbO2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV (Scf.trips k0_t2_loop.lb k0_t2_loop.ub k0_t2_loop.st), y ∈ p.1.set := by
  have h1 : (y 1).val < 2048 := (y 1).isLt
  have ht : Scf.trips k0_t2_loop.lb k0_t2_loop.ub k0_t2_loop.st = 4 := by decide
  rw [ht]
  have hk : (y 1).val / 512 < k0_t2_loop.trips := lt_of_lt_of_eq (by omega : _ < 4) (by decide)
  have hm := fun p hp => memO2 𝒱 c bd i a ha arg2 harg2 arg3 harg3 arg4 harg4 arg5 harg5 arg6 harg6 arg7 harg7 arg8 harg8 arg9 harg9 arg10 harg10 arg11 harg11 X2 XK XV ⟨(y 1).val / 512, hk⟩ p hp 4 (show (y 1).val / 512 < 4 by omega)
  rw [tripO2_eq 𝒱 c bd i a ha] at hm
  have hcc : (y 1).val % 4 = 0 ∨ (y 1).val % 4 = 1 ∨ (y 1).val % 4 = 2 ∨ (y 1).val % 4 = 3 := by omega
  rcases hcc with hcc | hcc | hcc | hcc
  · refine ⟨_, hm _ (List.mem_cons_of_mem _ (List.mem_cons_of_mem _ (List.mem_cons_of_mem _ List.mem_cons_self))), ?_⟩
    have ho := off6_0 ⟨(y 1).val / 512, hk⟩
    refine (LoadRect.mem_set _).mpr fun b => ?_
    have e : ∀ b, (k0_off6 ⟨(y 1).val / 512, hk⟩ 0#32) b = _ := fun b => congrFun ho b
    fin_cases b
    · exact ⟨0, (show 0 < 1 from Nat.one_pos), by show (y 0).val = (k0_off6 ⟨(y 1).val / 512, hk⟩ 0#32) 0 + 1 * 0; rw [e 0]; exact hy⟩
    · exact ⟨(y 1).val % 512 / 4, show (y 1).val % 512 / 4 < 128 by omega, by show (y 1).val = (k0_off6 ⟨(y 1).val / 512, hk⟩ 0#32) 1 + 4 * ((y 1).val % 512 / 4); rw [e 1]; show (y 1).val = 512 * ((y 1).val / 512) + 0 + 4 * ((y 1).val % 512 / 4); omega⟩
    · exact ⟨(y 2).val, (y 2).isLt, by show (y 2).val = (k0_off6 ⟨(y 1).val / 512, hk⟩ 0#32) 2 + 1 * (y 2).val; rw [e 2]; show (y 2).val = 0 + 1 * (y 2).val; omega⟩
  · refine ⟨_, hm _ (List.mem_cons_of_mem _ (List.mem_cons_of_mem _ List.mem_cons_self)), ?_⟩
    have ho := off6_1 ⟨(y 1).val / 512, hk⟩
    refine (LoadRect.mem_set _).mpr fun b => ?_
    have e : ∀ b, (k0_off6 ⟨(y 1).val / 512, hk⟩ 1#32) b = _ := fun b => congrFun ho b
    fin_cases b
    · exact ⟨0, (show 0 < 1 from Nat.one_pos), by show (y 0).val = (k0_off6 ⟨(y 1).val / 512, hk⟩ 1#32) 0 + 1 * 0; rw [e 0]; exact hy⟩
    · exact ⟨(y 1).val % 512 / 4, show (y 1).val % 512 / 4 < 128 by omega, by show (y 1).val = (k0_off6 ⟨(y 1).val / 512, hk⟩ 1#32) 1 + 4 * ((y 1).val % 512 / 4); rw [e 1]; show (y 1).val = 512 * ((y 1).val / 512) + 1 + 4 * ((y 1).val % 512 / 4); omega⟩
    · exact ⟨(y 2).val, (y 2).isLt, by show (y 2).val = (k0_off6 ⟨(y 1).val / 512, hk⟩ 1#32) 2 + 1 * (y 2).val; rw [e 2]; show (y 2).val = 0 + 1 * (y 2).val; omega⟩
  · refine ⟨_, hm _ (List.mem_cons_of_mem _ List.mem_cons_self), ?_⟩
    have ho := off6_2 ⟨(y 1).val / 512, hk⟩
    refine (LoadRect.mem_set _).mpr fun b => ?_
    have e : ∀ b, (k0_off6 ⟨(y 1).val / 512, hk⟩ 2#32) b = _ := fun b => congrFun ho b
    fin_cases b
    · exact ⟨0, (show 0 < 1 from Nat.one_pos), by show (y 0).val = (k0_off6 ⟨(y 1).val / 512, hk⟩ 2#32) 0 + 1 * 0; rw [e 0]; exact hy⟩
    · exact ⟨(y 1).val % 512 / 4, show (y 1).val % 512 / 4 < 128 by omega, by show (y 1).val = (k0_off6 ⟨(y 1).val / 512, hk⟩ 2#32) 1 + 4 * ((y 1).val % 512 / 4); rw [e 1]; show (y 1).val = 512 * ((y 1).val / 512) + 2 + 4 * ((y 1).val % 512 / 4); omega⟩
    · exact ⟨(y 2).val, (y 2).isLt, by show (y 2).val = (k0_off6 ⟨(y 1).val / 512, hk⟩ 2#32) 2 + 1 * (y 2).val; rw [e 2]; show (y 2).val = 0 + 1 * (y 2).val; omega⟩
  · refine ⟨_, hm _ List.mem_cons_self, ?_⟩
    have ho := off6_3 ⟨(y 1).val / 512, hk⟩
    refine (LoadRect.mem_set _).mpr fun b => ?_
    have e : ∀ b, (k0_off6 ⟨(y 1).val / 512, hk⟩ 3#32) b = _ := fun b => congrFun ho b
    fin_cases b
    · exact ⟨0, (show 0 < 1 from Nat.one_pos), by show (y 0).val = (k0_off6 ⟨(y 1).val / 512, hk⟩ 3#32) 0 + 1 * 0; rw [e 0]; exact hy⟩
    · exact ⟨(y 1).val % 512 / 4, show (y 1).val % 512 / 4 < 128 by omega, by show (y 1).val = (k0_off6 ⟨(y 1).val / 512, hk⟩ 3#32) 1 + 4 * ((y 1).val % 512 / 4); rw [e 1]; show (y 1).val = 512 * ((y 1).val / 512) + 3 + 4 * ((y 1).val % 512 / 4); omega⟩
    · exact ⟨(y 2).val, (y 2).isLt, by show (y 2).val = (k0_off6 ⟨(y 1).val / 512, hk⟩ 3#32) 2 + 1 * (y 2).val; rw [e 2]; show (y 2).val = 0 + 1 * (y 2).val; omega⟩

theorem agreeL2 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (x : ℕ → ℕ → Fin 128 → Elt F .f32) (kbf : ℕ → ℕ → Fin 128 → Elt F .f32)
    (h2 : ∀ y : S9x2048x128.Idx, arg2.view.read (Elt F) X2 y = x (y 0).val (y 1).val (y 2))
    (hk : ∀ y : S2560x128.Idx, arg6.view.read (Elt F) XK y = kbf 1 (y 0).val (y 1)) (k : Fin k0_t2_loop.trips) :
    ∀ p ∈ tripL2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k, ∀ y : p.1.shape.Idx, p.2 y = bufL a x kbf (p.1.emb y) := by
  have hk4 : k.val < 4 := Nat.lt_of_lt_of_le k.isLt (by decide)
  rw [tripL2_eq 𝒱 c bd i a ha]
  intro p hp
  simp only [List.mem_cons, List.not_mem_nil, or_false] at hp
  rcases hp with rfl | rfl | rfl | rfl
  · intro y
    refine (congrFun (congrArg₂ (fun q kk => unitL (maskOf (prevBit a k.val)) q kk) (q_read h2 1 4 k.val 3 (k0_off4 k 3#32) ![1, 4, 1] (k0_off4_inb k 3) ((off4_3 k).trans (congrArg (fun n => ![1, n, 0]) (by omega))) rfl rfl) (k_read6 hk 4 k.val 3 (k0_off5 k 3#32) ![4, 1] (k0_off5_inb k 3) ((off5_3 k).trans (congrArg (fun n => ![n, 0]) (by omega))) rfl rfl)) y).trans ?_
    exact pieceL2 a x kbf k.val 3 (by omega) (by omega) _ _ _ _ ((off6_3 k).trans (congrArg (fun n => ![1, n, 0]) (by omega))) rfl rfl y
  · intro y
    refine (congrFun (congrArg₂ (fun q kk => unitL (maskOf (prevBit a k.val)) q kk) (q_read h2 1 4 k.val 2 (k0_off4 k 2#32) ![1, 4, 1] (k0_off4_inb k 2) ((off4_2 k).trans (congrArg (fun n => ![1, n, 0]) (by omega))) rfl rfl) (k_read6 hk 4 k.val 2 (k0_off5 k 2#32) ![4, 1] (k0_off5_inb k 2) ((off5_2 k).trans (congrArg (fun n => ![n, 0]) (by omega))) rfl rfl)) y).trans ?_
    exact pieceL2 a x kbf k.val 2 (by omega) (by omega) _ _ _ _ ((off6_2 k).trans (congrArg (fun n => ![1, n, 0]) (by omega))) rfl rfl y
  · intro y
    refine (congrFun (congrArg₂ (fun q kk => unitL (maskOf (prevBit a k.val)) q kk) (q_read h2 1 4 k.val 1 (k0_off4 k 1#32) ![1, 4, 1] (k0_off4_inb k 1) ((off4_1 k).trans (congrArg (fun n => ![1, n, 0]) (by omega))) rfl rfl) (k_read6 hk 4 k.val 1 (k0_off5 k 1#32) ![4, 1] (k0_off5_inb k 1) ((off5_1 k).trans (congrArg (fun n => ![n, 0]) (by omega))) rfl rfl)) y).trans ?_
    exact pieceL2 a x kbf k.val 1 (by omega) (by omega) _ _ _ _ ((off6_1 k).trans (congrArg (fun n => ![1, n, 0]) (by omega))) rfl rfl y
  · intro y
    refine (congrFun (congrArg₂ (fun q kk => unitL (maskOf (prevBit a k.val)) q kk) (q_read h2 1 4 k.val 0 (k0_off4 k 0#32) ![1, 4, 1] (k0_off4_inb k 0) ((off4_0 k).trans (congrArg (fun n => ![1, n, 0]) (by omega))) rfl rfl) (k_read6 hk 4 k.val 0 (k0_off5 k 0#32) ![4, 1] (k0_off5_inb k 0) ((off5_0 k).trans (congrArg (fun n => ![n, 0]) (by omega))) rfl rfl)) y).trans ?_
    exact pieceL2 a x kbf k.val 0 (by omega) (by omega) _ _ _ _ ((off6_0 k).trans (congrArg (fun n => ![1, n, 0]) (by omega))) rfl rfl y

theorem agreeAllL2 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (x : ℕ → ℕ → Fin 128 → Elt F .f32) (kbf : ℕ → ℕ → Fin 128 → Elt F .f32)
    (h2 : ∀ y : S9x2048x128.Idx, arg2.view.read (Elt F) X2 y = x (y 0).val (y 1).val (y 2))
    (hk : ∀ y : S2560x128.Idx, arg6.view.read (Elt F) XK y = kbf 1 (y 0).val (y 1)) (n : ℕ) :
    ∀ p ∈ pbL2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV n, ∀ y : p.1.shape.Idx, p.2 y = bufL a x kbf (p.1.emb y) := by
  induction n with
  | zero => intro p hp; exact absurd hp List.not_mem_nil
  | succ n ih =>
    intro p hp
    rw [pbL2.eq_2] at hp
    split at hp
    · rename_i h
      rcases List.mem_append.mp hp with hp | hp
      · exact agreeL2 𝒱 c bd i a ha arg2 harg2 arg3 harg3 arg4 harg4 arg5 harg5 arg6 harg6 arg7 harg7 arg8 harg8 arg9 harg9 arg10 harg10 arg11 harg11 X2 XK XV x kbf h2 hk  ⟨n, h⟩ p hp
      · exact ih p hp
    · exact ih p hp

theorem memL2 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (k : Fin k0_t2_loop.trips) (p) (hp : p ∈ tripL2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k) (n : ℕ) (hn : k.val < n) :
    p ∈ pbL2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV n := by
  induction n with
  | zero => exact absurd hn (Nat.not_lt_zero _)
  | succ n ih =>
    rw [pbL2.eq_2]
    split
    · rename_i h
      by_cases hk : k.val = n
      · subst hk; exact List.mem_append_left _ hp
      · exact List.mem_append_right _ (ih (by omega))
    · rename_i h
      exact ih (by have := k.isLt; omega)

theorem coverL2 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg6.view.ty) (XV : BufTy.Contents (Elt F) arg7.view.ty) (y : S3x2048x128.Idx) (hy : (y 0).val = 1) :
    ∃ p ∈ pbL2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV (Scf.trips k0_t2_loop.lb k0_t2_loop.ub k0_t2_loop.st), y ∈ p.1.set := by
  have h1 : (y 1).val < 2048 := (y 1).isLt
  have ht : Scf.trips k0_t2_loop.lb k0_t2_loop.ub k0_t2_loop.st = 4 := by decide
  rw [ht]
  have hk : (y 1).val / 512 < k0_t2_loop.trips := lt_of_lt_of_eq (by omega : _ < 4) (by decide)
  have hm := fun p hp => memL2 𝒱 c bd i a ha arg2 harg2 arg3 harg3 arg4 harg4 arg5 harg5 arg6 harg6 arg7 harg7 arg8 harg8 arg9 harg9 arg10 harg10 arg11 harg11 X2 XK XV ⟨(y 1).val / 512, hk⟩ p hp 4 (show (y 1).val / 512 < 4 by omega)
  rw [tripL2_eq 𝒱 c bd i a ha] at hm
  have hcc : (y 1).val % 4 = 0 ∨ (y 1).val % 4 = 1 ∨ (y 1).val % 4 = 2 ∨ (y 1).val % 4 = 3 := by omega
  rcases hcc with hcc | hcc | hcc | hcc
  · refine ⟨_, hm _ (List.mem_cons_of_mem _ (List.mem_cons_of_mem _ (List.mem_cons_of_mem _ List.mem_cons_self))), ?_⟩
    have ho := off6_0 ⟨(y 1).val / 512, hk⟩
    refine (LoadRect.mem_set _).mpr fun b => ?_
    have e : ∀ b, (k0_off6 ⟨(y 1).val / 512, hk⟩ 0#32) b = _ := fun b => congrFun ho b
    fin_cases b
    · exact ⟨0, (show 0 < 1 from Nat.one_pos), by show (y 0).val = (k0_off6 ⟨(y 1).val / 512, hk⟩ 0#32) 0 + 1 * 0; rw [e 0]; exact hy⟩
    · exact ⟨(y 1).val % 512 / 4, show (y 1).val % 512 / 4 < 128 by omega, by show (y 1).val = (k0_off6 ⟨(y 1).val / 512, hk⟩ 0#32) 1 + 4 * ((y 1).val % 512 / 4); rw [e 1]; show (y 1).val = 512 * ((y 1).val / 512) + 0 + 4 * ((y 1).val % 512 / 4); omega⟩
    · exact ⟨(y 2).val, (y 2).isLt, by show (y 2).val = (k0_off6 ⟨(y 1).val / 512, hk⟩ 0#32) 2 + 1 * (y 2).val; rw [e 2]; show (y 2).val = 0 + 1 * (y 2).val; omega⟩
  · refine ⟨_, hm _ (List.mem_cons_of_mem _ (List.mem_cons_of_mem _ List.mem_cons_self)), ?_⟩
    have ho := off6_1 ⟨(y 1).val / 512, hk⟩
    refine (LoadRect.mem_set _).mpr fun b => ?_
    have e : ∀ b, (k0_off6 ⟨(y 1).val / 512, hk⟩ 1#32) b = _ := fun b => congrFun ho b
    fin_cases b
    · exact ⟨0, (show 0 < 1 from Nat.one_pos), by show (y 0).val = (k0_off6 ⟨(y 1).val / 512, hk⟩ 1#32) 0 + 1 * 0; rw [e 0]; exact hy⟩
    · exact ⟨(y 1).val % 512 / 4, show (y 1).val % 512 / 4 < 128 by omega, by show (y 1).val = (k0_off6 ⟨(y 1).val / 512, hk⟩ 1#32) 1 + 4 * ((y 1).val % 512 / 4); rw [e 1]; show (y 1).val = 512 * ((y 1).val / 512) + 1 + 4 * ((y 1).val % 512 / 4); omega⟩
    · exact ⟨(y 2).val, (y 2).isLt, by show (y 2).val = (k0_off6 ⟨(y 1).val / 512, hk⟩ 1#32) 2 + 1 * (y 2).val; rw [e 2]; show (y 2).val = 0 + 1 * (y 2).val; omega⟩
  · refine ⟨_, hm _ (List.mem_cons_of_mem _ List.mem_cons_self), ?_⟩
    have ho := off6_2 ⟨(y 1).val / 512, hk⟩
    refine (LoadRect.mem_set _).mpr fun b => ?_
    have e : ∀ b, (k0_off6 ⟨(y 1).val / 512, hk⟩ 2#32) b = _ := fun b => congrFun ho b
    fin_cases b
    · exact ⟨0, (show 0 < 1 from Nat.one_pos), by show (y 0).val = (k0_off6 ⟨(y 1).val / 512, hk⟩ 2#32) 0 + 1 * 0; rw [e 0]; exact hy⟩
    · exact ⟨(y 1).val % 512 / 4, show (y 1).val % 512 / 4 < 128 by omega, by show (y 1).val = (k0_off6 ⟨(y 1).val / 512, hk⟩ 2#32) 1 + 4 * ((y 1).val % 512 / 4); rw [e 1]; show (y 1).val = 512 * ((y 1).val / 512) + 2 + 4 * ((y 1).val % 512 / 4); omega⟩
    · exact ⟨(y 2).val, (y 2).isLt, by show (y 2).val = (k0_off6 ⟨(y 1).val / 512, hk⟩ 2#32) 2 + 1 * (y 2).val; rw [e 2]; show (y 2).val = 0 + 1 * (y 2).val; omega⟩
  · refine ⟨_, hm _ List.mem_cons_self, ?_⟩
    have ho := off6_3 ⟨(y 1).val / 512, hk⟩
    refine (LoadRect.mem_set _).mpr fun b => ?_
    have e : ∀ b, (k0_off6 ⟨(y 1).val / 512, hk⟩ 3#32) b = _ := fun b => congrFun ho b
    fin_cases b
    · exact ⟨0, (show 0 < 1 from Nat.one_pos), by show (y 0).val = (k0_off6 ⟨(y 1).val / 512, hk⟩ 3#32) 0 + 1 * 0; rw [e 0]; exact hy⟩
    · exact ⟨(y 1).val % 512 / 4, show (y 1).val % 512 / 4 < 128 by omega, by show (y 1).val = (k0_off6 ⟨(y 1).val / 512, hk⟩ 3#32) 1 + 4 * ((y 1).val % 512 / 4); rw [e 1]; show (y 1).val = 512 * ((y 1).val / 512) + 3 + 4 * ((y 1).val % 512 / 4); omega⟩
    · exact ⟨(y 2).val, (y 2).isLt, by show (y 2).val = (k0_off6 ⟨(y 1).val / 512, hk⟩ 3#32) 2 + 1 * (y 2).val; rw [e 2]; show (y 2).val = 0 + 1 * (y 2).val; omega⟩

theorem agreeO3 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (x : ℕ → ℕ → Fin 128 → Elt F .f32) (kbf vbf : ℕ → ℕ → Fin 128 → Elt F .f32)
    (h2 : ∀ y : S9x2048x128.Idx, arg2.view.read (Elt F) X2 y = x (y 0).val (y 1).val (y 2))
    (hk : ∀ y : S4096x128.Idx, arg8.view.read (Elt F) XK y = kbf 2 (y 0).val (y 1))
    (hv : ∀ y : S4096x128.Idx, arg9.view.read (Elt F) XV y = vbf 2 (y 0).val (y 1)) (k : Fin k0_t3_loop.trips) :
    ∀ p ∈ tripO3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k, ∀ y : p.1.shape.Idx, p.2 y = bufO a x kbf vbf (p.1.emb y) := by
  have hk4 : k.val < 4 := Nat.lt_of_lt_of_le k.isLt (by decide)
  rw [tripO3_eq 𝒱 c bd i a ha]
  intro p hp
  simp only [List.mem_cons, List.not_mem_nil, or_false] at hp
  rcases hp with rfl | rfl | rfl | rfl
  · intro y
    refine (congrFun (congrArg₂ (fun q kv => unitO (maskOf (prevBit a 0)) q kv.1 kv.2) (q_read h2 2 16 0 (4 * k.val + 3) (k0_off7 k 3#32) ![1, 16, 1] (k0_off7_inb k 3) ((off7_3 k).trans (congrArg (fun n => ![2, n, 0]) (by omega))) rfl rfl) (congrArg₂ Prod.mk (k_read8 hk 16 0 (4 * k.val + 3) (k0_off8 k 3#32) ![16, 1] (k0_off8_inb k 3) ((off8_3 k).trans (congrArg (fun n => ![n, 0]) (by omega))) rfl rfl) (k_read8 hv 16 0 (4 * k.val + 3) (k0_off8 k 3#32) ![16, 1] (k0_off8_inb k 3) ((off8_3 k).trans (congrArg (fun n => ![n, 0]) (by omega))) rfl rfl))) y).trans ?_
    exact pieceO3 a x kbf vbf 0 (4 * k.val + 3) (by omega) (by omega) _ _ _ _ ((off9_3 k).trans (congrArg (fun n => ![2, n, 0]) (by omega))) rfl rfl y
  · intro y
    refine (congrFun (congrArg₂ (fun q kv => unitO (maskOf (prevBit a 0)) q kv.1 kv.2) (q_read h2 2 16 0 (4 * k.val + 2) (k0_off7 k 2#32) ![1, 16, 1] (k0_off7_inb k 2) ((off7_2 k).trans (congrArg (fun n => ![2, n, 0]) (by omega))) rfl rfl) (congrArg₂ Prod.mk (k_read8 hk 16 0 (4 * k.val + 2) (k0_off8 k 2#32) ![16, 1] (k0_off8_inb k 2) ((off8_2 k).trans (congrArg (fun n => ![n, 0]) (by omega))) rfl rfl) (k_read8 hv 16 0 (4 * k.val + 2) (k0_off8 k 2#32) ![16, 1] (k0_off8_inb k 2) ((off8_2 k).trans (congrArg (fun n => ![n, 0]) (by omega))) rfl rfl))) y).trans ?_
    exact pieceO3 a x kbf vbf 0 (4 * k.val + 2) (by omega) (by omega) _ _ _ _ ((off9_2 k).trans (congrArg (fun n => ![2, n, 0]) (by omega))) rfl rfl y
  · intro y
    refine (congrFun (congrArg₂ (fun q kv => unitO (maskOf (prevBit a 0)) q kv.1 kv.2) (q_read h2 2 16 0 (4 * k.val + 1) (k0_off7 k 1#32) ![1, 16, 1] (k0_off7_inb k 1) ((off7_1 k).trans (congrArg (fun n => ![2, n, 0]) (by omega))) rfl rfl) (congrArg₂ Prod.mk (k_read8 hk 16 0 (4 * k.val + 1) (k0_off8 k 1#32) ![16, 1] (k0_off8_inb k 1) ((off8_1 k).trans (congrArg (fun n => ![n, 0]) (by omega))) rfl rfl) (k_read8 hv 16 0 (4 * k.val + 1) (k0_off8 k 1#32) ![16, 1] (k0_off8_inb k 1) ((off8_1 k).trans (congrArg (fun n => ![n, 0]) (by omega))) rfl rfl))) y).trans ?_
    exact pieceO3 a x kbf vbf 0 (4 * k.val + 1) (by omega) (by omega) _ _ _ _ ((off9_1 k).trans (congrArg (fun n => ![2, n, 0]) (by omega))) rfl rfl y
  · intro y
    refine (congrFun (congrArg₂ (fun q kv => unitO (maskOf (prevBit a 0)) q kv.1 kv.2) (q_read h2 2 16 0 (4 * k.val + 0) (k0_off7 k 0#32) ![1, 16, 1] (k0_off7_inb k 0) ((off7_0 k).trans (congrArg (fun n => ![2, n, 0]) (by omega))) rfl rfl) (congrArg₂ Prod.mk (k_read8 hk 16 0 (4 * k.val + 0) (k0_off8 k 0#32) ![16, 1] (k0_off8_inb k 0) ((off8_0 k).trans (congrArg (fun n => ![n, 0]) (by omega))) rfl rfl) (k_read8 hv 16 0 (4 * k.val + 0) (k0_off8 k 0#32) ![16, 1] (k0_off8_inb k 0) ((off8_0 k).trans (congrArg (fun n => ![n, 0]) (by omega))) rfl rfl))) y).trans ?_
    exact pieceO3 a x kbf vbf 0 (4 * k.val + 0) (by omega) (by omega) _ _ _ _ ((off9_0 k).trans (congrArg (fun n => ![2, n, 0]) (by omega))) rfl rfl y

theorem agreeAllO3 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (x : ℕ → ℕ → Fin 128 → Elt F .f32) (kbf vbf : ℕ → ℕ → Fin 128 → Elt F .f32)
    (h2 : ∀ y : S9x2048x128.Idx, arg2.view.read (Elt F) X2 y = x (y 0).val (y 1).val (y 2))
    (hk : ∀ y : S4096x128.Idx, arg8.view.read (Elt F) XK y = kbf 2 (y 0).val (y 1))
    (hv : ∀ y : S4096x128.Idx, arg9.view.read (Elt F) XV y = vbf 2 (y 0).val (y 1)) (n : ℕ) :
    ∀ p ∈ pbO3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV n, ∀ y : p.1.shape.Idx, p.2 y = bufO a x kbf vbf (p.1.emb y) := by
  induction n with
  | zero => intro p hp; exact absurd hp List.not_mem_nil
  | succ n ih =>
    intro p hp
    rw [pbO3.eq_2] at hp
    split at hp
    · rename_i h
      rcases List.mem_append.mp hp with hp | hp
      · exact agreeO3 𝒱 c bd i a ha arg2 harg2 arg3 harg3 arg4 harg4 arg5 harg5 arg6 harg6 arg7 harg7 arg8 harg8 arg9 harg9 arg10 harg10 arg11 harg11 X2 XK XV x kbf vbf h2 hk hv ⟨n, h⟩ p hp
      · exact ih p hp
    · exact ih p hp

theorem memO3 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (k : Fin k0_t3_loop.trips) (p) (hp : p ∈ tripO3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k) (n : ℕ) (hn : k.val < n) :
    p ∈ pbO3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV n := by
  induction n with
  | zero => exact absurd hn (Nat.not_lt_zero _)
  | succ n ih =>
    rw [pbO3.eq_2]
    split
    · rename_i h
      by_cases hk : k.val = n
      · subst hk; exact List.mem_append_left _ hp
      · exact List.mem_append_right _ (ih (by omega))
    · rename_i h
      exact ih (by have := k.isLt; omega)

theorem coverO3 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (y : S3x2048x128.Idx) (hy : (y 0).val = 2) :
    ∃ p ∈ pbO3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV (Scf.trips k0_t3_loop.lb k0_t3_loop.ub k0_t3_loop.st), y ∈ p.1.set := by
  have h1 : (y 1).val < 2048 := (y 1).isLt
  have ht : Scf.trips k0_t3_loop.lb k0_t3_loop.ub k0_t3_loop.st = 4 := by decide
  rw [ht]
  have hk : (y 1).val % 16 / 4 < k0_t3_loop.trips := lt_of_lt_of_eq (by omega : _ < 4) (by decide)
  have hm := fun p hp => memO3 𝒱 c bd i a ha arg2 harg2 arg3 harg3 arg4 harg4 arg5 harg5 arg6 harg6 arg7 harg7 arg8 harg8 arg9 harg9 arg10 harg10 arg11 harg11 X2 XK XV ⟨(y 1).val % 16 / 4, hk⟩ p hp 4 (show (y 1).val % 16 / 4 < 4 by omega)
  rw [tripO3_eq 𝒱 c bd i a ha] at hm
  have hcc : (y 1).val % 4 = 0 ∨ (y 1).val % 4 = 1 ∨ (y 1).val % 4 = 2 ∨ (y 1).val % 4 = 3 := by omega
  rcases hcc with hcc | hcc | hcc | hcc
  · refine ⟨_, hm _ (List.mem_cons_of_mem _ (List.mem_cons_of_mem _ (List.mem_cons_of_mem _ List.mem_cons_self))), ?_⟩
    have ho := off9_0 ⟨(y 1).val % 16 / 4, hk⟩
    refine (LoadRect.mem_set _).mpr fun b => ?_
    have e : ∀ b, (k0_off9 ⟨(y 1).val % 16 / 4, hk⟩ 0#32) b = _ := fun b => congrFun ho b
    fin_cases b
    · exact ⟨0, (show 0 < 1 from Nat.one_pos), by show (y 0).val = (k0_off9 ⟨(y 1).val % 16 / 4, hk⟩ 0#32) 0 + 1 * 0; rw [e 0]; exact hy⟩
    · exact ⟨(y 1).val / 16, show (y 1).val / 16 < 128 by omega, by show (y 1).val = (k0_off9 ⟨(y 1).val % 16 / 4, hk⟩ 0#32) 1 + 16 * ((y 1).val / 16); rw [e 1]; show (y 1).val = 4 * ((y 1).val % 16 / 4) + 0 + 16 * ((y 1).val / 16); omega⟩
    · exact ⟨(y 2).val, (y 2).isLt, by show (y 2).val = (k0_off9 ⟨(y 1).val % 16 / 4, hk⟩ 0#32) 2 + 1 * (y 2).val; rw [e 2]; show (y 2).val = 0 + 1 * (y 2).val; omega⟩
  · refine ⟨_, hm _ (List.mem_cons_of_mem _ (List.mem_cons_of_mem _ List.mem_cons_self)), ?_⟩
    have ho := off9_1 ⟨(y 1).val % 16 / 4, hk⟩
    refine (LoadRect.mem_set _).mpr fun b => ?_
    have e : ∀ b, (k0_off9 ⟨(y 1).val % 16 / 4, hk⟩ 1#32) b = _ := fun b => congrFun ho b
    fin_cases b
    · exact ⟨0, (show 0 < 1 from Nat.one_pos), by show (y 0).val = (k0_off9 ⟨(y 1).val % 16 / 4, hk⟩ 1#32) 0 + 1 * 0; rw [e 0]; exact hy⟩
    · exact ⟨(y 1).val / 16, show (y 1).val / 16 < 128 by omega, by show (y 1).val = (k0_off9 ⟨(y 1).val % 16 / 4, hk⟩ 1#32) 1 + 16 * ((y 1).val / 16); rw [e 1]; show (y 1).val = 4 * ((y 1).val % 16 / 4) + 1 + 16 * ((y 1).val / 16); omega⟩
    · exact ⟨(y 2).val, (y 2).isLt, by show (y 2).val = (k0_off9 ⟨(y 1).val % 16 / 4, hk⟩ 1#32) 2 + 1 * (y 2).val; rw [e 2]; show (y 2).val = 0 + 1 * (y 2).val; omega⟩
  · refine ⟨_, hm _ (List.mem_cons_of_mem _ List.mem_cons_self), ?_⟩
    have ho := off9_2 ⟨(y 1).val % 16 / 4, hk⟩
    refine (LoadRect.mem_set _).mpr fun b => ?_
    have e : ∀ b, (k0_off9 ⟨(y 1).val % 16 / 4, hk⟩ 2#32) b = _ := fun b => congrFun ho b
    fin_cases b
    · exact ⟨0, (show 0 < 1 from Nat.one_pos), by show (y 0).val = (k0_off9 ⟨(y 1).val % 16 / 4, hk⟩ 2#32) 0 + 1 * 0; rw [e 0]; exact hy⟩
    · exact ⟨(y 1).val / 16, show (y 1).val / 16 < 128 by omega, by show (y 1).val = (k0_off9 ⟨(y 1).val % 16 / 4, hk⟩ 2#32) 1 + 16 * ((y 1).val / 16); rw [e 1]; show (y 1).val = 4 * ((y 1).val % 16 / 4) + 2 + 16 * ((y 1).val / 16); omega⟩
    · exact ⟨(y 2).val, (y 2).isLt, by show (y 2).val = (k0_off9 ⟨(y 1).val % 16 / 4, hk⟩ 2#32) 2 + 1 * (y 2).val; rw [e 2]; show (y 2).val = 0 + 1 * (y 2).val; omega⟩
  · refine ⟨_, hm _ List.mem_cons_self, ?_⟩
    have ho := off9_3 ⟨(y 1).val % 16 / 4, hk⟩
    refine (LoadRect.mem_set _).mpr fun b => ?_
    have e : ∀ b, (k0_off9 ⟨(y 1).val % 16 / 4, hk⟩ 3#32) b = _ := fun b => congrFun ho b
    fin_cases b
    · exact ⟨0, (show 0 < 1 from Nat.one_pos), by show (y 0).val = (k0_off9 ⟨(y 1).val % 16 / 4, hk⟩ 3#32) 0 + 1 * 0; rw [e 0]; exact hy⟩
    · exact ⟨(y 1).val / 16, show (y 1).val / 16 < 128 by omega, by show (y 1).val = (k0_off9 ⟨(y 1).val % 16 / 4, hk⟩ 3#32) 1 + 16 * ((y 1).val / 16); rw [e 1]; show (y 1).val = 4 * ((y 1).val % 16 / 4) + 3 + 16 * ((y 1).val / 16); omega⟩
    · exact ⟨(y 2).val, (y 2).isLt, by show (y 2).val = (k0_off9 ⟨(y 1).val % 16 / 4, hk⟩ 3#32) 2 + 1 * (y 2).val; rw [e 2]; show (y 2).val = 0 + 1 * (y 2).val; omega⟩

theorem agreeL3 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (x : ℕ → ℕ → Fin 128 → Elt F .f32) (kbf : ℕ → ℕ → Fin 128 → Elt F .f32)
    (h2 : ∀ y : S9x2048x128.Idx, arg2.view.read (Elt F) X2 y = x (y 0).val (y 1).val (y 2))
    (hk : ∀ y : S4096x128.Idx, arg8.view.read (Elt F) XK y = kbf 2 (y 0).val (y 1)) (k : Fin k0_t3_loop.trips) :
    ∀ p ∈ tripL3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k, ∀ y : p.1.shape.Idx, p.2 y = bufL a x kbf (p.1.emb y) := by
  have hk4 : k.val < 4 := Nat.lt_of_lt_of_le k.isLt (by decide)
  rw [tripL3_eq 𝒱 c bd i a ha]
  intro p hp
  simp only [List.mem_cons, List.not_mem_nil, or_false] at hp
  rcases hp with rfl | rfl | rfl | rfl
  · intro y
    refine (congrFun (congrArg₂ (fun q kk => unitL (maskOf (prevBit a 0)) q kk) (q_read h2 2 16 0 (4 * k.val + 3) (k0_off7 k 3#32) ![1, 16, 1] (k0_off7_inb k 3) ((off7_3 k).trans (congrArg (fun n => ![2, n, 0]) (by omega))) rfl rfl) (k_read8 hk 16 0 (4 * k.val + 3) (k0_off8 k 3#32) ![16, 1] (k0_off8_inb k 3) ((off8_3 k).trans (congrArg (fun n => ![n, 0]) (by omega))) rfl rfl)) y).trans ?_
    exact pieceL3 a x kbf 0 (4 * k.val + 3) (by omega) (by omega) _ _ _ _ ((off9_3 k).trans (congrArg (fun n => ![2, n, 0]) (by omega))) rfl rfl y
  · intro y
    refine (congrFun (congrArg₂ (fun q kk => unitL (maskOf (prevBit a 0)) q kk) (q_read h2 2 16 0 (4 * k.val + 2) (k0_off7 k 2#32) ![1, 16, 1] (k0_off7_inb k 2) ((off7_2 k).trans (congrArg (fun n => ![2, n, 0]) (by omega))) rfl rfl) (k_read8 hk 16 0 (4 * k.val + 2) (k0_off8 k 2#32) ![16, 1] (k0_off8_inb k 2) ((off8_2 k).trans (congrArg (fun n => ![n, 0]) (by omega))) rfl rfl)) y).trans ?_
    exact pieceL3 a x kbf 0 (4 * k.val + 2) (by omega) (by omega) _ _ _ _ ((off9_2 k).trans (congrArg (fun n => ![2, n, 0]) (by omega))) rfl rfl y
  · intro y
    refine (congrFun (congrArg₂ (fun q kk => unitL (maskOf (prevBit a 0)) q kk) (q_read h2 2 16 0 (4 * k.val + 1) (k0_off7 k 1#32) ![1, 16, 1] (k0_off7_inb k 1) ((off7_1 k).trans (congrArg (fun n => ![2, n, 0]) (by omega))) rfl rfl) (k_read8 hk 16 0 (4 * k.val + 1) (k0_off8 k 1#32) ![16, 1] (k0_off8_inb k 1) ((off8_1 k).trans (congrArg (fun n => ![n, 0]) (by omega))) rfl rfl)) y).trans ?_
    exact pieceL3 a x kbf 0 (4 * k.val + 1) (by omega) (by omega) _ _ _ _ ((off9_1 k).trans (congrArg (fun n => ![2, n, 0]) (by omega))) rfl rfl y
  · intro y
    refine (congrFun (congrArg₂ (fun q kk => unitL (maskOf (prevBit a 0)) q kk) (q_read h2 2 16 0 (4 * k.val + 0) (k0_off7 k 0#32) ![1, 16, 1] (k0_off7_inb k 0) ((off7_0 k).trans (congrArg (fun n => ![2, n, 0]) (by omega))) rfl rfl) (k_read8 hk 16 0 (4 * k.val + 0) (k0_off8 k 0#32) ![16, 1] (k0_off8_inb k 0) ((off8_0 k).trans (congrArg (fun n => ![n, 0]) (by omega))) rfl rfl)) y).trans ?_
    exact pieceL3 a x kbf 0 (4 * k.val + 0) (by omega) (by omega) _ _ _ _ ((off9_0 k).trans (congrArg (fun n => ![2, n, 0]) (by omega))) rfl rfl y

theorem agreeAllL3 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (x : ℕ → ℕ → Fin 128 → Elt F .f32) (kbf : ℕ → ℕ → Fin 128 → Elt F .f32)
    (h2 : ∀ y : S9x2048x128.Idx, arg2.view.read (Elt F) X2 y = x (y 0).val (y 1).val (y 2))
    (hk : ∀ y : S4096x128.Idx, arg8.view.read (Elt F) XK y = kbf 2 (y 0).val (y 1)) (n : ℕ) :
    ∀ p ∈ pbL3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV n, ∀ y : p.1.shape.Idx, p.2 y = bufL a x kbf (p.1.emb y) := by
  induction n with
  | zero => intro p hp; exact absurd hp List.not_mem_nil
  | succ n ih =>
    intro p hp
    rw [pbL3.eq_2] at hp
    split at hp
    · rename_i h
      rcases List.mem_append.mp hp with hp | hp
      · exact agreeL3 𝒱 c bd i a ha arg2 harg2 arg3 harg3 arg4 harg4 arg5 harg5 arg6 harg6 arg7 harg7 arg8 harg8 arg9 harg9 arg10 harg10 arg11 harg11 X2 XK XV x kbf h2 hk  ⟨n, h⟩ p hp
      · exact ih p hp
    · exact ih p hp

theorem memL3 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (k : Fin k0_t3_loop.trips) (p) (hp : p ∈ tripL3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV k) (n : ℕ) (hn : k.val < n) :
    p ∈ pbL3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV n := by
  induction n with
  | zero => exact absurd hn (Nat.not_lt_zero _)
  | succ n ih =>
    rw [pbL3.eq_2]
    split
    · rename_i h
      by_cases hk : k.val = n
      · subst hk; exact List.mem_append_left _ hp
      · exact List.mem_append_right _ (ih (by omega))
    · rename_i h
      exact ih (by have := k.isLt; omega)

theorem coverL3 (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (XK : BufTy.Contents (Elt F) arg8.view.ty) (XV : BufTy.Contents (Elt F) arg9.view.ty) (y : S3x2048x128.Idx) (hy : (y 0).val = 2) :
    ∃ p ∈ pbL3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 XK XV (Scf.trips k0_t3_loop.lb k0_t3_loop.ub k0_t3_loop.st), y ∈ p.1.set := by
  have h1 : (y 1).val < 2048 := (y 1).isLt
  have ht : Scf.trips k0_t3_loop.lb k0_t3_loop.ub k0_t3_loop.st = 4 := by decide
  rw [ht]
  have hk : (y 1).val % 16 / 4 < k0_t3_loop.trips := lt_of_lt_of_eq (by omega : _ < 4) (by decide)
  have hm := fun p hp => memL3 𝒱 c bd i a ha arg2 harg2 arg3 harg3 arg4 harg4 arg5 harg5 arg6 harg6 arg7 harg7 arg8 harg8 arg9 harg9 arg10 harg10 arg11 harg11 X2 XK XV ⟨(y 1).val % 16 / 4, hk⟩ p hp 4 (show (y 1).val % 16 / 4 < 4 by omega)
  rw [tripL3_eq 𝒱 c bd i a ha] at hm
  have hcc : (y 1).val % 4 = 0 ∨ (y 1).val % 4 = 1 ∨ (y 1).val % 4 = 2 ∨ (y 1).val % 4 = 3 := by omega
  rcases hcc with hcc | hcc | hcc | hcc
  · refine ⟨_, hm _ (List.mem_cons_of_mem _ (List.mem_cons_of_mem _ (List.mem_cons_of_mem _ List.mem_cons_self))), ?_⟩
    have ho := off9_0 ⟨(y 1).val % 16 / 4, hk⟩
    refine (LoadRect.mem_set _).mpr fun b => ?_
    have e : ∀ b, (k0_off9 ⟨(y 1).val % 16 / 4, hk⟩ 0#32) b = _ := fun b => congrFun ho b
    fin_cases b
    · exact ⟨0, (show 0 < 1 from Nat.one_pos), by show (y 0).val = (k0_off9 ⟨(y 1).val % 16 / 4, hk⟩ 0#32) 0 + 1 * 0; rw [e 0]; exact hy⟩
    · exact ⟨(y 1).val / 16, show (y 1).val / 16 < 128 by omega, by show (y 1).val = (k0_off9 ⟨(y 1).val % 16 / 4, hk⟩ 0#32) 1 + 16 * ((y 1).val / 16); rw [e 1]; show (y 1).val = 4 * ((y 1).val % 16 / 4) + 0 + 16 * ((y 1).val / 16); omega⟩
    · exact ⟨(y 2).val, (y 2).isLt, by show (y 2).val = (k0_off9 ⟨(y 1).val % 16 / 4, hk⟩ 0#32) 2 + 1 * (y 2).val; rw [e 2]; show (y 2).val = 0 + 1 * (y 2).val; omega⟩
  · refine ⟨_, hm _ (List.mem_cons_of_mem _ (List.mem_cons_of_mem _ List.mem_cons_self)), ?_⟩
    have ho := off9_1 ⟨(y 1).val % 16 / 4, hk⟩
    refine (LoadRect.mem_set _).mpr fun b => ?_
    have e : ∀ b, (k0_off9 ⟨(y 1).val % 16 / 4, hk⟩ 1#32) b = _ := fun b => congrFun ho b
    fin_cases b
    · exact ⟨0, (show 0 < 1 from Nat.one_pos), by show (y 0).val = (k0_off9 ⟨(y 1).val % 16 / 4, hk⟩ 1#32) 0 + 1 * 0; rw [e 0]; exact hy⟩
    · exact ⟨(y 1).val / 16, show (y 1).val / 16 < 128 by omega, by show (y 1).val = (k0_off9 ⟨(y 1).val % 16 / 4, hk⟩ 1#32) 1 + 16 * ((y 1).val / 16); rw [e 1]; show (y 1).val = 4 * ((y 1).val % 16 / 4) + 1 + 16 * ((y 1).val / 16); omega⟩
    · exact ⟨(y 2).val, (y 2).isLt, by show (y 2).val = (k0_off9 ⟨(y 1).val % 16 / 4, hk⟩ 1#32) 2 + 1 * (y 2).val; rw [e 2]; show (y 2).val = 0 + 1 * (y 2).val; omega⟩
  · refine ⟨_, hm _ (List.mem_cons_of_mem _ List.mem_cons_self), ?_⟩
    have ho := off9_2 ⟨(y 1).val % 16 / 4, hk⟩
    refine (LoadRect.mem_set _).mpr fun b => ?_
    have e : ∀ b, (k0_off9 ⟨(y 1).val % 16 / 4, hk⟩ 2#32) b = _ := fun b => congrFun ho b
    fin_cases b
    · exact ⟨0, (show 0 < 1 from Nat.one_pos), by show (y 0).val = (k0_off9 ⟨(y 1).val % 16 / 4, hk⟩ 2#32) 0 + 1 * 0; rw [e 0]; exact hy⟩
    · exact ⟨(y 1).val / 16, show (y 1).val / 16 < 128 by omega, by show (y 1).val = (k0_off9 ⟨(y 1).val % 16 / 4, hk⟩ 2#32) 1 + 16 * ((y 1).val / 16); rw [e 1]; show (y 1).val = 4 * ((y 1).val % 16 / 4) + 2 + 16 * ((y 1).val / 16); omega⟩
    · exact ⟨(y 2).val, (y 2).isLt, by show (y 2).val = (k0_off9 ⟨(y 1).val % 16 / 4, hk⟩ 2#32) 2 + 1 * (y 2).val; rw [e 2]; show (y 2).val = 0 + 1 * (y 2).val; omega⟩
  · refine ⟨_, hm _ List.mem_cons_self, ?_⟩
    have ho := off9_3 ⟨(y 1).val % 16 / 4, hk⟩
    refine (LoadRect.mem_set _).mpr fun b => ?_
    have e : ∀ b, (k0_off9 ⟨(y 1).val % 16 / 4, hk⟩ 3#32) b = _ := fun b => congrFun ho b
    fin_cases b
    · exact ⟨0, (show 0 < 1 from Nat.one_pos), by show (y 0).val = (k0_off9 ⟨(y 1).val % 16 / 4, hk⟩ 3#32) 0 + 1 * 0; rw [e 0]; exact hy⟩
    · exact ⟨(y 1).val / 16, show (y 1).val / 16 < 128 by omega, by show (y 1).val = (k0_off9 ⟨(y 1).val % 16 / 4, hk⟩ 3#32) 1 + 16 * ((y 1).val / 16); rw [e 1]; show (y 1).val = 4 * ((y 1).val % 16 / 4) + 3 + 16 * ((y 1).val / 16); omega⟩
    · exact ⟨(y 2).val, (y 2).isLt, by show (y 2).val = (k0_off9 ⟨(y 1).val % 16 / 4, hk⟩ 3#32) 2 + 1 * (y 2).val; rw [e 2]; show (y 2).val = 0 + 1 * (y 2).val; omega⟩

end Cert.KernelIdeal.Attn

end

end
-- ==== Proof.Attn.Mix.lean ====
/-
  The mixture of the three groups: what the last loop stores, and the point's block of the result as a function of the
  point's queries, keys and values.
-/
module

public import proofs.«01_k».proof.Proof.Attn.Values

@[expose] public section

set_option maxRecDepth 16384
set_option maxHeartbeats 200000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A tile of 256 rows of one group of a buffer. -/
def tile (G : S3x2048x128.Idx → Elt F .f32) (g : Fin 3) (i : ℕ) : Vec F S1x256x128 .f32 :=
  fun y => G (ix3 g ⟨(256 * i + (y 1).val) % 2048, Nat.mod_lt _ (by decide)⟩ (y 2))

/-- The mixed outputs of one group over a tile. -/
def mixed (g : ℕ) (l0 l1 l2 o : Vec F S1x256x128 .f32) : FVec F S256x128 .bf16 :=
  match g with
  | 0 => k0_pay266 l0 l1 l2 o
  | 1 => k0_pay267 l0 l1 l2 o
  | _ => k0_pay2 (k0_pay268 l0 l1 l2 o)

/-- One entry of the block of the result: row `r` of the `i`-th tile, lane `l` of the `g`-th group. -/
def outAt (O L : S3x2048x128.Idx → Elt F .f32) (g : Fin 3) (i : ℕ) (r : Fin 256) (l : Fin 128) : Elt F .bf16 :=
  mixed g.val (tile L 0 i) (tile L 1 i) (tile L 2 i) (tile O g i) (ix2 r l)

theorem outAt_congr (O L : S3x2048x128.Idx → Elt F .f32) {g g' : Fin 3} {i i' : ℕ} {r r' : Fin 256} {l l' : Fin 128}
    (hg : g = g') (hi : i = i') (hr : r = r') (hl : l = l') : outAt O L g i r l = outAt O L g' i' r' l' := by
  subst hg hi hr hl; rfl

/-- The block of the result, from the two buffers. -/
def outB (O L : S3x2048x128.Idx → Elt F .f32) : S2048x384.Idx → Elt F .bf16 := fun y =>
  outAt O L ⟨(y 1).val / 128 % 3, Nat.mod_lt _ (by decide)⟩ ((y 0).val / 256) ⟨(y 0).val % 256, Nat.mod_lt _ (by decide)⟩
    ⟨(y 1).val % 128, Nat.mod_lt _ (by decide)⟩

theorem off10 : ∀ k : Fin k0_t4_loop.trips, k0_off10 k = ![0, 256 * k.val, 0] := by decide +kernel
theorem off11 : ∀ k : Fin k0_t4_loop.trips, k0_off11 k = ![1, 256 * k.val, 0] := by decide +kernel
theorem off12 : ∀ k : Fin k0_t4_loop.trips, k0_off12 k = ![2, 256 * k.val, 0] := by decide +kernel
theorem off13 : ∀ k : Fin k0_t4_loop.trips, k0_off13 k = ![256 * k.val, 0] := by decide +kernel
theorem off14 : ∀ k : Fin k0_t4_loop.trips, k0_off14 k = ![256 * k.val, 128] := by decide +kernel
theorem off15 : ∀ k : Fin k0_t4_loop.trips, k0_off15 k = ![256 * k.val, 256] := by decide +kernel

theorem tile_read {arg : Memref sig .tc .vmem S3x2048x128 .f32} {X : BufTy.Contents (Elt F) arg.view.ty} {G : S3x2048x128.Idx → Elt F .f32}
    (hX : ∀ y, arg.view.read (Elt F) X y = G y) (g : Fin 3) (i : ℕ) (hi : i < 8) (off : Fin 3 → ℕ) (inb) (ho : off = ![g.val, 256 * i, 0]) :
    arg.view.readAt (Elt F) (Rect.unit (s := S3x2048x128) off S1x256x128.size inb).toLoadRect X = tile G g i := by
  subst ho
  funext y
  have h0 : (y 0).val < 1 := (y 0).isLt
  have h1 : (y 1).val < 256 := (y 1).isLt
  rw [View.readAt_apply, hX]
  refine congrArg G (funext fun b => ?_)
  fin_cases b
  · exact Fin.ext (show g.val + 1 * (y 0).val = g.val by omega)
  · exact Fin.ext (show 256 * i + 1 * (y 1).val = (256 * i + (y 1).val) % 2048 by omega)
  · exact Fin.ext (show 0 + 1 * (y 2).val = (y 2).val by omega)

theorem trip4_eq (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X10 : BufTy.Contents (Elt F) arg10.view.ty) (X11 : BufTy.Contents (Elt F) arg11.view.ty) (k : Fin k0_t4_loop.trips) :
    tripL_k0_t4 (F := F) 𝒱 c bd i arg2 harg2 arg3 harg3 arg4 harg4 arg5 harg5 arg6 harg6 arg7 harg7 arg8 harg8 arg9 harg9 arg10 harg10 arg11 harg11 X10 X11 k = [⟨Rect.unit (s := S2048x384) (k0_off15 k) S256x128.size (k0_off15_inb k), mixed 2 (arg11.view.readAt (Elt F) (Rect.unit (s := S3x2048x128) (k0_off10 k) S1x256x128.size (k0_off10_inb k)).toLoadRect X11) (arg11.view.readAt (Elt F) (Rect.unit (s := S3x2048x128) (k0_off11 k) S1x256x128.size (k0_off11_inb k)).toLoadRect X11) (arg11.view.readAt (Elt F) (Rect.unit (s := S3x2048x128) (k0_off12 k) S1x256x128.size (k0_off12_inb k)).toLoadRect X11) (arg10.view.readAt (Elt F) (Rect.unit (s := S3x2048x128) (k0_off12 k) S1x256x128.size (k0_off12_inb k)).toLoadRect X10)⟩, ⟨Rect.unit (s := S2048x384) (k0_off14 k) S256x128.size (k0_off14_inb k), mixed 1 (arg11.view.readAt (Elt F) (Rect.unit (s := S3x2048x128) (k0_off10 k) S1x256x128.size (k0_off10_inb k)).toLoadRect X11) (arg11.view.readAt (Elt F) (Rect.unit (s := S3x2048x128) (k0_off11 k) S1x256x128.size (k0_off11_inb k)).toLoadRect X11) (arg11.view.readAt (Elt F) (Rect.unit (s := S3x2048x128) (k0_off12 k) S1x256x128.size (k0_off12_inb k)).toLoadRect X11) (arg10.view.readAt (Elt F) (Rect.unit (s := S3x2048x128) (k0_off11 k) S1x256x128.size (k0_off11_inb k)).toLoadRect X10)⟩, ⟨Rect.unit (s := S2048x384) (k0_off13 k) S256x128.size (k0_off13_inb k), mixed 0 (arg11.view.readAt (Elt F) (Rect.unit (s := S3x2048x128) (k0_off10 k) S1x256x128.size (k0_off10_inb k)).toLoadRect X11) (arg11.view.readAt (Elt F) (Rect.unit (s := S3x2048x128) (k0_off11 k) S1x256x128.size (k0_off11_inb k)).toLoadRect X11) (arg11.view.readAt (Elt F) (Rect.unit (s := S3x2048x128) (k0_off12 k) S1x256x128.size (k0_off12_inb k)).toLoadRect X11) (arg10.view.readAt (Elt F) (Rect.unit (s := S3x2048x128) (k0_off10 k) S1x256x128.size (k0_off10_inb k)).toLoadRect X10)⟩] := by
  unfold tripL_k0_t4 trip_k0_t4
  dsimp only [trip_k0_t4.sl.arg12, trip_k0_t4.sl.v101, trip_k0_t4.sl.v102, trip_k0_t4.sl.v103, trip_k0_t4.sl.v62, trip_k0_t4.sl.v64, trip_k0_t4.sl.v66, trip_k0_t4.sl.v69, trip_k0_t4.sl.v72, trip_k0_t4.sl.v73, trip_k0_t4.sl.v74, trip_k0_t4.sl.v75, trip_k0_t4.sl.v76, trip_k0_t4.sl.v77, trip_k0_t4.sl.v78, trip_k0_t4.sl.v79, trip_k0_t4.sl.v80, trip_k0_t4.sl.v81, trip_k0_t4.sl.v82, trip_k0_t4.sl.v85, trip_k0_t4.sl.v86, trip_k0_t4.sl.v87, trip_k0_t4.sl.v88, trip_k0_t4.sl.v93, trip_k0_t4.sl.v94, trip_k0_t4.sl.v95, trip_k0_t4.sl.v96]
  dsimp only [k0_pay2, k0_pay258, k0_pay259, k0_pay260, k0_pay261, k0_pay262, k0_pay263, k0_pay264, k0_pay265, k0_pay266, k0_pay267, k0_pay268, mixed]
  rfl

theorem mixed_piece (O L : S3x2048x128.Idx → Elt F .f32) (g : Fin 3) (i : ℕ) (hi : i < 8) (off : Fin 2 → ℕ) (inb) (ho : off = ![256 * i, 128 * g.val]) (y : S256x128.Idx) :
    mixed g.val (tile L 0 i) (tile L 1 i) (tile L 2 i) (tile O g i) y = outB O L ((Rect.unit (s := S2048x384) off S256x128.size inb).emb y) := by
  subst ho
  have h0 : (y 0).val < 256 := (y 0).isLt
  have h1 : (y 1).val < 128 := (y 1).isLt
  have hg := g.isLt
  have e1 : (128 * g.val + 1 * (y 1).val) / 128 % 3 = g.val := by omega
  have e2 : (256 * i + 1 * (y 0).val) / 256 = i := by omega
  have e3 : (256 * i + 1 * (y 0).val) % 256 = (y 0).val := by omega
  have e4 : (128 * g.val + 1 * (y 1).val) % 128 = (y 1).val := by omega
  refine Eq.trans (congrArg _ (ValueIdx.eq_ix2 y)) (outAt_congr O L (i := i) (g := g) (r := y 0) (l := y 1) ?_ ?_ ?_ ?_)
  · exact Fin.ext e1.symm
  · exact e2.symm
  · exact Fin.ext e3.symm
  · exact Fin.ext e4.symm

attribute [local irreducible] mixed tile k0_off10 k0_off11 k0_off12 k0_off13 k0_off14 k0_off15

theorem agree4 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X10 : BufTy.Contents (Elt F) arg10.view.ty) (X11 : BufTy.Contents (Elt F) arg11.view.ty) (O L : S3x2048x128.Idx → Elt F .f32)
    (hO : ∀ y, arg10.view.read (Elt F) X10 y = O y) (hL : ∀ y, arg11.view.read (Elt F) X11 y = L y) (k : Fin k0_t4_loop.trips) :
    ∀ p ∈ tripL_k0_t4 (F := F) 𝒱 c bd i arg2 harg2 arg3 harg3 arg4 harg4 arg5 harg5 arg6 harg6 arg7 harg7 arg8 harg8 arg9 harg9 arg10 harg10 arg11 harg11 X10 X11 k, ∀ y : p.1.shape.Idx, p.2 y = outB O L (p.1.emb y) := by
  have hk8 : k.val < 8 := Nat.lt_of_lt_of_le k.isLt (by decide)
  rw [trip4_eq]
  intro p hp
  have t0 := tile_read hL 0 k.val hk8 (k0_off10 k) (k0_off10_inb k) (off10 k)
  have t1 := tile_read hL 1 k.val hk8 (k0_off11 k) (k0_off11_inb k) (off11 k)
  have t2 := tile_read hL 2 k.val hk8 (k0_off12 k) (k0_off12_inb k) (off12 k)
  have o0 := tile_read hO 0 k.val hk8 (k0_off10 k) (k0_off10_inb k) (off10 k)
  have o1 := tile_read hO 1 k.val hk8 (k0_off11 k) (k0_off11_inb k) (off11 k)
  have o2 := tile_read hO 2 k.val hk8 (k0_off12 k) (k0_off12_inb k) (off12 k)
  rw [t0, t1, t2, o0, o1, o2] at hp
  simp only [List.mem_cons, List.not_mem_nil, or_false] at hp
  rcases hp with rfl | rfl | rfl
  · exact fun y => mixed_piece O L 2 k.val hk8 (k0_off15 k) (k0_off15_inb k) (off15 k) y
  · exact fun y => mixed_piece O L 1 k.val hk8 (k0_off14 k) (k0_off14_inb k) (off14 k) y
  · exact fun y => mixed_piece O L 0 k.val hk8 (k0_off13 k) (k0_off13_inb k) (off13 k) y

theorem agreeAll4 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X10 : BufTy.Contents (Elt F) arg10.view.ty) (X11 : BufTy.Contents (Elt F) arg11.view.ty) (O L : S3x2048x128.Idx → Elt F .f32)
    (hO : ∀ y, arg10.view.read (Elt F) X10 y = O y) (hL : ∀ y, arg11.view.read (Elt F) X11 y = L y) (n : ℕ) :
    ∀ p ∈ pb_k0_t4 (F := F) 𝒱 c bd i arg2 harg2 arg3 harg3 arg4 harg4 arg5 harg5 arg6 harg6 arg7 harg7 arg8 harg8 arg9 harg9 arg10 harg10 arg11 harg11 X10 X11 n, ∀ y : p.1.shape.Idx, p.2 y = outB O L (p.1.emb y) := by
  induction n with
  | zero => intro p hp; exact absurd hp List.not_mem_nil
  | succ n ih =>
    intro p hp
    by_cases h : n < k0_t4_loop.trips
    · have e := pb_k0_t4_succ (F := F) 𝒱 c bd i arg2 harg2 arg3 harg3 arg4 harg4 arg5 harg5 arg6 harg6 arg7 harg7 arg8 harg8 arg9 harg9 arg10 harg10 arg11 harg11 X10 X11 ⟨n, h⟩
      rw [show n + 1 = (⟨n, h⟩ : Fin k0_t4_loop.trips).val + 1 from rfl, e] at hp
      rcases List.mem_append.mp hp with hp | hp
      · exact agree4 𝒱 c bd i arg2 harg2 arg3 harg3 arg4 harg4 arg5 harg5 arg6 harg6 arg7 harg7 arg8 harg8 arg9 harg9 arg10 harg10 arg11 harg11 X10 X11 O L hO hL ⟨n, h⟩ p hp
      · exact ih p hp
    · rw [pb_k0_t4.eq_2] at hp
      unfold pb_k0_t4Step at hp
      rw [dif_neg h] at hp
      exact ih p hp

theorem mem4 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X10 : BufTy.Contents (Elt F) arg10.view.ty) (X11 : BufTy.Contents (Elt F) arg11.view.ty) (k : Fin k0_t4_loop.trips) (p) (hp : p ∈ tripL_k0_t4 (F := F) 𝒱 c bd i arg2 harg2 arg3 harg3 arg4 harg4 arg5 harg5 arg6 harg6 arg7 harg7 arg8 harg8 arg9 harg9 arg10 harg10 arg11 harg11 X10 X11 k) (n : ℕ) (hn : k.val < n) :
    p ∈ pb_k0_t4 (F := F) 𝒱 c bd i arg2 harg2 arg3 harg3 arg4 harg4 arg5 harg5 arg6 harg6 arg7 harg7 arg8 harg8 arg9 harg9 arg10 harg10 arg11 harg11 X10 X11 n := by
  induction n with
  | zero => exact absurd hn (Nat.not_lt_zero _)
  | succ n ih =>
    by_cases h : n < k0_t4_loop.trips
    · have e := pb_k0_t4_succ (F := F) 𝒱 c bd i arg2 harg2 arg3 harg3 arg4 harg4 arg5 harg5 arg6 harg6 arg7 harg7 arg8 harg8 arg9 harg9 arg10 harg10 arg11 harg11 X10 X11 ⟨n, h⟩
      rw [show n + 1 = (⟨n, h⟩ : Fin k0_t4_loop.trips).val + 1 from rfl, e]
      by_cases hk : k.val = n
      · subst hk; exact List.mem_append_left _ hp
      · exact List.mem_append_right _ (ih (by omega))
    · rw [pb_k0_t4.eq_2]
      unfold pb_k0_t4Step
      rw [dif_neg h]
      exact ih (by have := k.isLt; omega)

theorem cover4 (𝒱 : Variants) (c : Dev nD) (bd : Option 𝒱.V) (i : grid0.Coords) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X10 : BufTy.Contents (Elt F) arg10.view.ty) (X11 : BufTy.Contents (Elt F) arg11.view.ty) (y : S2048x384.Idx) :
    ∃ p ∈ pb_k0_t4 (F := F) 𝒱 c bd i arg2 harg2 arg3 harg3 arg4 harg4 arg5 harg5 arg6 harg6 arg7 harg7 arg8 harg8 arg9 harg9 arg10 harg10 arg11 harg11 X10 X11 (Scf.trips k0_t4_loop.lb k0_t4_loop.ub k0_t4_loop.st), y ∈ p.1.set := by
  have h0 : (y 0).val < 2048 := (y 0).isLt
  have h1 : (y 1).val < 384 := (y 1).isLt
  have ht : Scf.trips k0_t4_loop.lb k0_t4_loop.ub k0_t4_loop.st = 8 := by decide
  rw [ht]
  have hk : (y 0).val / 256 < k0_t4_loop.trips := lt_of_lt_of_eq (by omega : _ < 8) (by decide)
  have hm := fun p hp => mem4 𝒱 c bd i arg2 harg2 arg3 harg3 arg4 harg4 arg5 harg5 arg6 harg6 arg7 harg7 arg8 harg8 arg9 harg9 arg10 harg10 arg11 harg11 X10 X11 ⟨(y 0).val / 256, hk⟩ p hp 8 (show (y 0).val / 256 < 8 by omega)
  rw [trip4_eq] at hm
  have hcc : (y 1).val / 128 = 0 ∨ (y 1).val / 128 = 1 ∨ (y 1).val / 128 = 2 := by omega
  rcases hcc with hcc | hcc | hcc
  · refine ⟨_, hm _ (List.mem_cons_of_mem _ (List.mem_cons_of_mem _ List.mem_cons_self)), ?_⟩
    have e : ∀ b, (k0_off13 ⟨(y 0).val / 256, hk⟩) b = _ := fun b => congrFun (off13 ⟨(y 0).val / 256, hk⟩) b
    refine (LoadRect.mem_set _).mpr fun b => ?_
    fin_cases b
    · exact ⟨(y 0).val % 256, show (y 0).val % 256 < 256 by omega, by show (y 0).val = (k0_off13 ⟨(y 0).val / 256, hk⟩) 0 + 1 * ((y 0).val % 256); rw [e 0]; show (y 0).val = 256 * ((y 0).val / 256) + 1 * ((y 0).val % 256); omega⟩
    · exact ⟨(y 1).val % 128, show (y 1).val % 128 < 128 by omega, by show (y 1).val = (k0_off13 ⟨(y 0).val / 256, hk⟩) 1 + 1 * ((y 1).val % 128); rw [e 1]; show (y 1).val = 0 + 1 * ((y 1).val % 128); omega⟩
  · refine ⟨_, hm _ (List.mem_cons_of_mem _ List.mem_cons_self), ?_⟩
    have e : ∀ b, (k0_off14 ⟨(y 0).val / 256, hk⟩) b = _ := fun b => congrFun (off14 ⟨(y 0).val / 256, hk⟩) b
    refine (LoadRect.mem_set _).mpr fun b => ?_
    fin_cases b
    · exact ⟨(y 0).val % 256, show (y 0).val % 256 < 256 by omega, by show (y 0).val = (k0_off14 ⟨(y 0).val / 256, hk⟩) 0 + 1 * ((y 0).val % 256); rw [e 0]; show (y 0).val = 256 * ((y 0).val / 256) + 1 * ((y 0).val % 256); omega⟩
    · exact ⟨(y 1).val % 128, show (y 1).val % 128 < 128 by omega, by show (y 1).val = (k0_off14 ⟨(y 0).val / 256, hk⟩) 1 + 1 * ((y 1).val % 128); rw [e 1]; show (y 1).val = 128 + 1 * ((y 1).val % 128); omega⟩
  · refine ⟨_, hm _ List.mem_cons_self, ?_⟩
    have e : ∀ b, (k0_off15 ⟨(y 0).val / 256, hk⟩) b = _ := fun b => congrFun (off15 ⟨(y 0).val / 256, hk⟩) b
    refine (LoadRect.mem_set _).mpr fun b => ?_
    fin_cases b
    · exact ⟨(y 0).val % 256, show (y 0).val % 256 < 256 by omega, by show (y 0).val = (k0_off15 ⟨(y 0).val / 256, hk⟩) 0 + 1 * ((y 0).val % 256); rw [e 0]; show (y 0).val = 256 * ((y 0).val / 256) + 1 * ((y 0).val % 256); omega⟩
    · exact ⟨(y 1).val % 128, show (y 1).val % 128 < 128 by omega, by show (y 1).val = (k0_off15 ⟨(y 0).val / 256, hk⟩) 1 + 1 * ((y 1).val % 128); rw [e 1]; show (y 1).val = 256 + 1 * ((y 1).val % 128); omega⟩

end Cert.KernelIdeal.Attn

end

end
-- ==== Proof.Attn.Spec.lean ====
/-
  The dilated attention as a function of the layer's queries, keys and values, row by row over the extended reals: what
  both programs are shown to compute.
-/
module

public import Idealize.ShloMosaic.Lib.IdealHost

@[expose] public section

noncomputable section

namespace Cert.AttnSpec

open Idealize.ShloMosaic

/-! ## A row of scores -/

/-- The largest of a row of scores. -/
def rowMax (s : Fin 256 → EReal) : EReal := (Finset.univ : Finset (Fin 256)).fold max ⊥ s
/-- The exponentials of a row of scores, taken from the largest. -/
def rowExp (s : Fin 256 → EReal) (k : Fin 256) : EReal := Ideal.exp (s k - rowMax s)
/-- Their sum. -/
def rowDen (s : Fin 256 → EReal) : EReal := ∑ k : Fin 256, rowExp s k
/-- The logarithm of the sum of the exponentials of the scores. -/
def rowLse (s : Fin 256 → EReal) : EReal := rowMax s + Ideal.log (rowDen s)

/-- The weights of the three groups, from their logarithms: the softmax over the groups. -/
def mixMax (l : Fin 3 → EReal) : EReal := max (max (l 0) (l 1)) (l 2)
def mixExp (l : Fin 3 → EReal) (g : Fin 3) : EReal := Ideal.exp (l g - mixMax l)
def mixDen (l : Fin 3 → EReal) : EReal := mixExp l 0 + mixExp l 1 + mixExp l 2

theorem neg_inf : Ideal.ofBits .f32 0xFF800000#32 = ⊥ := by simp [Ideal.ofBits, Ideal.ieee]

/-! ## Comparisons of small numbers held as words -/

theorem toInt_small (n : ℕ) (hn : n < 2 ^ 31) : (BitVec.ofNat 32 n).toInt = n := by
  rw [BitVec.toInt_ofNat']; simp only [Int.bmod]; omega
theorem sge_nat (a b : ℕ) (ha : a < 2 ^ 31) (hb : b < 2 ^ 31) :
    IntOp.cmpi .sge (BitVec.ofNat 32 a) (BitVec.ofNat 32 b) = if b ≤ a then 1#1 else 0#1 := by
  show BitVec.ofBool (decide ((BitVec.ofNat 32 b).toInt ≤ (BitVec.ofNat 32 a).toInt)) = _
  rw [toInt_small a ha, toInt_small b hb]
  by_cases h : b ≤ a <;> simp [h]
theorem sle_nat (a b : ℕ) (ha : a < 2 ^ 31) (hb : b < 2 ^ 31) :
    IntOp.cmpi .sle (BitVec.ofNat 32 a) (BitVec.ofNat 32 b) = if a ≤ b then 1#1 else 0#1 := sge_nat b a hb ha
theorem sgt_nat (a b : ℕ) (ha : a < 2 ^ 31) (hb : b < 2 ^ 31) :
    IntOp.cmpi .sgt (BitVec.ofNat 32 a) (BitVec.ofNat 32 b) = if b < a then 1#1 else 0#1 := by
  show BitVec.ofBool (decide ((BitVec.ofNat 32 b).toInt < (BitVec.ofNat 32 a).toInt)) = _
  rw [toInt_small a ha, toInt_small b hb]
  by_cases h : b < a <;> simp [h]
theorem add_nat (a b : ℕ) : IntOp.addi (BitVec.ofNat 32 a) (BitVec.ofNat 32 b) = BitVec.ofNat 32 (a + b) :=
  (BitVec.ofNat_add a b).symm

/-- The band of 128 keys back and the keys that exist, as one word of one bit. -/
theorem band_word (p : BitVec 1) (r k : ℕ) (hr : r < 128) (hk : k < 256) :
    IntOp.andi (IntOp.andi (IntOp.cmpi .sge (BitVec.ofNat 32 k) (BitVec.ofNat 32 r))
      (IntOp.cmpi .sle (BitVec.ofNat 32 k) (IntOp.addi (BitVec.ofNat 32 r) 128#32)))
      (IntOp.ori (IntOp.cmpi .sge (BitVec.ofNat 32 k) 128#32) p)
      = if r ≤ k ∧ k ≤ r + 128 ∧ (128 ≤ k ∨ p = 1#1) then 1#1 else 0#1 := by
  rw [add_nat r 128, sge_nat k r (by omega) (by omega), sle_nat k (r + 128) (by omega) (by omega), sge_nat k 128 (by omega) (by omega)]
  by_cases h1 : r ≤ k <;> by_cases h2 : k ≤ r + 128 <;> by_cases h3 : 128 ≤ k <;> simp only [h1, h2, h3, if_true, if_false, true_and, false_and, and_true, and_false, true_or, false_or, or_true] <;>
    revert p <;> decide

/-! ## The attention -/

/-- The lane `e` of head `h`. -/
def lane (h : Fin 2) (e : Fin 64) : Fin 128 := ⟨64 * h.val + e.val, by omega⟩

/-- The scale of the scores, an eighth. -/
def eighth : EReal := Ideal.ofBits .f32 0x3E000000#32

/-- The dilation of each group. -/
def step (g : Fin 3) : ℕ := if g.val = 0 then 1 else if g.val = 1 then 4 else 16

/-- The `kk`th row that row `R` of the 32768 may look at: the 128 rows of its residue in the window before its own, then
    the 128 of its own; before the first window of a sequence there are zeros. -/
def past (d : ℕ) (x : ℕ → Fin 128 → EReal) (R : ℕ) (kk : Fin 256) (l : Fin 128) : EReal :=
  if R % 4096 / (128 * d) = 0 ∧ kk.val < 128 then 0 else x (R - R % (128 * d) + R % d + d * kk.val - 128 * d) l

/-- Whether it does: it is at most 128 steps back, and not before the sequence. -/
def seen (d R : ℕ) (kk : Fin 256) : Prop :=
  R % (128 * d) / d ≤ kk.val ∧ kk.val ≤ R % (128 * d) / d + 128 ∧ (128 ≤ kk.val ∨ ¬ R % 4096 / (128 * d) = 0)

instance (d R : ℕ) (kk : Fin 256) : Decidable (seen d R kk) := by unfold seen; infer_instance

/-- The scores of row `R` in a group, head `h`. -/
def sc (g : Fin 3) (X : ℕ → ℕ → Fin 128 → EReal) (R : ℕ) (h : Fin 2) (kk : Fin 256) : EReal :=
  if seen (step g) R kk then ∑ e : Fin 64, X g.val R (lane h e) * eighth * past (step g) (X (3 + g.val)) R kk (lane h e) else ⊥

def lseAt (X : ℕ → ℕ → Fin 128 → EReal) (R : ℕ) (h : Fin 2) (g : Fin 3) : EReal := rowLse (sc g X R h)

def outAt (X : ℕ → ℕ → Fin 128 → EReal) (R : ℕ) (g : Fin 3) (h : Fin 2) (e : Fin 64) : EReal :=
  Ideal.div (∑ kk : Fin 256, rowExp (sc g X R h) kk * past (step g) (X (6 + g.val)) R kk (lane h e)) (rowDen (sc g X R h))

/-- The layer's attention: each group's output by the group's weight. -/
def result (X : ℕ → ℕ → Fin 128 → EReal) (R : ℕ) (g : Fin 3) (h : Fin 2) (e : Fin 64) : EReal :=
  outAt X R g h e * Ideal.div (mixExp (lseAt X R h) g) (mixDen (lseAt X R h))

end Cert.AttnSpec

end

end
-- ==== Proof.Attn.Unit.lean ====
/-
  One unit of the dilated attention read at an index over the extended reals: a row of scores, its largest, the
  exponentials, their sum, and the weighted sum of the values over that sum.
-/
module

public import proofs.«01_k».proof.Proof.Attn.Values
public import proofs.«01_k».proof.Proof.Attn.Mix
public import proofs.«01_k».proof.Proof.Attn.Spec
public import Idealize.ShloMosaic.Lib.Pointwise
public import Idealize.ShloMosaic.Lib.IdealHost

@[expose] public section

set_option maxRecDepth 16384
set_option maxHeartbeats 400000

noncomputable section

namespace Cert.KernelIdeal.Attn

open Cert.KernelIdeal Cert.KernelIdeal.Gen Cert.AttnSpec
open Idealize.ShloMosaic Idealize.ShloMosaic.TcCoe

theorem mask_const : (Named.named κ "mask" 0xF149F2CA#32 : Ideal .f32) = ⊥ := by rfl

/-- The scores that count, the others at minus infinity. -/
def counted (m : IVec S128x256 1) (s : FVec Ideal S128x256 .f32) (r : Fin 128) (k : Fin 256) : EReal :=
  Scalar.select (m (ix2 r k)) (s (ix2 r k)) ⊥

section
variable (m : IVec S128x256 1) (s : FVec Ideal S128x256 .f32) (r : Fin 128) (k : Fin 256)

theorem pay28_apply : k0_pay28 (F := Ideal) m s (ix2 r k) = counted m s r k := by
  pointwise [k0_pay28, counted, mask_const]
theorem pay29_apply : k0_pay29 (F := Ideal) m s (ix2 r 0) = rowMax (counted m s r) := by
  pointwise [k0_pay29, pay28_apply, rowMax, neg_inf]
theorem pay30_apply : k0_pay30 (F := Ideal) m s (ix2 r k) = rowExp (counted m s r) k := by
  pointwise [k0_pay30, pay28_apply, pay29_apply, rowExp]
theorem pay31_apply : k0_pay31 (F := Ideal) m s (ix2 r 0) = rowDen (counted m s r) := by
  pointwise [k0_pay31, pay30_apply, rowDen]
theorem pay32_apply : k0_pay32 (F := Ideal) m s (ix2 r k) = rowExp (counted m s r) k := by
  pointwise [k0_pay32, pay30_apply]
theorem pay34_apply : k0_pay34 (F := Ideal) m s (ix2 r k) = counted m s r k := by
  pointwise [k0_pay34, counted, mask_const]
theorem pay35_apply : k0_pay35 (F := Ideal) m s (ix2 r 0) = rowMax (counted m s r) := by
  pointwise [k0_pay35, pay34_apply, rowMax, neg_inf]
theorem pay36_apply : k0_pay36 (F := Ideal) m s (ix2 r k) = rowExp (counted m s r) k := by
  pointwise [k0_pay36, pay34_apply, pay35_apply, rowExp]
theorem pay37_apply : k0_pay37 (F := Ideal) m s (ix2 r 0) = rowDen (counted m s r) := by
  pointwise [k0_pay37, pay36_apply, rowDen]
theorem pay38_apply : k0_pay38 (F := Ideal) m s (ix2 r k) = rowExp (counted m s r) k := by
  pointwise [k0_pay38, pay36_apply]
theorem pay39_apply : k0_pay39 (F := Ideal) m s (ix2 r 0) = rowLse (counted m s r) := by
  pointwise [k0_pay39, pay37_apply, pay35_apply, rowLse]
theorem pay33_apply : k0_pay33 (F := Ideal) m s (ix2 r 0) = rowLse (counted m s r) := by
  pointwise [k0_pay33, pay31_apply, pay29_apply, rowLse]

end

/-! ## The scores, over the lanes of one head -/

/-- A score of one head: the scaled query against the key, over the head's lanes. -/
def score (h : Fin 2) (q : Vec Ideal S1x128x128 .f32) (k : Vec Ideal S256x128 .f32) (r : Fin 128) (kk : Fin 256) : EReal :=
  ∑ e : Fin 64, q (ix3 0 r (lane h e)) * Ideal.ofBits .f32 0x3E000000#32 * k (ix2 kk (lane h e))

theorem lowLane (r l : Fin 128) : k0_pay269 (ix2 r l) = if l.val < 64 then 1#1 else 0#1 := by
  have h : ∀ l : Fin 128, IntOp.cmpi .slt (BitVec.ofNat 32 l.val) 64#32 = if l.val < 64 then 1#1 else 0#1 := by decide +kernel
  exact (by pointwise [k0_pay269] : k0_pay269 (ix2 r l) = IntOp.cmpi .slt (BitVec.ofNat 32 l.val) 64#32).trans (h l)

theorem sum_lanes (f : Fin 128 → EReal) : ∑ l : Fin 128, f l = ∑ e : Fin 64, f (lane 0 e) + ∑ e : Fin 64, f (lane 1 e) := by
  refine (Fin.sum_univ_add (a := 64) (b := 64) f).trans (congrArg₂ _ ?_ ?_) <;>
    exact Finset.sum_congr rfl fun e _ => congrArg f (Fin.ext (by simp [lane] <;> omega))

section
variable (q : Vec Ideal S1x128x128 .f32) (k : Vec Ideal S256x128 .f32) (r : Fin 128) (kk : Fin 256)

theorem score_first : unitS0 (F := Ideal) q k (ix2 r kk) = score 0 q k r kk := by
  have h : unitS0 (F := Ideal) q k (ix2 r kk) = ∑ l : Fin 128,
      Scalar.select (k0_pay269 (ix2 r l)) (q (ix3 0 r l) * Ideal.ofBits .f32 0x3E000000#32) 0 * k (ix2 kk l) := by
    pointwise [unitS0, k0_pay19, k0_pay4, k0_pay5, Ideal.ofBits_zero_f32]
  rw [h, sum_lanes]
  have z : ∑ e : Fin 64, Scalar.select (k0_pay269 (ix2 r (lane 1 e))) (q (ix3 0 r (lane 1 e)) * Ideal.ofBits .f32 0x3E000000#32) 0
      * k (ix2 kk (lane 1 e)) = 0 := Finset.sum_eq_zero fun e _ => by
    rw [lowLane, if_neg (by simp [lane]), show Scalar.select (0#1) (_ : EReal) 0 = 0 from rfl, zero_mul]
  rw [z, add_zero]
  refine Finset.sum_congr rfl fun e _ => ?_
  rw [lowLane, if_pos (by simp [lane])]
  rfl

theorem score_second : unitS1 (F := Ideal) q k (ix2 r kk) = score 1 q k r kk := by
  have h : unitS1 (F := Ideal) q k (ix2 r kk) = ∑ l : Fin 128,
      Scalar.select (IntOp.xori (k0_pay269 (ix2 r l)) 1#1) (q (ix3 0 r l) * Ideal.ofBits .f32 0x3E000000#32) 0 * k (ix2 kk l) := by
    pointwise [unitS1, k0_pay20, k0_pay4, k0_pay5, Ideal.ofBits_zero_f32]
  rw [h, sum_lanes]
  have z : ∑ e : Fin 64, Scalar.select (IntOp.xori (k0_pay269 (ix2 r (lane 0 e))) 1#1) (q (ix3 0 r (lane 0 e)) * Ideal.ofBits .f32 0x3E000000#32) 0
      * k (ix2 kk (lane 0 e)) = 0 := Finset.sum_eq_zero fun e _ => by
    rw [lowLane, if_pos (by simp [lane]), show Scalar.select (IntOp.xori 1#1 1#1) (_ : EReal) 0 = 0 from rfl, zero_mul]
  rw [z, zero_add]
  refine Finset.sum_congr rfl fun e _ => ?_
  rw [lowLane, if_neg (by simp [lane])]
  rfl

/-- The scores of one head that count, the others at minus infinity. -/
def scores (m : IVec S128x256 1) (h : Fin 2) (kk : Fin 256) : EReal := Scalar.select (m (ix2 r kk)) (score h q k r kk) ⊥

theorem kept_first (m : IVec S128x256 1) : counted m (unitS0 q k) r = scores q k r m 0 := by
  funext kk; unfold counted scores; rw [score_first]
theorem kept_second (m : IVec S128x256 1) : counted m (unitS1 q k) r = scores q k r m 1 := by
  funext kk; unfold counted scores; rw [score_second]

/-- An output of the unit, at a lane of a head. -/
theorem unitO_apply (m : IVec S128x256 1) (v : Vec Ideal S256x128 .f32) (h : Fin 2) (e : Fin 64) :
    unitO (F := Ideal) m q k v (ix3 0 r (lane h e)) = Ideal.div (∑ kk : Fin 256, rowExp (scores q k r m h) kk * v (ix2 kk (lane h e)))
      (rowDen (scores q k r m h)) := by
  have o : unitO (F := Ideal) m q k v (ix3 0 r (lane h e)) = Scalar.select (k0_pay269 (ix2 r (lane h e)))
      (Ideal.div (∑ kk : Fin 256, rowExp (counted m (unitS0 q k) r) kk * v (ix2 kk (lane h e))) (rowDen (counted m (unitS0 q k) r)))
      (Ideal.div (∑ kk : Fin 256, rowExp (counted m (unitS1 q k) r) kk * v (ix2 kk (lane h e))) (rowDen (counted m (unitS1 q k) r))) := by
    pointwise [unitO, k0_pay78, k0_pay6, pay31_apply, pay32_apply, pay37_apply, pay38_apply]
  rw [o, lowLane, kept_first, kept_second]
  fin_cases h
  · rw [if_pos (by simp [lane])]; rfl
  · rw [if_neg (by simp [lane])]; rfl

/-- The logarithm of the denominator, at a lane of a head. -/
theorem unitL_apply (m : IVec S128x256 1) (h : Fin 2) (e : Fin 64) :
    unitL (F := Ideal) m q k (ix3 0 r (lane h e)) = rowLse (scores q k r m h) := by
  have o : unitL (F := Ideal) m q k (ix3 0 r (lane h e)) = Scalar.select (k0_pay269 (ix2 r (lane h e)))
      (rowLse (counted m (unitS0 q k) r)) (rowLse (counted m (unitS1 q k) r)) := by
    pointwise [unitL, k0_pay79, pay33_apply, pay39_apply]
  rw [o, lowLane, kept_first, kept_second]
  fin_cases h
  · rw [if_pos (by simp [lane])]; rfl
  · rw [if_neg (by simp [lane])]; rfl

end

/-- Which scores count, as numbers. -/
theorem maskOf_apply (b : BitVec 1) (r : Fin 128) (kk : Fin 256) :
    maskOf b (ix2 r kk) = if r.val ≤ kk.val ∧ kk.val ≤ r.val + 128 ∧ (128 ≤ kk.val ∨ b = 1#1) then 1#1 else 0#1 := by
  refine Eq.trans ?_ (band_word b r.val kk.val r.isLt kk.isLt)
  pointwise [maskOf, colIx, k0_pay270]

/-- An entry of the mixed outputs: the group's output by the group's weight. -/
theorem mixed_apply (g : Fin 3) (l0 l1 l2 o : Vec Ideal S1x256x128 .f32) (r : Fin 256) (l : Fin 128) :
    mixed (F := Ideal) g.val l0 l1 l2 o (ix2 r l) = o (ix3 0 r l) *
      Ideal.div (mixExp ![l0 (ix3 0 r l), l1 (ix3 0 r l), l2 (ix3 0 r l)] g) (mixDen ![l0 (ix3 0 r l), l1 (ix3 0 r l), l2 (ix3 0 r l)]) := by
  fin_cases g
  · show k0_pay266 (F := Ideal) l0 l1 l2 o (ix2 r l) = _
    pointwise [k0_pay266, k0_pay258, k0_pay259, k0_pay260, k0_pay261, k0_pay262, k0_pay263, k0_pay264, k0_pay265, mixMax, mixExp, mixDen]
  · show k0_pay267 (F := Ideal) l0 l1 l2 o (ix2 r l) = _
    pointwise [k0_pay267, k0_pay258, k0_pay259, k0_pay260, k0_pay261, k0_pay262, k0_pay263, k0_pay264, k0_pay265, mixMax, mixExp, mixDen]
  · show k0_pay2 (F := Ideal) (k0_pay268 (F := Ideal) l0 l1 l2 o) (ix2 r l) = _
    pointwise [k0_pay2, k0_pay268, k0_pay258, k0_pay259, k0_pay260, k0_pay261, k0_pay262, k0_pay263, k0_pay264, k0_pay265, mixMax, mixExp, mixDen]

end Cert.KernelIdeal.Attn

end

end
-- ==== Proof.Attn.Pad.lean ====
/-
  The scratch buffers of keys and values after a point has refilled them: the rows kept from the half before, then the
  rows of the point's own half.
-/
module

public import proofs.«01_k».proof.Proof.Attn.Mix
public import Idealize.ShloMosaic.Lib.ValueLayout

@[expose] public section

set_option maxRecDepth 16384
set_option maxHeartbeats 200000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- `W` rows of one array followed by the rows of another. -/
def padded (W : ℕ) (prev cur : ℕ → Fin 128 → Elt F .f32) : ℕ → Fin 128 → Elt F .f32 :=
  fun r l => if r < W then prev r l else cur (r - W) l

theorem cur_read {arg2 : Memref sig .tc .vmem S9x2048x128 .f32} {X2 : BufTy.Contents (Elt F) arg2.view.ty} {x : ℕ → ℕ → Fin 128 → Elt F .f32}
    (hX : ∀ y : S9x2048x128.Idx, arg2.view.read (Elt F) X2 y = x (y 0).val (y 1).val (y 2)) (s : ℕ) (off : Fin 3 → ℕ) (inb) (ho : off = ![s, 0, 0])
    (y : S2048x128.Idx) :
    shapeCast S2048x128 (shapeCast S2048x128 (arg2.view.readAt (Elt F) (Rect.unit (s := S9x2048x128) off S1x2048x128.size inb).toLoadRect X2)
      shapeCasts_S1x2048x128_S2048x128) shapeCasts_S2048x128_S2048x128 y = x s (y 0).val (y 1) := by
  subst ho
  refine (congrFun (shapeCast_id _ _) y).trans ((congrArg _ (ValueIdx.eq_ix2 y)).trans ?_)
  refine (ValueIdx.shapeCast_1ab_ab_apply _ _ _ _).trans ?_
  rw [View.readAt_apply, hX]
  show x (s + 1 * 0) (0 + 1 * (y 0).val) _ = x s (y 0).val (y 1)
  rw [show s + 1 * 0 = s from rfl, show 0 + 1 * (y 0).val = (y 0).val by omega]
  exact congrArg _ (Fin.ext (show 0 + 1 * (y 1).val = (y 1).val by omega))

theorem old_read4 {arg : Memref sig .tc .vmem S2176x128 .f32} {X : BufTy.Contents (Elt F) arg.view.ty} {old : ℕ → Fin 128 → Elt F .f32}
    (hX : ∀ y : S2176x128.Idx, arg.view.read (Elt F) X y = old (y 0).val (y 1)) (inb) (y : S128x128.Idx) :
    shapeCast S128x128 (arg.view.readAt (Elt F) (Rect.unit (s := S2176x128) ![2048, 0] S128x128.size inb).toLoadRect X) shapeCasts_S128x128_S128x128 y = old (2048 + (y 0).val) (y 1) := by
  refine (congrFun (shapeCast_id _ _) y).trans ?_
  rw [View.readAt_apply, hX]
  show old (2048 + 1 * (y 0).val) _ = old (2048 + (y 0).val) (y 1)
  rw [show 2048 + 1 * (y 0).val = 2048 + (y 0).val by omega]
  exact congrArg _ (Fin.ext (show 0 + 1 * (y 1).val = (y 1).val by omega))

theorem pad_read4 (arg : Memref sig .tc .vmem S2176x128 .f32) (f : BufTy.Contents (Elt F) arg.view.ty) {prev cur : ℕ → Fin 128 → Elt F .f32}
    {p1 : S2048x128.Idx → Elt F .f32} {p0 : S128x128.Idx → Elt F .f32} {inb1} {inb0} (h1 : ∀ y, p1 y = cur (y 0).val (y 1)) (h0 : ∀ y, p0 y = prev (y 0).val (y 1)) :
    arg.view.read (Elt F) (arg.view.writes (Elt F) f [⟨Rect.unit (s := S2176x128) ![128, 0] S2048x128.size inb1, p1⟩, ⟨Rect.unit (s := S2176x128) ![0, 0] S128x128.size inb0, p0⟩])
      = fun y => padded 128 prev cur (y 0).val (y 1) := by
  funext y
  have hy0 : (y 0).val < 2176 := (y 0).isLt
  have hy1 : (y 1).val < 128 := (y 1).isLt
  refine View.read_writes_apply_of_pieces arg.view f (fun y : S2176x128.Idx => padded 128 prev cur (y 0).val (y 1)) _ ?_ y ?_
  · intro p hp
    simp only [List.mem_cons, List.not_mem_nil, or_false] at hp
    rcases hp with rfl | rfl
    · intro z
      refine (h1 z).trans ?_
      show _ = padded 128 prev cur (128 + 1 * (z 0).val) _
      unfold padded
      rw [if_neg (by omega), show 128 + 1 * (z 0).val - 128 = (z 0).val by omega]
      exact congrArg _ (Fin.ext (show (z 1).val = 0 + 1 * (z 1).val by omega))
    · intro z
      have hz : (z 0).val < 128 := (z 0).isLt
      refine (h0 z).trans ?_
      show _ = padded 128 prev cur (0 + 1 * (z 0).val) _
      unfold padded
      rw [if_pos (by omega), show 0 + 1 * (z 0).val = (z 0).val by omega]
      exact congrArg _ (Fin.ext (show (z 1).val = 0 + 1 * (z 1).val by omega))
  · by_cases h : (y 0).val < 128
    · refine ⟨_, List.mem_cons_of_mem _ List.mem_cons_self, (LoadRect.mem_set _).mpr fun b => ?_⟩
      fin_cases b
      · exact ⟨(y 0).val, h, show (y 0).val = 0 + 1 * (y 0).val by omega⟩
      · exact ⟨(y 1).val, hy1, show (y 1).val = 0 + 1 * (y 1).val by omega⟩
    · refine ⟨_, List.mem_cons_self, (LoadRect.mem_set _).mpr fun b => ?_⟩
      fin_cases b
      · exact ⟨(y 0).val - 128, show (y 0).val - 128 < 2048 by omega, show (y 0).val = 128 + 1 * ((y 0).val - 128) by omega⟩
      · exact ⟨(y 1).val, hy1, show (y 1).val = 0 + 1 * (y 1).val by omega⟩

theorem old_read6 {arg : Memref sig .tc .vmem S2560x128 .f32} {X : BufTy.Contents (Elt F) arg.view.ty} {old : ℕ → Fin 128 → Elt F .f32}
    (hX : ∀ y : S2560x128.Idx, arg.view.read (Elt F) X y = old (y 0).val (y 1)) (inb) (y : S512x128.Idx) :
    shapeCast S512x128 (arg.view.readAt (Elt F) (Rect.unit (s := S2560x128) ![2048, 0] S512x128.size inb).toLoadRect X) shapeCasts_S512x128_S512x128 y = old (2048 + (y 0).val) (y 1) := by
  refine (congrFun (shapeCast_id _ _) y).trans ?_
  rw [View.readAt_apply, hX]
  show old (2048 + 1 * (y 0).val) _ = old (2048 + (y 0).val) (y 1)
  rw [show 2048 + 1 * (y 0).val = 2048 + (y 0).val by omega]
  exact congrArg _ (Fin.ext (show 0 + 1 * (y 1).val = (y 1).val by omega))

theorem pad_read6 (arg : Memref sig .tc .vmem S2560x128 .f32) (f : BufTy.Contents (Elt F) arg.view.ty) {prev cur : ℕ → Fin 128 → Elt F .f32}
    {p1 : S2048x128.Idx → Elt F .f32} {p0 : S512x128.Idx → Elt F .f32} {inb1} {inb0} (h1 : ∀ y, p1 y = cur (y 0).val (y 1)) (h0 : ∀ y, p0 y = prev (y 0).val (y 1)) :
    arg.view.read (Elt F) (arg.view.writes (Elt F) f [⟨Rect.unit (s := S2560x128) ![512, 0] S2048x128.size inb1, p1⟩, ⟨Rect.unit (s := S2560x128) ![0, 0] S512x128.size inb0, p0⟩])
      = fun y => padded 512 prev cur (y 0).val (y 1) := by
  funext y
  have hy0 : (y 0).val < 2560 := (y 0).isLt
  have hy1 : (y 1).val < 128 := (y 1).isLt
  refine View.read_writes_apply_of_pieces arg.view f (fun y : S2560x128.Idx => padded 512 prev cur (y 0).val (y 1)) _ ?_ y ?_
  · intro p hp
    simp only [List.mem_cons, List.not_mem_nil, or_false] at hp
    rcases hp with rfl | rfl
    · intro z
      refine (h1 z).trans ?_
      show _ = padded 512 prev cur (512 + 1 * (z 0).val) _
      unfold padded
      rw [if_neg (by omega), show 512 + 1 * (z 0).val - 512 = (z 0).val by omega]
      exact congrArg _ (Fin.ext (show (z 1).val = 0 + 1 * (z 1).val by omega))
    · intro z
      have hz : (z 0).val < 512 := (z 0).isLt
      refine (h0 z).trans ?_
      show _ = padded 512 prev cur (0 + 1 * (z 0).val) _
      unfold padded
      rw [if_pos (by omega), show 0 + 1 * (z 0).val = (z 0).val by omega]
      exact congrArg _ (Fin.ext (show (z 1).val = 0 + 1 * (z 1).val by omega))
  · by_cases h : (y 0).val < 512
    · refine ⟨_, List.mem_cons_of_mem _ List.mem_cons_self, (LoadRect.mem_set _).mpr fun b => ?_⟩
      fin_cases b
      · exact ⟨(y 0).val, h, show (y 0).val = 0 + 1 * (y 0).val by omega⟩
      · exact ⟨(y 1).val, hy1, show (y 1).val = 0 + 1 * (y 1).val by omega⟩
    · refine ⟨_, List.mem_cons_self, (LoadRect.mem_set _).mpr fun b => ?_⟩
      fin_cases b
      · exact ⟨(y 0).val - 512, show (y 0).val - 512 < 2048 by omega, show (y 0).val = 512 + 1 * ((y 0).val - 512) by omega⟩
      · exact ⟨(y 1).val, hy1, show (y 1).val = 0 + 1 * (y 1).val by omega⟩

theorem old_read8 {arg : Memref sig .tc .vmem S4096x128 .f32} {X : BufTy.Contents (Elt F) arg.view.ty} {old : ℕ → Fin 128 → Elt F .f32}
    (hX : ∀ y : S4096x128.Idx, arg.view.read (Elt F) X y = old (y 0).val (y 1)) (inb) (y : S2048x128.Idx) :
    shapeCast S2048x128 (arg.view.readAt (Elt F) (Rect.unit (s := S4096x128) ![2048, 0] S2048x128.size inb).toLoadRect X) shapeCasts_S2048x128_S2048x128 y = old (2048 + (y 0).val) (y 1) := by
  refine (congrFun (shapeCast_id _ _) y).trans ?_
  rw [View.readAt_apply, hX]
  show old (2048 + 1 * (y 0).val) _ = old (2048 + (y 0).val) (y 1)
  rw [show 2048 + 1 * (y 0).val = 2048 + (y 0).val by omega]
  exact congrArg _ (Fin.ext (show 0 + 1 * (y 1).val = (y 1).val by omega))

theorem pad_read8 (arg : Memref sig .tc .vmem S4096x128 .f32) (f : BufTy.Contents (Elt F) arg.view.ty) {prev cur : ℕ → Fin 128 → Elt F .f32}
    {p1 : S2048x128.Idx → Elt F .f32} {p0 : S2048x128.Idx → Elt F .f32} {inb1} {inb0} (h1 : ∀ y, p1 y = cur (y 0).val (y 1)) (h0 : ∀ y, p0 y = prev (y 0).val (y 1)) :
    arg.view.read (Elt F) (arg.view.writes (Elt F) f [⟨Rect.unit (s := S4096x128) ![2048, 0] S2048x128.size inb1, p1⟩, ⟨Rect.unit (s := S4096x128) ![0, 0] S2048x128.size inb0, p0⟩])
      = fun y => padded 2048 prev cur (y 0).val (y 1) := by
  funext y
  have hy0 : (y 0).val < 4096 := (y 0).isLt
  have hy1 : (y 1).val < 128 := (y 1).isLt
  refine View.read_writes_apply_of_pieces arg.view f (fun y : S4096x128.Idx => padded 2048 prev cur (y 0).val (y 1)) _ ?_ y ?_
  · intro p hp
    simp only [List.mem_cons, List.not_mem_nil, or_false] at hp
    rcases hp with rfl | rfl
    · intro z
      refine (h1 z).trans ?_
      show _ = padded 2048 prev cur (2048 + 1 * (z 0).val) _
      unfold padded
      rw [if_neg (by omega), show 2048 + 1 * (z 0).val - 2048 = (z 0).val by omega]
      exact congrArg _ (Fin.ext (show (z 1).val = 0 + 1 * (z 1).val by omega))
    · intro z
      have hz : (z 0).val < 2048 := (z 0).isLt
      refine (h0 z).trans ?_
      show _ = padded 2048 prev cur (0 + 1 * (z 0).val) _
      unfold padded
      rw [if_pos (by omega), show 0 + 1 * (z 0).val = (z 0).val by omega]
      exact congrArg _ (Fin.ext (show (z 1).val = 0 + 1 * (z 1).val by omega))
  · by_cases h : (y 0).val < 2048
    · refine ⟨_, List.mem_cons_of_mem _ List.mem_cons_self, (LoadRect.mem_set _).mpr fun b => ?_⟩
      fin_cases b
      · exact ⟨(y 0).val, h, show (y 0).val = 0 + 1 * (y 0).val by omega⟩
      · exact ⟨(y 1).val, hy1, show (y 1).val = 0 + 1 * (y 1).val by omega⟩
    · refine ⟨_, List.mem_cons_self, (LoadRect.mem_set _).mpr fun b => ?_⟩
      fin_cases b
      · exact ⟨(y 0).val - 2048, show (y 0).val - 2048 < 2048 by omega, show (y 0).val = 2048 + 1 * ((y 0).val - 2048) by omega⟩
      · exact ⟨(y 1).val, hy1, show (y 1).val = 0 + 1 * (y 1).val by omega⟩

end Cert.KernelIdeal.Attn

end

end
-- ==== Proof.Attn.Body.lean ====
/-
  One point of the dilated attention call: what the printed body leaves in every buffer, at the first half of a sequence
  and at the second.
-/
module

public import proofs.«01_k».proof.Proof.Attn.Pad
public import Idealize.ShloMosaic.Lib.VecWindow

@[expose] public section

set_option maxRecDepth 16384
set_option maxHeartbeats 400000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem readO (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (x : ℕ → ℕ → Fin 128 → Elt F .f32) (kb vb : ℕ → ℕ → Fin 128 → Elt F .f32)
    (h2 : ∀ y : S9x2048x128.Idx, arg2.view.read (Elt F) X2 y = x (y 0).val (y 1).val (y 2))
    (h4 : ∀ y : S2176x128.Idx, arg4.view.read (Elt F) X4 y = kb 0 (y 0).val (y 1))
    (h5 : ∀ y : S2176x128.Idx, arg5.view.read (Elt F) X5 y = vb 0 (y 0).val (y 1))
    (h6 : ∀ y : S2560x128.Idx, arg6.view.read (Elt F) X6 y = kb 1 (y 0).val (y 1))
    (h7 : ∀ y : S2560x128.Idx, arg7.view.read (Elt F) X7 y = vb 1 (y 0).val (y 1))
    (h8 : ∀ y : S4096x128.Idx, arg8.view.read (Elt F) X8 y = kb 2 (y 0).val (y 1))
    (h9 : ∀ y : S4096x128.Idx, arg9.view.read (Elt F) X9 y = vb 2 (y 0).val (y 1)) (f : BufTy.Contents (Elt F) arg10.view.ty) (y : S3x2048x128.Idx) :
    arg10.view.read (Elt F) (arg10.view.writes (Elt F) f (pbO3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 X8 X9 (Scf.trips k0_t3_loop.lb k0_t3_loop.ub k0_t3_loop.st) ++ (pbO2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 X6 X7 (Scf.trips k0_t2_loop.lb k0_t2_loop.ub k0_t2_loop.st) ++ pbO1 (F := F) 𝒱 c bd i arg2 harg2 arg3 harg3 arg4 harg4 arg5 harg5 arg6 harg6 arg7 harg7 arg8 harg8 arg9 harg9 arg10 harg10 arg11 harg11 (BitVec.ofNat 32 a) colIx X2 X4 X5 (Scf.trips k0_t1_loop.lb k0_t1_loop.ub k0_t1_loop.st)))) y = bufO a x kb vb y := by
  have hy : (y 0).val < 3 := (y 0).isLt
  refine View.read_writes_apply_of_pieces arg10.view f (bufO a x kb vb) _ ?_ y ?_
  · intro p hp
    rcases List.mem_append.mp hp with hp | hp
    · exact agreeAllO3 𝒱 c bd i a ha arg2 harg2 arg3 harg3 arg4 harg4 arg5 harg5 arg6 harg6 arg7 harg7 arg8 harg8 arg9 harg9 arg10 harg10 arg11 harg11 X2 X8 X9 x kb vb h2 h8 h9 _ p hp
    rcases List.mem_append.mp hp with hp | hp
    · exact agreeAllO2 𝒱 c bd i a ha arg2 harg2 arg3 harg3 arg4 harg4 arg5 harg5 arg6 harg6 arg7 harg7 arg8 harg8 arg9 harg9 arg10 harg10 arg11 harg11 X2 X6 X7 x kb vb h2 h6 h7 _ p hp
    · exact agreeAllO1 𝒱 c bd i a ha arg2 harg2 arg3 harg3 arg4 harg4 arg5 harg5 arg6 harg6 arg7 harg7 arg8 harg8 arg9 harg9 arg10 harg10 arg11 harg11 X2 X4 X5 x kb vb h2 h4 h5 _ p hp
  · rcases (by omega : (y 0).val = 0 ∨ (y 0).val = 1 ∨ (y 0).val = 2) with h | h | h
    · obtain ⟨p, hp, hm⟩ := coverO1 𝒱 c bd i a ha arg2 harg2 arg3 harg3 arg4 harg4 arg5 harg5 arg6 harg6 arg7 harg7 arg8 harg8 arg9 harg9 arg10 harg10 arg11 harg11 X2 X4 X5 y h
      exact ⟨p, List.mem_append_right _ (List.mem_append_right _ hp), hm⟩
    · obtain ⟨p, hp, hm⟩ := coverO2 𝒱 c bd i a ha arg2 harg2 arg3 harg3 arg4 harg4 arg5 harg5 arg6 harg6 arg7 harg7 arg8 harg8 arg9 harg9 arg10 harg10 arg11 harg11 X2 X6 X7 y h
      exact ⟨p, List.mem_append_right _ (List.mem_append_left _ hp), hm⟩
    · obtain ⟨p, hp, hm⟩ := coverO3 𝒱 c bd i a ha arg2 harg2 arg3 harg3 arg4 harg4 arg5 harg5 arg6 harg6 arg7 harg7 arg8 harg8 arg9 harg9 arg10 harg10 arg11 harg11 X2 X8 X9 y h
      exact ⟨p, List.mem_append_left _ hp, hm⟩

theorem readL (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (x : ℕ → ℕ → Fin 128 → Elt F .f32) (kb vb : ℕ → ℕ → Fin 128 → Elt F .f32)
    (h2 : ∀ y : S9x2048x128.Idx, arg2.view.read (Elt F) X2 y = x (y 0).val (y 1).val (y 2))
    (h4 : ∀ y : S2176x128.Idx, arg4.view.read (Elt F) X4 y = kb 0 (y 0).val (y 1))
    (h5 : ∀ y : S2176x128.Idx, arg5.view.read (Elt F) X5 y = vb 0 (y 0).val (y 1))
    (h6 : ∀ y : S2560x128.Idx, arg6.view.read (Elt F) X6 y = kb 1 (y 0).val (y 1))
    (h7 : ∀ y : S2560x128.Idx, arg7.view.read (Elt F) X7 y = vb 1 (y 0).val (y 1))
    (h8 : ∀ y : S4096x128.Idx, arg8.view.read (Elt F) X8 y = kb 2 (y 0).val (y 1))
    (h9 : ∀ y : S4096x128.Idx, arg9.view.read (Elt F) X9 y = vb 2 (y 0).val (y 1)) (f : BufTy.Contents (Elt F) arg11.view.ty) (y : S3x2048x128.Idx) :
    arg11.view.read (Elt F) (arg11.view.writes (Elt F) f (pbL3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 X8 X9 (Scf.trips k0_t3_loop.lb k0_t3_loop.ub k0_t3_loop.st) ++ (pbL2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 X6 X7 (Scf.trips k0_t2_loop.lb k0_t2_loop.ub k0_t2_loop.st) ++ pbL1 (F := F) 𝒱 c bd i arg2 harg2 arg3 harg3 arg4 harg4 arg5 harg5 arg6 harg6 arg7 harg7 arg8 harg8 arg9 harg9 arg10 harg10 arg11 harg11 (BitVec.ofNat 32 a) colIx X2 X4 X5 (Scf.trips k0_t1_loop.lb k0_t1_loop.ub k0_t1_loop.st)))) y = bufL a x kb y := by
  have hy : (y 0).val < 3 := (y 0).isLt
  refine View.read_writes_apply_of_pieces arg11.view f (bufL a x kb) _ ?_ y ?_
  · intro p hp
    rcases List.mem_append.mp hp with hp | hp
    · exact agreeAllL3 𝒱 c bd i a ha arg2 harg2 arg3 harg3 arg4 harg4 arg5 harg5 arg6 harg6 arg7 harg7 arg8 harg8 arg9 harg9 arg10 harg10 arg11 harg11 X2 X8 X9 x kb h2 h8 _ p hp
    rcases List.mem_append.mp hp with hp | hp
    · exact agreeAllL2 𝒱 c bd i a ha arg2 harg2 arg3 harg3 arg4 harg4 arg5 harg5 arg6 harg6 arg7 harg7 arg8 harg8 arg9 harg9 arg10 harg10 arg11 harg11 X2 X6 X7 x kb h2 h6 _ p hp
    · exact agreeAllL1 𝒱 c bd i a ha arg2 harg2 arg3 harg3 arg4 harg4 arg5 harg5 arg6 harg6 arg7 harg7 arg8 harg8 arg9 harg9 arg10 harg10 arg11 harg11 X2 X4 X5 x kb h2 h4 _ p hp
  · rcases (by omega : (y 0).val = 0 ∨ (y 0).val = 1 ∨ (y 0).val = 2) with h | h | h
    · obtain ⟨p, hp, hm⟩ := coverL1 𝒱 c bd i a ha arg2 harg2 arg3 harg3 arg4 harg4 arg5 harg5 arg6 harg6 arg7 harg7 arg8 harg8 arg9 harg9 arg10 harg10 arg11 harg11 X2 X4 X5 y h
      exact ⟨p, List.mem_append_right _ (List.mem_append_right _ hp), hm⟩
    · obtain ⟨p, hp, hm⟩ := coverL2 𝒱 c bd i a ha arg2 harg2 arg3 harg3 arg4 harg4 arg5 harg5 arg6 harg6 arg7 harg7 arg8 harg8 arg9 harg9 arg10 harg10 arg11 harg11 X2 X6 X7 y h
      exact ⟨p, List.mem_append_right _ (List.mem_append_left _ hp), hm⟩
    · obtain ⟨p, hp, hm⟩ := coverL3 𝒱 c bd i a ha arg2 harg2 arg3 harg3 arg4 harg4 arg5 harg5 arg6 harg6 arg7 harg7 arg8 harg8 arg9 harg9 arg10 harg10 arg11 harg11 X2 X8 X9 y h
      exact ⟨p, List.mem_append_left _ hp, hm⟩

theorem readOut (𝒱 : Variants) (c : Dev nD) (bd : Option 𝒱.V) (i : grid0.Coords) (a : ℕ) (ha : a < 2) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (x : ℕ → ℕ → Fin 128 → Elt F .f32) (kb vb : ℕ → ℕ → Fin 128 → Elt F .f32)
    (h2 : ∀ y : S9x2048x128.Idx, arg2.view.read (Elt F) X2 y = x (y 0).val (y 1).val (y 2))
    (h4 : ∀ y : S2176x128.Idx, arg4.view.read (Elt F) X4 y = kb 0 (y 0).val (y 1))
    (h5 : ∀ y : S2176x128.Idx, arg5.view.read (Elt F) X5 y = vb 0 (y 0).val (y 1))
    (h6 : ∀ y : S2560x128.Idx, arg6.view.read (Elt F) X6 y = kb 1 (y 0).val (y 1))
    (h7 : ∀ y : S2560x128.Idx, arg7.view.read (Elt F) X7 y = vb 1 (y 0).val (y 1))
    (h8 : ∀ y : S4096x128.Idx, arg8.view.read (Elt F) X8 y = kb 2 (y 0).val (y 1))
    (h9 : ∀ y : S4096x128.Idx, arg9.view.read (Elt F) X9 y = vb 2 (y 0).val (y 1)) (f10 : BufTy.Contents (Elt F) arg10.view.ty) (f11 : BufTy.Contents (Elt F) arg11.view.ty) :
    arg3.view.read (Elt F) (arg3.view.writes (Elt F) X3 (pb_k0_t4 (F := F) 𝒱 c bd i arg2 harg2 arg3 harg3 arg4 harg4 arg5 harg5 arg6 harg6 arg7 harg7 arg8 harg8 arg9 harg9 arg10 harg10 arg11 harg11 (arg10.view.writes (Elt F) f10 (pbO3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 X8 X9 (Scf.trips k0_t3_loop.lb k0_t3_loop.ub k0_t3_loop.st) ++ (pbO2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 X6 X7 (Scf.trips k0_t2_loop.lb k0_t2_loop.ub k0_t2_loop.st) ++ pbO1 (F := F) 𝒱 c bd i arg2 harg2 arg3 harg3 arg4 harg4 arg5 harg5 arg6 harg6 arg7 harg7 arg8 harg8 arg9 harg9 arg10 harg10 arg11 harg11 (BitVec.ofNat 32 a) colIx X2 X4 X5 (Scf.trips k0_t1_loop.lb k0_t1_loop.ub k0_t1_loop.st)))) (arg11.view.writes (Elt F) f11 (pbL3 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 X8 X9 (Scf.trips k0_t3_loop.lb k0_t3_loop.ub k0_t3_loop.st) ++ (pbL2 (F := F) 𝒱 c bd i arg2 harg2 arg3 harg3 arg4 harg4 arg5 harg5 arg6 harg6 arg7 harg7 arg8 harg8 arg9 harg9 arg10 harg10 arg11 harg11 (BitVec.ofNat 32 a) k0_pay269 colIx k0_pay270 X2 X6 X7 (Scf.trips k0_t2_loop.lb k0_t2_loop.ub k0_t2_loop.st) ++ pbL1 (F := F) 𝒱 c bd i arg2 harg2 arg3 harg3 arg4 harg4 arg5 harg5 arg6 harg6 arg7 harg7 arg8 harg8 arg9 harg9 arg10 harg10 arg11 harg11 (BitVec.ofNat 32 a) colIx X2 X4 X5 (Scf.trips k0_t1_loop.lb k0_t1_loop.ub k0_t1_loop.st)))) (Scf.trips k0_t4_loop.lb k0_t4_loop.ub k0_t4_loop.st)))
      = outB (bufO a x kb vb) (bufL a x kb) := by
  funext y
  refine View.read_writes_apply_of_pieces arg3.view X3 (outB (bufO a x kb vb) (bufL a x kb)) _ ?_ y (cover4 𝒱 c bd i arg2 harg2 arg3 harg3 arg4 harg4 arg5 harg5 arg6 harg6 arg7 harg7 arg8 harg8 arg9 harg9 arg10 harg10 arg11 harg11 _ _ y)
  exact agreeAll4 𝒱 c bd i arg2 harg2 arg3 harg3 arg4 harg4 arg5 harg5 arg6 harg6 arg7 harg7 arg8 harg8 arg9 harg9 arg10 harg10 arg11 harg11 _ _ (bufO a x kb vb) (bufL a x kb)
    (readO 𝒱 c bd i a ha arg2 harg2 arg3 harg3 arg4 harg4 arg5 harg5 arg6 harg6 arg7 harg7 arg8 harg8 arg9 harg9 arg10 harg10 arg11 harg11 X2 X3 X4 X5 X6 X7 X8 X9 x kb vb h2 h4 h5 h6 h7 h8 h9 f10) (readL 𝒱 c bd i a ha arg2 harg2 arg3 harg3 arg4 harg4 arg5 harg5 arg6 harg6 arg7 harg7 arg8 harg8 arg9 harg9 arg10 harg10 arg11 harg11 X2 X3 X4 X5 X6 X7 X8 X9 x kb vb h2 h4 h5 h6 h7 h8 h9 f11) _

/-- The width of the scratch rows each group keeps from the half before. -/
def wid : ℕ → ℕ
  | 0 => 128
  | 1 => 512
  | _ => 2048

/-- The scratch rows of every group after a point has refilled them with the point's rows from slab `s` on. -/
def refill (prev : ℕ → ℕ → Fin 128 → Elt F .f32) (x : ℕ → ℕ → Fin 128 → Elt F .f32) (s : ℕ) : ℕ → ℕ → Fin 128 → Elt F .f32 :=
  fun g => padded (wid g) (prev g) (x (s + g))

/-- Nothing before the first half; the last rows of the first half before the second. -/
def nothing : ℕ → ℕ → Fin 128 → Elt F .f32 := fun _ _ _ => Scalar.ofBits .f32 0x00000000#32
def kept (old : ℕ → ℕ → Fin 128 → Elt F .f32) : ℕ → ℕ → Fin 128 → Elt F .f32 := fun g r l => old g (2048 + r) l

set_option backward.isDefEq.respectTransparency.types false in
theorem run_first (𝒱 : Variants) (c : Dev nD) (bd : Option 𝒱.V) (E : Set ℕ) (i : grid0.Coords) (hi : (i 1).val = 0) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (x : ℕ → ℕ → Fin 128 → Elt F .f32)
    (h2 : ∀ y : S9x2048x128.Idx, arg2.view.read (Elt F) X2 y = x (y 0).val (y 1).val (y 2))
     :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄)
    ⊢ wp frame (wpE (defs₀ (F := F)) 𝒱 (c : Thread nD τ) bd) E (cc0_dilated_attention (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} X2) ∗ (arg3.view.loc (c : Thread nD τ) ↦[arg3.view.set]{fullShare} (arg3.view.rep (outB (bufO (i 1).val x (refill nothing x 3) (refill nothing x 6)) (bufL (i 1).val x (refill nothing x 3))))) ∗ (arg4.view.loc (c : Thread nD τ) ↦[arg4.view.set]{fullShare} (arg4.view.rep (fun y => (refill nothing x 3) 0 (y 0).val (y 1)))) ∗ (arg5.view.loc (c : Thread nD τ) ↦[arg5.view.set]{fullShare} (arg5.view.rep (fun y => (refill nothing x 6) 0 (y 0).val (y 1)))) ∗ (arg6.view.loc (c : Thread nD τ) ↦[arg6.view.set]{fullShare} (arg6.view.rep (fun y => (refill nothing x 3) 1 (y 0).val (y 1)))) ∗ (arg7.view.loc (c : Thread nD τ) ↦[arg7.view.set]{fullShare} (arg7.view.rep (fun y => (refill nothing x 6) 1 (y 0).val (y 1)))) ∗ (arg8.view.loc (c : Thread nD τ) ↦[arg8.view.set]{fullShare} (arg8.view.rep (fun y => (refill nothing x 3) 2 (y 0).val (y 1)))) ∗ (arg9.view.loc (c : Thread nD τ) ↦[arg9.view.set]{fullShare} (arg9.view.rep (fun y => (refill nothing x 6) 2 (y 0).val (y 1)))) ∗ (∃ f, (arg10.view.loc (c : Thread nD τ) ↦[arg10.view.set]{fullShare} f)) ∗ (∃ f, (arg11.view.loc (c : Thread nD τ) ↦[arg11.view.set]{fullShare} f)))) := by
  have ha : (i 1).val < 2 := by rw [hi]; decide
  have e1 : (BitVec.ofNat 32 (i 1).val) = 0#32 := by rw [hi]
  have hz : (Scalar.cmpi .ne (Scalar.extui (Scalar.cmpi .eq (BitVec.ofNat 32 (i 1).val) 0#32) : BitVec 32) 0#32 = 1#1) := by rw [e1]; decide
  have hg : ¬ (Scalar.cmpi .ne (Scalar.extui (Scalar.cmpi .sgt (BitVec.ofNat 32 (i 1).val) 0#32) : BitVec 32) 0#32 = 1#1) := by rw [e1]; decide
  have r4 := fun f => pad_read4 (F := F) arg4 f (prev := nothing 0) (cur := x 3) (p1 := k0_pay275 (arg2.view.readAt (Elt F) (Rect.unit (s := S9x2048x128) ![3, 0, 0] S1x2048x128.size inb_S9x2048x128_S1x2048x128_3_0_0).toLoadRect X2)) (p0 := k0_pay271)
    (inb1 := inb_S2176x128_S2048x128_128_0) (inb0 := inb_S2176x128_S128x128_0_0) (cur_read h2 3 _ _ rfl) (fun _ => rfl)
  have r5 := fun f => pad_read4 (F := F) arg5 f (prev := nothing 0) (cur := x 6) (p1 := k0_pay276 (arg2.view.readAt (Elt F) (Rect.unit (s := S9x2048x128) ![6, 0, 0] S1x2048x128.size inb_S9x2048x128_S1x2048x128_6_0_0).toLoadRect X2)) (p0 := k0_pay272)
    (inb1 := inb_S2176x128_S2048x128_128_0) (inb0 := inb_S2176x128_S128x128_0_0) (cur_read h2 6 _ _ rfl) (fun _ => rfl)
  have r6 := fun f => pad_read6 (F := F) arg6 f (prev := nothing 1) (cur := x 4) (p1 := k0_pay281 (arg2.view.readAt (Elt F) (Rect.unit (s := S9x2048x128) ![4, 0, 0] S1x2048x128.size inb_S9x2048x128_S1x2048x128_4_0_0).toLoadRect X2)) (p0 := k0_pay277)
    (inb1 := inb_S2560x128_S2048x128_512_0) (inb0 := inb_S2560x128_S512x128_0_0) (cur_read h2 4 _ _ rfl) (fun _ => rfl)
  have r7 := fun f => pad_read6 (F := F) arg7 f (prev := nothing 1) (cur := x 7) (p1 := k0_pay282 (arg2.view.readAt (Elt F) (Rect.unit (s := S9x2048x128) ![7, 0, 0] S1x2048x128.size inb_S9x2048x128_S1x2048x128_7_0_0).toLoadRect X2)) (p0 := k0_pay278)
    (inb1 := inb_S2560x128_S2048x128_512_0) (inb0 := inb_S2560x128_S512x128_0_0) (cur_read h2 7 _ _ rfl) (fun _ => rfl)
  have r8 := fun f => pad_read8 (F := F) arg8 f (prev := nothing 2) (cur := x 5) (p1 := k0_pay287 (arg2.view.readAt (Elt F) (Rect.unit (s := S9x2048x128) ![5, 0, 0] S1x2048x128.size inb_S9x2048x128_S1x2048x128_5_0_0).toLoadRect X2)) (p0 := k0_pay283)
    (inb1 := inb_S4096x128_S2048x128_2048_0) (inb0 := inb_S4096x128_S2048x128_0_0) (cur_read h2 5 _ _ rfl) (fun _ => rfl)
  have r9 := fun f => pad_read8 (F := F) arg9 f (prev := nothing 2) (cur := x 8) (p1 := k0_pay1 (arg2.view.readAt (Elt F) (Rect.unit (s := S9x2048x128) ![8, 0, 0] S1x2048x128.size inb_S9x2048x128_S1x2048x128_8_0_0).toLoadRect X2)) (p0 := k0_pay284)
    (inb1 := inb_S4096x128_S2048x128_2048_0) (inb0 := inb_S4096x128_S2048x128_0_0) (cur_read h2 8 _ _ rfl) (fun _ => rfl)
  rw [cc0_dilated_attention_eq_skeleton]
  unfold cc0_dilated_attention_skel
  iintro ⟨H2, H3, H4, H5, H6, H7, H8, H9, H10, H11⟩
  sl_exec (disch := first | sl_exact hz | sl_exact hg)
  sl_step
  isplitl [H2]; · iexact H2
  isplitl [H3]
  · iapply (pointsTo_rep_of_read (c : Thread nD τ) arg3 _ fullShare _
      (readOut 𝒱 c bd i (i 1).val ha arg2 harg2 arg3 harg3 arg4 harg4 arg5 harg5 arg6 harg6 arg7 harg7 arg8 harg8 arg9 harg9 arg10 harg10 arg11 harg11 X2 X3 _ _ _ _ _ _ x (refill nothing x 3) (refill nothing x 6) h2 (fun y => congrFun (r4 _) y) (fun y => congrFun (r5 _) y) (fun y => congrFun (r6 _) y) (fun y => congrFun (r7 _) y) (fun y => congrFun (r8 _) y) (fun y => congrFun (r9 _) y) _ _))
    iexact H3
  isplitl [H4]
  · iapply (pointsTo_rep_of_read (c : Thread nD τ) arg4 _ fullShare _ (r4 _)); iexact H4
  isplitl [H5]
  · iapply (pointsTo_rep_of_read (c : Thread nD τ) arg5 _ fullShare _ (r5 _)); iexact H5
  isplitl [H6]
  · iapply (pointsTo_rep_of_read (c : Thread nD τ) arg6 _ fullShare _ (r6 _)); iexact H6
  isplitl [H7]
  · iapply (pointsTo_rep_of_read (c : Thread nD τ) arg7 _ fullShare _ (r7 _)); iexact H7
  isplitl [H8]
  · iapply (pointsTo_rep_of_read (c : Thread nD τ) arg8 _ fullShare _ (r8 _)); iexact H8
  isplitl [H9]
  · iapply (pointsTo_rep_of_read (c : Thread nD τ) arg9 _ fullShare _ (r9 _)); iexact H9
  isplitl [H10]; · iexists _; iexact H10
  iexists _; iexact H11

set_option backward.isDefEq.respectTransparency.types false in
theorem run_second (𝒱 : Variants) (c : Dev nD) (bd : Option 𝒱.V) (E : Set ℕ) (i : grid0.Coords) (hi : (i 1).val = 1) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (x : ℕ → ℕ → Fin 128 → Elt F .f32)
    (h2 : ∀ y : S9x2048x128.Idx, arg2.view.read (Elt F) X2 y = x (y 0).val (y 1).val (y 2))
    (ok ov : ℕ → ℕ → Fin 128 → Elt F .f32)
    (h4 : ∀ y : S2176x128.Idx, arg4.view.read (Elt F) X4 y = ok 0 (y 0).val (y 1))
    (h5 : ∀ y : S2176x128.Idx, arg5.view.read (Elt F) X5 y = ov 0 (y 0).val (y 1))
    (h6 : ∀ y : S2560x128.Idx, arg6.view.read (Elt F) X6 y = ok 1 (y 0).val (y 1))
    (h7 : ∀ y : S2560x128.Idx, arg7.view.read (Elt F) X7 y = ov 1 (y 0).val (y 1))
    (h8 : ∀ y : S4096x128.Idx, arg8.view.read (Elt F) X8 y = ok 2 (y 0).val (y 1))
    (h9 : ∀ y : S4096x128.Idx, arg9.view.read (Elt F) X9 y = ov 2 (y 0).val (y 1)) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄)
    ⊢ wp frame (wpE (defs₀ (F := F)) 𝒱 (c : Thread nD τ) bd) E (cc0_dilated_attention (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} X2) ∗ (arg3.view.loc (c : Thread nD τ) ↦[arg3.view.set]{fullShare} (arg3.view.rep (outB (bufO (i 1).val x (refill (kept ok) x 3) (refill (kept ov) x 6)) (bufL (i 1).val x (refill (kept ok) x 3))))) ∗ (arg4.view.loc (c : Thread nD τ) ↦[arg4.view.set]{fullShare} (arg4.view.rep (fun y => (refill (kept ok) x 3) 0 (y 0).val (y 1)))) ∗ (arg5.view.loc (c : Thread nD τ) ↦[arg5.view.set]{fullShare} (arg5.view.rep (fun y => (refill (kept ov) x 6) 0 (y 0).val (y 1)))) ∗ (arg6.view.loc (c : Thread nD τ) ↦[arg6.view.set]{fullShare} (arg6.view.rep (fun y => (refill (kept ok) x 3) 1 (y 0).val (y 1)))) ∗ (arg7.view.loc (c : Thread nD τ) ↦[arg7.view.set]{fullShare} (arg7.view.rep (fun y => (refill (kept ov) x 6) 1 (y 0).val (y 1)))) ∗ (arg8.view.loc (c : Thread nD τ) ↦[arg8.view.set]{fullShare} (arg8.view.rep (fun y => (refill (kept ok) x 3) 2 (y 0).val (y 1)))) ∗ (arg9.view.loc (c : Thread nD τ) ↦[arg9.view.set]{fullShare} (arg9.view.rep (fun y => (refill (kept ov) x 6) 2 (y 0).val (y 1)))) ∗ (∃ f, (arg10.view.loc (c : Thread nD τ) ↦[arg10.view.set]{fullShare} f)) ∗ (∃ f, (arg11.view.loc (c : Thread nD τ) ↦[arg11.view.set]{fullShare} f)))) := by
  have ha : (i 1).val < 2 := by rw [hi]; decide
  have e1 : (BitVec.ofNat 32 (i 1).val) = 1#32 := by rw [hi]
  have hz : ¬ (Scalar.cmpi .ne (Scalar.extui (Scalar.cmpi .eq (BitVec.ofNat 32 (i 1).val) 0#32) : BitVec 32) 0#32 = 1#1) := by rw [e1]; decide
  have hg : (Scalar.cmpi .ne (Scalar.extui (Scalar.cmpi .sgt (BitVec.ofNat 32 (i 1).val) 0#32) : BitVec 32) 0#32 = 1#1) := by rw [e1]; decide
  have r4 := fun f => pad_read4 (F := F) arg4 f (prev := kept ok 0) (cur := x 3) (p1 := k0_pay275 (arg2.view.readAt (Elt F) (Rect.unit (s := S9x2048x128) ![3, 0, 0] S1x2048x128.size inb_S9x2048x128_S1x2048x128_3_0_0).toLoadRect X2)) (p0 := k0_pay273 (arg4.view.readAt (Elt F) (Rect.unit (s := S2176x128) ![2048, 0] S128x128.size inb_S2176x128_S128x128_2048_0).toLoadRect X4))
    (inb1 := inb_S2176x128_S2048x128_128_0) (inb0 := inb_S2176x128_S128x128_0_0) (cur_read h2 3 _ _ rfl) (old_read4 (old := ok 0) h4 _)
  have r5 := fun f => pad_read4 (F := F) arg5 f (prev := kept ov 0) (cur := x 6) (p1 := k0_pay276 (arg2.view.readAt (Elt F) (Rect.unit (s := S9x2048x128) ![6, 0, 0] S1x2048x128.size inb_S9x2048x128_S1x2048x128_6_0_0).toLoadRect X2)) (p0 := k0_pay274 (arg5.view.readAt (Elt F) (Rect.unit (s := S2176x128) ![2048, 0] S128x128.size inb_S2176x128_S128x128_2048_0).toLoadRect X5))
    (inb1 := inb_S2176x128_S2048x128_128_0) (inb0 := inb_S2176x128_S128x128_0_0) (cur_read h2 6 _ _ rfl) (old_read4 (old := ov 0) h5 _)
  have r6 := fun f => pad_read6 (F := F) arg6 f (prev := kept ok 1) (cur := x 4) (p1 := k0_pay281 (arg2.view.readAt (Elt F) (Rect.unit (s := S9x2048x128) ![4, 0, 0] S1x2048x128.size inb_S9x2048x128_S1x2048x128_4_0_0).toLoadRect X2)) (p0 := k0_pay279 (arg6.view.readAt (Elt F) (Rect.unit (s := S2560x128) ![2048, 0] S512x128.size inb_S2560x128_S512x128_2048_0).toLoadRect X6))
    (inb1 := inb_S2560x128_S2048x128_512_0) (inb0 := inb_S2560x128_S512x128_0_0) (cur_read h2 4 _ _ rfl) (old_read6 (old := ok 1) h6 _)
  have r7 := fun f => pad_read6 (F := F) arg7 f (prev := kept ov 1) (cur := x 7) (p1 := k0_pay282 (arg2.view.readAt (Elt F) (Rect.unit (s := S9x2048x128) ![7, 0, 0] S1x2048x128.size inb_S9x2048x128_S1x2048x128_7_0_0).toLoadRect X2)) (p0 := k0_pay280 (arg7.view.readAt (Elt F) (Rect.unit (s := S2560x128) ![2048, 0] S512x128.size inb_S2560x128_S512x128_2048_0).toLoadRect X7))
    (inb1 := inb_S2560x128_S2048x128_512_0) (inb0 := inb_S2560x128_S512x128_0_0) (cur_read h2 7 _ _ rfl) (old_read6 (old := ov 1) h7 _)
  have r8 := fun f => pad_read8 (F := F) arg8 f (prev := kept ok 2) (cur := x 5) (p1 := k0_pay287 (arg2.view.readAt (Elt F) (Rect.unit (s := S9x2048x128) ![5, 0, 0] S1x2048x128.size inb_S9x2048x128_S1x2048x128_5_0_0).toLoadRect X2)) (p0 := k0_pay285 (arg8.view.readAt (Elt F) (Rect.unit (s := S4096x128) ![2048, 0] S2048x128.size inb_S4096x128_S2048x128_2048_0).toLoadRect X8))
    (inb1 := inb_S4096x128_S2048x128_2048_0) (inb0 := inb_S4096x128_S2048x128_0_0) (cur_read h2 5 _ _ rfl) (old_read8 (old := ok 2) h8 _)
  have r9 := fun f => pad_read8 (F := F) arg9 f (prev := kept ov 2) (cur := x 8) (p1 := k0_pay1 (arg2.view.readAt (Elt F) (Rect.unit (s := S9x2048x128) ![8, 0, 0] S1x2048x128.size inb_S9x2048x128_S1x2048x128_8_0_0).toLoadRect X2)) (p0 := k0_pay286 (arg9.view.readAt (Elt F) (Rect.unit (s := S4096x128) ![2048, 0] S2048x128.size inb_S4096x128_S2048x128_2048_0).toLoadRect X9))
    (inb1 := inb_S4096x128_S2048x128_2048_0) (inb0 := inb_S4096x128_S2048x128_0_0) (cur_read h2 8 _ _ rfl) (old_read8 (old := ov 2) h9 _)
  rw [cc0_dilated_attention_eq_skeleton]
  unfold cc0_dilated_attention_skel
  iintro ⟨H2, H3, H4, H5, H6, H7, H8, H9, H10, H11⟩
  sl_exec (disch := first | sl_exact hz | sl_exact hg)
  sl_step
  isplitl [H2]; · iexact H2
  isplitl [H3]
  · iapply (pointsTo_rep_of_read (c : Thread nD τ) arg3 _ fullShare _
      (readOut 𝒱 c bd i (i 1).val ha arg2 harg2 arg3 harg3 arg4 harg4 arg5 harg5 arg6 harg6 arg7 harg7 arg8 harg8 arg9 harg9 arg10 harg10 arg11 harg11 X2 X3 _ _ _ _ _ _ x (refill (kept ok) x 3) (refill (kept ov) x 6) h2 (fun y => congrFun (r4 _) y) (fun y => congrFun (r5 _) y) (fun y => congrFun (r6 _) y) (fun y => congrFun (r7 _) y) (fun y => congrFun (r8 _) y) (fun y => congrFun (r9 _) y) _ _))
    iexact H3
  isplitl [H4]
  · iapply (pointsTo_rep_of_read (c : Thread nD τ) arg4 _ fullShare _ (r4 _)); iexact H4
  isplitl [H5]
  · iapply (pointsTo_rep_of_read (c : Thread nD τ) arg5 _ fullShare _ (r5 _)); iexact H5
  isplitl [H6]
  · iapply (pointsTo_rep_of_read (c : Thread nD τ) arg6 _ fullShare _ (r6 _)); iexact H6
  isplitl [H7]
  · iapply (pointsTo_rep_of_read (c : Thread nD τ) arg7 _ fullShare _ (r7 _)); iexact H7
  isplitl [H8]
  · iapply (pointsTo_rep_of_read (c : Thread nD τ) arg8 _ fullShare _ (r8 _)); iexact H8
  isplitl [H9]
  · iapply (pointsTo_rep_of_read (c : Thread nD τ) arg9 _ fullShare _ (r9 _)); iexact H9
  isplitl [H10]; · iexists _; iexact H10
  iexists _; iexact H11

end Cert.KernelIdeal.Attn

end

end
-- ==== Proof.Attn.Run.lean ====
/-
  The whole run of the dilated attention call: what every grid point leaves in the result's block, the scratch rows carried
  from the first half of a sequence to the second, and the frame.
-/
module

public import proofs.«01_k».proof.Proof.Attn.Body
public import Idealize.ShloMosaic.Lib.Claim

@[expose] public section

set_option maxRecDepth 16384
set_option maxHeartbeats 400000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The point's slabs of queries, keys and values, by slab, row and lane. -/
def xA (c : Dev nD) (t : Fin cfg0.N) : ℕ → ℕ → Fin 128 → Elt F .f32 := fun s r l =>
  (iblk m c 0 t : S9x2048x128.Idx → Elt F .f32) (ix3 ⟨s % 9, Nat.mod_lt _ (by decide)⟩ ⟨r % 2048, Nat.mod_lt _ (by decide)⟩ l)

/-- The point before. -/
def before (t : Fin cfg0.N) : Fin cfg0.N := ⟨t.val - 1, lt_of_le_of_lt (Nat.sub_le _ _) t.isLt⟩

/-- The scratch rows after a point at a first half, and after any point. -/
def kF (c : Dev nD) (t : Fin cfg0.N) : ℕ → ℕ → Fin 128 → Elt F .f32 := refill nothing (xA m c t) 3
def vF (c : Dev nD) (t : Fin cfg0.N) : ℕ → ℕ → Fin 128 → Elt F .f32 := refill nothing (xA m c t) 6
def kA (c : Dev nD) (t : Fin cfg0.N) : ℕ → ℕ → Fin 128 → Elt F .f32 :=
  if t.val % 2 = 0 then kF m c t else refill (kept (kF m c (before t))) (xA m c t) 3
def vA (c : Dev nD) (t : Fin cfg0.N) : ℕ → ℕ → Fin 128 → Elt F .f32 :=
  if t.val % 2 = 0 then vF m c t else refill (kept (vF m c (before t))) (xA m c t) 6

/-- The point's block of the result. -/
def outA (c : Dev nD) (t : Fin cfg0.N) : S2048x384.Idx → Elt F .bf16 :=
  outB (bufO (grid0.coords t 1).val (xA m c t) (kA m c t) (vA m c t)) (bufL (grid0.coords t 1).val (xA m c t) (kA m c t))

theorem half : ∀ t : Fin cfg0.N, (grid0.coords t 1).val = t.val % 2 :=
  (by decide +kernel : ∀ t : Fin grid0.N, (grid0.coords t 1).val = t.val % 2)

/-- The scratch between two points: at anything, -/
def anyS (c : Dev nD) : sProp 𝕄 :=
  iprop(((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f)) ∗ (∃ f, ((Memref.whole cc0_scratch3).view.loc (c : Thread nD τ) ↦[(Memref.whole cc0_scratch3).view.set]{fullShare} f)) ∗ (∃ f, ((Memref.whole cc0_scratch4).view.loc (c : Thread nD τ) ↦[(Memref.whole cc0_scratch4).view.set]{fullShare} f)) ∗ (∃ f, ((Memref.whole cc0_scratch5).view.loc (c : Thread nD τ) ↦[(Memref.whole cc0_scratch5).view.set]{fullShare} f)) ∗ (∃ f, ((Memref.whole cc0_scratch6).view.loc (c : Thread nD τ) ↦[(Memref.whole cc0_scratch6).view.set]{fullShare} f)) ∗ (∃ f, ((Memref.whole cc0_scratch7).view.loc (c : Thread nD τ) ↦[(Memref.whole cc0_scratch7).view.set]{fullShare} f))) ∗ ∃ r, prngReg c r)

/-- or as a first half's point `t` left it. -/
def heldS (c : Dev nD) (t : Fin cfg0.N) : sProp 𝕄 :=
  iprop((((Memref.whole cc0_scratch0).view.loc (c : Thread nD τ) ↦[(Memref.whole cc0_scratch0).view.set]{fullShare} ((Memref.whole cc0_scratch0).view.rep (fun y : S2176x128.Idx => kF m c t 0 (y 0).val (y 1)))) ∗ ((Memref.whole cc0_scratch1).view.loc (c : Thread nD τ) ↦[(Memref.whole cc0_scratch1).view.set]{fullShare} ((Memref.whole cc0_scratch1).view.rep (fun y : S2176x128.Idx => vF m c t 0 (y 0).val (y 1)))) ∗ ((Memref.whole cc0_scratch2).view.loc (c : Thread nD τ) ↦[(Memref.whole cc0_scratch2).view.set]{fullShare} ((Memref.whole cc0_scratch2).view.rep (fun y : S2560x128.Idx => kF m c t 1 (y 0).val (y 1)))) ∗ ((Memref.whole cc0_scratch3).view.loc (c : Thread nD τ) ↦[(Memref.whole cc0_scratch3).view.set]{fullShare} ((Memref.whole cc0_scratch3).view.rep (fun y : S2560x128.Idx => vF m c t 1 (y 0).val (y 1)))) ∗ ((Memref.whole cc0_scratch4).view.loc (c : Thread nD τ) ↦[(Memref.whole cc0_scratch4).view.set]{fullShare} ((Memref.whole cc0_scratch4).view.rep (fun y : S4096x128.Idx => kF m c t 2 (y 0).val (y 1)))) ∗ ((Memref.whole cc0_scratch5).view.loc (c : Thread nD τ) ↦[(Memref.whole cc0_scratch5).view.set]{fullShare} ((Memref.whole cc0_scratch5).view.rep (fun y : S4096x128.Idx => vF m c t 2 (y 0).val (y 1)))) ∗ (∃ f, ((Memref.whole cc0_scratch6).view.loc (c : Thread nD τ) ↦[(Memref.whole cc0_scratch6).view.set]{fullShare} f)) ∗ (∃ f, ((Memref.whole cc0_scratch7).view.loc (c : Thread nD τ) ↦[(Memref.whole cc0_scratch7).view.set]{fullShare} f))) ∗ ∃ r, prngReg c r)

def stateS (c : Dev nD) (n : Fin (cfg0.N + 1)) : sProp 𝕄 :=
  if h : n.val % 2 = 1 then heldS m c ⟨n.val - 1, by have := n.isLt; omega⟩ else anyS (F := F) c

theorem state_even (c : Dev nD) (n : Fin (cfg0.N + 1)) (h : ¬ n.val % 2 = 1) : stateS m c n = anyS (F := F) c := dif_neg h
theorem state_odd (c : Dev nD) (n : Fin (cfg0.N + 1)) (t : Fin cfg0.N) (h : n.val % 2 = 1) (ht : n.val - 1 = t.val) : stateS m c n = heldS m c t :=
  (dif_pos h).trans (congrArg (heldS m c) (Fin.ext ht))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outA m c t
  Φ n := stateS m c n
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = outA m c t := by dsimp only [dats]
theorem before_0 (c : Dev nD) (t : Fin cfg0.N) (d) : (dats m 0 c).before 0 t d = iblk m c 0 t :=
  before0_0_of m (dats m 0 c) (A_eq m c 0) (after_0 m c) t d

theorem slab_read (c : Dev nD) (t : Fin cfg0.N) (y : S9x2048x128.Idx) :
    (st0_0 t).view.read (Elt F) ((st0_0 t).view.rep (iblk m c 0 t)) y = xA m c t (y 0).val (y 1).val (y 2) := by
  rw [View.read_rep]
  have h0 : (y 0).val < 9 := (y 0).isLt
  have h1 : (y 1).val < 2048 := (y 1).isLt
  refine congrArg (iblk m c 0 t : S9x2048x128.Idx → Elt F .f32) (funext fun b => ?_)
  match b with
  | ⟨0, _⟩ => exact Fin.ext (Nat.mod_eq_of_lt h0).symm
  | ⟨1, _⟩ => exact Fin.ext (Nat.mod_eq_of_lt h1).symm
  | ⟨2, _⟩ => rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option backward.isDefEq.respectTransparency.types false in
theorem sound_first (c : Dev nD) (t : Fin cfg0.N) (ht : t.val % 2 = 0) :
    bodyPre m c t ⊢ wp frame (wpE (defs₀ (F := F)) Variants.none c none) Set.univ (bodyAt0 t) (fun _ => bodyPost m c t) := by
  unfold bodyPre bodyPost bodyAt0
  simp only [before_0]
  rw [show (dats m 0 c).Φ t.succ = heldS m c t from state_odd m c t.succ t (by show (t.val + 1) % 2 = 1; omega) rfl,
    show (dats m 0 c).Φ t.castSucc = anyS (F := F) c from state_even m c t.castSucc (by show ¬ t.val % 2 = 1; omega),
    show (dats m 0 c).owesAt () t.succ = (dats m 0 c).owesAt () t.castSucc from rfl, after_0, after_1]
  have ek : kA m c t = refill nothing (xA m c t) 3 := if_pos ht
  have ev : vA m c t = refill nothing (xA m c t) 6 := if_pos ht
  unfold outA anyS heldS owns
  rw [ek, ev]
  iintro ⟨⟨⟨⟨%f4, H4⟩, ⟨%f5, H5⟩, ⟨%f6, H6⟩, ⟨%f7, H7⟩, ⟨%f8, H8⟩, ⟨%f9, H9⟩, ⟨%f10, H10⟩, ⟨%f11, H11⟩⟩, Hr⟩, Ho, ⟨%d0, %g0, %hg0, H2⟩, ⟨%d1, %g1, -, H3⟩⟩
  ihave H2 := (pointsTo_rep_entails (c : Thread nD τ) (st0_0 t) g0 fullShare) $$ H2
  rw [hg0]
  iapply (wp_wand_r Idealize.ShloMosaic.frame (wpE (defs₀ (F := F)) Variants.none (c : Thread nD τ) none) Set.univ)
  isplitl [H2 H3 H4 H5 H6 H7 H8 H9 H10 H11]
  · iapply (run_first Variants.none c none Set.univ (grid0.coords t) ((half t).trans ht) (st0_0 t) (hstage0_0 _) (st0_1 t) (hstage0_1 _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) _ _ _ _ _ _ _ _ _ _ (xA m c t) (slab_read m c t))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H2, H3, H4, H5, H6, H7, H8, H9, H10, H11⟩
    isplitl [H4 H5 H6 H7 H8 H9 H10 H11 Hr]
    · isplitl [H4 H5 H6 H7 H8 H9 H10 H11]
      · isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      iexact Hr
    isplitl [Ho]; · iexact Ho
    isplitl [H2]
    · iexists _; isplitr; · ipureintro; exact View.read_rep _ _
      iexact H2
    iexists _; isplitr; · ipureintro; exact View.read_rep _ _
    iexact H3

set_option backward.isDefEq.respectTransparency.types false in
theorem sound_second (c : Dev nD) (t : Fin cfg0.N) (ht : t.val % 2 = 1) :
    bodyPre m c t ⊢ wp frame (wpE (defs₀ (F := F)) Variants.none c none) Set.univ (bodyAt0 t) (fun _ => bodyPost m c t) := by
  unfold bodyPre bodyPost bodyAt0
  simp only [before_0]
  rw [show (dats m 0 c).Φ t.succ = anyS (F := F) c from state_even m c t.succ (by show ¬ (t.val + 1) % 2 = 1; omega),
    show (dats m 0 c).Φ t.castSucc = heldS m c (before t) from state_odd m c t.castSucc (before t) ht rfl,
    show (dats m 0 c).owesAt () t.succ = (dats m 0 c).owesAt () t.castSucc from rfl, after_0, after_1]
  have ek : kA m c t = refill (kept (kF m c (before t))) (xA m c t) 3 := if_neg (by omega)
  have ev : vA m c t = refill (kept (vF m c (before t))) (xA m c t) 6 := if_neg (by omega)
  unfold outA anyS heldS owns
  rw [ek, ev]
  iintro ⟨⟨⟨H4, H5, H6, H7, H8, H9, ⟨%f10, H10⟩, ⟨%f11, H11⟩⟩, Hr⟩, Ho, ⟨%d0, %g0, %hg0, H2⟩, ⟨%d1, %g1, -, H3⟩⟩
  ihave H2 := (pointsTo_rep_entails (c : Thread nD τ) (st0_0 t) g0 fullShare) $$ H2
  rw [hg0]
  iapply (wp_wand_r Idealize.ShloMosaic.frame (wpE (defs₀ (F := F)) Variants.none (c : Thread nD τ) none) Set.univ)
  isplitl [H2 H3 H4 H5 H6 H7 H8 H9 H10 H11]
  · iapply (run_second Variants.none c none Set.univ (grid0.coords t) ((half t).trans ht) (st0_0 t) (hstage0_0 _) (st0_1 t) (hstage0_1 _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) _ _ _ _ _ _ _ _ _ _ (xA m c t) (slab_read m c t) (kF m c (before t)) (vF m c (before t)) (fun y => congrFun (View.read_rep _ _) y) (fun y => congrFun (View.read_rep _ _) y) (fun y => congrFun (View.read_rep _ _) y) (fun y => congrFun (View.read_rep _ _) y) (fun y => congrFun (View.read_rep _ _) y) (fun y => congrFun (View.read_rep _ _) y))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H2, H3, H4, H5, H6, H7, H8, H9, H10, H11⟩
    isplitl [H4 H5 H6 H7 H8 H9 H10 H11 Hr]
    · isplitl [H4 H5 H6 H7 H8 H9 H10 H11]
      · isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexact H10
        iexact H11
      iexact Hr
    isplitl [Ho]; · iexact Ho
    isplitl [H2]
    · iexists _; isplitr; · ipureintro; exact View.read_rep _ _
      iexact H2
    iexists _; isplitr; · ipureintro; exact View.read_rep _ _
    iexact H3

theorem sound_body (c : Dev nD) (t : Fin cfg0.N) :
    bodyPre m c t ⊢ wp frame (wpE (defs₀ (F := F)) Variants.none c none) Set.univ (bodyAt0 t) (fun _ => bodyPost m c t) := by
  by_cases h : t.val % 2 = 0
  · exact sound_first m c t h
  · exact sound_second m c t (by omega)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- The scratch as the launch hands it over is the scratch at anything. -/
theorem any_eq (c : Dev nD) : anyS (F := F) c = Pipeline.ΦA spec0 c := by
  unfold anyS Pipeline.ΦA
  rw [scopedRest0_eq]
  simp only [Memref.whole, View.set_whole]

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Entails.of_eq ((any_eq c).symm.trans (state_even m c 0 (by decide)).symm))
    (hout := fun c => Entails.of_eq ((state_even m c (Fin.last cfg0.N) (by decide)).trans (any_eq c)))

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- Every run ends with the argument as it was and every semaphore at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Attn

end

end
-- ==== Proof.Attn.Whole.lean ====
/-
  The dilated attention's whole run over the extended reals: it ends with the attention of its argument, row by row.
-/
module

public import proofs.«01_k».proof.Proof.Attn.Unit
public import proofs.«01_k».proof.Proof.Attn.Run

@[expose] public section

set_option maxRecDepth 16384
set_option maxHeartbeats 400000

noncomputable section

namespace Cert.KernelIdeal.Attn

open Cert.KernelIdeal Cert.KernelIdeal.Gen Cert.AttnSpec
open Idealize.ShloMosaic Idealize.ShloMosaic.TcCoe Idealize.SL.Sem

variable (m : (ℓ : Loc nD τ sig) → Buf (Elt Ideal) ℓ)

/-- The argument, slab by slab and row by row. -/
def arg (x : S9x32768x128.Idx → EReal) : ℕ → ℕ → Fin 128 → EReal := fun s R l =>
  x (ix3 ⟨s % 9, Nat.mod_lt _ (by decide)⟩ ⟨R % 32768, Nat.mod_lt _ (by decide)⟩ l)
def argOf (c : Dev nD) : S9x32768x128.Idx → EReal := m ((c.tc : Thread nD τ).loc main_arg0)

/-- The attention of the argument as the array of the result. -/
def resultOf (x : S9x32768x128.Idx → EReal) : S32768x384.Idx → EReal := fun y =>
  result (arg x) (y 0).val ⟨(y 1).val / 128, by have h : (y 1).val < 384 := (y 1).isLt; omega⟩
    ⟨(y 1).val % 128 / 64, by omega⟩ ⟨(y 1).val % 64, by omega⟩

theorem N16 : cfg0.N = 16 := by decide

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, (cfg0.win 1).index t 0 = t.val ∧ (cfg0.win 1).index t 1 = 0 :=
  (by decide +kernel : ∀ t : Fin grid0.N, win0_1.index t 0 = t.val ∧ win0_1.index t 1 = 0)

/-- A row of the point's block is a row of the argument. -/
theorem xA_eq (c : Dev nD) (t : Fin cfg0.N) (s r : ℕ) (l : Fin 128) (hr : r < 2048) :
    xA m c t s r l = arg (argOf m c) s (2048 * t.val + r) l := by
  have hi := index0 t
  have ht : t.val < 16 := lt_of_lt_of_eq t.isLt N16
  have e : ((cfg0.win 0).blk t).view.emb (ix3 ⟨s % 9, Nat.mod_lt _ (by decide)⟩ ⟨r % 2048, Nat.mod_lt _ (by decide)⟩ l : S9x2048x128.Idx)
      = (ix3 ⟨s % 9, Nat.mod_lt _ (by decide)⟩ ⟨(2048 * t.val + r) % 32768, Nat.mod_lt _ (by decide)⟩ l : S9x32768x128.Idx) := funext fun a => Fin.ext (by
    match a with
    | ⟨0, _⟩ => show win0_0.index t 0 * 9 + 1 * (s % 9) = s % 9; rw [hi.1]; omega
    | ⟨1, _⟩ => show win0_0.index t 1 * 2048 + 1 * (r % 2048) = (2048 * t.val + r) % 32768; rw [hi.2.1]; omega
    | ⟨2, _⟩ => show win0_0.index t 2 * 128 + 1 * l.val = l.val; rw [hi.2.2]; omega)
  exact congrArg (argOf m c) e

theorem zero_bits : (Scalar.ofBits .f32 0x00000000#32 : Ideal .f32) = (0 : EReal) := Ideal.ofBits_zero_f32

theorem refill_apply (prev x : ℕ → ℕ → Fin 128 → EReal) (s g r : ℕ) (l : Fin 128) :
    refill (F := Ideal) prev x s g r l = if r < wid g then prev g r l else x (s + g) (r - wid g) l := rfl
theorem kept_apply (old : ℕ → ℕ → Fin 128 → EReal) (g r : ℕ) (l : Fin 128) : kept (F := Ideal) old g r l = old g (2048 + r) l := rfl
theorem nothing_apply (g r : ℕ) (l : Fin 128) : nothing (F := Ideal) g r l = (0 : EReal) := zero_bits
theorem three (g : Fin 3) : g = 0 ∨ g = 1 ∨ g = 2 := by fin_cases g <;> simp

theorem arg_congr (x : S9x32768x128.Idx → EReal) (s : ℕ) {R R' : ℕ} (l : Fin 128) (h : R = R') : arg x s R l = arg x s R' l := by rw [h]

/-- A row of the scratch, of any point, is the row of the argument that the window's row may look at, or a zero. -/
theorem refill_eq (c : Dev nD) (t : Fin cfg0.N) (g : Fin 3) (s ρ : ℕ) (hρ : ρ < 2048) (kk : Fin 256) (l : Fin 128) :
    (if t.val % 2 = 0 then refill nothing (xA m c t) s else refill (kept (refill nothing (xA m c (before t)) s)) (xA m c t) s) g.val
      (128 * dil g.val * (ρ / (128 * dil g.val)) + ρ % dil g.val + dil g.val * kk.val) l
      = past (step g) (arg (argOf m c) (s + g.val)) (2048 * t.val + ρ) kk l := by
  have hk := kk.isLt
  have hb : (before t).val = t.val - 1 := rfl
  obtain rfl | rfl | rfl : g = 0 ∨ g = 1 ∨ g = 2 := three g
  all_goals
    simp only [past, step, dil, Fin.val_zero, Fin.val_one, Fin.val_two, if_true, if_false,
      show ¬ (1 : ℕ) = 0 by decide, show ¬ (2 : ℕ) = 0 by decide, show ¬ (2 : ℕ) = 1 by decide]
    by_cases h2 : t.val % 2 = 0
    · simp only [h2, if_true, refill_apply, nothing_apply, wid]
      split_ifs with h3 h4 h4
      · rfl
      · omega
      · omega
      · rw [xA_eq m c t _ _ _ (by omega)]
        refine arg_congr _ _ _ ?_
        omega
    · simp only [h2, if_false, refill_apply, kept_apply, nothing_apply, wid]
      split_ifs with h3 h4 h4
      all_goals first
        | omega
        | (rw [xA_eq m c _ _ _ _ (by omega)]
           refine arg_congr _ _ _ ?_
           omega)

theorem kA_eq (c : Dev nD) (t : Fin cfg0.N) (g : Fin 3) (ρ : ℕ) (hρ : ρ < 2048) (kk : Fin 256) (l : Fin 128) :
    kA m c t g.val (128 * dil g.val * (ρ / (128 * dil g.val)) + ρ % dil g.val + dil g.val * kk.val) l
      = past (step g) (arg (argOf m c) (3 + g.val)) (2048 * t.val + ρ) kk l := by
  rw [← refill_eq m c t g 3 ρ hρ kk l]; rfl
theorem vA_eq (c : Dev nD) (t : Fin cfg0.N) (g : Fin 3) (ρ : ℕ) (hρ : ρ < 2048) (kk : Fin 256) (l : Fin 128) :
    vA m c t g.val (128 * dil g.val * (ρ / (128 * dil g.val)) + ρ % dil g.val + dil g.val * kk.val) l
      = past (step g) (arg (argOf m c) (6 + g.val)) (2048 * t.val + ρ) kk l := by
  rw [← refill_eq m c t g 6 ρ hρ kk l]; rfl

/-- The scores of a row of the point's block are those of the argument's row. -/
theorem scores_eq (c : Dev nD) (t : Fin cfg0.N) (g : Fin 3) (h : Fin 2) (ρ : ℕ) (hρ : ρ < 2048) :
    scores (qU g.val (dil g.val) (ρ / (128 * dil g.val)) (ρ % dil g.val) (xA m c t)) (kU (dil g.val) (ρ / (128 * dil g.val)) (ρ % dil g.val) (kA m c t g.val))
      ⟨ρ % (128 * dil g.val) / dil g.val % 128, Nat.mod_lt _ (by decide)⟩ (maskOf (prevBit (t.val % 2) (ρ / (128 * dil g.val)))) h
      = sc g (arg (argOf m c)) (2048 * t.val + ρ) h := by
  funext kk
  unfold scores sc
  rw [maskOf_apply]
  have hs : (ρ % (128 * dil g.val) / dil g.val % 128 ≤ kk.val ∧ kk.val ≤ ρ % (128 * dil g.val) / dil g.val % 128 + 128
      ∧ (128 ≤ kk.val ∨ prevBit (t.val % 2) (ρ / (128 * dil g.val)) = 1#1)) ↔ seen (step g) (2048 * t.val + ρ) kk := by
    have hp (a j : ℕ) : prevBit a j = 1#1 ↔ ¬ (a = 0 ∧ j = 0) := by unfold prevBit; split_ifs with h <;> simp [h]
    rw [hp]
    unfold seen
    obtain rfl | rfl | rfl : g = 0 ∨ g = 1 ∨ g = 2 := three g
    all_goals
      simp only [step, dil, Fin.val_zero, Fin.val_one, Fin.val_two, if_true, if_false,
        show ¬ (1 : ℕ) = 0 by decide, show ¬ (2 : ℕ) = 0 by decide, show ¬ (2 : ℕ) = 1 by decide]
      have a0 : (2048 * t.val + ρ) % 4096 = 2048 * (t.val % 2) + ρ := by omega
      rw [a0]
      generalize t.val = T at *
      constructor <;> (intro h; omega)
  simp only [hs]
  by_cases hd : seen (step g) (2048 * t.val + ρ) kk
  · rw [if_pos hd, if_pos hd]
    show score h _ _ _ kk = _
    unfold score
    refine Finset.sum_congr rfl fun e _ => ?_
    have ek := kA_eq m c t g ρ hρ kk (lane h e)
    have eq : xA m c t g.val (128 * dil g.val * (ρ / (128 * dil g.val)) + ρ % dil g.val + dil g.val * (ρ % (128 * dil g.val) / dil g.val % 128)) (lane h e)
        = arg (argOf m c) g.val (2048 * t.val + ρ) (lane h e) := by
      have er : 128 * dil g.val * (ρ / (128 * dil g.val)) + ρ % dil g.val + dil g.val * (ρ % (128 * dil g.val) / dil g.val % 128) = ρ := by
        obtain rfl | rfl | rfl : g = 0 ∨ g = 1 ∨ g = 2 := three g
        all_goals
          simp only [dil, Fin.val_zero, Fin.val_one, Fin.val_two]
          omega
      rw [er]
      exact xA_eq m c t _ _ _ hρ
    exact congrArg₂ (fun a b : EReal => a * eighth * b) eq ek
  · rw [if_neg hd, if_neg hd]
    rfl

theorem lane_split (l : Fin 128) : l = lane ⟨l.val / 64, by omega⟩ ⟨l.val % 64, by omega⟩ := Fin.ext (by show l.val = 64 * (l.val / 64) + l.val % 64; omega)

theorem bufO_eq (c : Dev nD) (t : Fin cfg0.N) (g : Fin 3) (ρ : Fin 2048) (h : Fin 2) (e : Fin 64) :
    bufO (F := Ideal) (t.val % 2) (xA m c t) (kA m c t) (vA m c t) (ix3 g ρ (lane h e)) = Cert.AttnSpec.outAt (arg (argOf m c)) (2048 * t.val + ρ.val) g h e := by
  show unitO (F := Ideal) _ _ _ _ (ix3 0 _ (lane h e)) = _
  rw [unitO_apply]
  unfold Cert.AttnSpec.outAt
  rw [← scores_eq m c t g h ρ.val ρ.isLt]
  refine congrArg₂ Ideal.div (Finset.sum_congr rfl fun kk _ => congrArg₂ (fun a b : EReal => a * b) rfl ?_) rfl
  exact vA_eq m c t g ρ.val ρ.isLt kk (lane h e)

theorem bufL_eq (c : Dev nD) (t : Fin cfg0.N) (g : Fin 3) (ρ : Fin 2048) (h : Fin 2) (e : Fin 64) :
    bufL (F := Ideal) (t.val % 2) (xA m c t) (kA m c t) (ix3 g ρ (lane h e)) = lseAt (arg (argOf m c)) (2048 * t.val + ρ.val) h g := by
  show unitL (F := Ideal) _ _ _ (ix3 0 _ (lane h e)) = _
  rw [unitL_apply]
  unfold lseAt
  rw [← scores_eq m c t g h ρ.val ρ.isLt]
  rfl

/-- An entry of the point's block of the result. -/
theorem outA_eq (c : Dev nD) (t : Fin cfg0.N) (y : S2048x384.Idx) (i : S32768x384.Idx) (h0 : (i 0).val = 2048 * t.val + (y 0).val) (h1 : (i 1).val = (y 1).val) :
    outA m c t y = resultOf (argOf m c) i := by
  have y0 : (y 0).val < 2048 := (y 0).isLt
  have y1 : (y 1).val < 384 := (y 1).isLt
  unfold outA
  rw [half]
  unfold outB Attn.outAt
  rw [mixed_apply]
  have hl : (⟨(y 1).val % 128, Nat.mod_lt _ (by decide)⟩ : Fin 128) = lane ⟨(y 1).val % 128 / 64, by omega⟩ ⟨(y 1).val % 64, by omega⟩ :=
    Fin.ext (by show (y 1).val % 128 = 64 * ((y 1).val % 128 / 64) + (y 1).val % 64; omega)
  rw [hl]
  have tl (G : S3x2048x128.Idx → EReal) (g : Fin 3) (l : Fin 128) :
      tile (F := Ideal) G g ((y 0).val / 256) (ix3 0 ⟨(y 0).val % 256, Nat.mod_lt _ (by decide)⟩ l) = G (ix3 g ⟨(y 0).val, y0⟩ l) := by
    show G (ix3 g ⟨(256 * ((y 0).val / 256) + (y 0).val % 256) % 2048, _⟩ l) = _
    exact congrArg (fun r => G (ix3 g r l)) (Fin.ext (by show (256 * ((y 0).val / 256) + (y 0).val % 256) % 2048 = (y 0).val; omega))
  rw [tl, tl, tl, tl, bufO_eq, bufL_eq, bufL_eq, bufL_eq]
  have hv (L : Fin 3 → EReal) : ![L 0, L 1, L 2] = L := by funext g; fin_cases g <;> rfl
  rw [hv (lseAt (arg (argOf m c)) (2048 * t.val + (y 0).val) ⟨(y 1).val % 128 / 64, by omega⟩)]
  unfold resultOf result
  have hg : (⟨(y 1).val / 128 % 3, Nat.mod_lt _ (by decide)⟩ : Fin 3) = ⟨(i 1).val / 128, by have h : (i 1).val < 384 := (i 1).isLt; omega⟩ :=
    Fin.ext (by show (y 1).val / 128 % 3 = (i 1).val / 128; omega)
  have hh : (⟨(y 1).val % 128 / 64, by omega⟩ : Fin 2) = ⟨(i 1).val % 128 / 64, by omega⟩ := Fin.ext (by show (y 1).val % 128 / 64 = (i 1).val % 128 / 64; omega)
  have he : (⟨(y 1).val % 64, by omega⟩ : Fin 64) = ⟨(i 1).val % 64, by omega⟩ := Fin.ext (by show (y 1).val % 64 = (i 1).val % 64; omega)
  rw [hg, hh, he, h0]

theorem flushed_eq (c : Dev nD) (t : Fin cfg0.N) :
    (dats m 0 c).flushed 1 t = ((cfg0.win 1).blk t).view.read (Elt Ideal) (resultOf (argOf m c)) := by
  rw [show (dats m 0 c).flushed 1 t = (dats m 0 c).after 1 t from rfl, after_1]
  funext y
  have hi := index1 t
  exact outA_eq m c t y (((cfg0.win 1).blk t).view.emb y)
    (by show win0_1.index t 0 * 2048 + 1 * (y 0).val = 2048 * t.val + (y 0).val; rw [hi.1]; omega)
    (by show win0_1.index t 1 * 384 + 1 * (y 1).val = (y 1).val; rw [hi.2]; omega)

/-- The blocks of the result cover it. -/
theorem cover (i : S32768x384.Idx) : ∃ t : Fin cfg0.N, (cfg0.win 1).flush t = true ∧ i ∈ ((cfg0.win 1).blk t).view.set := by
  have hr : (i 0).val < 32768 := (i 0).isLt
  have hc : (i 1).val < 384 := (i 1).isLt
  have ht : (i 0).val / 2048 < cfg0.N := by rw [N16]; omega
  refine ⟨⟨(i 0).val / 2048, ht⟩, flush0_1 _, ?_⟩
  have hi := index1 ⟨(i 0).val / 2048, ht⟩
  generalize hq : (⟨(i 0).val / 2048, ht⟩ : Fin cfg0.N) = t at hi
  have htv : t.val = (i 0).val / 2048 := by rw [← hq]
  show i ∈ ((View.whole main_v0).slice (win0_1.rect t)).set
  rw [View.set_slice_whole, Rect.mem_set_unit]
  intro a
  match a with
  | ⟨0, _⟩ => show win0_1.index t 0 * 2048 ≤ (i 0).val ∧ (i 0).val < win0_1.index t 0 * 2048 + 2048; rw [hi.1]; omega
  | ⟨1, _⟩ => show win0_1.index t 1 * 384 ≤ (i 1).val ∧ (i 1).val < win0_1.index t 1 * 384 + 384; rw [hi.2]; omega

theorem final (c : Dev nD) : (dats m 0 c).arrAt 1 cfg0.N = resultOf (argOf m c) :=
  (dats m 0 c).arrAt_eq_of_cover 1 (resultOf (argOf m c)) (fun t _ => flushed_eq m c t) cover

/-- The whole run: it ends with the attention of the argument, which is as it was. -/
theorem run (ρ : Dev nD → PrngReg) : θ_run defs (onTc (τ := τ) (main (F := Ideal))) ⟨m, fun _ => 0, ρ⟩ fun r => ∀ c : Dev nD,
      r.2.mem ((c.tc : Thread nD τ).loc main_v0) = resultOf (argOf m c)
      ∧ r.2.mem ((c.tc : Thread nD τ).loc main_arg0) = m ((c.tc : Thread nD τ).loc main_arg0) :=
  (θ_run defs _ _).mono (fun _ h c => ⟨((h.1 c).1 1).trans (final m c), h.2 c⟩) (θ_run_and (run_main m ρ) (unchanged m ρ))

end Cert.KernelIdeal.Attn

end

end
-- ==== Proof.Attn.Finite.lean ====
/-
  Rows of scores that are finite: dividing every weight by their sum before the products with the values, or the sum of the
  products after, is the same.
-/
module

public import proofs.«01_k».proof.Proof.Attn.Spec

@[expose] public section

noncomputable section

namespace Cert.AttnSpec

open Idealize.ShloMosaic

/-- A nonnegative factor below infinity goes into a sum. -/
theorem sum_mul {n : ℕ} (f : Fin n → EReal) (c : EReal) (h0 : 0 ≤ c) (h1 : c ≠ ⊤) : (∑ k, f k) * c = ∑ k, f k * c := by
  have h (s : Finset (Fin n)) : (∑ k ∈ s, f k) * c = ∑ k ∈ s, f k * c := by
    induction s using Finset.induction_on with
    | empty => simp
    | insert a s ha ih => rw [Finset.sum_insert ha, Finset.sum_insert ha, EReal.right_distrib_of_nonneg_of_ne_top h0 h1, ih]
  exact h Finset.univ

/-- A number that is neither infinity. -/
def Real' (x : EReal) : Prop := ∃ r : ℝ, x = r

theorem real_of {x : EReal} (h : max x (-x) < ⊤) : Real' x := by
  induction x with
  | bot => simp at h
  | top => simp at h
  | coe r => exact ⟨r, rfl⟩
theorem real_mul {x y : EReal} : Real' x → Real' y → Real' (x * y) := by
  rintro ⟨r, rfl⟩ ⟨s, rfl⟩; exact ⟨r * s, by push_cast; rfl⟩
theorem real_zero : Real' 0 := ⟨0, by simp⟩
theorem real_sum {n : ℕ} (f : Fin n → EReal) (h : ∀ k, Real' (f k)) : Real' (∑ k, f k) := by
  have hs (s : Finset (Fin n)) : Real' (∑ k ∈ s, f k) := by
    induction s using Finset.induction_on with
    | empty => simpa using real_zero
    | insert a s ha ih =>
      rw [Finset.sum_insert ha]
      obtain ⟨r, hr⟩ := h a
      obtain ⟨q, hq⟩ := ih
      exact ⟨r + q, by rw [hr, hq]; push_cast; rfl⟩
  exact hs Finset.univ
theorem eighth_eq : eighth = ((1 / 8 : ℝ) : EReal) := by
  unfold eighth
  simp [Ideal.ofBits, Ideal.ieee]
  norm_num
  rw [← EReal.coe_mul]
  norm_num

theorem real_eighth : Real' eighth := ⟨_, eighth_eq⟩

theorem exp_nonneg (x : EReal) : 0 ≤ Ideal.exp x := by
  induction x with
  | bot => exact le_refl (0 : EReal)
  | top => exact (le_top : (0 : EReal) ≤ ⊤)
  | coe r => exact (EReal.coe_nonneg.mpr (Real.exp_pos r).le : (0 : EReal) ≤ ((Real.exp r : ℝ) : EReal))
theorem exp_pos_of (x : EReal) (h : x ≠ ⊥) : 0 < Ideal.exp x := by
  induction x with
  | bot => exact absurd rfl h
  | top => exact (EReal.zero_lt_top : (0 : EReal) < ⊤)
  | coe r => exact (EReal.coe_pos.mpr (Real.exp_pos r) : (0 : EReal) < ((Real.exp r : ℝ) : EReal))

theorem rowMax_ne_top (s : Fin 256 → EReal) (h : ∀ k, s k ≠ ⊤) : rowMax s ≠ ⊤ := by
  unfold rowMax
  have : (Finset.univ : Finset (Fin 256)).fold max ⊥ s < ⊤ := by
    rw [Finset.fold_max_lt]
    exact ⟨bot_lt_top, fun k _ => lt_top_iff_ne_top.mpr (h k)⟩
  exact this.ne

theorem rowDen_pos (s : Fin 256 → EReal) (h : ∀ k, s k ≠ ⊤) (k : Fin 256) (hk : s k ≠ ⊥) : 0 < rowDen s := by
  have hm := rowMax_ne_top s h
  have hd : s k - rowMax s ≠ ⊥ := by
    generalize rowMax s = M at hm
    have h1 := h k
    generalize s k = a at hk h1
    induction a with
    | bot => exact absurd rfl hk
    | top => exact absurd rfl h1
    | coe r =>
      induction M with
      | bot => simp
      | top => exact absurd rfl hm
      | coe q => exact EReal.coe_ne_bot (r - q)
  calc (0 : EReal) < rowExp s k := exp_pos_of _ hd
    _ ≤ rowDen s := Finset.single_le_sum (f := rowExp s) (fun j _ => exp_nonneg _) (Finset.mem_univ k)

/-- The weights divided one by one, or the result. -/
theorem weighted (s v : Fin 256 → EReal) (h : ∀ k, s k ≠ ⊤) (k : Fin 256) (hk : s k ≠ ⊥) :
    ∑ j, v j * Ideal.div (rowExp s j) (rowDen s) = Ideal.div (∑ j, rowExp s j * v j) (rowDen s) := by
  have hp := rowDen_pos s h k hk
  have hd (x : EReal) : Ideal.div x (rowDen s) = x * (rowDen s)⁻¹ := by unfold Ideal.div; rw [if_neg hp.ne']
  rw [hd, sum_mul _ _ (EReal.inv_nonneg_of_nonneg hp.le) (by
    generalize rowDen s = D
    induction D with
    | bot => simp
    | top => simp
    | coe r => exact EReal.coe_ne_top r⁻¹)]
  refine Finset.sum_congr rfl fun j _ => ?_
  rw [hd, ← mul_assoc, mul_comm (v j)]

/-- Its own key is one a row looks at. -/
theorem seen_own (d R : ℕ) (hd : 0 < d) : ∃ kk : Fin 256, seen d R kk := by
  have h : R % (128 * d) / d < 128 := Nat.div_lt_of_lt_mul (by rw [mul_comm d]; exact Nat.mod_lt _ (by positivity))
  exact ⟨⟨R % (128 * d) / d + 128, by omega⟩, by unfold seen; exact ⟨Nat.le_add_right _ _, le_refl _, Or.inl (Nat.le_add_left _ _)⟩⟩

theorem step_pos (g : Fin 3) : 0 < step g := by unfold step; split_ifs <;> omega

theorem past_real (d : ℕ) (x : ℕ → Fin 128 → EReal) (hx : ∀ R l, Real' (x R l)) (R : ℕ) (kk : Fin 256) (l : Fin 128) : Real' (past d x R kk l) := by
  unfold past; split_ifs
  · exact real_zero
  · exact hx _ _

theorem sc_real (g : Fin 3) (X : ℕ → ℕ → Fin 128 → EReal) (hX : ∀ s < 6, ∀ R l, Real' (X s R l)) (R : ℕ) (h : Fin 2) (kk : Fin 256)
    (hs : seen (step g) R kk) : Real' (sc g X R h kk) := by
  unfold sc
  rw [if_pos hs]
  exact real_sum _ fun e => real_mul (real_mul (hX _ (by omega) _ _) real_eighth) (past_real _ _ (hX _ (by omega)) _ _ _)

/-- The output of a group, its weights divided one by one. -/
theorem outAt_eq (X : ℕ → ℕ → Fin 128 → EReal) (hX : ∀ s < 6, ∀ R l, Real' (X s R l)) (R : ℕ) (g : Fin 3) (h : Fin 2) (e : Fin 64) :
    ∑ kk : Fin 256, past (step g) (X (6 + g.val)) R kk (lane h e) * Ideal.div (rowExp (sc g X R h) kk) (rowDen (sc g X R h)) = outAt X R g h e := by
  obtain ⟨kk, hk⟩ := seen_own (step g) R (step_pos g)
  refine weighted (sc g X R h) _ (fun j => ?_) kk ?_
  · by_cases hs : seen (step g) R j
    · obtain ⟨r, hr⟩ := sc_real g X hX R h j hs
      rw [hr]; exact EReal.coe_ne_top r
    · unfold sc; rw [if_neg hs]; exact bot_ne_top
  · obtain ⟨r, hr⟩ := sc_real g X hX R h kk hk
    rw [hr]; exact EReal.coe_ne_bot r

/-- The scale taken after the products. -/
theorem scaled (q k : Fin 64 → EReal) : (∑ e, q e * k e) * eighth = ∑ e, q e * eighth * k e := by
  rw [sum_mul _ _ (by rw [eighth_eq]; exact_mod_cast (by norm_num : (0 : ℝ) ≤ 1 / 8)) (by rw [eighth_eq]; exact EReal.coe_ne_top _)]
  refine Finset.sum_congr rfl fun e _ => ?_
  rw [mul_assoc, mul_comm (k e), ← mul_assoc]

/-- The band of 128 keys back and the window before, as one word of one bit. -/
theorem band_of (n r k : ℕ) (hn : n < 32) (hr : r < 128) (hk : k < 256) :
    IntOp.andi (IntOp.andi (IntOp.cmpi .sge (BitVec.ofNat 32 k) (BitVec.ofNat 32 r))
      (IntOp.cmpi .sle (BitVec.ofNat 32 k) (IntOp.addi (BitVec.ofNat 32 r) 128#32)))
      (IntOp.ori (IntOp.cmpi .sgt (BitVec.ofNat 32 n) 0#32) (IntOp.cmpi .sge (BitVec.ofNat 32 k) 128#32))
      = if r ≤ k ∧ k ≤ r + 128 ∧ (128 ≤ k ∨ ¬ n = 0) then 1#1 else 0#1 := by
  have ho (a b : BitVec 1) : IntOp.ori a b = IntOp.ori b a := by revert a b; decide
  rw [ho, band_word _ r k hr hk]
  have hp : IntOp.cmpi .sgt (BitVec.ofNat 32 n) 0#32 = 1#1 ↔ ¬ n = 0 := by
    rw [show (0#32 : BitVec 32) = BitVec.ofNat 32 0 from rfl, sgt_nat n 0 (by omega) (by omega)]
    by_cases h : n = 0
    · simp [h]
    · simp [h, Nat.pos_of_ne_zero h]
  simp only [hp]

end Cert.AttnSpec

end

end
-- ==== Proof.Attn.Dense.lean ====
/-
  The same attention over all the 4096 rows of a sequence: a row looks at those that lie a multiple of the dilation, and at
  most 128 of them, before it. These are the rows of the two windows that `sc` looks at.
-/
module

public import proofs.«01_k».proof.Proof.Attn.Finite

@[expose] public section

set_option maxHeartbeats 400000

noncomputable section

namespace Cert.AttnSpec

open Idealize.ShloMosaic

/-! ## Sums and maxima over two index sets with the same entries -/

section Two
variable {m n : ℕ} (P : Fin m → Prop) (Q : Fin n → Prop) (u : Fin m → Fin n) (w : Fin n → Fin m)

theorem sum_two (hu : ∀ k, P k → Q (u k) ∧ w (u k) = k) (hw : ∀ t, Q t → P (w t) ∧ u (w t) = t) (f : Fin m → EReal) (F : Fin n → EReal)
    (h : ∀ k, P k → F (u k) = f k) (hf : ∀ k, ¬ P k → f k = 0) (hF : ∀ t, ¬ Q t → F t = 0) : ∑ t, F t = ∑ k, f k := by
  classical
  have e1 : ∑ t, F t = ∑ t ∈ Finset.univ.filter Q, F t :=
    (Finset.sum_subset (Finset.subset_univ _) fun t _ ht => hF t fun hq => ht (Finset.mem_filter.mpr ⟨Finset.mem_univ t, hq⟩)).symm
  have e2 : ∑ k, f k = ∑ k ∈ Finset.univ.filter P, f k :=
    (Finset.sum_subset (Finset.subset_univ _) fun k _ hk => hf k fun hp => hk (Finset.mem_filter.mpr ⟨Finset.mem_univ k, hp⟩)).symm
  rw [e1, e2]
  refine (Finset.sum_nbij' u w (fun k hk => ?_) (fun t ht => ?_) (fun k hk => ?_) (fun t ht => ?_) (fun k hk => ?_)).symm
  · exact Finset.mem_filter.mpr ⟨Finset.mem_univ _, (hu k (Finset.mem_filter.mp hk).2).1⟩
  · exact Finset.mem_filter.mpr ⟨Finset.mem_univ _, (hw t (Finset.mem_filter.mp ht).2).1⟩
  · exact (hu k (Finset.mem_filter.mp hk).2).2
  · exact (hw t (Finset.mem_filter.mp ht).2).2
  · exact (h k (Finset.mem_filter.mp hk).2).symm

theorem max_two (hw : ∀ t, Q t → P (w t) ∧ u (w t) = t) (hu : ∀ k, P k → Q (u k)) (f : Fin m → EReal) (F : Fin n → EReal)
    (h : ∀ k, P k → F (u k) = f k) (hf : ∀ k, ¬ P k → f k = ⊥) (hF : ∀ t, ¬ Q t → F t = ⊥) :
    (Finset.univ : Finset (Fin n)).fold max ⊥ F = (Finset.univ : Finset (Fin m)).fold max ⊥ f := by
  apply le_antisymm
  · rw [Finset.fold_max_le]
    refine ⟨bot_le, fun t _ => ?_⟩
    by_cases hq : Q t
    · have e := hw t hq
      rw [← e.2, h _ e.1]
      exact Finset.le_fold_max _ |>.mpr (Or.inr ⟨w t, Finset.mem_univ _, le_refl _⟩)
    · rw [hF t hq]; exact bot_le
  · rw [Finset.fold_max_le]
    refine ⟨bot_le, fun k _ => ?_⟩
    by_cases hp : P k
    · rw [← h k hp]
      exact Finset.le_fold_max _ |>.mpr (Or.inr ⟨u k, Finset.mem_univ _, le_refl _⟩)
    · rw [hf k hp]; exact bot_le

end Two

/-! ## The rows a row looks at -/

/-- Row `s` of a sequence looks at row `t` of it. -/
def visible (d s t : ℕ) : Prop := t ≤ s ∧ s - t ≤ 128 * d ∧ (s - t) % d = 0

instance (d s t : ℕ) : Decidable (visible d s t) := by unfold visible; infer_instance

/-- The row that is the `kk`th, and which one a row is. -/
def rowOf (d s : ℕ) (kk : Fin 256) : Fin 4096 := ⟨(s - s % (128 * d) + s % d + d * kk.val - 128 * d) % 4096, Nat.mod_lt _ (by decide)⟩
def placeOf (d s : ℕ) (t : Fin 4096) : Fin 256 := ⟨(128 + s % (128 * d) / d - (s - t.val) / d) % 256, Nat.mod_lt _ (by decide)⟩

theorem steps (g : Fin 3) : step g = 1 ∨ step g = 4 ∨ step g = 16 := by fin_cases g <;> simp [step]

theorem seen_visible (d b s : ℕ) (hd : d = 1 ∨ d = 4 ∨ d = 16) (hs : s < 4096) (kk : Fin 256) (h : seen d (4096 * b + s) kk) :
    visible d s (rowOf d s kk).val ∧ placeOf d s (rowOf d s kk) = kk := by
  have hk := kk.isLt
  obtain ⟨h1, h2, h3⟩ := h
  refine ⟨?_, Fin.ext ?_⟩
  · show (s - s % (128 * d) + s % d + d * kk.val - 128 * d) % 4096 ≤ s ∧ s - (s - s % (128 * d) + s % d + d * kk.val - 128 * d) % 4096 ≤ 128 * d
      ∧ (s - (s - s % (128 * d) + s % d + d * kk.val - 128 * d) % 4096) % d = 0
    obtain rfl | rfl | rfl := hd <;> refine ⟨?_, ?_, ?_⟩ <;> omega
  · show (128 + s % (128 * d) / d - (s - (s - s % (128 * d) + s % d + d * kk.val - 128 * d) % 4096) / d) % 256 = kk.val
    obtain rfl | rfl | rfl := hd <;> omega

theorem visible_seen (d b s : ℕ) (hd : d = 1 ∨ d = 4 ∨ d = 16) (hs : s < 4096) (t : Fin 4096) (h : visible d s t.val) :
    seen d (4096 * b + s) (placeOf d s t) ∧ rowOf d s (placeOf d s t) = t := by
  have ht := t.isLt
  obtain ⟨h1, h2, h3⟩ := h
  refine ⟨?_, Fin.ext ?_⟩
  · show (4096 * b + s) % (128 * d) / d ≤ (128 + s % (128 * d) / d - (s - t.val) / d) % 256
      ∧ (128 + s % (128 * d) / d - (s - t.val) / d) % 256 ≤ (4096 * b + s) % (128 * d) / d + 128
      ∧ (128 ≤ (128 + s % (128 * d) / d - (s - t.val) / d) % 256 ∨ ¬ (4096 * b + s) % 4096 / (128 * d) = 0)
    obtain rfl | rfl | rfl := hd <;> refine ⟨?_, ?_, ?_⟩ <;> omega
  · show (s - s % (128 * d) + s % d + d * ((128 + s % (128 * d) / d - (s - t.val) / d) % 256) - 128 * d) % 4096 = t.val
    obtain rfl | rfl | rfl := hd <;> omega

theorem past_seen (d b s : ℕ) (hd : d = 1 ∨ d = 4 ∨ d = 16) (hs : s < 4096) (x : ℕ → Fin 128 → EReal) (kk : Fin 256) (l : Fin 128)
    (h : seen d (4096 * b + s) kk) : past d x (4096 * b + s) kk l = x (4096 * b + (rowOf d s kk).val) l := by
  have hk := kk.isLt
  obtain ⟨h1, h2, h3⟩ := h
  unfold past
  rw [if_neg (by intro hh; omega)]
  refine congrArg (fun r => x r l) ?_
  show 4096 * b + s - (4096 * b + s) % (128 * d) + (4096 * b + s) % d + d * kk.val - 128 * d = 4096 * b + (s - s % (128 * d) + s % d + d * kk.val - 128 * d) % 4096
  obtain rfl | rfl | rfl := hd <;> omega

/-! ## The attention over all rows -/

/-- The scores of row `s` of sequence `b`. -/
def allSc (g : Fin 3) (X : ℕ → ℕ → Fin 128 → EReal) (b s : ℕ) (h : Fin 2) (t : Fin 4096) : EReal :=
  if visible (step g) s t.val then ∑ e : Fin 64, X g.val (4096 * b + s) (lane h e) * eighth * X (3 + g.val) (4096 * b + t.val) (lane h e) else ⊥

theorem allSc_row (g : Fin 3) (X : ℕ → ℕ → Fin 128 → EReal) (b s : ℕ) (hs : s < 4096) (h : Fin 2) (kk : Fin 256) (hk : seen (step g) (4096 * b + s) kk) :
    allSc g X b s h (rowOf (step g) s kk) = sc g X (4096 * b + s) h kk := by
  unfold allSc sc
  rw [if_pos hk, if_pos (seen_visible _ b s (steps g) hs kk hk).1]
  exact Finset.sum_congr rfl fun e _ => by rw [past_seen (step g) b s (steps g) hs _ kk _ hk]

theorem all_max (g : Fin 3) (X : ℕ → ℕ → Fin 128 → EReal) (b s : ℕ) (hs : s < 4096) (h : Fin 2) :
    (Finset.univ : Finset (Fin 4096)).fold max ⊥ (allSc g X b s h) = rowMax (sc g X (4096 * b + s) h) :=
  max_two (fun kk => seen (step g) (4096 * b + s) kk) (fun t => visible (step g) s t.val) (rowOf (step g) s) (placeOf (step g) s)
    (fun t ht => visible_seen _ b s (steps g) hs t ht) (fun kk hk => (seen_visible _ b s (steps g) hs kk hk).1) _ _
    (fun kk hk => allSc_row g X b s hs h kk hk) (fun kk hk => by unfold sc; rw [if_neg hk]) (fun t ht => by unfold allSc; rw [if_neg ht])

/-- The exponentials of the scores. -/
def allExp (g : Fin 3) (X : ℕ → ℕ → Fin 128 → EReal) (b s : ℕ) (h : Fin 2) (t : Fin 4096) : EReal :=
  Ideal.exp (allSc g X b s h t - rowMax (sc g X (4096 * b + s) h))

theorem exp_bot (M : EReal) : Ideal.exp (⊥ - M) = 0 := by
  rw [sub_eq_add_neg, EReal.bot_add]; rfl

theorem allExp_row (g : Fin 3) (X : ℕ → ℕ → Fin 128 → EReal) (b s : ℕ) (hs : s < 4096) (h : Fin 2) (kk : Fin 256) (hk : seen (step g) (4096 * b + s) kk) :
    allExp g X b s h (rowOf (step g) s kk) = rowExp (sc g X (4096 * b + s) h) kk := by
  unfold allExp rowExp; rw [allSc_row g X b s hs h kk hk]
theorem rowExp_unseen (g : Fin 3) (X : ℕ → ℕ → Fin 128 → EReal) (R : ℕ) (h : Fin 2) (kk : Fin 256) (hk : ¬ seen (step g) R kk) :
    rowExp (sc g X R h) kk = 0 := by
  have e : sc g X R h kk = ⊥ := by unfold sc; rw [if_neg hk]
  unfold rowExp; rw [e]; exact exp_bot _
theorem allExp_unseen (g : Fin 3) (X : ℕ → ℕ → Fin 128 → EReal) (b s : ℕ) (h : Fin 2) (t : Fin 4096) (ht : ¬ visible (step g) s t.val) :
    allExp g X b s h t = 0 := by
  have e : allSc g X b s h t = ⊥ := by unfold allSc; rw [if_neg ht]
  unfold allExp; rw [e]; exact exp_bot _

theorem all_den (g : Fin 3) (X : ℕ → ℕ → Fin 128 → EReal) (b s : ℕ) (hs : s < 4096) (h : Fin 2) :
    ∑ t, allExp g X b s h t = rowDen (sc g X (4096 * b + s) h) :=
  sum_two (fun kk => seen (step g) (4096 * b + s) kk) (fun t => visible (step g) s t.val) (rowOf (step g) s) (placeOf (step g) s)
    (fun kk hk => seen_visible _ b s (steps g) hs kk hk) (fun t ht => visible_seen _ b s (steps g) hs t ht) _ _
    (fun kk hk => allExp_row g X b s hs h kk hk) (fun kk hk => rowExp_unseen g X _ h kk hk) (fun t ht => allExp_unseen g X b s h t ht)

theorem den_pos (g : Fin 3) (X : ℕ → ℕ → Fin 128 → EReal) (hX : ∀ s < 6, ∀ R l, Real' (X s R l)) (R : ℕ) (h : Fin 2) : 0 < rowDen (sc g X R h) := by
  obtain ⟨kk, hk⟩ := seen_own (step g) R (step_pos g)
  refine rowDen_pos (sc g X R h) (fun j => ?_) kk ?_
  · by_cases hs : seen (step g) R j
    · obtain ⟨r, hr⟩ := sc_real g X hX R h j hs
      rw [hr]; exact EReal.coe_ne_top r
    · unfold sc; rw [if_neg hs]; exact bot_ne_top
  · obtain ⟨r, hr⟩ := sc_real g X hX R h kk hk
    rw [hr]; exact EReal.coe_ne_bot r

theorem div_zero_of {D : EReal} (hD : 0 < D) : Ideal.div 0 D = 0 := by unfold Ideal.div; rw [if_neg hD.ne', zero_mul]

/-- The output of a group. -/
theorem all_out (g : Fin 3) (X : ℕ → ℕ → Fin 128 → EReal) (hX : ∀ s < 6, ∀ R l, Real' (X s R l)) (b s : ℕ) (hs : s < 4096) (h : Fin 2) (e : Fin 64) :
    ∑ t : Fin 4096, Ideal.div (allExp g X b s h t) (rowDen (sc g X (4096 * b + s) h)) * X (6 + g.val) (4096 * b + t.val) (lane h e)
      = outAt X (4096 * b + s) g h e := by
  have hD := den_pos g X hX (4096 * b + s) h
  rw [← outAt_eq X hX]
  refine sum_two (fun kk => seen (step g) (4096 * b + s) kk) (fun t => visible (step g) s t.val) (rowOf (step g) s) (placeOf (step g) s)
    (fun kk hk => seen_visible _ b s (steps g) hs kk hk) (fun t ht => visible_seen _ b s (steps g) hs t ht) _ _
    (fun kk hk => ?_) (fun kk hk => ?_) (fun t ht => ?_)
  · rw [allExp_row g X b s hs h kk hk, past_seen (step g) b s (steps g) hs _ kk _ hk, mul_comm]
  · rw [rowExp_unseen g X _ h kk hk, div_zero_of hD, mul_zero]
  · rw [allExp_unseen g X b s h t ht, div_zero_of hD, zero_mul]

/-! ## The mask, as a word of one bit -/

theorem sub_word (s t : ℕ) (hs : s < 4096) (h : t ≤ s) : IntOp.subi (BitVec.ofNat 32 s) (BitVec.ofNat 32 t) = BitVec.ofNat 32 (s - t) := by
  refine BitVec.eq_of_toNat_eq ?_
  show (BitVec.ofNat 32 s - BitVec.ofNat 32 t).toNat = _
  rw [BitVec.toNat_sub]
  simp only [BitVec.toNat_ofNat]
  omega

theorem sub_neg (s t : ℕ) (ht : t < 4096) (h : s < t) : IntOp.cmpi .sge (IntOp.subi (BitVec.ofNat 32 s) (BitVec.ofNat 32 t)) 0#32 = 0#1 := by
  have e : IntOp.subi (BitVec.ofNat 32 s) (BitVec.ofNat 32 t) = BitVec.ofNat 32 (2 ^ 32 - (t - s)) := by
    refine BitVec.eq_of_toNat_eq ?_
    show (BitVec.ofNat 32 s - BitVec.ofNat 32 t).toNat = _
    rw [BitVec.toNat_sub]
    simp only [BitVec.toNat_ofNat]
    omega
  rw [e]
  show BitVec.ofBool (decide ((0#32 : BitVec 32).toInt ≤ (BitVec.ofNat 32 (2 ^ 32 - (t - s))).toInt)) = _
  have e2 : (BitVec.ofNat 32 (2 ^ 32 - (t - s))).toInt < 0 := by
    rw [BitVec.toInt_ofNat']; simp only [Int.bmod]; omega
  have e3 : ¬ (0#32 : BitVec 32).toInt ≤ (BitVec.ofNat 32 (2 ^ 32 - (t - s))).toInt := by
    rw [show (0#32 : BitVec 32).toInt = 0 from rfl]; omega
  rw [decide_eq_false e3]; rfl

theorem mod_word (n d k : ℕ) (hn : n < 4096) (hd : d = 2 ^ k) (hk : k < 12) :
    IntOp.andi (BitVec.ofNat 32 n) (BitVec.ofNat 32 (d - 1)) = BitVec.ofNat 32 (n % d) := by
  have hd2 : d ≤ 4096 := by rw [hd]; exact (Nat.pow_le_pow_right (by decide) (by omega : k ≤ 12))
  have hd1 : 0 < d := by rw [hd]; positivity
  refine BitVec.eq_of_toNat_eq ?_
  show (BitVec.ofNat 32 n &&& BitVec.ofNat 32 (d - 1)).toNat = _
  rw [BitVec.toNat_and]
  simp only [BitVec.toNat_ofNat]
  have hm : n % d < d := Nat.mod_lt _ hd1
  rw [Nat.mod_eq_of_lt (by omega : n < 2 ^ 32), Nat.mod_eq_of_lt (by omega : d - 1 < 2 ^ 32), Nat.mod_eq_of_lt (by omega : n % d < 2 ^ 32), hd, Nat.and_two_pow_sub_one_eq_mod]

theorem eq_word (n : ℕ) (hn : n < 4096) : IntOp.cmpi .eq (BitVec.ofNat 32 n) 0#32 = if n = 0 then 1#1 else 0#1 := by
  show BitVec.ofBool (BitVec.ofNat 32 n == 0#32) = _
  by_cases h : n = 0
  · subst h; rfl
  · have : ¬ BitVec.ofNat 32 n = 0#32 := fun he => h (by
      have := congrArg BitVec.toNat he
      rw [BitVec.toNat_ofNat, BitVec.toNat_ofNat] at this
      omega)
    rw [if_neg h, beq_eq_false_iff_ne.mpr this]; rfl

theorem visible_word (d s t k : ℕ) (hd : d = 2 ^ k) (hk : k < 5) (hs : s < 4096) (ht : t < 4096) :
    IntOp.andi (IntOp.andi (IntOp.cmpi .sge (IntOp.subi (BitVec.ofNat 32 s) (BitVec.ofNat 32 t)) 0#32)
        (IntOp.cmpi .sle (IntOp.subi (BitVec.ofNat 32 s) (BitVec.ofNat 32 t)) (BitVec.ofNat 32 (128 * d))))
      (IntOp.cmpi .eq (IntOp.andi (IntOp.subi (BitVec.ofNat 32 s) (BitVec.ofNat 32 t)) (BitVec.ofNat 32 (d - 1))) 0#32)
      = if visible d s t then 1#1 else 0#1 := by
  have hd2 : d ≤ 16 := by rw [hd]; exact (Nat.pow_le_pow_right (by decide) (by omega : k ≤ 4))
  by_cases h : t ≤ s
  · rw [sub_word s t hs h, mod_word (s - t) d k (by omega) hd (by omega), eq_word _ (lt_of_le_of_lt (Nat.mod_le _ _) (by omega)),
      sle_nat _ _ (by omega) (by omega), show (0#32 : BitVec 32) = BitVec.ofNat 32 0 from rfl, sge_nat _ 0 (by omega) (by omega)]
    unfold visible
    by_cases h2 : s - t ≤ 128 * d <;> by_cases h3 : (s - t) % d = 0 <;> simp [h, h2, h3, IntOp.andi]
  · rw [sub_neg s t ht (by omega), if_neg (fun hh => h hh.1)]
    generalize IntOp.cmpi .sle _ _ = a
    generalize IntOp.cmpi .eq _ _ = c
    revert a c; decide

end Cert.AttnSpec

end

end
-- ==== Proof.Attn.RefBase.lean ====
/-
  The reference's operations in closed form: the rows it splits into queries, keys and values, its mask, and the scores,
  exponentials, sums and outputs of every pair of rows; then the blend over the groups.
-/
module

public import proofs.«01_k».proof.Proof.Attn.Dense
public import proofs.«01_k».proof.Proof.Gen.ReferenceIdeal.Read
public import Idealize.ShloMosaic.Lib.ValueIdxRank6
public import Idealize.ShloMosaic.Lib.KernelVsHost

@[expose] public section

set_option maxHeartbeats 400000

noncomputable section

namespace Cert.ReferenceIdeal.Attn

open Idealize.ShloMosaic Idealize.ShloMosaic.ValueIdx Cert.ReferenceIdeal Cert.ReferenceIdeal.Read Cert.AttnSpec

/-- A row of the argument. -/
def rows (x : S9x32768x128.Idx → EReal) : ℕ → ℕ → Fin 128 → EReal := fun s R l =>
  x (ix3 ⟨s % 9, Nat.mod_lt _ (by decide)⟩ ⟨R % 32768, Nat.mod_lt _ (by decide)⟩ l)

theorem rows_congr (x : S9x32768x128.Idx → EReal) {s s' R R' : ℕ} {l l' : Fin 128} (hs : s = s') (hR : R = R') (hl : l.val = l'.val) :
    rows x s R l = rows x s' R' l' := by
  obtain rfl := hs; obtain rfl := hR; obtain rfl := Fin.ext hl; rfl

theorem bits_zero : FloatOps.ofBits (F := Ideal) .f32 0x00000000#32 = (0 : EReal) := by
  show Ideal.ofBits .f32 _ = 0
  simp [Ideal.ofBits, Ideal.ieee]

theorem v0_at (x : S9x32768x128.Idx → EReal) (p : Fin 9) (b : Fin 8) (s : Fin 4096) (h : Fin 2) (e : Fin 64) :
    val_main_v0 (F := Ideal) x (ix5 p b s h e) = rows x p.val (4096 * b.val + s.val) (lane h e) := by
  have hp := p.isLt; have hb := b.isLt; have hs := s.isLt; have hh := h.isLt; have he := e.isLt
  unfold val_main_v0
  refine (shapeCast_apply x _ (ix5 p b s h e) (ix3 (⟨p.val % 9, Nat.mod_lt _ (by decide)⟩ : Fin 9) (⟨(4096 * b.val + s.val) % 32768, Nat.mod_lt _ (by decide)⟩ : Fin 32768) (lane h e)) (by
    rewrite [Shape.rowMajor_val_three, Shape.rowMajor_val_five]
    show (p.val % 9 * 32768 + (4096 * b.val + s.val) % 32768) * 128 + (64 * h.val + e.val) = (((p.val * 8 + b.val) * 4096 + s.val) * 2 + h.val) * 64 + e.val
    omega)).trans ?_
  rfl

theorem v1_at (x : S9x32768x128.Idx → EReal) (g : Fin 3) (b : Fin 8) (s : Fin 4096) (h : Fin 2) (e : Fin 64) :
    val_main_v1 (F := Ideal) x (ix5 g b s h e) = rows x (0 + g.val) (4096 * b.val + s.val) (lane h e) := by
  have hg := g.isLt
  rw [val_main_v1_apply]
  refine (congrArg (val_main_v0 (F := Ideal) x) (funext fun a => Fin.ext (by
    match a with | ⟨0, _⟩ => (show g.val = 0 + g.val; omega) | ⟨1, _⟩ => rfl | ⟨2, _⟩ => rfl | ⟨3, _⟩ => rfl | ⟨4, _⟩ => rfl))).trans (v0_at x (⟨0 + g.val, by omega⟩ : Fin 9) b s h e)

theorem v2_at (x : S9x32768x128.Idx → EReal) (g : Fin 3) (b : Fin 8) (s : Fin 4096) (h : Fin 2) (e : Fin 64) :
    val_main_v2 (F := Ideal) x (ix5 g b s h e) = rows x (3 + g.val) (4096 * b.val + s.val) (lane h e) := by
  have hg := g.isLt
  rw [val_main_v2_apply]
  refine (congrArg (val_main_v0 (F := Ideal) x) (funext fun a => Fin.ext (by
    match a with | ⟨0, _⟩ => rfl | ⟨1, _⟩ => rfl | ⟨2, _⟩ => rfl | ⟨3, _⟩ => rfl | ⟨4, _⟩ => rfl))).trans (v0_at x (⟨3 + g.val, by omega⟩ : Fin 9) b s h e)

theorem v3_at (x : S9x32768x128.Idx → EReal) (g : Fin 3) (b : Fin 8) (s : Fin 4096) (h : Fin 2) (e : Fin 64) :
    val_main_v3 (F := Ideal) x (ix5 g b s h e) = rows x (6 + g.val) (4096 * b.val + s.val) (lane h e) := by
  have hg := g.isLt
  rw [val_main_v3_apply]
  refine (congrArg (val_main_v0 (F := Ideal) x) (funext fun a => Fin.ext (by
    match a with | ⟨0, _⟩ => rfl | ⟨1, _⟩ => rfl | ⟨2, _⟩ => rfl | ⟨3, _⟩ => rfl | ⟨4, _⟩ => rfl))).trans (v0_at x (⟨6 + g.val, by omega⟩ : Fin 9) b s h e)

/-- A group's dilation, as a word. -/
theorem v12_at (g : Fin 3) (i : S3x1x1.Idx) (hi : (i 0).val = g.val) : val_main_v12 (F := Ideal) i = BitVec.ofNat 32 (step g) := by
  rw [val_main_v12_apply, val_main_v11_apply, val_main_v10_apply, val_main_v9_apply, val_main_v8_apply, val_main_v7_apply]
  show IntOp.shli .host 1#32 (IntOp.muli 2#32 (BitVec.ofNat 32 (i 0).val)) = _
  rw [hi]
  revert g
  intro g _
  fin_cases g <;> decide

/-- The distance of two rows, as a word. -/
theorem v19_at (i : S4096x4096.Idx) (s t : Fin 4096) (h0 : (i 0).val = s.val) (h1 : (i 1).val = t.val) :
    val_main_v19 (F := Ideal) i = IntOp.subi (BitVec.ofNat 32 s.val) (BitVec.ofNat 32 t.val) := by
  rw [val_main_v19_apply, val_main_v17_apply, val_main_v14_apply, val_main_v13_apply, val_main_v18_apply, val_main_v16_apply, val_main_v15_apply, ← h0, ← h1]

theorem step_two (g : Fin 3) : step g = 2 ^ (2 * g.val) := by fin_cases g <;> rfl
theorem step_mul (g : Fin 3) : IntOp.muli 128#32 (BitVec.ofNat 32 (step g)) = BitVec.ofNat 32 (128 * step g) := by fin_cases g <;> decide
theorem step_sub (g : Fin 3) : IntOp.subi (BitVec.ofNat 32 (step g)) 1#32 = BitVec.ofNat 32 (step g - 1) := by fin_cases g <;> decide

/-- The mask. -/
theorem v39_at (g : Fin 3) (s t : Fin 4096) :
    val_main_v39 (F := Ideal) (ix3 g s t) = if visible (step g) s.val t.val then 1#1 else 0#1 := by
  have hg := g.isLt
  have e1 : val_main_v30 (F := Ideal) (ix3 g s t) = IntOp.andi (IntOp.cmpi .sge (IntOp.subi (BitVec.ofNat 32 s.val) (BitVec.ofNat 32 t.val)) 0#32)
      (IntOp.cmpi .sle (IntOp.subi (BitVec.ofNat 32 s.val) (BitVec.ofNat 32 t.val)) (BitVec.ofNat 32 (128 * step g))) := by
    rw [val_main_v30_apply, val_main_v29_apply, val_main_v28_apply, val_main_v21_apply, val_main_v27_apply, val_main_v25_apply, val_main_v24_apply,
      val_main_v26_apply, val_main_v23_apply, val_main_v20_apply, val_main_v22_apply, v19_at _ s t rfl rfl, v12_at g _ rfl]
    rw [← step_mul g]
    rfl
  have e2 : val_main_v38 (F := Ideal) (ix3 g s t) = IntOp.cmpi .eq (IntOp.andi (IntOp.subi (BitVec.ofNat 32 s.val) (BitVec.ofNat 32 t.val)) (BitVec.ofNat 32 (step g - 1))) 0#32 := by
    rw [val_main_v38_apply, val_main_v37_apply, val_main_v36_apply, val_main_v34_apply, val_main_v33_apply, val_main_v35_apply, val_main_v32_apply,
      val_main_v31_apply, v19_at _ s t rfl rfl, v12_at g _ rfl]
    rw [← step_sub g]
    rfl
  rw [val_main_v39_apply, e1, e2]
  exact visible_word (step g) s.val t.val (2 * g.val) (step_two g) (by omega) s.isLt t.isLt

/-- The scores, masked. -/
theorem v41_at (x : S9x32768x128.Idx → EReal) (g : Fin 3) (b : Fin 8) (h : Fin 2) (s t : Fin 4096) :
    val_main_v41 (F := Ideal) x (ix5 g b h s t) = allSc g (rows x) b.val s.val h t := by
  rw [val_main_v41_apply, val_main_call0_v1_apply, val_main_v40_apply,
    show idx_main_v40 (idx_main_call0_v1 (ix5 g b h s t)) = ix3 g s t from funext fun a => Fin.ext (by match a with | ⟨0, _⟩ => rfl | ⟨1, _⟩ => rfl | ⟨2, _⟩ => rfl), v39_at]
  unfold allSc
  by_cases hh : visible (step g) s.val t.val
  · rw [if_pos hh, if_pos hh]
    refine Eq.trans (show _ = val_main_v6 (F := Ideal) x (ix5 g b h s t) from rfl) ?_
    rw [val_main_v6_apply, val_main_v4_apply, val_main_v5_apply, val_main_cst_apply]
    refine Eq.trans (congrArg (· * eighth) (Finset.sum_congr rfl fun e _ => congrArg₂ (fun a b : EReal => a * b)
      (Eq.trans (congrArg (val_main_v1 (F := Ideal) x) (funext fun a => Fin.ext (by match a with | ⟨0, _⟩ => rfl | ⟨1, _⟩ => rfl | ⟨2, _⟩ => rfl | ⟨3, _⟩ => rfl | ⟨4, _⟩ => rfl))) (v1_at x g b s h e))
      (Eq.trans (congrArg (val_main_v2 (F := Ideal) x) (funext fun a => Fin.ext (by match a with | ⟨0, _⟩ => rfl | ⟨1, _⟩ => rfl | ⟨2, _⟩ => rfl | ⟨3, _⟩ => rfl | ⟨4, _⟩ => rfl))) (v2_at x g b t h e)))) ?_
    rw [Nat.zero_add]
    exact scaled _ _
  · rw [if_neg hh, if_neg hh]
    refine Eq.trans (show _ = val_main_call0_v2 (F := Ideal) (ix5 g b h s t) from rfl) ?_
    rw [val_main_call0_v2_apply, val_main_call0_v0_apply, val_main_cst_5_apply]
    exact neg_inf

theorem v42_at (x : S9x32768x128.Idx → EReal) (g : Fin 3) (b : Fin 8) (h : Fin 2) (s : Fin 4096) :
    val_main_v42 (F := Ideal) x (ix4 g b h s) = rowMax (sc g (rows x) (4096 * b.val + s.val) h) := by
  refine Eq.trans ?_ (all_max g (rows x) b.val s.val s.isLt h)
  unfold val_main_v42
  refine (Host.reduce_eq_fold_single (α := EReal) max _ _ _ (by decide : Shape.Reduces S3x8x2x4096x4096 [4] S3x8x2x4096) _ (ix4 g b h s)).trans ?_
  refine congrArg₂ (fun (z : EReal) (f : Fin 4096 → EReal) => (Finset.univ : Finset (Fin 4096)).fold max z f) neg_inf (funext fun t => ?_)
  exact (congrArg (val_main_v41 (F := Ideal) x) (funext fun a => Fin.ext (by match a with | ⟨0, _⟩ => rfl | ⟨1, _⟩ => rfl | ⟨2, _⟩ => rfl | ⟨3, _⟩ => rfl | ⟨4, _⟩ => rfl))).trans (v41_at x g b h s t)

theorem v43_at (x : S9x32768x128.Idx → EReal) (g : Fin 3) (b : Fin 8) (h : Fin 2) (s : Fin 4096) :
    val_main_v43 (F := Ideal) x (ix5 g b h s (0 : Fin 1)) = rowMax (sc g (rows x) (4096 * b.val + s.val) h) := by
  rw [val_main_v43_apply]
  exact (congrArg (val_main_v42 (F := Ideal) x) (funext fun a => Fin.ext (by match a with | ⟨0, _⟩ => rfl | ⟨1, _⟩ => rfl | ⟨2, _⟩ => rfl | ⟨3, _⟩ => rfl))).trans (v42_at x g b h s)

theorem v46_at (x : S9x32768x128.Idx → EReal) (g : Fin 3) (b : Fin 8) (h : Fin 2) (s t : Fin 4096) :
    val_main_v46 (F := Ideal) x (ix5 g b h s t) = allExp g (rows x) b.val s.val h t := by
  rw [val_main_v46_apply, val_main_v45_apply, val_main_v44_apply, v41_at]
  refine congrArg (fun m : EReal => Ideal.exp (allSc g (rows x) b.val s.val h t - m)) ?_
  exact (congrArg (val_main_v43 (F := Ideal) x) (funext fun a => Fin.ext (by match a with | ⟨0, _⟩ => rfl | ⟨1, _⟩ => rfl | ⟨2, _⟩ => rfl | ⟨3, _⟩ => rfl | ⟨4, _⟩ => rfl))).trans (v43_at x g b h s)

theorem v47_at (x : S9x32768x128.Idx → EReal) (g : Fin 3) (b : Fin 8) (h : Fin 2) (s : Fin 4096) :
    val_main_v47 (F := Ideal) x (ix4 g b h s) = rowDen (sc g (rows x) (4096 * b.val + s.val) h) := by
  rw [val_main_v47_apply, val_main_cst_7_apply, bits_zero, zero_add]
  refine Eq.trans ?_ (all_den g (rows x) b.val s.val s.isLt h)
  refine Finset.sum_congr rfl fun t _ => ?_
  exact (congrArg (val_main_v46 (F := Ideal) x) (funext fun a => Fin.ext (by match a with | ⟨0, _⟩ => rfl | ⟨1, _⟩ => rfl | ⟨2, _⟩ => rfl | ⟨3, _⟩ => rfl | ⟨4, _⟩ => rfl))).trans (v46_at x g b h s t)

theorem v48_at (x : S9x32768x128.Idx → EReal) (g : Fin 3) (b : Fin 8) (h : Fin 2) (s : Fin 4096) :
    val_main_v48 (F := Ideal) x (ix5 g b h s (0 : Fin 1)) = rowDen (sc g (rows x) (4096 * b.val + s.val) h) := by
  rw [val_main_v48_apply]
  exact (congrArg (val_main_v47 (F := Ideal) x) (funext fun a => Fin.ext (by match a with | ⟨0, _⟩ => rfl | ⟨1, _⟩ => rfl | ⟨2, _⟩ => rfl | ⟨3, _⟩ => rfl))).trans (v47_at x g b h s)

theorem v50_at (x : S9x32768x128.Idx → EReal) (g : Fin 3) (b : Fin 8) (h : Fin 2) (s t : Fin 4096) :
    val_main_v50 (F := Ideal) x (ix5 g b h s t) = Ideal.div (allExp g (rows x) b.val s.val h t) (rowDen (sc g (rows x) (4096 * b.val + s.val) h)) := by
  rw [val_main_v50_apply, val_main_v49_apply, v46_at]
  refine congrArg (fun m : EReal => Ideal.div (allExp g (rows x) b.val s.val h t) m) ?_
  exact (congrArg (val_main_v48 (F := Ideal) x) (funext fun a => Fin.ext (by match a with | ⟨0, _⟩ => rfl | ⟨1, _⟩ => rfl | ⟨2, _⟩ => rfl | ⟨3, _⟩ => rfl | ⟨4, _⟩ => rfl))).trans (v48_at x g b h s)

/-- A group's output. -/
theorem v51_at (x : S9x32768x128.Idx → EReal) (hx : ∀ s < 6, ∀ R l, Real' (rows x s R l)) (g : Fin 3) (b : Fin 8) (h : Fin 2) (s : Fin 4096) (e : Fin 64) :
    val_main_v51 (F := Ideal) x (ix5 g b h s e) = outAt (rows x) (4096 * b.val + s.val) g h e := by
  rw [val_main_v51_apply]
  refine Eq.trans (Finset.sum_congr rfl fun t _ => congrArg₂ (fun a b : EReal => a * b)
    ((congrArg (val_main_v50 (F := Ideal) x) (funext fun a => Fin.ext (by match a with | ⟨0, _⟩ => rfl | ⟨1, _⟩ => rfl | ⟨2, _⟩ => rfl | ⟨3, _⟩ => rfl | ⟨4, _⟩ => rfl))).trans (v50_at x g b h s t))
    ((congrArg (val_main_v3 (F := Ideal) x) (funext fun a => Fin.ext (by match a with | ⟨0, _⟩ => rfl | ⟨1, _⟩ => rfl | ⟨2, _⟩ => rfl | ⟨3, _⟩ => rfl | ⟨4, _⟩ => rfl))).trans (v3_at x g b t h e))) ?_
  exact all_out g (rows x) hx b.val s.val s.isLt h e

/-- The logarithm of a group's sum. -/
theorem v54_at (x : S9x32768x128.Idx → EReal) (g : Fin 3) (b : Fin 8) (h : Fin 2) (s : Fin 4096) :
    val_main_v54 (F := Ideal) x (ix4 g b h s) = lseAt (rows x) (4096 * b.val + s.val) h g := by
  have hg := g.isLt; have hb := b.isLt; have hs := s.isLt; have hh := h.isLt
  unfold val_main_v54
  refine (shapeCast_apply (val_main_v53 (F := Ideal) x) _ (ix4 g b h s) (ix5 g b h s (0 : Fin 1)) (by
    rewrite [Shape.rowMajor_val_five, Shape.rowMajor_val_four]
    show (((g.val * 8 + b.val) * 2 + h.val) * 4096 + s.val) * 1 + 0 = ((g.val * 8 + b.val) * 2 + h.val) * 4096 + s.val
    omega)).trans ?_
  rw [val_main_v53_apply, val_main_v52_apply, v43_at, v48_at]
  rfl

end Cert.ReferenceIdeal.Attn

end

end
-- ==== Proof.Attn.Ref.lean ====
/-
  The reference's blend over the groups, and its result.
-/
module

public import proofs.«01_k».proof.Proof.Attn.RefBase
public import proofs.«01_k».proof.Proof.Gen.ReferenceIdeal.Read
public import Idealize.ShloMosaic.Lib.ValueIdxRank6
public import Idealize.ShloMosaic.Lib.KernelVsHost

@[expose] public section

set_option maxHeartbeats 400000

noncomputable section

namespace Cert.ReferenceIdeal.Attn

open Idealize.ShloMosaic Idealize.ShloMosaic.ValueIdx Cert.ReferenceIdeal Cert.ReferenceIdeal.Read Cert.AttnSpec

theorem fold_three (f : Fin 3 → EReal) : (Finset.univ : Finset (Fin 3)).fold max ⊥ f = max (max (f 0) (f 1)) (f 2) := by
  apply le_antisymm
  · rw [Finset.fold_max_le]
    refine ⟨bot_le, fun g _ => ?_⟩
    fin_cases g
    · exact le_max_of_le_left (le_max_left _ _)
    · exact le_max_of_le_left (le_max_right _ _)
    · exact le_max_right _ _
  · exact max_le (max_le ((Finset.le_fold_max _).mpr (Or.inr ⟨0, Finset.mem_univ _, le_refl _⟩)) ((Finset.le_fold_max _).mpr (Or.inr ⟨1, Finset.mem_univ _, le_refl _⟩)))
      ((Finset.le_fold_max _).mpr (Or.inr ⟨2, Finset.mem_univ _, le_refl _⟩))

theorem fold_groups (y : S3x8x2x4096.Idx → EReal) (z : S_.Idx → EReal) (hz : z (Shape.Idx.first Gen.h_S_) = ⊥) (b : Fin 8) (h : Fin 2) (s : Fin 4096) :
    Host.reduce (α := EReal) max y z Gen.reducesTo_S3x8x2x4096_S8x2x4096_d0 Gen.h_S_ (ix3 b h s)
      = max (max (y (ix4 (0 : Fin 3) b h s)) (y (ix4 (1 : Fin 3) b h s))) (y (ix4 (2 : Fin 3) b h s)) := by
  refine (Host.reduce_eq_fold_single (α := EReal) max y z _ (by decide : Shape.Reduces S3x8x2x4096 [0] S8x2x4096) Gen.h_S_ (ix3 b h s)).trans ?_
  rw [hz]
  refine Eq.trans ?_ (fold_three fun g => y (ix4 g b h s))
  exact congrArg (fun (f : Fin 3 → EReal) => (Finset.univ : Finset (Fin 3)).fold max ⊥ f) (funext fun g => congrArg y (funext fun a => Fin.ext (by match a with | ⟨0, _⟩ => rfl | ⟨1, _⟩ => rfl | ⟨2, _⟩ => rfl | ⟨3, _⟩ => rfl)))

theorem max_neg_inf (z : EReal) : FloatOps.maximumf (F := Ideal) (φ := .f32) (FloatOps.ofBits .f32 0xFF800000#32) z = z := by
  refine (congrArg (fun w : EReal => max w z) neg_inf).trans ?_
  exact max_eq_right bot_le

theorem v55_at (x : S9x32768x128.Idx → EReal) (b : Fin 8) (h : Fin 2) (s : Fin 4096) :
    val_main_v55 (F := Ideal) x (ix3 b h s) = mixMax (lseAt (rows x) (4096 * b.val + s.val) h) := by
  have e0 := v54_at x 0 b h s
  have e1 := v54_at x 1 b h s
  have e2 := v54_at x 2 b h s
  unfold val_main_v55 mixMax
  rw [← e0, ← e1, ← e2]
  clear e0 e1 e2
  generalize val_main_v54 (F := Ideal) x = y
  exact fold_groups y (val_main_cst_8 (F := Ideal)) neg_inf b h s

theorem v57_at (x : S9x32768x128.Idx → EReal) (b : Fin 8) (h : Fin 2) (s : Fin 4096) :
    val_main_v57 (F := Ideal) x (ix3 b h s) = mixMax (lseAt (rows x) (4096 * b.val + s.val) h) := by
  rw [val_main_v57_apply, val_main_v56_apply, val_main_cst_9_apply, v55_at]
  exact max_neg_inf _

theorem v61_at (x : S9x32768x128.Idx → EReal) (g : Fin 3) (b : Fin 8) (h : Fin 2) (s : Fin 4096) :
    val_main_v61 (F := Ideal) x (ix4 g b h s) = mixExp (lseAt (rows x) (4096 * b.val + s.val) h) g := by
  rw [val_main_v61_apply, val_main_v60_apply, val_main_v59_apply, val_main_v58_apply, v54_at]
  refine congrArg (fun m : EReal => Ideal.exp (lseAt (rows x) (4096 * b.val + s.val) h g - m)) ?_
  exact (congrArg (val_main_v57 (F := Ideal) x) (funext fun a => Fin.ext (by match a with | ⟨0, _⟩ => rfl | ⟨1, _⟩ => rfl | ⟨2, _⟩ => rfl))).trans (v57_at x b h s)

theorem v62_at (x : S9x32768x128.Idx → EReal) (b : Fin 8) (h : Fin 2) (s : Fin 4096) :
    val_main_v62 (F := Ideal) x (ix3 b h s) = mixDen (lseAt (rows x) (4096 * b.val + s.val) h) := by
  rw [val_main_v62_apply, val_main_cst_10_apply, bits_zero, zero_add]
  refine Eq.trans (Finset.sum_congr rfl fun g _ => (congrArg (val_main_v61 (F := Ideal) x) (funext fun a => Fin.ext (by match a with | ⟨0, _⟩ => rfl | ⟨1, _⟩ => rfl | ⟨2, _⟩ => rfl | ⟨3, _⟩ => rfl))).trans (v61_at x g b h s)) ?_
  rw [Fin.sum_univ_three]
  rfl

theorem v65_at (x : S9x32768x128.Idx → EReal) (g : Fin 3) (b : Fin 8) (h : Fin 2) (s : Fin 4096) :
    val_main_v65 (F := Ideal) x (ix4 g b h s) = Ideal.div (mixExp (lseAt (rows x) (4096 * b.val + s.val) h) g) (mixDen (lseAt (rows x) (4096 * b.val + s.val) h)) := by
  rw [val_main_v65_apply, val_main_v64_apply, val_main_v63_apply, v61_at]
  refine congrArg (fun m : EReal => Ideal.div (mixExp (lseAt (rows x) (4096 * b.val + s.val) h) g) m) ?_
  exact (congrArg (val_main_v62 (F := Ideal) x) (funext fun a => Fin.ext (by match a with | ⟨0, _⟩ => rfl | ⟨1, _⟩ => rfl | ⟨2, _⟩ => rfl))).trans (v62_at x b h s)

theorem v68_at (x : S9x32768x128.Idx → EReal) (hx : ∀ s < 6, ∀ R l, Real' (rows x s R l)) (g : Fin 3) (b : Fin 8) (h : Fin 2) (s : Fin 4096) (e : Fin 64) :
    val_main_v68 (F := Ideal) x (ix5 g b h s e) = result (rows x) (4096 * b.val + s.val) g h e := by
  rw [val_main_v68_apply, val_main_v67_apply, val_main_v66_apply, v51_at x hx]
  refine congrArg (fun m : EReal => outAt (rows x) (4096 * b.val + s.val) g h e * m) ?_
  exact (congrArg (val_main_v65 (F := Ideal) x) (funext fun a => Fin.ext (by match a with | ⟨0, _⟩ => rfl | ⟨1, _⟩ => rfl | ⟨2, _⟩ => rfl | ⟨3, _⟩ => rfl))).trans (v65_at x g b h s)

/-- The reference's result. -/
theorem value (x : S9x32768x128.Idx → EReal) (hx : ∀ s < 6, ∀ R l, Real' (rows x s R l)) (y : S32768x384.Idx) :
    val_main_v71 (F := Ideal) x y = result (rows x) (y 0).val ⟨(y 1).val / 128, by have h : (y 1).val < 384 := (y 1).isLt; omega⟩
      ⟨(y 1).val % 128 / 64, by omega⟩ ⟨(y 1).val % 64, by omega⟩ := by
  have h0 : (y 0).val < 32768 := (y 0).isLt
  have h1 : (y 1).val < 384 := (y 1).isLt
  refine Eq.trans (show _ = val_main_v70 (F := Ideal) x y from rfl) ?_
  unfold val_main_v70
  refine (shapeCast_apply (val_main_v69 (F := Ideal) x) _ y (ix5 (⟨(y 0).val / 4096, by omega⟩ : Fin 8) (⟨(y 0).val % 4096, by omega⟩ : Fin 4096)
    (⟨(y 1).val / 128, by omega⟩ : Fin 3) (⟨(y 1).val % 128 / 64, by omega⟩ : Fin 2) (⟨(y 1).val % 64, by omega⟩ : Fin 64)) (by
    rewrite [Shape.rowMajor_val_five, Shape.rowMajor_val_two]
    show ((((y 0).val / 4096 * 4096 + (y 0).val % 4096) * 3 + (y 1).val / 128) * 2 + (y 1).val % 128 / 64) * 64 + (y 1).val % 64 = (y 0).val * 384 + (y 1).val
    omega)).trans ?_
  rw [val_main_v69_apply]
  rw [show idx_main_v69 (ix5 (⟨(y 0).val / 4096, by omega⟩ : Fin 8) (⟨(y 0).val % 4096, by omega⟩ : Fin 4096) (⟨(y 1).val / 128, by omega⟩ : Fin 3)
      (⟨(y 1).val % 128 / 64, by omega⟩ : Fin 2) (⟨(y 1).val % 64, by omega⟩ : Fin 64))
    = ix5 (⟨(y 1).val / 128, by omega⟩ : Fin 3) (⟨(y 0).val / 4096, by omega⟩ : Fin 8) (⟨(y 1).val % 128 / 64, by omega⟩ : Fin 2)
      (⟨(y 0).val % 4096, by omega⟩ : Fin 4096) (⟨(y 1).val % 64, by omega⟩ : Fin 64) from funext fun a => Fin.ext (by match a with | ⟨0, _⟩ => rfl | ⟨1, _⟩ => rfl | ⟨2, _⟩ => rfl | ⟨3, _⟩ => rfl | ⟨4, _⟩ => rfl), v68_at x hx]
  exact congrArg (fun r => result (rows x) r (⟨(y 1).val / 128, by omega⟩ : Fin 3) (⟨(y 1).val % 128 / 64, by omega⟩ : Fin 2) (⟨(y 1).val % 64, by omega⟩ : Fin 64)) (by show 4096 * ((y 0).val / 4096) + (y 0).val % 4096 = (y 0).val; omega)

end Cert.ReferenceIdeal.Attn

end

end
-- ==== Proof.AttnK.Body.lean ====
/-
  One point of the dilated attention call, run from the printed body: at the first half of a sequence and at the second.
-/
module

public import proofs.«01_k».proof.Proof.AttnK.Loops

@[expose] public section

set_option maxRecDepth 16384
set_option maxHeartbeats 2000000

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem run_first (𝒱 : Variants) (c : Dev nD) (bd : Option 𝒱.V) (E : Set ℕ) (i : grid0.Coords) (hi : (i 1).val = 0) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄)
    ⊢ wp frame (wpE (defs₀ (F := F)) 𝒱 (c : Thread nD τ) bd) E (cc0_dilated_attention (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} X2) ∗ (∃ f, (arg3.view.loc (c : Thread nD τ) ↦[arg3.view.set]{fullShare} f)) ∗ (∃ f, (arg4.view.loc (c : Thread nD τ) ↦[arg4.view.set]{fullShare} f)) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))) := by
  have e1 : (BitVec.ofNat 32 (i 1).val) = 0#32 := by rw [hi]
  have hz : (Scalar.cmpi .ne (Scalar.extui (Scalar.cmpi .eq (BitVec.ofNat 32 (i 1).val) 0#32) : BitVec 32) 0#32 = 1#1) := by rw [e1]; decide
  have hg : ¬ (Scalar.cmpi .ne (Scalar.extui (Scalar.cmpi .sgt (BitVec.ofNat 32 (i 1).val) 0#32) : BitVec 32) 0#32 = 1#1) := by rw [e1]; decide
  rw [cc0_dilated_attention_eq_skeleton]
  unfold cc0_dilated_attention_skel
  iintro ⟨H2, H3, H4, H5, H6, H7, H8, H9, H10, H11⟩
  sl_exec (disch := first | sl_exact hz | sl_exact hg)
  sl_step
  sl_close

theorem run_second (𝒱 : Variants) (c : Dev nD) (bd : Option 𝒱.V) (E : Set ℕ) (i : grid0.Coords) (hi : (i 1).val = 1) (arg2 : Memref sig .tc .vmem S9x2048x128 .f32) (harg2 : arg2.IsWhole) (arg3 : Memref sig .tc .vmem S2048x384 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2560x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S3x2048x128 .f32) (harg10 : arg10.IsWhole) (arg11 : Memref sig .tc .vmem S3x2048x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄)
    ⊢ wp frame (wpE (defs₀ (F := F)) 𝒱 (c : Thread nD τ) bd) E (cc0_dilated_attention (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} X2) ∗ (∃ f, (arg3.view.loc (c : Thread nD τ) ↦[arg3.view.set]{fullShare} f)) ∗ (∃ f, (arg4.view.loc (c : Thread nD τ) ↦[arg4.view.set]{fullShare} f)) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))) := by
  have e1 : (BitVec.ofNat 32 (i 1).val) = 1#32 := by rw [hi]
  have hz : ¬ (Scalar.cmpi .ne (Scalar.extui (Scalar.cmpi .eq (BitVec.ofNat 32 (i 1).val) 0#32) : BitVec 32) 0#32 = 1#1) := by rw [e1]; decide
  have hg : (Scalar.cmpi .ne (Scalar.extui (Scalar.cmpi .sgt (BitVec.ofNat 32 (i 1).val) 0#32) : BitVec 32) 0#32 = 1#1) := by rw [e1]; decide
  rw [cc0_dilated_attention_eq_skeleton]
  unfold cc0_dilated_attention_skel
  iintro ⟨H2, H3, H4, H5, H6, H7, H8, H9, H10, H11⟩
  sl_exec (disch := first | sl_exact hz | sl_exact hg)
  sl_step
  sl_close

end Cert.Kernel.Attn

end

end
-- ==== Proof.AttnK.Run.lean ====
/-
  The whole run of the printed dilated attention call, nothing being said of what it computes: it ends, its argument is
  as it was and every semaphore is at zero.
-/
module

public import proofs.«01_k».proof.Proof.AttnK.Body
public import Idealize.ShloMosaic.Lib.Claim

@[expose] public section

set_option maxRecDepth 16384
set_option maxHeartbeats 400000

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

theorem half : ∀ t : Fin cfg0.N, (grid0.coords t 1).val = 0 ∨ (grid0.coords t 1).val = 1 :=
  (by decide +kernel : ∀ t : Fin grid0.N, (grid0.coords t 1).val = 0 ∨ (grid0.coords t 1).val = 1)

/-- The scratch between two points, at anything. -/
def anyS (c : Dev nD) : sProp 𝕄 :=
  iprop(((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f)) ∗ (∃ f, ((Memref.whole cc0_scratch3).view.loc (c : Thread nD τ) ↦[(Memref.whole cc0_scratch3).view.set]{fullShare} f)) ∗ (∃ f, ((Memref.whole cc0_scratch4).view.loc (c : Thread nD τ) ↦[(Memref.whole cc0_scratch4).view.set]{fullShare} f)) ∗ (∃ f, ((Memref.whole cc0_scratch5).view.loc (c : Thread nD τ) ↦[(Memref.whole cc0_scratch5).view.set]{fullShare} f)) ∗ (∃ f, ((Memref.whole cc0_scratch6).view.loc (c : Thread nD τ) ↦[(Memref.whole cc0_scratch6).view.set]{fullShare} f)) ∗ (∃ f, ((Memref.whole cc0_scratch7).view.loc (c : Thread nD τ) ↦[(Memref.whole cc0_scratch7).view.set]{fullShare} f))) ∗ ∃ r, prngReg c r)

/-- Nothing is said of what the result's window holds. -/
def silent : Fin cfg0.W → Bool := fun w => decide (w = 1)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => (Scalar.ofBits .bf16 0x0000#16 : F .bf16)
  Φ _ := anyS (F := F) c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X))

set_option backward.isDefEq.respectTransparency.types false in
theorem sound_first (c : Dev nD) (t : Fin cfg0.N) (ht : (grid0.coords t 1).val = 0) :
    bodyPre m c t ⊢ wp frame (wpE (defs₀ (F := F)) Variants.none c none) Set.univ (bodyAt0 t) (fun _ => bodyPost m c t) := by
  unfold bodyPre bodyPost bodyAt0
  simp only [before_0]
  rw [show (dats m 0 c).Φ t.succ = anyS (F := F) c from rfl, show (dats m 0 c).Φ t.castSucc = anyS (F := F) c from rfl,
    show (dats m 0 c).owesAt () t.succ = (dats m 0 c).owesAt () t.castSucc from rfl, after_0]
  unfold anyS owns
  iintro ⟨⟨⟨⟨%f4, H4⟩, ⟨%f5, H5⟩, ⟨%f6, H6⟩, ⟨%f7, H7⟩, ⟨%f8, H8⟩, ⟨%f9, H9⟩, ⟨%f10, H10⟩, ⟨%f11, H11⟩⟩, Hr⟩, Ho, ⟨%d0, %g0, %hg0, H2⟩, ⟨%d1, %g1, -, H3⟩⟩
  iapply (wp_wand_r Idealize.ShloMosaic.frame (wpE (defs₀ (F := F)) Variants.none (c : Thread nD τ) none) Set.univ)
  isplitl [H2 H3 H4 H5 H6 H7 H8 H9 H10 H11]
  · iapply (run_first Variants.none c none Set.univ (grid0.coords t) ht (st0_0 t) (hstage0_0 _) (st0_1 t) (hstage0_1 _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) _ _ _ _ _ _ _ _ _ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H2, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
    isplitl [H4 H5 H6 H7 H8 H9 H10 H11 Hr]
    · isplitl [H4 H5 H6 H7 H8 H9 H10 H11]
      · isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        iexists _; iexact H11
      iexact Hr
    isplitl [Ho]; · iexact Ho
    isplitl [H2]
    · iexists _; isplitr; · ipureintro; exact hg0
      iexact H2
    iexists (View.read (Elt F) (st0_1 t).view e3), e3; isplitr; · ipureintro; rfl
    iexact H3

set_option backward.isDefEq.respectTransparency.types false in
theorem sound_second (c : Dev nD) (t : Fin cfg0.N) (ht : (grid0.coords t 1).val = 1) :
    bodyPre m c t ⊢ wp frame (wpE (defs₀ (F := F)) Variants.none c none) Set.univ (bodyAt0 t) (fun _ => bodyPost m c t) := by
  unfold bodyPre bodyPost bodyAt0
  simp only [before_0]
  rw [show (dats m 0 c).Φ t.succ = anyS (F := F) c from rfl, show (dats m 0 c).Φ t.castSucc = anyS (F := F) c from rfl,
    show (dats m 0 c).owesAt () t.succ = (dats m 0 c).owesAt () t.castSucc from rfl, after_0]
  unfold anyS owns
  iintro ⟨⟨⟨⟨%f4, H4⟩, ⟨%f5, H5⟩, ⟨%f6, H6⟩, ⟨%f7, H7⟩, ⟨%f8, H8⟩, ⟨%f9, H9⟩, ⟨%f10, H10⟩, ⟨%f11, H11⟩⟩, Hr⟩, Ho, ⟨%d0, %g0, %hg0, H2⟩, ⟨%d1, %g1, -, H3⟩⟩
  iapply (wp_wand_r Idealize.ShloMosaic.frame (wpE (defs₀ (F := F)) Variants.none (c : Thread nD τ) none) Set.univ)
  isplitl [H2 H3 H4 H5 H6 H7 H8 H9 H10 H11]
  · iapply (run_second Variants.none c none Set.univ (grid0.coords t) ht (st0_0 t) (hstage0_0 _) (st0_1 t) (hstage0_1 _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) _ _ _ _ _ _ _ _ _ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H2, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
    isplitl [H4 H5 H6 H7 H8 H9 H10 H11 Hr]
    · isplitl [H4 H5 H6 H7 H8 H9 H10 H11]
      · isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        iexists _; iexact H11
      iexact Hr
    isplitl [Ho]; · iexact Ho
    isplitl [H2]
    · iexists _; isplitr; · ipureintro; exact hg0
      iexact H2
    iexists (View.read (Elt F) (st0_1 t).view e3), e3; isplitr; · ipureintro; rfl
    iexact H3

theorem sound_body (c : Dev nD) (t : Fin cfg0.N) :
    bodyPre m c t ⊢ wp frame (wpE (defs₀ (F := F)) Variants.none c none) Set.univ (bodyAt0 t) (fun _ => bodyPost m c t) :=
  (half t).elim (sound_first m c t) (sound_second m c t)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ silent := fun t => by
  rw [bigSep_W0, bigSep_W0, defs_row]
  exact triple_restated (sound_body m c t) rfl .rfl fun _ => .rfl

/-- The scratch as the launch hands it over is the scratch at anything. -/
theorem any_eq (c : Dev nD) : anyS (F := F) c = Pipeline.ΦA spec0 c := by
  unfold anyS Pipeline.ΦA
  rw [scopedRest0_eq]
  simp only [Memref.whole, View.set_whole]

set_option backward.isDefEq.respectTransparency.types false in
theorem run_main_quiescent : θ_run defs (onTc (τ := τ) (main (F := F))) (s₀ m ρ)
    (fun r => (Pipeline.RDat.FramePost cfg0 (fun c => (dats m 0 c).toRForget silent) (V m)) r ∧ r.2.sem = fun _ => 0) :=
  Pipeline.θ_run_frame_forget (Q' := _) cfgs (dats m) (0 : Fin 1) launch0 defs₀ Variants.none silent m ρ main
    (hbody := fun c => (body_obligation m c).loose) (hshare := fun c => (dats m 0 c).share_full fun _ => rfl)
    (howed := fun _ _ => rfl) (V := V m) (hmain := hmain m Variants.none) (hA := A_eq m) (hΦ := fun c _ => any_eq c)

/-- Every run ends with the argument as it was and every semaphore at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1.arr_in c 0 rfl).trans (A_eq m c 0), h.2⟩) (run_main_quiescent m ρ)

end Cert.Kernel.Attn

end

end
-- ==== Proof.Attn.Claims.lean ====
/-
  The claims about the dilated attention: the frames of the printed programs, that the only constant renamed is the
  mask, and that the kernel computes the reference's result over the extended reals when queries and keys are finite.
-/
module

public import proofs.«01_k».proof.Defs
public import proofs.«01_k».proof.Proof.Attn.Whole
public import proofs.«01_k».proof.Proof.Attn.Ref
public import proofs.«01_k».proof.Proof.AttnK.Run
public import Idealize.ShloMosaic.Lib.Quiescent

@[expose] public section

set_option maxRecDepth 16384

noncomputable section

open Idealize.ShloMosaic Idealize.ShloMosaic.TcCoe Idealize.SL.Sem

namespace Cert.AttnClaims

instance pre_facts : Cert.Pre_finite_scores.Facts := ⟨by decide, by decide⟩

theorem frame_k : Cert.quiescent_Kernel := fun m ρ _ => Cert.Kernel.Attn.frame_claim m ρ
theorem frame_ki : Cert.quiescent_KernelIdeal := fun m ρ _ => Cert.KernelIdeal.Attn.frame_claim m ρ
theorem frame_ki_pre : Cert.quiescent_KernelIdeal_pre_finite_scores := fun m ρ _ => Cert.KernelIdeal.Attn.frame_claim m ρ
theorem frame_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri : Cert.quiescent_ReferenceIdeal := fun m ρ _ => frame_ref m ρ
theorem frame_ri_pre : Cert.quiescent_ReferenceIdeal_pre_finite_scores := fun m ρ _ => frame_ref m ρ

theorem preserves : Cert.preserves_Kernel_KernelIdeal := IdealRules.named_const.statement Cert.KernelIdeal.κ "mask" .f32 0xF149F2CA#32 ⊥ rfl

theorem pos_inf : Ideal.ofBits .f32 0x7F800000#32 = ⊤ := by simp [Ideal.ofBits, Ideal.ieee]

/-- Where the precondition is all ones, queries and keys are real numbers. -/
theorem real_rows (x : (⟨3, ![9, 32768, 128]⟩ : Shape).Idx → EReal) (h : Cert.Pre_finite_scores.fn (F := Ideal) x = fun _ => 1#1) :
    ∀ s < 6, ∀ R l, Cert.AttnSpec.Real' (Cert.ReferenceIdeal.Attn.rows x s R l) := by
  intro s hs R l
  have e := congrFun h (ValueIdx.ix3 (⟨s, hs⟩ : Fin 6) (⟨R % 32768, Nat.mod_lt _ (by decide)⟩ : Fin 32768) l)
  refine Cert.AttnSpec.real_of ?_
  have key : (fun w : EReal => max w (-w)) (Cert.ReferenceIdeal.Attn.rows x s R l) < Ideal.ofBits .f32 0x7F800000#32 := by
    have e2 : BitVec.ofBool (decide ((fun w : EReal => max w (-w)) (Cert.ReferenceIdeal.Attn.rows x s R l) < Ideal.ofBits .f32 0x7F800000#32)) = 1#1 := by
      refine Eq.trans (congrArg (fun w : EReal => BitVec.ofBool (decide (max w (-w) < Ideal.ofBits .f32 0x7F800000#32))) (congrArg x (funext fun a => Fin.ext (by
        match a with
        | ⟨0, _⟩ => show s % 9 = 0 + s; omega
        | ⟨1, _⟩ => show R % 32768 = 0 + R % 32768; omega
        | ⟨2, _⟩ => show l.val = 0 + l.val; omega)))) e
    by_contra hn
    rw [decide_eq_false hn] at e2
    exact absurd e2 (by decide)
  rw [pos_inf] at key
  exact key

/-- Both programs end with the attention of the argument they share. -/
theorem algebraic : Cert.algebraic_KernelIdeal_ReferenceIdeal_pre_finite_scores := fun m ρ m' ρ' hp hag =>
  ⟨fun c => Cert.KernelIdeal.Attn.resultOf (Cert.KernelIdeal.Attn.argOf m c), Cert.KernelIdeal.Attn.run m ρ,
    (θ_run Cert.ReferenceIdeal.defs _ _).mono (fun r h c => by
      refine ⟨((h c).1.trans (Cert.ReferenceIdeal.Read.val_main_v71_eq ..)).trans ?_, (h c).2⟩
      rw [hag c]
      exact funext fun y => Cert.ReferenceIdeal.Attn.value _ (real_rows _ (hp c)) y) (Cert.ReferenceIdeal.Value.run (F := Ideal) m' ρ')⟩

end Cert.AttnClaims

end
-- ==== Proof.Ffn.Row.lean ====
/-
  The merge and feed-forward call, read at an index: the products with the blocks of the weights, the state-space
  branch's gated unit, the merged row, the normalised row, and one of the eleven hidden chunks' contribution.
-/
module

public import proofs.«01_k».proof.Proof.Gen.Kernel2Ideal.Value
public import Idealize.ShloMosaic.Lib.Pointwise
public import Idealize.ShloMosaic.Lib.Pipeline.Value
public import Idealize.ShloMosaic.Lib.Pipeline.ValueKit.Tiles
public import Idealize.ShloMosaic.Lib.IdealHost

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

/-- The gate of a number: one over one plus the exponential of its opposite. -/
def gate (a : EReal) : EReal := Ideal.div 1 (1 + Ideal.exp (-a))

/-- The smooth rectifier in its hyperbolic-tangent form. -/
def gelu (a : EReal) : EReal :=
  Ideal.ofBits .f32 0x3F000000#32 * a * (1 + Ideal.tanh (Ideal.ofBits .f32 0x3F4C422A#32 * (a + Ideal.ofBits .f32 0x3D372713#32 * (a * a * a))))

/-- One token's inputs: the attention's and the recurrence's outputs, the state-space output, the gates, the row. -/
structure Tok where
  a : Fin 384 → EReal
  b : Fin 384 → EReal
  s : Fin 256 → EReal
  g : Fin 3072 → EReal
  h : Fin 1024 → EReal

/-- The layer's weights. -/
structure Wts where
  wa : Fin 384 → Fin 1024 → EReal
  wb : Fin 384 → Fin 1024 → EReal
  ws : Fin 256 → Fin 1024 → EReal
  vv : Fin 256 → Fin 256 → EReal
  vg : Fin 256 → Fin 256 → EReal
  wo : Fin 1024 → Fin 1024 → EReal
  n1 : Fin 1024 → EReal
  wu : Fin 1024 → Fin 5632 → EReal
  wd : Fin 2816 → Fin 1024 → EReal
  n2 : Fin 1024 → EReal

/-- The row over the root of its mean square, times the gain. -/
def rms (x g : Fin 1024 → EReal) (k : Fin 1024) : EReal :=
  x k * Ideal.rsqrt (Ideal.div (∑ l : Fin 1024, x l * x l) (Ideal.ofBits .f32 0x44800000#32) + Ideal.ofBits .f32 0x358637BD#32) * g k

namespace Tok
variable (T : Tok) (W : Wts)

/-- The state-space branch's gated linear unit. -/
def glu (j : Fin 256) : EReal := (∑ k : Fin 256, gelu (T.s k) * W.vv k j) * gate (∑ k : Fin 256, gelu (T.s k) * W.vg k j)

/-- The gated sum of the three branches. -/
def merged (j : Fin 1024) : EReal :=
  T.g ⟨j.val, by omega⟩ * (∑ k : Fin 384, T.a k * W.wa k j) + T.g ⟨1024 + j.val, by omega⟩ * (∑ k : Fin 384, T.b k * W.wb k j)
    + T.g ⟨2048 + j.val, by omega⟩ * ∑ k : Fin 256, T.glu W k * W.ws k j

/-- The row after the merge. -/
def mid (j : Fin 1024) : EReal := T.h j + ∑ k : Fin 1024, T.merged W k * W.wo k j

/-- Gate and value columns of the feed-forward's first product. -/
def up (j : Fin 5632) : EReal := ∑ k : Fin 1024, rms (T.mid W) W.n1 k * W.wu k j

/-- The hidden activations. -/
def act (j : Fin 2816) : EReal :=
  T.up W ⟨j.val, by omega⟩ * gate (T.up W ⟨j.val, by omega⟩) * T.up W ⟨2816 + j.val, by omega⟩

/-- The row after the feed-forward. -/
def last (j : Fin 1024) : EReal := T.mid W j + ∑ k : Fin 2816, T.act W k * W.wd k j

/-- The result's row. -/
def out (j : Fin 1024) : EReal := rms (T.last W) W.n2 j

end Tok

/-! The products, read at an index. -/

theorem mat_glu (u : FVec Ideal S512x256 .bf16) (v : FVec Ideal S256x256 .bf16) (r : Fin 512) (j : Fin 256) :
    matmul (φ₁ := .bf16) (φ₂ := .bf16) dot_S512x256_S256x256_S512x256_1_0_0_1_n_n none u v (constant S512x256 .f32 0x00000000#32) (ix2 r j)
      = ∑ k : Fin 256, u (ix2 r k) * v (ix2 k j) := by
  pointwise

theorem mat_branch (u : FVec Ideal S512x384 .bf16) (v : FVec Ideal S384x1024 .bf16) (r : Fin 512) (j : Fin 1024) :
    matmul (φ₁ := .bf16) (φ₂ := .bf16) dot_S512x384_S384x1024_S512x1024_1_0_0_1_n_n none u v (constant S512x1024 .f32 0x00000000#32) (ix2 r j)
      = ∑ k : Fin 384, u (ix2 r k) * v (ix2 k j) := by
  pointwise

theorem mat_down (u : FVec Ideal S512x256 .bf16) (v : FVec Ideal S256x1024 .bf16) (r : Fin 512) (j : Fin 1024) :
    matmul (φ₁ := .bf16) (φ₂ := .bf16) dot_S512x256_S256x1024_S512x1024_1_0_0_1_n_n none u v (constant S512x1024 .f32 0x00000000#32) (ix2 r j)
      = ∑ k : Fin 256, u (ix2 r k) * v (ix2 k j) := by
  pointwise

theorem mat_out (u : FVec Ideal S512x1024 .bf16) (v : FVec Ideal S1024x1024 .bf16) (r : Fin 512) (j : Fin 1024) :
    matmul (φ₁ := .bf16) (φ₂ := .bf16) dot_S512x1024_S1024x1024_S512x1024_1_0_0_1_n_n none u v (constant S512x1024 .f32 0x00000000#32) (ix2 r j)
      = ∑ k : Fin 1024, u (ix2 r k) * v (ix2 k j) := by
  pointwise

theorem mat_up (u : FVec Ideal S512x1024 .bf16) (v : FVec Ideal S1024x256 .bf16) (r : Fin 512) (j : Fin 256) :
    matmul (φ₁ := .bf16) (φ₂ := .bf16) dot_S512x1024_S1024x256_S512x256_1_0_0_1_n_n none u v (constant S512x256 .f32 0x00000000#32) (ix2 r j)
      = ∑ k : Fin 1024, u (ix2 r k) * v (ix2 k j) := by
  pointwise

/-! The branches. -/

/-- The two slabs of the state-space output, side by side. -/
theorem sides_apply (A B : Vec Ideal S1x512x128 .f32) (s : Fin 256 → EReal) (r : Fin 512)
    (hA : ∀ k : Fin 128, A (ix3 0 r k) = s ⟨k.val, by omega⟩) (hB : ∀ k : Fin 128, B (ix3 0 r k) = s ⟨128 + k.val, by omega⟩) (k : Fin 256) :
    concatenate (α := EReal) S512x256 1 [⟨S512x128, shapeCast (α := EReal) S512x128 A shapeCasts_S1x512x128_S512x128⟩,
      ⟨S512x128, shapeCast (α := EReal) S512x128 B shapeCasts_S1x512x128_S512x128⟩] concatenates_S512x128_S512x128_S512x256_d1 (ix2 r k) = s k := by
  by_cases hk : k.val < 128
  · have := hA ⟨k.val, hk⟩
    pointwise [hk]
    exact this
  · have := hB ⟨k.val - 128, by omega⟩
    have hk' : 128 ≤ k.val := by omega
    pointwise [hk, hk']
    exact this.trans (congrArg s (Fin.ext (by show 128 + (k.val - 128) = k.val; omega)))

theorem glu_apply (A B : Vec Ideal S1x512x128 .f32) (V G : Vec Ideal S1x256x256 .bf16) (T : Tok) (W : Wts) (r : Fin 512)
    (hA : ∀ k : Fin 128, A (ix3 0 r k) = T.s ⟨k.val, by omega⟩) (hB : ∀ k : Fin 128, B (ix3 0 r k) = T.s ⟨128 + k.val, by omega⟩)
    (hV : ∀ k j, V (ix3 0 k j) = W.vv k j) (hG : ∀ k j, G (ix3 0 k j) = W.vg k j) (j : Fin 256) :
    k0_pay1 (F := Ideal) A B V G (ix2 r j) = T.glu W j := by
  have hs := sides_apply A B T.s r hA hB
  unfold k0_pay1
  generalize hc : concatenate (α := EReal) S512x256 1 [⟨S512x128, shapeCast (α := EReal) S512x128 A shapeCasts_S1x512x128_S512x128⟩,
      ⟨S512x128, shapeCast (α := EReal) S512x128 B shapeCasts_S1x512x128_S512x128⟩] concatenates_S512x128_S512x128_S512x256_d1 = y at hs
  pointwise [Tok.glu, gate, gelu]
  simp only [hs, hV, hG, zero_sub]

/-- The row after the merge. -/
theorem mid_apply (S : FVec Ideal S512x256 .f32) (g1 g2 g3 : Vec Ideal S512x1024 .bf16) (a b : Vec Ideal S512x384 .bf16)
    (wa wb : Vec Ideal S1x384x1024 .bf16) (ws : Vec Ideal S1x256x1024 .bf16) (h : Vec Ideal S512x1024 .f32) (wo : Vec Ideal S1x1024x1024 .bf16)
    (T : Tok) (W : Wts) (r : Fin 512) (hS : ∀ k, S (ix2 r k) = T.glu W k)
    (h1 : ∀ k : Fin 1024, g1 (ix2 r k) = T.g ⟨k.val, by omega⟩) (h2 : ∀ k : Fin 1024, g2 (ix2 r k) = T.g ⟨1024 + k.val, by omega⟩)
    (h3 : ∀ k : Fin 1024, g3 (ix2 r k) = T.g ⟨2048 + k.val, by omega⟩) (ha : ∀ k, a (ix2 r k) = T.a k) (hb : ∀ k, b (ix2 r k) = T.b k)
    (hwa : ∀ k j, wa (ix3 0 k j) = W.wa k j) (hwb : ∀ k j, wb (ix3 0 k j) = W.wb k j) (hws : ∀ k j, ws (ix3 0 k j) = W.ws k j)
    (hh : ∀ k, h (ix2 r k) = T.h k) (hwo : ∀ k j, wo (ix3 0 k j) = W.wo k j) (j : Fin 1024) :
    k0_pay3 (F := Ideal) S (k0_pay2 g1) a wa g2 b wb g3 ws h wo (ix2 r j) = T.mid W j := by
  pointwise [k0_pay3, k0_pay2, Tok.mid, Tok.merged]
  simp only [hS, h1, h2, h3, ha, hb, hwa, hwb, hws, hh, hwo]

/-- The normalised row after the merge. -/
theorem rms_apply (X : FVec Ideal S512x1024 .f32) (N : Vec Ideal S1x1024 .f32) (x g : Fin 1024 → EReal) (r : Fin 512)
    (hX : ∀ k, X (ix2 r k) = x k) (hN : ∀ k, N (ix2 0 k) = g k) (k : Fin 1024) :
    k0_pay6 (F := Ideal) X (k0_pay4 N) (shapeCast (α := EReal) S512x1 (multiReduction (F := Ideal) (φ := .f32) .add [1] S512 (mulf (F := Ideal) (φ := .f32) X X) 0x00000000#32 reduces_S512x1024_S512 (.inl rfl) rfl) shapeCasts_S512_S512x1) (ix2 r k) = rms x g k := by
  pointwise [k0_pay6, k0_pay4, rms]
  simp only [hX, hN]

/-! One hidden chunk. -/

/-- The rows' product with the chunk of the first weight starting at column `lo`. -/
abbrev upc (u : FVec Ideal S512x1024 .bf16) (w : Vec Ideal S1x1024x256 .bf16) : FVec Ideal S512x256 .f32 :=
  matmul (φ₁ := .bf16) (φ₂ := .bf16) dot_S512x1024_S1024x256_S512x256_1_0_0_1_n_n none u (shapeCast (α := EReal) S1024x256 w shapeCasts_S1x1024x256_S1024x256) (constant S512x256 .f32 0x00000000#32)

/-- A chunk's activations times its rows of the second weight. -/
abbrev chunk (p q : FVec Ideal S512x256 .f32) (w : Vec Ideal S1x256x1024 .bf16) : FVec Ideal S512x1024 .f32 :=
  matmul (φ₁ := .bf16) (φ₂ := .bf16) dot_S512x256_S256x1024_S512x1024_1_0_0_1_n_n none
    (truncf (F := Ideal) (φ := .f32) .bf16 (mulf (F := Ideal) (φ := .f32) (mulf (F := Ideal) (φ := .f32) p (divf (F := Ideal) (φ := .f32) (broadcast (α := EReal) S512x256 (Scalar.ofBits (F := Ideal) .f32 0x3F800000#32))
      (addf (F := Ideal) (φ := .f32) (broadcast (α := EReal) S512x256 (Scalar.ofBits (F := Ideal) .f32 0x3F800000#32)) (exp (F := Ideal) (φ := .f32) (subf (F := Ideal) (φ := .f32) (broadcast (α := EReal) S512x256 (Scalar.ofBits (F := Ideal) .f32 0x00000000#32)) p))))) q) bitsLt_bf16_f32)
    (shapeCast (α := EReal) S256x1024 w shapeCasts_S1x256x1024_S256x1024) (constant S512x1024 .f32 0x00000000#32)

theorem upc_apply (u : FVec Ideal S512x1024 .bf16) (w : Vec Ideal S1x1024x256 .bf16) (r : Fin 512) (j : Fin 256) :
    upc u w (ix2 r j) = ∑ k : Fin 1024, u (ix2 r k) * w (ix3 0 k j) := by
  unfold upc
  pointwise

theorem chunk_apply (p q : FVec Ideal S512x256 .f32) (w : Vec Ideal S1x256x1024 .bf16) (r : Fin 512) (j : Fin 1024) :
    chunk p q w (ix2 r j) = ∑ k : Fin 256, p (ix2 r k) * gate (p (ix2 r k)) * q (ix2 r k) * w (ix3 0 k j) := by
  unfold chunk
  pointwise [gate]
  simp only [zero_sub]

end Cert.Kernel2Ideal.Hand

end
-- ==== Proof.Ffn.Block.lean ====
/-
  What one grid point of the merge and feed-forward call leaves in its output block, read at an index: a function of
  the block's row and of the weights.
-/
module

public import proofs.«01_k».proof.Proof.Ffn.Row

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

variable (x0 x1 : Vec Ideal S512x384 .bf16) (x2 : Vec Ideal S2x512x128 .f32) (x3 : Vec Ideal S512x3072 .bf16) (x4 : Vec Ideal S512x1024 .f32)
  (x5 x6 : Vec Ideal S1x384x1024 .bf16) (x7 : Vec Ideal S1x256x1024 .bf16) (x8 x9 : Vec Ideal S1x256x256 .bf16) (x10 : Vec Ideal S1x1024x1024 .bf16)
  (x11 : Vec Ideal S1x1024 .f32) (x12 : Vec Ideal S1x1024x5632 .bf16) (x13 : Vec Ideal S1x2816x1024 .bf16) (x14 : Vec Ideal S1x1024 .f32)

/-- The row after the merge, over the block. -/
abbrev midB : FVec Ideal S512x1024 .f32 :=
  k0_pay3 (k0_pay1 (View.ld x2 r0_0) (View.ld x2 r0_1) (View.ld x8 r0_2) (View.ld x9 r0_2)) (k0_pay2 (View.ld x3 r0_3)) (View.ld x0 r0_4) (View.ld x5 r0_5)
    (View.ld x3 r0_6) (View.ld x1 r0_4) (View.ld x6 r0_5) (View.ld x3 r0_7) (View.ld x7 r0_8) (View.ld x4 r0_9) (View.ld x10 r0_10)

/-- The sums of squares of a block's rows. -/
abbrev sqB (X : FVec Ideal S512x1024 .f32) : FVec Ideal S512x1 .f32 :=
  shapeCast (α := EReal) S512x1 (multiReduction (F := Ideal) (φ := .f32) .add [1] S512 (mulf (F := Ideal) (φ := .f32) X X) 0x00000000#32 reduces_S512x1024_S512 (.inl rfl) rfl) shapeCasts_S512_S512x1

/-- The eleven chunks' contributions, added up from zero. -/
abbrev accB (u : FVec Ideal S512x1024 .bf16) : FVec Ideal S512x1024 .f32 :=
  addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (broadcast (α := EReal) S512x1024 (Scalar.ofBits (F := Ideal) .f32 0x00000000#32)) (chunk (upc u (View.ld x12 r0_12)) (upc u (View.ld x12 r0_13)) (View.ld x13 r0_14))) (chunk (upc u (View.ld x12 r0_15)) (upc u (View.ld x12 r0_16)) (View.ld x13 r0_17))) (chunk (upc u (View.ld x12 r0_18)) (upc u (View.ld x12 r0_19)) (View.ld x13 r0_20))) (chunk (upc u (View.ld x12 r0_21)) (upc u (View.ld x12 r0_22)) (View.ld x13 r0_23))) (chunk (upc u (View.ld x12 r0_24)) (upc u (View.ld x12 r0_25)) (View.ld x13 r0_26))) (chunk (upc u (View.ld x12 r0_27)) (upc u (View.ld x12 r0_28)) (View.ld x13 r0_29))) (chunk (upc u (View.ld x12 r0_30)) (upc u (View.ld x12 r0_31)) (View.ld x13 r0_32))) (chunk (upc u (View.ld x12 r0_33)) (upc u (View.ld x12 r0_34)) (View.ld x13 r0_35))) (chunk (upc u (View.ld x12 r0_36)) (upc u (View.ld x12 r0_37)) (View.ld x13 r0_38))) (chunk (upc u (View.ld x12 r0_39)) (upc u (View.ld x12 r0_40)) (View.ld x13 r0_41))) (chunk (upc u (View.ld x12 r0_42)) (upc u (View.ld x12 r0_43)) (View.ld x13 r0_44))

/-- The result's block, from the row after the merge and the chunks' sum. -/
abbrev endB (X A : FVec Ideal S512x1024 .f32) (g : Vec Ideal S1x1024 .f32) : FVec Ideal S512x1024 .f32 :=
  mulf (F := Ideal) (φ := .f32) (mulf (F := Ideal) (φ := .f32) (addf (F := Ideal) (φ := .f32) X A) (broadcastTo S512x1024 (rsqrt (F := Ideal) (φ := .f32) (addf (F := Ideal) (φ := .f32)
    (divf (F := Ideal) (φ := .f32) (sqB (addf (F := Ideal) (φ := .f32) X A)) (broadcast (α := EReal) S512x1 (Scalar.ofBits (F := Ideal) .f32 0x44800000#32)))
    (broadcast (α := EReal) S512x1 (Scalar.ofBits (F := Ideal) .f32 0x358637BD#32)))) broadcasts_S512x1_S512x1024))
    (broadcastTo S512x1024 (shapeCast (α := EReal) S1x1024 g shapeCasts_S1x1024_S1x1024) broadcasts_S1x1024_S512x1024)

theorem endB_apply (X A : FVec Ideal S512x1024 .f32) (N : Vec Ideal S1x1024 .f32) (x g : Fin 1024 → EReal) (r : Fin 512)
    (hX : ∀ k, X (ix2 r k) + A (ix2 r k) = x k) (hN : ∀ k, N (ix2 0 k) = g k) (k : Fin 1024) : endB X A N (ix2 r k) = rms x g k := by
  unfold endB
  pointwise [rms]
  simp only [hX, hN]

/-- The stored value, laid out as the row after the merge, the chunks' sum and the last normalisation. -/
theorem out15_eq : out0_15 x0 x1 x2 x3 x4 x5 x6 x7 x8 x9 x10 x11 x12 x13 x14
    = endB (midB x0 x1 x2 x3 x4 x5 x6 x7 x8 x9 x10) (accB x12 x13 (k0_pay6 (midB x0 x1 x2 x3 x4 x5 x6 x7 x8 x9 x10) (k0_pay4 (View.ld x11 r0_11)) (sqB (midB x0 x1 x2 x3 x4 x5 x6 x7 x8 x9 x10)))) (View.ld x14 r0_11) := by
  unfold out0_15
  refine (View.canon_cons_unit_lit _ _ _ (by decide)).trans ?_
  rfl

/-! The chunks. -/

variable {x12 x13}
variable (T : Tok) (W : Wts) (r : Fin 512) (u : FVec Ideal S512x1024 .bf16)

/-- Chunk `i` of the hidden sum. -/
def tile (j : Fin 1024) (i : Fin 11) : EReal :=
  ∑ k : Fin 256, T.act W ⟨i.val * 256 + k.val, by omega⟩ * W.wd ⟨i.val * 256 + k.val, by omega⟩ j

/-- The rows' product with a chunk of the first weight. -/
theorem upc_ld (hu : ∀ k, u (ix2 r k) = rms (T.mid W) W.n1 k) (hw : ∀ k j, x12 (ix3 0 k j) = W.wu k j) (lo : Nat)
    (inb : ∀ a, (![0, 0, lo] : Fin 3 → Nat) a + S1x1024x256.size a ≤ S1x1024x5632.size a) (j : Fin 256) (c : Fin 5632) (hc : c.val = lo + j.val) :
    upc u (View.ld x12 (Rect.unit (s := S1x1024x5632) ![0, 0, lo] S1x1024x256.size inb)) (ix2 r j) = T.up W c := by
  rw [upc_apply]
  refine Finset.sum_congr rfl fun k _ => congrArg₂ (· * ·) (hu k) ?_
  refine (View.ld_unit_apply_of x12 _ _ inb _ (ix3 0 k c) (fun a => ?_)).trans (hw k c)
  match a with
  | ⟨0, _⟩ => rfl
  | ⟨1, _⟩ => exact (Nat.zero_add _).symm
  | ⟨2, _⟩ => exact hc

/-- One chunk's contribution. -/
theorem chunk_ld (hu : ∀ k, u (ix2 r k) = rms (T.mid W) W.n1 k) (hw : ∀ k j, x12 (ix3 0 k j) = W.wu k j) (hd : ∀ k j, x13 (ix3 0 k j) = W.wd k j)
    (i : Fin 11) {lo hi : Nat} (hlo : lo = i.val * 256) (hhi : hi = 2816 + lo)
    (inb : ∀ a, (![0, 0, lo] : Fin 3 → Nat) a + S1x1024x256.size a ≤ S1x1024x5632.size a)
    (inb' : ∀ a, (![0, 0, hi] : Fin 3 → Nat) a + S1x1024x256.size a ≤ S1x1024x5632.size a)
    (inb'' : ∀ a, (![0, lo, 0] : Fin 3 → Nat) a + S1x256x1024.size a ≤ S1x2816x1024.size a) (j : Fin 1024) :
    chunk (upc u (View.ld x12 (Rect.unit (s := S1x1024x5632) ![0, 0, lo] S1x1024x256.size inb)))
      (upc u (View.ld x12 (Rect.unit (s := S1x1024x5632) ![0, 0, hi] S1x1024x256.size inb')))
      (View.ld x13 (Rect.unit (s := S1x2816x1024) ![0, lo, 0] S1x256x1024.size inb'')) (ix2 r j) = tile T W j i := by
  subst hlo hhi
  rw [chunk_apply]
  refine Finset.sum_congr rfl fun k _ => ?_
  rw [upc_ld T W r u hu hw _ inb k ⟨i.val * 256 + k.val, by omega⟩ rfl,
    upc_ld T W r u hu hw _ inb' k ⟨2816 + (i.val * 256 + k.val), by omega⟩ (by show 2816 + (i.val * 256 + k.val) = 2816 + i.val * 256 + k.val; omega)]
  refine congrArg₂ (· * ·) rfl ?_
  refine (View.ld_unit_apply_of x13 _ _ inb'' _ (ix3 0 ⟨i.val * 256 + k.val, by omega⟩ j) (fun a => ?_)).trans (hd _ j)
  match a with
  | ⟨0, _⟩ => rfl
  | ⟨1, _⟩ => rfl
  | ⟨2, _⟩ => exact (Nat.zero_add _).symm

/-- The chunks' sum is the whole hidden sum. -/
theorem acc_apply (hu : ∀ k, u (ix2 r k) = rms (T.mid W) W.n1 k) (hw : ∀ k j, x12 (ix3 0 k j) = W.wu k j) (hd : ∀ k j, x13 (ix3 0 k j) = W.wd k j)
    (j : Fin 1024) : accB x12 x13 u (ix2 r j) = ∑ k : Fin 2816, T.act W k * W.wd k j := by
  have hc := fun (i : Fin 11) {lo hi : Nat} (hlo : lo = i.val * 256) (hhi : hi = 2816 + lo) inb inb' inb'' =>
    chunk_ld T W r u hu hw hd i (lo := lo) (hi := hi) hlo hhi inb inb' inb'' j
  have hz : (broadcast (α := EReal) S512x1024 (Scalar.ofBits (F := Ideal) .f32 0x00000000#32)) (ix2 r j) = 0 := Ideal.ofBits_zero_f32
  have hs : ∑ k : Fin 2816, T.act W k * W.wd k j = ∑ i : Fin 11, tile T W j i :=
    Fin.sum_univ_tiles 11 256 rfl fun k : Fin 2816 => T.act W k * W.wd k j
  rw [hs]
  simp only [Fin.sum_univ_castSucc, Fin.sum_univ_zero]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (hz) (hc 0 rfl rfl _ _ _)) (hc 1 rfl rfl _ _ _)) (hc 2 rfl rfl _ _ _)) (hc 3 rfl rfl _ _ _)) (hc 4 rfl rfl _ _ _)) (hc 5 rfl rfl _ _ _)) (hc 6 rfl rfl _ _ _)) (hc 7 rfl rfl _ _ _)) (hc 8 rfl rfl _ _ _)) (hc 9 rfl rfl _ _ _)) (hc 10 rfl rfl _ _ _)

/-- The output block's row, as the result's row. -/
theorem out_apply (h0 : ∀ k, x0 (ix2 r k) = T.a k) (h1 : ∀ k, x1 (ix2 r k) = T.b k)
    (h2 : ∀ (p : Fin 2) (k : Fin 128), x2 (ix3 p r k) = T.s ⟨p.val * 128 + k.val, by omega⟩)
    (h3 : ∀ k, x3 (ix2 r k) = T.g k) (h4 : ∀ k, x4 (ix2 r k) = T.h k)
    (h5 : ∀ k j, x5 (ix3 0 k j) = W.wa k j) (h6 : ∀ k j, x6 (ix3 0 k j) = W.wb k j) (h7 : ∀ k j, x7 (ix3 0 k j) = W.ws k j)
    (h8 : ∀ k j, x8 (ix3 0 k j) = W.vv k j) (h9 : ∀ k j, x9 (ix3 0 k j) = W.vg k j) (h10 : ∀ k j, x10 (ix3 0 k j) = W.wo k j)
    (h11 : ∀ k, x11 (ix2 0 k) = W.n1 k) (h12 : ∀ k j, x12 (ix3 0 k j) = W.wu k j) (h13 : ∀ k j, x13 (ix3 0 k j) = W.wd k j)
    (h14 : ∀ k, x14 (ix2 0 k) = W.n2 k) (j : Fin 1024) :
    out0_15 x0 x1 x2 x3 x4 x5 x6 x7 x8 x9 x10 x11 x12 x13 x14 (ix2 r j) = T.out W j := by
  have hm : ∀ k, midB x0 x1 x2 x3 x4 x5 x6 x7 x8 x9 x10 (ix2 r k) = T.mid W k := by
    refine mid_apply _ _ _ _ _ _ _ _ _ _ _ T W r (glu_apply _ _ _ _ T W r ?_ ?_ ?_ ?_) ?_ ?_ ?_ ?_ ?_ ?_ ?_ ?_ ?_ ?_
    · intro k
      refine (View.ld_unit_apply_of x2 _ _ _ _ (ix3 0 r k) (fun a => ?_)).trans ((h2 0 k).trans (congrArg T.s (Fin.ext (by show 0 * 128 + k.val = k.val; omega))))
      match a with
      | ⟨0, _⟩ => rfl
      | ⟨1, _⟩ => exact (Nat.zero_add _).symm
      | ⟨2, _⟩ => exact (Nat.zero_add _).symm
    · intro k
      refine (View.ld_unit_apply_of x2 _ _ _ _ (ix3 1 r k) (fun a => ?_)).trans ((h2 1 k).trans (congrArg T.s (Fin.ext (by show 1 * 128 + k.val = 128 + k.val; omega))))
      match a with
      | ⟨0, _⟩ => rfl
      | ⟨1, _⟩ => exact (Nat.zero_add _).symm
      | ⟨2, _⟩ => exact (Nat.zero_add _).symm
    · intro k j; rw [View.ld_unit_lit _ _ (by decide)]; exact h8 k j
    · intro k j; rw [View.ld_unit_lit _ _ (by decide)]; exact h9 k j
    · intro k
      refine (View.ld_unit_apply_of x3 _ _ _ _ (ix2 r ⟨k.val, by omega⟩) (fun a => ?_)).trans (h3 _)
      match a with
      | ⟨0, _⟩ => exact (Nat.zero_add _).symm
      | ⟨1, _⟩ => exact (Nat.zero_add _).symm
    · intro k
      refine (View.ld_unit_apply_of x3 _ _ _ _ (ix2 r ⟨1024 + k.val, by omega⟩) (fun a => ?_)).trans (h3 _)
      match a with
      | ⟨0, _⟩ => exact (Nat.zero_add _).symm
      | ⟨1, _⟩ => rfl
    · intro k
      refine (View.ld_unit_apply_of x3 _ _ _ _ (ix2 r ⟨2048 + k.val, by omega⟩) (fun a => ?_)).trans (h3 _)
      match a with
      | ⟨0, _⟩ => exact (Nat.zero_add _).symm
      | ⟨1, _⟩ => rfl
    · intro k; rw [View.ld_unit_lit _ _ (by decide)]; exact h0 k
    · intro k; rw [View.ld_unit_lit _ _ (by decide)]; exact h1 k
    · intro k j; rw [View.ld_unit_lit _ _ (by decide)]; exact h5 k j
    · intro k j; rw [View.ld_unit_lit _ _ (by decide)]; exact h6 k j
    · intro k j; rw [View.ld_unit_lit _ _ (by decide)]; exact h7 k j
    · intro k; rw [View.ld_unit_lit _ _ (by decide)]; exact h4 k
    · intro k j; rw [View.ld_unit_lit _ _ (by decide)]; exact h10 k j
  rw [out15_eq]
  generalize midB x0 x1 x2 x3 x4 x5 x6 x7 x8 x9 x10 = X at hm
  refine endB_apply _ _ _ (T.last W) W.n2 r (fun k => ?_) (fun k => ?_) j
  · rw [hm k, acc_apply T W r _ (rms_apply X _ _ _ r hm (fun l => ?_)) h12 h13]
    · rfl
    · rw [View.ld_unit_lit _ _ (by decide)]; exact h11 l
  · rw [View.ld_unit_lit _ _ (by decide)]; exact h14 k

end Cert.Kernel2Ideal.Hand

end
-- ==== Proof.Ffn.Ref.lean ====
/-
  The reference's lines for the same part, read at an index: its result's row is the same function of the token's inputs
  and of layer 1's weights.
-/
module

public import proofs.«01_k».proof.Proof.Ffn.Block
public import proofs.«01_k».proof.Proof.Gen.Reference2Ideal.Read

@[expose] public section

set_option maxRecDepth 16384

noncomputable section

namespace Cert.Kernel2Ideal.Hand

open Cert.Kernel2Ideal
open Idealize.ShloMosaic Idealize.ShloMosaic.TcCoe Idealize.SL.Sem
open Cert.Reference2Ideal.Read

variable (x0 x1 : S32768x384.Idx → EReal) (x2 : S2x32768x128.Idx → EReal) (x3 : S32768x3072.Idx → EReal) (x4 : S32768x1024.Idx → EReal)
  (x5 x6 : S2x384x1024.Idx → EReal) (x7 : S2x256x1024.Idx → EReal) (x8 x9 : S2x256x256.Idx → EReal) (x10 : S2x1024x1024.Idx → EReal)
  (x11 : S2x1024.Idx → EReal) (x12 : S2x1024x5632.Idx → EReal) (x13 : S2x2816x1024.Idx → EReal) (x14 : S1024.Idx → EReal)

/-- Token `R`'s inputs. -/
abbrev tokOf (R : Fin 32768) : Tok where
  a k := x0 (ix2 R k)
  b k := x1 (ix2 R k)
  s k := x2 (ix3 ⟨k.val / 128, by omega⟩ R ⟨k.val % 128, by omega⟩)
  g k := x3 (ix2 R k)
  h k := x4 (ix2 R k)

/-- Layer 1's weights. -/
abbrev wtsOf : Wts where
  wa k j := x5 (ix3 1 k j)
  wb k j := x6 (ix3 1 k j)
  ws k j := x7 (ix3 1 k j)
  vv k j := x8 (ix3 1 k j)
  vg k j := x9 (ix3 1 k j)
  wo k j := x10 (ix3 1 k j)
  n1 k := x11 (ix2 1 k)
  wu k j := x12 (ix3 1 k j)
  wd k j := x13 (ix3 1 k j)
  n2 k := x14 (ix1 k)

theorem ref_side (R : Fin 32768) (k : Fin 256) : val_main_v1 (F := Ideal) x2 (ix2 R k) = (tokOf x0 x1 x2 x3 x4 R).s k := by
  rw [val_main_v1_apply, val_main_v0_apply]
  refine congrArg x2 (funext fun a => Fin.ext ?_)
  match a with
  | ⟨0, _⟩ => show (R.val * 256 + k.val) / 128 % 2 = k.val / 128; omega
  | ⟨1, _⟩ => show (R.val * 256 + k.val) / 256 = R.val; omega
  | ⟨2, _⟩ => show (R.val * 256 + k.val) % 128 = k.val % 128; omega

theorem ref_gelu (R : Fin 32768) (k : Fin 256) : val_main_v14 (F := Ideal) x2 (ix2 R k) = gelu ((tokOf x0 x1 x2 x3 x4 R).s k) := by
  rw [← ref_side]
  pointwise [val_main_v14, val_main_v13, val_main_v12, val_main_cst_2, val_main_v11, val_main_v10, val_main_cst_1, val_main_v9, val_main_v8, val_main_v7, val_main_cst_0, val_main_v6, val_main_v5, val_main_v4, val_main_cst, val_main_v3, val_main_v2, gelu]
  rw [← mul_assoc, mul_comm (val_main_v1 (F := Ideal) x2 (ix2 R k))]

theorem ref_vv (R : Fin 32768) (j : Fin 256) :
    val_main_v17 (F := Ideal) x2 x8 (ix2 R j) = ∑ k : Fin 256, val_main_v14 (F := Ideal) x2 (ix2 R k) * x8 (ix3 1 k j) := by
  rw [val_main_v17_apply]
  refine Finset.sum_congr rfl fun k _ => congrArg₂ (· * ·) (congrArg _ (funext fun a => Fin.ext (by match a with | ⟨0, _⟩ => rfl | ⟨1, _⟩ => rfl))) ?_
  generalize hq : ridx_main_v17 (ix2 R j) k = q
  have hq' : q = ix2 k j := by rw [← hq]; exact funext fun a => Fin.ext (by match a with | ⟨0, _⟩ => rfl | ⟨1, _⟩ => rfl)
  rw [hq']
  pointwise [val_main_v16, val_main_v15]

theorem ref_vg (R : Fin 32768) (j : Fin 256) :
    val_main_v20 (F := Ideal) x2 x9 (ix2 R j) = ∑ k : Fin 256, val_main_v14 (F := Ideal) x2 (ix2 R k) * x9 (ix3 1 k j) := by
  rw [val_main_v20_apply]
  refine Finset.sum_congr rfl fun k _ => congrArg₂ (· * ·) (congrArg _ (funext fun a => Fin.ext (by match a with | ⟨0, _⟩ => rfl | ⟨1, _⟩ => rfl))) ?_
  generalize hq : ridx_main_v20 (ix2 R j) k = q
  have hq' : q = ix2 k j := by rw [← hq]; exact funext fun a => Fin.ext (by match a with | ⟨0, _⟩ => rfl | ⟨1, _⟩ => rfl)
  rw [hq']
  pointwise [val_main_v19, val_main_v18]

theorem ref_glu (R : Fin 32768) (j : Fin 256) : val_main_v27 (F := Ideal) x2 x8 x9 (ix2 R j) = (tokOf x0 x1 x2 x3 x4 R).glu (wtsOf x5 x6 x7 x8 x9 x10 x11 x12 x13 x14) j := by
  have e : val_main_v27 (F := Ideal) x2 x8 x9 (ix2 R j) = val_main_v17 (F := Ideal) x2 x8 (ix2 R j) * gate (val_main_v20 (F := Ideal) x2 x9 (ix2 R j)) := by
    pointwise [val_main_v27, val_main_v26, val_main_v25, val_main_cst_4, val_main_v24, val_main_v23, val_main_cst_3, val_main_v22, val_main_v21, gate]
  rw [e, ref_vv, ref_vg]
  unfold Tok.glu
  simp only [ref_gelu x0 x1 x2 x3 x4]

theorem ref_wa (R : Fin 32768) (j : Fin 1024) :
    val_main_v31 (F := Ideal) x0 x5 (ix2 R j) = ∑ k : Fin 384, val_main_v28 (F := Ideal) x0 (ix2 R k) * x5 (ix3 1 k j) := by
  rw [val_main_v31_apply]
  refine Finset.sum_congr rfl fun k _ => congrArg₂ (· * ·) (congrArg _ (funext fun a => Fin.ext (by match a with | ⟨0, _⟩ => rfl | ⟨1, _⟩ => rfl))) ?_
  generalize hq : ridx_main_v31 (ix2 R j) k = q
  have hq' : q = ix2 k j := by rw [← hq]; exact funext fun a => Fin.ext (by match a with | ⟨0, _⟩ => rfl | ⟨1, _⟩ => rfl)
  rw [hq']
  pointwise [val_main_v30, val_main_v29]

theorem ref_wb (R : Fin 32768) (j : Fin 1024) :
    val_main_v35 (F := Ideal) x1 x6 (ix2 R j) = ∑ k : Fin 384, val_main_v32 (F := Ideal) x1 (ix2 R k) * x6 (ix3 1 k j) := by
  rw [val_main_v35_apply]
  refine Finset.sum_congr rfl fun k _ => congrArg₂ (· * ·) (congrArg _ (funext fun a => Fin.ext (by match a with | ⟨0, _⟩ => rfl | ⟨1, _⟩ => rfl))) ?_
  generalize hq : ridx_main_v35 (ix2 R j) k = q
  have hq' : q = ix2 k j := by rw [← hq]; exact funext fun a => Fin.ext (by match a with | ⟨0, _⟩ => rfl | ⟨1, _⟩ => rfl)
  rw [hq']
  pointwise [val_main_v34, val_main_v33]

theorem ref_ws (R : Fin 32768) (j : Fin 1024) :
    val_main_v38 (F := Ideal) x2 x7 x8 x9 (ix2 R j) = ∑ k : Fin 256, val_main_v27 (F := Ideal) x2 x8 x9 (ix2 R k) * x7 (ix3 1 k j) := by
  rw [val_main_v38_apply]
  refine Finset.sum_congr rfl fun k _ => congrArg₂ (· * ·) (congrArg _ (funext fun a => Fin.ext (by match a with | ⟨0, _⟩ => rfl | ⟨1, _⟩ => rfl))) ?_
  generalize hq : ridx_main_v38 (ix2 R j) k = q
  have hq' : q = ix2 k j := by rw [← hq]; exact funext fun a => Fin.ext (by match a with | ⟨0, _⟩ => rfl | ⟨1, _⟩ => rfl)
  rw [hq']
  pointwise [val_main_v37, val_main_v36]

theorem ref_g0 (R : Fin 32768) (k : Fin 1024) : val_main_v42 (F := Ideal) x3 (ix2 R k) = x3 (ix2 R ⟨k.val, by omega⟩) := by
  rw [val_main_v42_apply, val_main_v41_apply, val_main_v40_apply, val_main_v39_apply]
  refine congrArg x3 (funext fun a => Fin.ext ?_)
  match a with
  | ⟨0, _⟩ => show (((R.val * 1024 + k.val) / 1024 * 3 + 0) * 1024 + (R.val * 1024 + k.val) % 1024) / 3072 = R.val; omega
  | ⟨1, _⟩ => show (((R.val * 1024 + k.val) / 1024 * 3 + 0) * 1024 + (R.val * 1024 + k.val) % 1024) % 3072 = k.val; omega

theorem ref_g1 (R : Fin 32768) (k : Fin 1024) : val_main_v45 (F := Ideal) x3 (ix2 R k) = x3 (ix2 R ⟨1024 + k.val, by omega⟩) := by
  rw [val_main_v45_apply, val_main_v44_apply, val_main_v40_apply, val_main_v39_apply]
  refine congrArg x3 (funext fun a => Fin.ext ?_)
  match a with
  | ⟨0, _⟩ => show (((R.val * 1024 + k.val) / 1024 * 3 + (1 + 0)) * 1024 + (R.val * 1024 + k.val) % 1024) / 3072 = R.val; omega
  | ⟨1, _⟩ => show (((R.val * 1024 + k.val) / 1024 * 3 + (1 + 0)) * 1024 + (R.val * 1024 + k.val) % 1024) % 3072 = 1024 + k.val; omega

theorem ref_g2 (R : Fin 32768) (k : Fin 1024) : val_main_v49 (F := Ideal) x3 (ix2 R k) = x3 (ix2 R ⟨2048 + k.val, by omega⟩) := by
  rw [val_main_v49_apply, val_main_v48_apply, val_main_v40_apply, val_main_v39_apply]
  refine congrArg x3 (funext fun a => Fin.ext ?_)
  match a with
  | ⟨0, _⟩ => show (((R.val * 1024 + k.val) / 1024 * 3 + (2 + 0)) * 1024 + (R.val * 1024 + k.val) % 1024) / 3072 = R.val; omega
  | ⟨1, _⟩ => show (((R.val * 1024 + k.val) / 1024 * 3 + (2 + 0)) * 1024 + (R.val * 1024 + k.val) % 1024) % 3072 = 2048 + k.val; omega

theorem ref_merged (R : Fin 32768) (j : Fin 1024) : val_main_v51 (F := Ideal) x0 x1 x2 x3 x5 x6 x7 x8 x9 (ix2 R j) = (tokOf x0 x1 x2 x3 x4 R).merged (wtsOf x5 x6 x7 x8 x9 x10 x11 x12 x13 x14) j := by
  have e : val_main_v51 (F := Ideal) x0 x1 x2 x3 x5 x6 x7 x8 x9 (ix2 R j) = val_main_v42 (F := Ideal) x3 (ix2 R j) * val_main_v31 (F := Ideal) x0 x5 (ix2 R j)
      + val_main_v45 (F := Ideal) x3 (ix2 R j) * val_main_v35 (F := Ideal) x1 x6 (ix2 R j) + val_main_v49 (F := Ideal) x3 (ix2 R j) * val_main_v38 (F := Ideal) x2 x7 x8 x9 (ix2 R j) := rfl
  rw [e, ref_wa, ref_wb, ref_ws, ref_g0, ref_g1, ref_g2]
  unfold Tok.merged
  simp only [ref_glu x0 x1 x2 x3 x4 x5 x6 x7 x8 x9 x10 x11 x12 x13 x14]
  rfl

theorem ref_wo (R : Fin 32768) (j : Fin 1024) :
    val_main_v54 (F := Ideal) x0 x1 x2 x3 x5 x6 x7 x8 x9 x10 (ix2 R j) = ∑ k : Fin 1024, val_main_v51 (F := Ideal) x0 x1 x2 x3 x5 x6 x7 x8 x9 (ix2 R k) * x10 (ix3 1 k j) := by
  rw [val_main_v54_apply]
  refine Finset.sum_congr rfl fun k _ => congrArg₂ (· * ·) (congrArg _ (funext fun a => Fin.ext (by match a with | ⟨0, _⟩ => rfl | ⟨1, _⟩ => rfl))) ?_
  generalize hq : ridx_main_v54 (ix2 R j) k = q
  have hq' : q = ix2 k j := by rw [← hq]; exact funext fun a => Fin.ext (by match a with | ⟨0, _⟩ => rfl | ⟨1, _⟩ => rfl)
  rw [hq']
  pointwise [val_main_v53, val_main_v52]

theorem ref_mid (R : Fin 32768) (j : Fin 1024) : val_main_v55 (F := Ideal) x0 x1 x2 x3 x4 x5 x6 x7 x8 x9 x10 (ix2 R j) = (tokOf x0 x1 x2 x3 x4 R).mid (wtsOf x5 x6 x7 x8 x9 x10 x11 x12 x13 x14) j := by
  have e : val_main_v55 (F := Ideal) x0 x1 x2 x3 x4 x5 x6 x7 x8 x9 x10 (ix2 R j) = x4 (ix2 R j) + val_main_v54 (F := Ideal) x0 x1 x2 x3 x5 x6 x7 x8 x9 x10 (ix2 R j) := rfl
  rw [e, ref_wo]
  unfold Tok.mid
  simp only [ref_merged x0 x1 x2 x3 x4 x5 x6 x7 x8 x9 x10 x11 x12 x13 x14]

theorem ref_rms (R : Fin 32768) (k : Fin 1024) : val_main_v70 (F := Ideal) x0 x1 x2 x3 x4 x5 x6 x7 x8 x9 x10 x11 (ix2 R k) = rms ((tokOf x0 x1 x2 x3 x4 R).mid (wtsOf x5 x6 x7 x8 x9 x10 x11 x12 x13 x14)) (wtsOf x5 x6 x7 x8 x9 x10 x11 x12 x13 x14).n1 k := by
  have hm := ref_mid x0 x1 x2 x3 x4 x5 x6 x7 x8 x9 x10 x11 x12 x13 x14 R
  pointwise [val_main_v70, val_main_v69, val_main_v68, val_main_v67, val_main_v66, val_main_v65, val_main_v64, val_main_v63, val_main_cst_7, val_main_v62, val_main_v61, val_main_cst_6, val_main_v60, val_main_v59, val_main_cst_5, val_main_v58, val_main_v57, val_main_v56, rms]
  simp only [hm]

theorem ref_wu (R : Fin 32768) (j : Fin 5632) :
    val_main_v73 (F := Ideal) x0 x1 x2 x3 x4 x5 x6 x7 x8 x9 x10 x11 x12 (ix2 R j) = ∑ k : Fin 1024, val_main_v70 (F := Ideal) x0 x1 x2 x3 x4 x5 x6 x7 x8 x9 x10 x11 (ix2 R k) * x12 (ix3 1 k j) := by
  rw [val_main_v73_apply]
  refine Finset.sum_congr rfl fun k _ => congrArg₂ (· * ·) (congrArg _ (funext fun a => Fin.ext (by match a with | ⟨0, _⟩ => rfl | ⟨1, _⟩ => rfl))) ?_
  generalize hq : ridx_main_v73 (ix2 R j) k = q
  have hq' : q = ix2 k j := by rw [← hq]; exact funext fun a => Fin.ext (by match a with | ⟨0, _⟩ => rfl | ⟨1, _⟩ => rfl)
  rw [hq']
  pointwise [val_main_v72, val_main_v71]

theorem ref_up (R : Fin 32768) (j : Fin 5632) : val_main_v73 (F := Ideal) x0 x1 x2 x3 x4 x5 x6 x7 x8 x9 x10 x11 x12 (ix2 R j) = (tokOf x0 x1 x2 x3 x4 R).up (wtsOf x5 x6 x7 x8 x9 x10 x11 x12 x13 x14) j := by
  rw [ref_wu]
  unfold Tok.up
  simp only [ref_rms x0 x1 x2 x3 x4 x5 x6 x7 x8 x9 x10 x11 x12 x13 x14]

theorem ref_act (R : Fin 32768) (j : Fin 2816) : val_main_v77 (F := Ideal) x0 x1 x2 x3 x4 x5 x6 x7 x8 x9 x10 x11 x12 (ix2 R j) = (tokOf x0 x1 x2 x3 x4 R).act (wtsOf x5 x6 x7 x8 x9 x10 x11 x12 x13 x14) j := by
  have hu := ref_up x0 x1 x2 x3 x4 x5 x6 x7 x8 x9 x10 x11 x12 x13 x14 R
  unfold Tok.act
  rw [← hu, ← hu]
  pointwise [val_main_v77, val_main_v76, val_main_call0_v5, val_main_call0_v4, val_main_call0_cst_0, val_main_call0_v3, val_main_call0_v2, val_main_call0_cst, val_main_call0_v1, val_main_call0_v0, val_main_v75, val_main_v74, gate]

theorem ref_wd (R : Fin 32768) (j : Fin 1024) :
    val_main_v80 (F := Ideal) x0 x1 x2 x3 x4 x5 x6 x7 x8 x9 x10 x11 x12 x13 (ix2 R j) = ∑ k : Fin 2816, val_main_v77 (F := Ideal) x0 x1 x2 x3 x4 x5 x6 x7 x8 x9 x10 x11 x12 (ix2 R k) * x13 (ix3 1 k j) := by
  rw [val_main_v80_apply]
  refine Finset.sum_congr rfl fun k _ => congrArg₂ (· * ·) (congrArg _ (funext fun a => Fin.ext (by match a with | ⟨0, _⟩ => rfl | ⟨1, _⟩ => rfl))) ?_
  generalize hq : ridx_main_v80 (ix2 R j) k = q
  have hq' : q = ix2 k j := by rw [← hq]; exact funext fun a => Fin.ext (by match a with | ⟨0, _⟩ => rfl | ⟨1, _⟩ => rfl)
  rw [hq']
  pointwise [val_main_v79, val_main_v78]

theorem ref_last (R : Fin 32768) (j : Fin 1024) : val_main_v81 (F := Ideal) x0 x1 x2 x3 x4 x5 x6 x7 x8 x9 x10 x11 x12 x13 (ix2 R j) = (tokOf x0 x1 x2 x3 x4 R).last (wtsOf x5 x6 x7 x8 x9 x10 x11 x12 x13 x14) j := by
  have e : val_main_v81 (F := Ideal) x0 x1 x2 x3 x4 x5 x6 x7 x8 x9 x10 x11 x12 x13 (ix2 R j) = val_main_v55 (F := Ideal) x0 x1 x2 x3 x4 x5 x6 x7 x8 x9 x10 (ix2 R j) + val_main_v80 (F := Ideal) x0 x1 x2 x3 x4 x5 x6 x7 x8 x9 x10 x11 x12 x13 (ix2 R j) := rfl
  rw [e, ref_wd, ref_mid x0 x1 x2 x3 x4 x5 x6 x7 x8 x9 x10 x11 x12 x13 x14]
  unfold Tok.last
  simp only [ref_act x0 x1 x2 x3 x4 x5 x6 x7 x8 x9 x10 x11 x12 x13 x14]

/-- The reference's result, read at an index. -/
theorem ref_out (R : Fin 32768) (j : Fin 1024) : val_main_v94 (F := Ideal) x0 x1 x2 x3 x4 x5 x6 x7 x8 x9 x10 x11 x12 x13 x14 (ix2 R j) = (tokOf x0 x1 x2 x3 x4 R).out (wtsOf x5 x6 x7 x8 x9 x10 x11 x12 x13 x14) j := by
  have hm := ref_last x0 x1 x2 x3 x4 x5 x6 x7 x8 x9 x10 x11 x12 x13 x14 R
  unfold Tok.out
  pointwise [val_main_v94, val_main_v93, val_main_v92, val_main_v91, val_main_v90, val_main_v89, val_main_v88, val_main_v87, val_main_cst_10, val_main_v86, val_main_v85, val_main_cst_9, val_main_v84, val_main_v83, val_main_cst_8, val_main_v82, rms]
  simp only [hm]

end Cert.Kernel2Ideal.Hand

end
-- ==== Proof.Ffn.Whole.lean ====
/-
  The merge and feed-forward call's result array, as the reference's function of the arguments: each grid point's block
  is the reference's array read through the block, and the blocks cover the array.
-/
module

public import proofs.«01_k».proof.Proof.Ffn.Ref
public import Idealize.ShloMosaic.Lib.StableHlo.Run

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The fifteen arguments as launched. -/
abbrev a0 (c : Dev nD) : S32768x384.Idx → EReal := m ((c : Thread nD τ).loc main_arg0)
abbrev a1 (c : Dev nD) : S32768x384.Idx → EReal := m ((c : Thread nD τ).loc main_arg1)
abbrev a2 (c : Dev nD) : S2x32768x128.Idx → EReal := m ((c : Thread nD τ).loc main_arg2)
abbrev a3 (c : Dev nD) : S32768x3072.Idx → EReal := m ((c : Thread nD τ).loc main_arg3)
abbrev a4 (c : Dev nD) : S32768x1024.Idx → EReal := m ((c : Thread nD τ).loc main_arg4)
abbrev a5 (c : Dev nD) : S2x384x1024.Idx → EReal := m ((c : Thread nD τ).loc main_arg5)
abbrev a6 (c : Dev nD) : S2x384x1024.Idx → EReal := m ((c : Thread nD τ).loc main_arg6)
abbrev a7 (c : Dev nD) : S2x256x1024.Idx → EReal := m ((c : Thread nD τ).loc main_arg7)
abbrev a8 (c : Dev nD) : S2x256x256.Idx → EReal := m ((c : Thread nD τ).loc main_arg8)
abbrev a9 (c : Dev nD) : S2x256x256.Idx → EReal := m ((c : Thread nD τ).loc main_arg9)
abbrev a10 (c : Dev nD) : S2x1024x1024.Idx → EReal := m ((c : Thread nD τ).loc main_arg10)
abbrev a11 (c : Dev nD) : S2x1024.Idx → EReal := m ((c : Thread nD τ).loc main_arg11)
abbrev a12 (c : Dev nD) : S2x1024x5632.Idx → EReal := m ((c : Thread nD τ).loc main_arg12)
abbrev a13 (c : Dev nD) : S2x2816x1024.Idx → EReal := m ((c : Thread nD τ).loc main_arg13)
abbrev a14 (c : Dev nD) : S1024.Idx → EReal := m ((c : Thread nD τ).loc main_arg14)

theorem V_a5 (c : Dev nD) : V m c main_v2 = truncf (F := Ideal) (φ := .f32) .bf16 (a5 m c) bitsLt_bf16_f32 := by
  unfold_abbrev_sides
  after_results
theorem V_a6 (c : Dev nD) : V m c main_v3 = truncf (F := Ideal) (φ := .f32) .bf16 (a6 m c) bitsLt_bf16_f32 := by
  unfold_abbrev_sides
  after_results
theorem V_a7 (c : Dev nD) : V m c main_v4 = truncf (F := Ideal) (φ := .f32) .bf16 (a7 m c) bitsLt_bf16_f32 := by
  unfold_abbrev_sides
  after_results
theorem V_a8 (c : Dev nD) : V m c main_v5 = truncf (F := Ideal) (φ := .f32) .bf16 (a8 m c) bitsLt_bf16_f32 := by
  unfold_abbrev_sides
  after_results
theorem V_a9 (c : Dev nD) : V m c main_v6 = truncf (F := Ideal) (φ := .f32) .bf16 (a9 m c) bitsLt_bf16_f32 := by
  unfold_abbrev_sides
  after_results
theorem V_a10 (c : Dev nD) : V m c main_v7 = truncf (F := Ideal) (φ := .f32) .bf16 (a10 m c) bitsLt_bf16_f32 := by
  unfold_abbrev_sides
  after_results
theorem V_a12 (c : Dev nD) : V m c main_v0 = truncf (F := Ideal) (φ := .f32) .bf16 (a12 m c) bitsLt_bf16_f32 := by
  unfold_abbrev_sides
  after_results
theorem V_a13 (c : Dev nD) : V m c main_v1 = truncf (F := Ideal) (φ := .f32) .bf16 (a13 m c) bitsLt_bf16_f32 := by
  unfold_abbrev_sides
  after_results
theorem V_a11 (c : Dev nD) : V m c main_v10 = shapeCast S1x1024 (shapeCast S1024 (extractStridedSlice S1x1024 ![1, 0] (a11 m c) slices_S2x1024_S1x1024_1_0) shapeCasts_S1x1024_S1024) shapeCasts_S1024_S1x1024 := by
  unfold_abbrev_sides
  after_results
  rfl
theorem V_a14 (c : Dev nD) : V m c main_v11 = shapeCast S1x1024 (a14 m c) shapeCasts_S1024_S1x1024 := by
  unfold_abbrev_sides
  after_results
  rfl

theorem N64 : grid0.N = 64 := N_0

/-! What block of its array each window reads at a grid point. -/

theorem index0 : ∀ t : Fin cfg0.N, (cfg0.win 0).index t 0 = t.val ∧ (cfg0.win 0).index t 1 = 0 :=
  (by decide +kernel : ∀ t : Fin grid0.N, win0_0.index t 0 = t.val ∧ win0_0.index t 1 = 0)
theorem iblk0_apply (c : Dev nD) (t : Fin cfg0.N) (r : Fin 512) (k : Fin 384) (R : Fin 32768) (hR : R.val = 512 * t.val + r.val) :
    iblk m c 0 t (ix2 r k) = a0 m c (ix2 R k) := by
  show V m c main_arg0 (((cfg0.win 0).blk t).view.emb (ix2 r k)) = _
  rw [V_main_arg0]
  refine congrArg (a0 m c) (funext fun a => Fin.ext ?_)
  have hi := index0 t
  match a with
  | ⟨0, _⟩ => show win0_0.index t 0 * 512 + 1 * r.val = R.val
              rw [hi.1]; omega
  | ⟨1, _⟩ => show win0_0.index t 1 * 384 + 1 * k.val = k.val
              rw [hi.2]; omega

theorem index1 : ∀ t : Fin cfg0.N, (cfg0.win 1).index t 0 = t.val ∧ (cfg0.win 1).index t 1 = 0 :=
  (by decide +kernel : ∀ t : Fin grid0.N, win0_1.index t 0 = t.val ∧ win0_1.index t 1 = 0)
theorem iblk1_apply (c : Dev nD) (t : Fin cfg0.N) (r : Fin 512) (k : Fin 384) (R : Fin 32768) (hR : R.val = 512 * t.val + r.val) :
    iblk m c 1 t (ix2 r k) = a1 m c (ix2 R k) := by
  show V m c main_arg1 (((cfg0.win 1).blk t).view.emb (ix2 r k)) = _
  rw [V_main_arg1]
  refine congrArg (a1 m c) (funext fun a => Fin.ext ?_)
  have hi := index1 t
  match a with
  | ⟨0, _⟩ => show win0_1.index t 0 * 512 + 1 * r.val = R.val
              rw [hi.1]; omega
  | ⟨1, _⟩ => show win0_1.index t 1 * 384 + 1 * k.val = k.val
              rw [hi.2]; omega

theorem index3 : ∀ t : Fin cfg0.N, (cfg0.win 3).index t 0 = t.val ∧ (cfg0.win 3).index t 1 = 0 :=
  (by decide +kernel : ∀ t : Fin grid0.N, win0_3.index t 0 = t.val ∧ win0_3.index t 1 = 0)
theorem iblk3_apply (c : Dev nD) (t : Fin cfg0.N) (r : Fin 512) (k : Fin 3072) (R : Fin 32768) (hR : R.val = 512 * t.val + r.val) :
    iblk m c 3 t (ix2 r k) = a3 m c (ix2 R k) := by
  show V m c main_arg3 (((cfg0.win 3).blk t).view.emb (ix2 r k)) = _
  rw [V_main_arg3]
  refine congrArg (a3 m c) (funext fun a => Fin.ext ?_)
  have hi := index3 t
  match a with
  | ⟨0, _⟩ => show win0_3.index t 0 * 512 + 1 * r.val = R.val
              rw [hi.1]; omega
  | ⟨1, _⟩ => show win0_3.index t 1 * 3072 + 1 * k.val = k.val
              rw [hi.2]; omega

theorem index4 : ∀ t : Fin cfg0.N, (cfg0.win 4).index t 0 = t.val ∧ (cfg0.win 4).index t 1 = 0 :=
  (by decide +kernel : ∀ t : Fin grid0.N, win0_4.index t 0 = t.val ∧ win0_4.index t 1 = 0)
theorem iblk4_apply (c : Dev nD) (t : Fin cfg0.N) (r : Fin 512) (k : Fin 1024) (R : Fin 32768) (hR : R.val = 512 * t.val + r.val) :
    iblk m c 4 t (ix2 r k) = a4 m c (ix2 R k) := by
  show V m c main_arg4 (((cfg0.win 4).blk t).view.emb (ix2 r k)) = _
  rw [V_main_arg4]
  refine congrArg (a4 m c) (funext fun a => Fin.ext ?_)
  have hi := index4 t
  match a with
  | ⟨0, _⟩ => show win0_4.index t 0 * 512 + 1 * r.val = R.val
              rw [hi.1]; omega
  | ⟨1, _⟩ => show win0_4.index t 1 * 1024 + 1 * k.val = k.val
              rw [hi.2]; omega

theorem index2 : ∀ t : Fin cfg0.N, (cfg0.win 2).index t 0 = 0 ∧ (cfg0.win 2).index t 1 = t.val ∧ (cfg0.win 2).index t 2 = 0 :=
  (by decide +kernel : ∀ t : Fin grid0.N, win0_2.index t 0 = 0 ∧ win0_2.index t 1 = t.val ∧ win0_2.index t 2 = 0)
theorem iblk2_apply (c : Dev nD) (t : Fin cfg0.N) (p : Fin 2) (r : Fin 512) (k : Fin 128) (R : Fin 32768) (hR : R.val = 512 * t.val + r.val) :
    iblk m c 2 t (ix3 p r k) = a2 m c (ix3 p R k) := by
  show V m c main_arg2 (((cfg0.win 2).blk t).view.emb (ix3 p r k)) = _
  rw [V_main_arg2]
  refine congrArg (a2 m c) (funext fun a => Fin.ext ?_)
  have hi := index2 t
  match a with
  | ⟨0, _⟩ => show win0_2.index t 0 * 2 + 1 * p.val = p.val
              rw [hi.1]; omega
  | ⟨1, _⟩ => show win0_2.index t 1 * 512 + 1 * r.val = R.val
              rw [hi.2.1]; omega
  | ⟨2, _⟩ => show win0_2.index t 2 * 128 + 1 * k.val = k.val
              rw [hi.2.2]; omega

theorem index5 : ∀ t : Fin cfg0.N, (cfg0.win 5).index t 0 = 1 ∧ (cfg0.win 5).index t 1 = 0 ∧ (cfg0.win 5).index t 2 = 0 :=
  (by decide +kernel : ∀ t : Fin grid0.N, win0_5.index t 0 = 1 ∧ win0_5.index t 1 = 0 ∧ win0_5.index t 2 = 0)
theorem iblk5_apply (c : Dev nD) (t : Fin cfg0.N) (k : Fin 384) (j : Fin 1024) :
    iblk m c 5 t (ix3 0 k j) = a5 m c (ix3 1 k j) := by
  have e : V m c main_v2 (ix3 1 k j) = a5 m c (ix3 1 k j) := by
    rw [V_a5]; rfl
  refine Eq.trans ?_ e
  show V m c main_v2 (((cfg0.win 5).blk t).view.emb (ix3 0 k j)) = _
  refine congrArg (V m c main_v2) (funext fun a => Fin.ext ?_)
  have hi := index5 t
  match a with
  | ⟨0, _⟩ => show win0_5.index t 0 * 1 + 1 * 0 = 1
              rw [hi.1]
  | ⟨1, _⟩ => show win0_5.index t 1 * 384 + 1 * k.val = k.val
              rw [hi.2.1]; omega
  | ⟨2, _⟩ => show win0_5.index t 2 * 1024 + 1 * j.val = j.val
              rw [hi.2.2]; omega

theorem index6 : ∀ t : Fin cfg0.N, (cfg0.win 6).index t 0 = 1 ∧ (cfg0.win 6).index t 1 = 0 ∧ (cfg0.win 6).index t 2 = 0 :=
  (by decide +kernel : ∀ t : Fin grid0.N, win0_6.index t 0 = 1 ∧ win0_6.index t 1 = 0 ∧ win0_6.index t 2 = 0)
theorem iblk6_apply (c : Dev nD) (t : Fin cfg0.N) (k : Fin 384) (j : Fin 1024) :
    iblk m c 6 t (ix3 0 k j) = a6 m c (ix3 1 k j) := by
  have e : V m c main_v3 (ix3 1 k j) = a6 m c (ix3 1 k j) := by
    rw [V_a6]; rfl
  refine Eq.trans ?_ e
  show V m c main_v3 (((cfg0.win 6).blk t).view.emb (ix3 0 k j)) = _
  refine congrArg (V m c main_v3) (funext fun a => Fin.ext ?_)
  have hi := index6 t
  match a with
  | ⟨0, _⟩ => show win0_6.index t 0 * 1 + 1 * 0 = 1
              rw [hi.1]
  | ⟨1, _⟩ => show win0_6.index t 1 * 384 + 1 * k.val = k.val
              rw [hi.2.1]; omega
  | ⟨2, _⟩ => show win0_6.index t 2 * 1024 + 1 * j.val = j.val
              rw [hi.2.2]; omega

theorem index7 : ∀ t : Fin cfg0.N, (cfg0.win 7).index t 0 = 1 ∧ (cfg0.win 7).index t 1 = 0 ∧ (cfg0.win 7).index t 2 = 0 :=
  (by decide +kernel : ∀ t : Fin grid0.N, win0_7.index t 0 = 1 ∧ win0_7.index t 1 = 0 ∧ win0_7.index t 2 = 0)
theorem iblk7_apply (c : Dev nD) (t : Fin cfg0.N) (k : Fin 256) (j : Fin 1024) :
    iblk m c 7 t (ix3 0 k j) = a7 m c (ix3 1 k j) := by
  have e : V m c main_v4 (ix3 1 k j) = a7 m c (ix3 1 k j) := by
    rw [V_a7]; rfl
  refine Eq.trans ?_ e
  show V m c main_v4 (((cfg0.win 7).blk t).view.emb (ix3 0 k j)) = _
  refine congrArg (V m c main_v4) (funext fun a => Fin.ext ?_)
  have hi := index7 t
  match a with
  | ⟨0, _⟩ => show win0_7.index t 0 * 1 + 1 * 0 = 1
              rw [hi.1]
  | ⟨1, _⟩ => show win0_7.index t 1 * 256 + 1 * k.val = k.val
              rw [hi.2.1]; omega
  | ⟨2, _⟩ => show win0_7.index t 2 * 1024 + 1 * j.val = j.val
              rw [hi.2.2]; omega

theorem index8 : ∀ t : Fin cfg0.N, (cfg0.win 8).index t 0 = 1 ∧ (cfg0.win 8).index t 1 = 0 ∧ (cfg0.win 8).index t 2 = 0 :=
  (by decide +kernel : ∀ t : Fin grid0.N, win0_8.index t 0 = 1 ∧ win0_8.index t 1 = 0 ∧ win0_8.index t 2 = 0)
theorem iblk8_apply (c : Dev nD) (t : Fin cfg0.N) (k : Fin 256) (j : Fin 256) :
    iblk m c 8 t (ix3 0 k j) = a8 m c (ix3 1 k j) := by
  have e : V m c main_v5 (ix3 1 k j) = a8 m c (ix3 1 k j) := by
    rw [V_a8]; rfl
  refine Eq.trans ?_ e
  show V m c main_v5 (((cfg0.win 8).blk t).view.emb (ix3 0 k j)) = _
  refine congrArg (V m c main_v5) (funext fun a => Fin.ext ?_)
  have hi := index8 t
  match a with
  | ⟨0, _⟩ => show win0_8.index t 0 * 1 + 1 * 0 = 1
              rw [hi.1]
  | ⟨1, _⟩ => show win0_8.index t 1 * 256 + 1 * k.val = k.val
              rw [hi.2.1]; omega
  | ⟨2, _⟩ => show win0_8.index t 2 * 256 + 1 * j.val = j.val
              rw [hi.2.2]; omega

theorem index9 : ∀ t : Fin cfg0.N, (cfg0.win 9).index t 0 = 1 ∧ (cfg0.win 9).index t 1 = 0 ∧ (cfg0.win 9).index t 2 = 0 :=
  (by decide +kernel : ∀ t : Fin grid0.N, win0_9.index t 0 = 1 ∧ win0_9.index t 1 = 0 ∧ win0_9.index t 2 = 0)
theorem iblk9_apply (c : Dev nD) (t : Fin cfg0.N) (k : Fin 256) (j : Fin 256) :
    iblk m c 9 t (ix3 0 k j) = a9 m c (ix3 1 k j) := by
  have e : V m c main_v6 (ix3 1 k j) = a9 m c (ix3 1 k j) := by
    rw [V_a9]; rfl
  refine Eq.trans ?_ e
  show V m c main_v6 (((cfg0.win 9).blk t).view.emb (ix3 0 k j)) = _
  refine congrArg (V m c main_v6) (funext fun a => Fin.ext ?_)
  have hi := index9 t
  match a with
  | ⟨0, _⟩ => show win0_9.index t 0 * 1 + 1 * 0 = 1
              rw [hi.1]
  | ⟨1, _⟩ => show win0_9.index t 1 * 256 + 1 * k.val = k.val
              rw [hi.2.1]; omega
  | ⟨2, _⟩ => show win0_9.index t 2 * 256 + 1 * j.val = j.val
              rw [hi.2.2]; omega

theorem index10 : ∀ t : Fin cfg0.N, (cfg0.win 10).index t 0 = 1 ∧ (cfg0.win 10).index t 1 = 0 ∧ (cfg0.win 10).index t 2 = 0 :=
  (by decide +kernel : ∀ t : Fin grid0.N, win0_10.index t 0 = 1 ∧ win0_10.index t 1 = 0 ∧ win0_10.index t 2 = 0)
theorem iblk10_apply (c : Dev nD) (t : Fin cfg0.N) (k : Fin 1024) (j : Fin 1024) :
    iblk m c 10 t (ix3 0 k j) = a10 m c (ix3 1 k j) := by
  have e : V m c main_v7 (ix3 1 k j) = a10 m c (ix3 1 k j) := by
    rw [V_a10]; rfl
  refine Eq.trans ?_ e
  show V m c main_v7 (((cfg0.win 10).blk t).view.emb (ix3 0 k j)) = _
  refine congrArg (V m c main_v7) (funext fun a => Fin.ext ?_)
  have hi := index10 t
  match a with
  | ⟨0, _⟩ => show win0_10.index t 0 * 1 + 1 * 0 = 1
              rw [hi.1]
  | ⟨1, _⟩ => show win0_10.index t 1 * 1024 + 1 * k.val = k.val
              rw [hi.2.1]; omega
  | ⟨2, _⟩ => show win0_10.index t 2 * 1024 + 1 * j.val = j.val
              rw [hi.2.2]; omega

theorem index12 : ∀ t : Fin cfg0.N, (cfg0.win 12).index t 0 = 1 ∧ (cfg0.win 12).index t 1 = 0 ∧ (cfg0.win 12).index t 2 = 0 :=
  (by decide +kernel : ∀ t : Fin grid0.N, win0_12.index t 0 = 1 ∧ win0_12.index t 1 = 0 ∧ win0_12.index t 2 = 0)
theorem iblk12_apply (c : Dev nD) (t : Fin cfg0.N) (k : Fin 1024) (j : Fin 5632) :
    iblk m c 12 t (ix3 0 k j) = a12 m c (ix3 1 k j) := by
  have e : V m c main_v0 (ix3 1 k j) = a12 m c (ix3 1 k j) := by
    rw [V_a12]; rfl
  refine Eq.trans ?_ e
  show V m c main_v0 (((cfg0.win 12).blk t).view.emb (ix3 0 k j)) = _
  refine congrArg (V m c main_v0) (funext fun a => Fin.ext ?_)
  have hi := index12 t
  match a with
  | ⟨0, _⟩ => show win0_12.index t 0 * 1 + 1 * 0 = 1
              rw [hi.1]
  | ⟨1, _⟩ => show win0_12.index t 1 * 1024 + 1 * k.val = k.val
              rw [hi.2.1]; omega
  | ⟨2, _⟩ => show win0_12.index t 2 * 5632 + 1 * j.val = j.val
              rw [hi.2.2]; omega

theorem index13 : ∀ t : Fin cfg0.N, (cfg0.win 13).index t 0 = 1 ∧ (cfg0.win 13).index t 1 = 0 ∧ (cfg0.win 13).index t 2 = 0 :=
  (by decide +kernel : ∀ t : Fin grid0.N, win0_13.index t 0 = 1 ∧ win0_13.index t 1 = 0 ∧ win0_13.index t 2 = 0)
theorem iblk13_apply (c : Dev nD) (t : Fin cfg0.N) (k : Fin 2816) (j : Fin 1024) :
    iblk m c 13 t (ix3 0 k j) = a13 m c (ix3 1 k j) := by
  have e : V m c main_v1 (ix3 1 k j) = a13 m c (ix3 1 k j) := by
    rw [V_a13]; rfl
  refine Eq.trans ?_ e
  show V m c main_v1 (((cfg0.win 13).blk t).view.emb (ix3 0 k j)) = _
  refine congrArg (V m c main_v1) (funext fun a => Fin.ext ?_)
  have hi := index13 t
  match a with
  | ⟨0, _⟩ => show win0_13.index t 0 * 1 + 1 * 0 = 1
              rw [hi.1]
  | ⟨1, _⟩ => show win0_13.index t 1 * 2816 + 1 * k.val = k.val
              rw [hi.2.1]; omega
  | ⟨2, _⟩ => show win0_13.index t 2 * 1024 + 1 * j.val = j.val
              rw [hi.2.2]; omega

theorem index11 : ∀ t : Fin cfg0.N, (cfg0.win 11).index t 0 = 0 ∧ (cfg0.win 11).index t 1 = 0 :=
  (by decide +kernel : ∀ t : Fin grid0.N, win0_11.index t 0 = 0 ∧ win0_11.index t 1 = 0)
theorem iblk11_apply (c : Dev nD) (t : Fin cfg0.N) (k : Fin 1024) :
    iblk m c 11 t (ix2 0 k) = a11 m c (ix2 1 k) := by
  have e : V m c main_v10 (ix2 0 k) = a11 m c (ix2 1 k) := by
    rw [V_a11]
    pointwise
  refine Eq.trans ?_ e
  show V m c main_v10 (((cfg0.win 11).blk t).view.emb (ix2 0 k)) = _
  refine congrArg (V m c main_v10) (funext fun a => Fin.ext ?_)
  have hi := index11 t
  match a with
  | ⟨0, _⟩ => show win0_11.index t 0 * 1 + 1 * 0 = 0
              rw [hi.1]
  | ⟨1, _⟩ => show win0_11.index t 1 * 1024 + 1 * k.val = k.val
              rw [hi.2]; omega

theorem index14 : ∀ t : Fin cfg0.N, (cfg0.win 14).index t 0 = 0 ∧ (cfg0.win 14).index t 1 = 0 :=
  (by decide +kernel : ∀ t : Fin grid0.N, win0_14.index t 0 = 0 ∧ win0_14.index t 1 = 0)
theorem iblk14_apply (c : Dev nD) (t : Fin cfg0.N) (k : Fin 1024) :
    iblk m c 14 t (ix2 0 k) = a14 m c (ix1 k) := by
  have e : V m c main_v11 (ix2 0 k) = a14 m c (ix1 k) := by
    rw [V_a14]
    pointwise
  refine Eq.trans ?_ e
  show V m c main_v11 (((cfg0.win 14).blk t).view.emb (ix2 0 k)) = _
  refine congrArg (V m c main_v11) (funext fun a => Fin.ext ?_)
  have hi := index14 t
  match a with
  | ⟨0, _⟩ => show win0_14.index t 0 * 1 + 1 * 0 = 0
              rw [hi.1]
  | ⟨1, _⟩ => show win0_14.index t 1 * 1024 + 1 * k.val = k.val
              rw [hi.2]; omega

theorem row_lt (t : Fin cfg0.N) (r : Fin 512) : 512 * t.val + r.val < 32768 := by
  have ht : t.val < 64 := lt_of_lt_of_eq t.isLt N64
  omega

/-- The reference's result at the arguments. -/
abbrev res15 (c : Dev nD) : S32768x1024.Idx → EReal := Cert.Reference2Ideal.Read.val_main_v94 (F := Ideal) (a0 m c) (a1 m c) (a2 m c) (a3 m c) (a4 m c) (a5 m c) (a6 m c) (a7 m c) (a8 m c) (a9 m c) (a10 m c) (a11 m c) (a12 m c) (a13 m c) (a14 m c)

/-- A grid point's block, read at an index, is the reference's array at the block's row. -/
theorem block_apply (c : Dev nD) (t : Fin cfg0.N) (r : Fin 512) (j : Fin 1024) (R : Fin 32768) (hR : R.val = 512 * t.val + r.val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) = res15 m c (ix2 R j) := by
  refine Eq.trans ?_ (ref_out (a0 m c) (a1 m c) (a2 m c) (a3 m c) (a4 m c) (a5 m c) (a6 m c) (a7 m c) (a8 m c) (a9 m c) (a10 m c) (a11 m c) (a12 m c) (a13 m c) (a14 m c) R j).symm
  refine out_apply _ _ _ _ _ _ _ _ _ _ _ _ _ (tokOf (a0 m c) (a1 m c) (a2 m c) (a3 m c) (a4 m c) R) (wtsOf (a5 m c) (a6 m c) (a7 m c) (a8 m c) (a9 m c) (a10 m c) (a11 m c) (a12 m c) (a13 m c) (a14 m c)) r
    (fun k => iblk0_apply m c t r k R hR) (fun k => iblk1_apply m c t r k R hR) (fun p k => ?_)
    (fun k => iblk3_apply m c t r k R hR) (fun k => iblk4_apply m c t r k R hR)
    (iblk5_apply m c t) (iblk6_apply m c t) (iblk7_apply m c t) (iblk8_apply m c t) (iblk9_apply m c t) (iblk10_apply m c t)
    (iblk11_apply m c t) (iblk12_apply m c t) (iblk13_apply m c t) (iblk14_apply m c t) j
  refine (iblk2_apply m c t p r k R hR).trans (congrArg (a2 m c) (funext fun a => Fin.ext ?_))
  match a with
  | ⟨0, _⟩ => show p.val = (p.val * 128 + k.val) / 128; omega
  | ⟨1, _⟩ => rfl
  | ⟨2, _⟩ => show k.val = (p.val * 128 + k.val) % 128; omega

theorem index15 : ∀ t : Fin cfg0.N, (cfg0.win 15).index t 0 = t.val ∧ (cfg0.win 15).index t 1 = 0 :=
  (by decide +kernel : ∀ t : Fin grid0.N, win0_15.index t 0 = t.val ∧ win0_15.index t 1 = 0)

/-- What grid point `t` writes back is block `t` of the reference's array. -/
theorem flushed15_eq (c : Dev nD) (t : Fin cfg0.N) :
    (dats m 0 c).flushed 15 t = ((cfg0.win 15).blk t).view.read (Elt Ideal) (res15 m c) := by
  rw [Value.flushed15]
  funext y
  have hi := index15 t
  have e : ((cfg0.win 15).blk t).view.emb y = (ix2 ⟨512 * t.val + (y 0).val, row_lt t (y 0)⟩ (y 1) : S32768x1024.Idx) := funext fun a => Fin.ext (by
  match a with
  | ⟨0, _⟩ => show win0_15.index t 0 * 512 + 1 * (y 0).val = 512 * t.val + (y 0).val; rw [hi.1]; omega
  | ⟨1, _⟩ => show win0_15.index t 1 * 1024 + 1 * (y 1).val = (y 1).val; rw [hi.2]; omega)
  show _ = res15 m c (((cfg0.win 15).blk t).view.emb y)
  rw [e]
  rw [← block_apply m c t (y 0) (y 1) ⟨512 * t.val + (y 0).val, row_lt t (y 0)⟩ rfl]
  exact congrArg _ (Idealize.ShloMosaic.ValueIdx.eq_ix2 y)

/-- The blocks cover the result. -/
theorem cover15 (i : S32768x1024.Idx) :
    ∃ t : Fin cfg0.N, (cfg0.win 15).flush t = true ∧ i ∈ ((cfg0.win 15).blk t).view.set := by
  have hr : (i 0).val < 32768 := (i 0).isLt
  have ht : (i 0).val / 512 < cfg0.N := by rw [show cfg0.N = 64 from N64]; omega
  refine ⟨⟨(i 0).val / 512, ht⟩, flush0_15 _, ?_⟩
  have hi := index15 ⟨(i 0).val / 512, ht⟩
  generalize hq : (⟨(i 0).val / 512, ht⟩ : Fin cfg0.N) = t at hi
  have htv : t.val = (i 0).val / 512 := by rw [← hq]
  show i ∈ ((View.whole main_v12).slice (win0_15.rect t)).set
  rw [View.set_slice_whole, Rect.mem_set_unit]
  intro a
  match a with
    | ⟨0, _⟩ => show win0_15.index t 0 * 512 ≤ (i 0).val ∧ (i 0).val < win0_15.index t 0 * 512 + 512; rw [hi.1]; have hb : (i 0).val < 32768 := (i 0).isLt; omega
    | ⟨1, _⟩ => show win0_15.index t 1 * 1024 ≤ (i 1).val ∧ (i 1).val < win0_15.index t 1 * 1024 + 1024; rw [hi.2]; have hb : (i 1).val < 1024 := (i 1).isLt; omega

theorem final15 (c : Dev nD) : (dats m 0 c).arrAt 15 cfg0.N = res15 m c :=
  (dats m 0 c).arrAt_eq_of_cover 15 (res15 m c) (fun t _ => flushed15_eq m c t) (cover15)

/-- The call's run: its result at the reference's array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v12) = res15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final15 m c), (h c).2⟩) (Value.run_blocks m ρ)

end Cert.Kernel2Ideal.Hand

end
-- ==== Proof.Ffn.Claims.lean ====
/-
  The claims about the merge and feed-forward call: the frames of the printed programs, that idealizing rewrote nothing,
  and that the kernel computes the reference's result over the extended reals.
-/
module

public import proofs.«01_k».proof.Defs
public import proofs.«01_k».proof.Proof.Ffn.Whole
public import proofs.«01_k».proof.Proof.Gen.Kernel2.Frame
public import proofs.«01_k».proof.Proof.Gen.Reference2Ideal.Run
public import Idealize.ShloMosaic.Lib.Quiescent

@[expose] public section

set_option maxRecDepth 16384

noncomputable section

open Idealize.ShloMosaic Idealize.ShloMosaic.TcCoe Idealize.SL.Sem

namespace Cert.FfnClaims

theorem frame_k : Cert.quiescent_Kernel2 := fun m ρ _ => Cert.Kernel2.Gen.frame m ρ
theorem frame_ki : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

/-- Both programs end with the reference's array of the arguments they share. -/
theorem algebraic : Cert.algebraic_Kernel2Ideal_Reference2Ideal := fun m ρ m' ρ' _ hag =>
  ⟨fun c => Cert.Kernel2Ideal.Hand.res15 m c,
    Cert.Kernel2Ideal.Hand.run m ρ,
    (θ_run Cert.Reference2Ideal.defs _ _).mono (fun r h c => by
      obtain ⟨e0, e1, e2, e3, e4, e5, e6, e7, e8, e9, e10, e11, e12, e13, e14⟩ := hag c
      refine ⟨((h c).1.trans (Cert.Reference2Ideal.Read.val_main_v94_eq ..)).trans ?_, (h c).2⟩
      show Cert.Reference2Ideal.Read.val_main_v94 (F := Ideal) (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) (m' ((c : Thread Cert.Reference2Ideal.nD Cert.Reference2Ideal.τ).loc Cert.Reference2Ideal.main_arg4)) (m' ((c : Thread Cert.Reference2Ideal.nD Cert.Reference2Ideal.τ).loc Cert.Reference2Ideal.main_arg5)) (m' ((c : Thread Cert.Reference2Ideal.nD Cert.Reference2Ideal.τ).loc Cert.Reference2Ideal.main_arg6)) (m' ((c : Thread Cert.Reference2Ideal.nD Cert.Reference2Ideal.τ).loc Cert.Reference2Ideal.main_arg7)) (m' ((c : Thread Cert.Reference2Ideal.nD Cert.Reference2Ideal.τ).loc Cert.Reference2Ideal.main_arg8)) (m' ((c : Thread Cert.Reference2Ideal.nD Cert.Reference2Ideal.τ).loc Cert.Reference2Ideal.main_arg9)) (m' ((c : Thread Cert.Reference2Ideal.nD Cert.Reference2Ideal.τ).loc Cert.Reference2Ideal.main_arg10)) (m' ((c : Thread Cert.Reference2Ideal.nD Cert.Reference2Ideal.τ).loc Cert.Reference2Ideal.main_arg11)) (m' ((c : Thread Cert.Reference2Ideal.nD Cert.Reference2Ideal.τ).loc Cert.Reference2Ideal.main_arg12)) (m' ((c : Thread Cert.Reference2Ideal.nD Cert.Reference2Ideal.τ).loc Cert.Reference2Ideal.main_arg13)) (m' ((c : Thread Cert.Reference2Ideal.nD Cert.Reference2Ideal.τ).loc Cert.Reference2Ideal.main_arg14)) = Cert.Kernel2Ideal.Hand.res15 m c
      rw [e0, e1, e2, e3, e4, e5, e6, e7, e8, e9, e10, e11, e12, e13, e14]) (Cert.Reference2Ideal.Value.run (F := Ideal) m' ρ')⟩

end Cert.FfnClaims

end
-- ==== Proof.Proj.Row.lean ====
/-
  The first projection, read at an index: the normalised row of a block, one column of the product of the
  normalised block with the weight, and a 128-column slab of a chunk of that product.
-/
module

public import proofs.«01_k».proof.Proof.Gen.Kernel3Ideal.Value
public import Idealize.ShloMosaic.Lib.Pointwise
public import Idealize.ShloMosaic.Lib.Pipeline.Value
public import Idealize.ShloMosaic.Lib.Pipeline.ValueKit.Tiles
public import Idealize.ShloMosaic.Lib.IdealHost

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem

/-- Entry `(r, k)` of the row-normalised block: the entry over the root of its row's mean square, times the gain. -/
def nrm (x : Vec Ideal S512x1024 .f32) (g : Vec Ideal S1x1024 .f32) (r : Fin 512) (k : Fin 1024) : EReal :=
  x (ix2 r k) * Ideal.rsqrt (Ideal.div (∑ l : Fin 1024, x (ix2 r l) * x (ix2 r l)) (Ideal.ofBits .f32 0x44800000#32)
    + Ideal.ofBits .f32 0x358637BD#32) * g (ix2 0 k)

/-- Entry `(r, j)` of the normalised block times the weight. -/
def proj (x : Vec Ideal S512x1024 .f32) (g : Vec Ideal S1x1024 .f32) (w : Vec Ideal S1x1024x5888 .bf16)
    (r : Fin 512) (j : Fin 5888) : EReal :=
  ∑ k : Fin 1024, nrm x g r k * w (ix3 0 k j)

theorem norm_apply (x : Vec Ideal S512x1024 .f32) (g : Vec Ideal S1x1024 .f32) (r : Fin 512) (k : Fin 1024) :
    k0_pay2 (F := Ideal) x g (ix2 r k) = nrm x g r k := by
  pointwise [k0_pay2, nrm]

/-- The product of a block with a chunk of the weight, read at an index. -/
theorem mat_apply (u : FVec Ideal S512x1024 .bf16) (v : FVec Ideal S1024x256 .bf16) (r : Fin 512) (j : Fin 256) :
    matmul dot_S512x1024_S1024x256_S512x256_1_0_0_1_n_n none u v (constant S512x256 .f32 0x00000000#32) (ix2 r j)
      = ∑ k : Fin 1024, u (ix2 r k) * v (ix2 k j) := by
  pointwise

/-- The weight's chunk starting at column `lo`, without its unit axis, read at an index. -/
theorem wchunk_apply (w : Vec Ideal S1x1024x5888 .bf16) (lo : Nat)
    (inb : ∀ a, (![0, 0, lo] : Fin 3 → Nat) a + S1x1024x256.size a ≤ S1x1024x5888.size a) (k : Fin 1024) (j : Fin 256)
    (c : Fin 5888) (hc : c.val = lo + j.val) :
    shapeCast (α := EReal) S1024x256 (View.ld w (Rect.unit (s := S1x1024x5888) ![0, 0, lo] S1x1024x256.size inb) : Vec Ideal S1x1024x256 .bf16) shapeCasts_S1x1024x256_S1024x256
      (ix2 k j) = w (ix3 0 k c) := by
  refine (shapeCast_apply _ _ (ix2 k j) (ix3 0 k j : S1x1024x256.Idx) ?_).trans ?_
  · rw [Shape.rowMajor_val_three, Shape.rowMajor_val_two]
    show (0 * 1024 + k.val) * 256 + j.val = k.val * 256 + j.val
    omega
  · refine View.ld_unit_apply_of w _ _ inb _ (ix3 0 k c) (fun a => ?_)
    match a with
    | ⟨0, _⟩ => rfl
    | ⟨1, _⟩ => exact (Nat.zero_add _).symm
    | ⟨2, _⟩ => exact hc

/-- A 128-column slab of a chunk of the product, read at an index. -/
theorem slab_apply (x : Vec Ideal S512x1024 .f32) (g : Vec Ideal S1x1024 .f32) (w : Vec Ideal S1x1024x5888 .bf16)
    (lo o : Nat) (inb : ∀ a, (![0, 0, lo] : Fin 3 → Nat) a + S1x1024x256.size a ≤ S1x1024x5888.size a)
    (hs : S512x256.Slices ![0, o] S512x128) (r : Fin 512) (j : Fin 128) (c : Fin 5888) (hc : c.val = lo + o + j.val) (ho : o + 128 ≤ 256) :
    extractStridedSlice (α := EReal) S512x128 ![0, o] (matmul (φ₁ := .bf16) (φ₂ := .bf16) dot_S512x1024_S1024x256_S512x256_1_0_0_1_n_n none
      (k0_pay2 (F := Ideal) x g)
      (shapeCast (α := EReal) S1024x256 (View.ld w (Rect.unit (s := S1x1024x5888) ![0, 0, lo] S1x1024x256.size inb) : Vec Ideal S1x1024x256 .bf16) shapeCasts_S1x1024x256_S1024x256 : FVec Ideal S1024x256 .bf16)
      (constant S512x256 .f32 0x00000000#32)) hs (ix2 r j) = proj x g w r c := by
  have hj := j.isLt
  refine (extractStridedSlice_apply _ _ _ (ix2 r j) (ix2 r ⟨o + j.val, by omega⟩ : S512x256.Idx) (fun a => ?_)).trans ?_
  · match a with
    | ⟨0, _⟩ => exact (Nat.zero_add _).symm
    | ⟨1, _⟩ => rfl
  · rw [mat_apply]
    refine Finset.sum_congr rfl fun k _ => ?_
    rw [norm_apply, wchunk_apply w lo inb k ⟨o + j.val, by omega⟩ c (by rw [hc]; exact Nat.add_assoc ..)]

end Cert.Kernel3Ideal.Hand

end
-- ==== Proof.Proj.Block.lean ====
/-
  What one grid point of the first projection leaves in its four output blocks: each store puts a 128-column slab of
  the normalised rows times the weight, so a block, read at an index, is one entry of that product — for the gates,
  of its logistic.
-/
module

public import proofs.«01_k».proof.Proof.Proj.Row

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem

/-- The gate of a number: one over one plus the exponential of its opposite. -/
def gate (a : EReal) : EReal := Ideal.div 1 (1 + Ideal.exp (-a))

/-- The four blocks as functions of their index. -/
def blk3 (x : Vec Ideal S512x1024 .f32) (g : Vec Ideal S1x1024 .f32) (w : Vec Ideal S1x1024x5888 .bf16) : Vec Ideal S9x512x128 .f32 :=
  fun y => proj x g w (y 1) ⟨(y 0).val * 128 + (y 2).val, by have h0 : (y 0).val < 9 := (y 0).isLt; have h2 : (y 2).val < 128 := (y 2).isLt; omega⟩
def blk4 (x : Vec Ideal S512x1024 .f32) (g : Vec Ideal S1x1024 .f32) (w : Vec Ideal S1x1024x5888 .bf16) : Vec Ideal S512x1408 .f32 :=
  fun y => proj x g w (y 0) ⟨1152 + (y 1).val, by have h1 : (y 1).val < 1408 := (y 1).isLt; omega⟩
def blk5 (x : Vec Ideal S512x1024 .f32) (g : Vec Ideal S1x1024 .f32) (w : Vec Ideal S1x1024x5888 .bf16) : Vec Ideal S2x512x128 .f32 :=
  fun y => proj x g w (y 1) ⟨2560 + ((y 0).val * 128 + (y 2).val), by have h0 : (y 0).val < 2 := (y 0).isLt; have h2 : (y 2).val < 128 := (y 2).isLt; omega⟩
def blk6 (x : Vec Ideal S512x1024 .f32) (g : Vec Ideal S1x1024 .f32) (w : Vec Ideal S1x1024x5888 .bf16) : Vec Ideal S512x3072 .bf16 :=
  fun y => gate (proj x g w (y 0) ⟨2816 + (y 1).val, by have h1 : (y 1).val < 3072 := (y 1).isLt; omega⟩)

/-- The slab of the product the kernel stores: columns `lo + o` to `lo + o + 127`. -/
abbrev slab (x : Vec Ideal S512x1024 .f32) (g : Vec Ideal S1x1024 .f32) (w : Vec Ideal S1x1024x5888 .bf16) (lo o : Nat)
    (inb : ∀ a, (![0, 0, lo] : Fin 3 → Nat) a + S1x1024x256.size a ≤ S1x1024x5888.size a)
    (hs : S512x256.Slices ![0, o] S512x128) : FVec Ideal S512x128 .f32 :=
  extractStridedSlice (α := EReal) S512x128 ![0, o] (matmul (φ₁ := .bf16) (φ₂ := .bf16) dot_S512x1024_S1024x256_S512x256_1_0_0_1_n_n none
      (k0_pay2 (F := Ideal) x g)
      (shapeCast (α := EReal) S1024x256 (View.ld w (Rect.unit (s := S1x1024x5888) ![0, 0, lo] S1x1024x256.size inb) : Vec Ideal S1x1024x256 .bf16) shapeCasts_S1x1024x256_S1024x256 : FVec Ideal S1024x256 .bf16)
      (constant S512x256 .f32 0x00000000#32)) hs

section
variable (x : Vec Ideal S512x1024 .f32) (g : Vec Ideal S1x1024 .f32) (w : Vec Ideal S1x1024x5888 .bf16) {lo o : Nat}
  {inb : ∀ a, (![0, 0, lo] : Fin 3 → Nat) a + S1x1024x256.size a ≤ S1x1024x5888.size a}
  {hs : S512x256.Slices ![0, o] S512x128}

theorem slab_at (ho : o + 128 ≤ 256) (i : S512x128.Idx) (c : Fin 5888) (hc : c.val = lo + o + (i 1).val) :
    slab x g w lo o inb hs i = proj x g w (i 0) c := by
  rw [Idealize.ShloMosaic.ValueIdx.eq_ix2 i]
  exact slab_apply x g w lo o inb hs (i 0) (i 1) c hc ho

/-- A store into the query, key and value slabs. -/
theorem piece3 {p : Nat} {inb' : ∀ a, (![p, 0, 0] : Fin 3 → Nat) a + S1x512x128.size a ≤ S9x512x128.size a}
    (ho : o + 128 ≤ 256) (h : lo + o = p * 128) (i : S1x512x128.Idx) :
    shapeCast S1x512x128 (slab x g w lo o inb hs) shapeCasts_S512x128_S1x512x128 i
      = blk3 x g w ((Rect.unit (s := S9x512x128) ![p, 0, 0] S1x512x128.size inb').emb i) := by
  have h0 : (i 0).val < 1 := (i 0).isLt
  refine (shapeCast_apply _ _ i (ix2 (i 1) (i 2) : S512x128.Idx) ?_).trans ?_
  · rw [Shape.rowMajor_val_three, Shape.rowMajor_val_two]
    show (i 1).val * 128 + (i 2).val = ((i 0).val * 512 + (i 1).val) * 128 + (i 2).val
    omega
  · refine (slab_at x g w ho _ ⟨(p + 1 * (i 0).val) * 128 + (0 + 1 * (i 2).val), ?_⟩ ?_).trans ?_
    · have := inb' 0
      have h2 : (i 2).val < 128 := (i 2).isLt
      have : p + 1 ≤ 9 := this
      omega
    · show (p + 1 * (i 0).val) * 128 + (0 + 1 * (i 2).val) = lo + o + (i 2).val
      omega
    · unfold blk3
      congr 1
      exact Fin.ext (by show (i 1).val = 0 + 1 * (i 1).val; omega)

/-- A store into the state-space slabs. -/
theorem piece5 {p : Nat} {inb' : ∀ a, (![p, 0, 0] : Fin 3 → Nat) a + S1x512x128.size a ≤ S2x512x128.size a}
    (ho : o + 128 ≤ 256) (h : lo + o = 2560 + p * 128) (i : S1x512x128.Idx) :
    shapeCast S1x512x128 (slab x g w lo o inb hs) shapeCasts_S512x128_S1x512x128 i
      = blk5 x g w ((Rect.unit (s := S2x512x128) ![p, 0, 0] S1x512x128.size inb').emb i) := by
  have h0 : (i 0).val < 1 := (i 0).isLt
  refine (shapeCast_apply _ _ i (ix2 (i 1) (i 2) : S512x128.Idx) ?_).trans ?_
  · rw [Shape.rowMajor_val_three, Shape.rowMajor_val_two]
    show (i 1).val * 128 + (i 2).val = ((i 0).val * 512 + (i 1).val) * 128 + (i 2).val
    omega
  · refine (slab_at x g w ho _ ⟨2560 + ((p + 1 * (i 0).val) * 128 + (0 + 1 * (i 2).val)), ?_⟩ ?_).trans ?_
    · have := inb' 0
      have h2 : (i 2).val < 128 := (i 2).isLt
      have : p + 1 ≤ 2 := this
      omega
    · show 2560 + ((p + 1 * (i 0).val) * 128 + (0 + 1 * (i 2).val)) = lo + o + (i 2).val
      omega
    · unfold blk5
      congr 1
      exact Fin.ext (by show (i 1).val = 0 + 1 * (i 1).val; omega)

/-- A store into the recurrence's columns. -/
theorem piece4 {p : Nat} {inb' : ∀ a, (![0, p] : Fin 2 → Nat) a + S512x128.size a ≤ S512x1408.size a}
    (ho : o + 128 ≤ 256) (h : lo + o = 1152 + p) (i : S512x128.Idx) :
    slab x g w lo o inb hs i
      = blk4 x g w ((Rect.unit (s := S512x1408) ![0, p] S512x128.size inb').emb i) := by
  refine (slab_at x g w ho i ⟨1152 + (p + 1 * (i 1).val), ?_⟩ ?_).trans ?_
  · have := inb' 1
    have h2 : (i 1).val < 128 := (i 1).isLt
    have : p + 128 ≤ 1408 := this
    omega
  · show 1152 + (p + 1 * (i 1).val) = lo + o + (i 1).val
    omega
  · unfold blk4
    congr 1
    exact Fin.ext (by show (i 0).val = 0 + 1 * (i 0).val; omega)

/-- A store into the gates. -/
theorem piece6 {p : Nat} {inb' : ∀ a, (![0, p] : Fin 2 → Nat) a + S512x128.size a ≤ S512x3072.size a}
    (ho : o + 128 ≤ 256) (h : lo + o = 2816 + p) (i : S512x128.Idx) :
    truncf .bf16 (divf (broadcast S512x128 (Scalar.ofBits .f32 0x3F800000#32 : Ideal .f32)) (addf (broadcast S512x128 (Scalar.ofBits .f32 0x3F800000#32 : Ideal .f32))
      (exp (subf (broadcast S512x128 (Scalar.ofBits .f32 0x00000000#32 : Ideal .f32)) (slab x g w lo o inb hs))))) bitsLt_bf16_f32 i
      = blk6 x g w ((Rect.unit (s := S512x3072) ![0, p] S512x128.size inb').emb i) := by
  have e : slab x g w lo o inb hs i = proj x g w (i 0) ⟨2816 + (p + 1 * (i 1).val), by
      have := inb' 1
      have h2 : (i 1).val < 128 := (i 1).isLt
      have : p + 128 ≤ 3072 := this
      omega⟩ := slab_at x g w ho i _ (by show 2816 + (p + 1 * (i 1).val) = lo + o + (i 1).val; omega)
  have e' : blk6 x g w ((Rect.unit (s := S512x3072) ![0, p] S512x128.size inb').emb i) = gate (slab x g w lo o inb hs i) := by
    rw [e]
    unfold blk6
    congr 2
    exact Fin.ext (by show 0 + 1 * (i 0).val = (i 0).val; omega)
  rw [e']
  show Ideal.div (Ideal.ofBits .f32 0x3F800000#32) (Ideal.ofBits .f32 0x3F800000#32 + Ideal.exp (Ideal.ofBits .f32 0x00000000#32 - slab x g w lo o inb hs i)) = _
  rw [Ideal.ofBits_zero_f32, Ideal.ofBits_one_f32, zero_sub]
  rfl
end

section
variable (x0 : Vec Ideal S512x1024 .f32) (x1 : Vec Ideal S1x1024 .f32) (x2 : Vec Ideal S1x1024x5888 .bf16)

theorem ld0 : View.ld x0 r0_0 = x0 := View.ld_unit_lit _ _ (by decide)
theorem ld1 : View.ld x1 r0_1 = x1 := View.ld_unit_lit _ _ (by decide)

theorem pay79_eq : k0_pay79 x0 x1 x2 = k0_pay2 (F := Ideal) x0 x1 := by
  unfold k0_pay79; rw [ld0, ld1]

theorem out3_eq : out0_3 x0 x1 x2 = blk3 x0 x1 x2 := by
  unfold out0_3
  rw [pay79_eq]
  funext y
  refine View.canon_apply_of_pieces _ _ ?_ y (cover0_3 _ _ _ _ _ _ _ _ _ y)
  simp only [List.forall_mem_cons]
  refine ⟨?_, ?_, ?_, ?_, ?_, ?_, ?_, ?_, ?_, fun _ h => nomatch h⟩ <;>
    exact piece3 x0 x1 x2 (hs := by first | exact slices_S512x256_o0_0_S512x128 | exact slices_S512x256_o0_128_S512x128) (by omega) (by omega)

theorem out5_eq : out0_5 x0 x1 x2 = blk5 x0 x1 x2 := by
  unfold out0_5
  rw [pay79_eq]
  funext y
  refine View.canon_apply_of_pieces _ _ ?_ y (cover0_5 _ _ y)
  simp only [List.forall_mem_cons]
  refine ⟨?_, ?_, fun _ h => nomatch h⟩ <;>
    exact piece5 x0 x1 x2 (hs := by first | exact slices_S512x256_o0_0_S512x128 | exact slices_S512x256_o0_128_S512x128) (by omega) (by omega)

theorem out4_eq : out0_4 x0 x1 x2 = blk4 x0 x1 x2 := by
  unfold out0_4
  rw [pay79_eq]
  funext y
  refine View.canon_apply_of_pieces _ _ ?_ y (cover0_4 _ _ _ _ _ _ _ _ _ _ _ y)
  simp only [List.forall_mem_cons]
  refine ⟨?_, ?_, ?_, ?_, ?_, ?_, ?_, ?_, ?_, ?_, ?_, fun _ h => nomatch h⟩ <;>
    exact piece4 x0 x1 x2 (hs := by first | exact slices_S512x256_o0_0_S512x128 | exact slices_S512x256_o0_128_S512x128) (by omega) (by omega)

theorem out6_eq : out0_6 x0 x1 x2 = blk6 x0 x1 x2 := by
  unfold out0_6 k0_pay81 k0_pay80
  rw [pay79_eq, ld0, ld1]
  funext y
  refine View.canon_apply_of_pieces _ _ ?_ y (cover0_6 _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, fun _ h => nomatch h⟩ <;>
    exact piece6 x0 x1 x2 (hs := by first | exact slices_S512x256_o0_0_S512x128 | exact slices_S512x256_o0_128_S512x128) (by omega) (by omega)
end

end Cert.Kernel3Ideal.Hand

end
-- ==== Proof.Proj.Whole.lean ====
/-
  The first projection's four result arrays, as the reference's functions of the arguments: each grid point's block is
  the reference's array read through the block, and the blocks cover the arrays.
-/
module

public import proofs.«01_k».proof.Proof.Proj.Block
public import proofs.«01_k».proof.Proof.Gen.Reference3Ideal.Read
public import Idealize.ShloMosaic.Lib.StableHlo.Run

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The rows, the two layers' gains and the two layers' weights as launched. -/
abbrev aH (c : Dev nD) : S32768x1024.Idx → EReal := m ((c : Thread nD τ).loc main_arg0)
abbrev aG (c : Dev nD) : S2x1024.Idx → EReal := m ((c : Thread nD τ).loc main_arg1)
abbrev aW (c : Dev nD) : S2x1024x5888.Idx → EReal := m ((c : Thread nD τ).loc main_arg2)

theorem V_w (c : Dev nD) : V m c main_v2 = truncf (F := Ideal) .bf16 (aW m c) bitsLt_bf16_f32 := by
  unfold_abbrev_sides
  after_results

theorem V_g (c : Dev nD) : V m c main_v3 = shapeCast S1x1024 (shapeCast S1024 (extractStridedSlice S1x1024 ![0, 0] (aG m c) slices_S2x1024_S1x1024_0_0) shapeCasts_S1x1024_S1024) shapeCasts_S1024_S1x1024 := by
  unfold_abbrev_sides
  after_results
  rfl

theorem N64 : grid0.N = 64 := N_0

theorem index0 : ∀ t : Fin cfg0.N, (cfg0.win 0).index t 0 = t.val ∧ (cfg0.win 0).index t 1 = 0 :=
  (by decide +kernel : ∀ t : Fin grid0.N, win0_0.index t 0 = t.val ∧ win0_0.index t 1 = 0)

/-- Block `t` of the rows is rows `512 t` to `512 t + 511`. -/
theorem iblk0_apply (c : Dev nD) (t : Fin cfg0.N) (r : Fin 512) (k : Fin 1024) (R : Fin 32768) (hR : R.val = 512 * t.val + r.val) :
    iblk m c 0 t (ix2 r k) = aH m c (ix2 R k) := by
  show V m c main_arg0 (((cfg0.win 0).blk t).view.emb (ix2 r k)) = _
  rw [V_main_arg0]
  refine congrArg (aH m c) (funext fun a => Fin.ext ?_)
  have hi := index0 t
  match a with
  | ⟨0, _⟩ => show win0_0.index t 0 * 512 + 1 * r.val = R.val
              rw [hi.1]; omega
  | ⟨1, _⟩ => show win0_0.index t 1 * 1024 + 1 * k.val = k.val
              rw [hi.2]; omega

theorem index1 : ∀ t : Fin cfg0.N, (cfg0.win 1).index t 0 = 0 ∧ (cfg0.win 1).index t 1 = 0 :=
  (by decide +kernel : ∀ t : Fin grid0.N, win0_1.index t 0 = 0 ∧ win0_1.index t 1 = 0)
theorem index2 : ∀ t : Fin cfg0.N, (cfg0.win 2).index t 0 = 0 ∧ (cfg0.win 2).index t 1 = 0 ∧ (cfg0.win 2).index t 2 = 0 :=
  (by decide +kernel : ∀ t : Fin grid0.N, win0_2.index t 0 = 0 ∧ win0_2.index t 1 = 0 ∧ win0_2.index t 2 = 0)

/-- The gain's block is layer 0's gain. -/
theorem iblk1_apply (c : Dev nD) (t : Fin cfg0.N) (k : Fin 1024) :
    iblk m c 1 t (ix2 0 k) = aG m c (ix2 0 k) := by
  have e : V m c main_v3 (ix2 0 k) = aG m c (ix2 0 k) := by
    rw [V_g]
    pointwise
  refine Eq.trans ?_ e
  show V m c main_v3 (((cfg0.win 1).blk t).view.emb (ix2 0 k)) = _
  refine congrArg (V m c main_v3) (funext fun a => Fin.ext ?_)
  have hi := index1 t
  match a with
  | ⟨0, _⟩ => show win0_1.index t 0 * 1 + 1 * 0 = 0
              rw [hi.1]
  | ⟨1, _⟩ => show win0_1.index t 1 * 1024 + 1 * k.val = k.val
              rw [hi.2]; omega

/-- The weight's block is layer 0's weight. -/
theorem iblk2_apply (c : Dev nD) (t : Fin cfg0.N) (k : Fin 1024) (j : Fin 5888) :
    iblk m c 2 t (ix3 0 k j) = aW m c (ix3 0 k j) := by
  have e : V m c main_v2 (ix3 0 k j) = aW m c (ix3 0 k j) := by
    rw [V_w]; rfl
  refine Eq.trans ?_ e
  show V m c main_v2 (((cfg0.win 2).blk t).view.emb (ix3 0 k j)) = _
  refine congrArg (V m c main_v2) (funext fun a => Fin.ext ?_)
  have hi := index2 t
  match a with
  | ⟨0, _⟩ => show win0_2.index t 0 * 1 + 1 * 0 = 0
              rw [hi.1]
  | ⟨1, _⟩ => show win0_2.index t 1 * 1024 + 1 * k.val = k.val
              rw [hi.2.1]; omega
  | ⟨2, _⟩ => show win0_2.index t 2 * 5888 + 1 * j.val = j.val
              rw [hi.2.2]; omega

open Cert.Reference3Ideal.Read in
/-- The reference's normalised row, read at an index. -/
theorem ref_norm (x : S32768x1024.Idx → EReal) (g : S2x1024.Idx → EReal) (R : Fin 32768) (k : Fin 1024) :
    val_main_v14 (F := Ideal) x g (ix2 R k)
      = x (ix2 R k) * Ideal.rsqrt (Ideal.div (∑ l : Fin 1024, x (ix2 R l) * x (ix2 R l)) (Ideal.ofBits .f32 0x44800000#32)
    + Ideal.ofBits .f32 0x358637BD#32) * g (ix2 0 k) := by
  pointwise [val_main_v14, val_main_v11, val_main_v10, val_main_v9, val_main_v8, val_main_v7, val_main_v6, val_main_v5, val_main_v4, val_main_v3, val_main_v2, val_main_cst, val_main_cst_0, val_main_cst_1, val_main_v13, val_main_v12, val_main_v1, val_main_v0]

open Cert.Reference3Ideal.Read in
/-- The reference's product, read at an index. -/
theorem ref_proj (x : S32768x1024.Idx → EReal) (g : S2x1024.Idx → EReal) (w : S2x1024x5888.Idx → EReal) (R : Fin 32768) (j : Fin 5888) :
    val_main_v17 (F := Ideal) x g w (ix2 R j) = ∑ k : Fin 1024, val_main_v14 (F := Ideal) x g (ix2 R k) * w (ix3 0 k j) := by
  rw [val_main_v17_apply]
  refine Finset.sum_congr rfl fun k _ => congrArg₂ (· * ·) (congrArg _ (funext fun a => Fin.ext (by match a with | ⟨0, _⟩ => rfl | ⟨1, _⟩ => rfl))) ?_
  generalize hq : Cert.Reference3Ideal.Read.ridx_main_v17 (ix2 R j) k = q
  have hq' : q = ix2 k j := by rw [← hq]; exact funext fun a => Fin.ext (by match a with | ⟨0, _⟩ => rfl | ⟨1, _⟩ => rfl)
  rw [hq']
  pointwise [val_main_v16, val_main_v15]

/-- The product of a block, as the reference's product of the whole arrays. -/
theorem proj_block (c : Dev nD) (t : Fin cfg0.N) (r : Fin 512) (j : Fin 5888) (R : Fin 32768) (hR : R.val = 512 * t.val + r.val) :
    proj (iblk m c 0 t) (iblk m c 1 t) (iblk m c 2 t) r j
      = Cert.Reference3Ideal.Read.val_main_v17 (F := Ideal) (aH m c) (aG m c) (aW m c) (ix2 R j) := by
  rw [ref_proj]
  unfold proj nrm
  refine Finset.sum_congr rfl fun k _ => ?_
  rw [ref_norm, iblk2_apply, iblk1_apply, iblk0_apply m c t r k R hR]
  simp only [fun l => iblk0_apply m c t r l R hR]

open Cert.Reference3Ideal.Read in
theorem ref3 (x : S32768x1024.Idx → EReal) (g : S2x1024.Idx → EReal) (w : S2x1024x5888.Idx → EReal) (R : Fin 32768) (p : Fin 9) (q : Fin 128) :
    val_main_v20 (F := Ideal) x g w (ix3 p R q) = val_main_v17 (F := Ideal) x g w (ix2 R ⟨p.val * 128 + q.val, by omega⟩) := by
  rw [val_main_v20_apply, val_main_v19_apply, val_main_v18_apply]
  refine congrArg _ (funext fun a => Fin.ext ?_)
  match a with
  | ⟨0, _⟩ => show ((R.val * 9 + p.val) * 128 + q.val) / 1152 = R.val; omega
  | ⟨1, _⟩ => show ((R.val * 9 + p.val) * 128 + q.val) % 1152 = p.val * 128 + q.val; omega

open Cert.Reference3Ideal.Read in
theorem ref5 (x : S32768x1024.Idx → EReal) (g : S2x1024.Idx → EReal) (w : S2x1024x5888.Idx → EReal) (R : Fin 32768) (p : Fin 2) (q : Fin 128) :
    val_main_v23 (F := Ideal) x g w (ix3 p R q) = val_main_v17 (F := Ideal) x g w (ix2 R ⟨2560 + (p.val * 128 + q.val), by omega⟩) := by
  rw [val_main_v23_apply, val_main_v22_apply, val_main_v21_apply]
  refine congrArg _ (funext fun a => Fin.ext ?_)
  match a with
  | ⟨0, _⟩ => show ((R.val * 2 + p.val) * 128 + q.val) / 256 = R.val; omega
  | ⟨1, _⟩ => show 2560 + ((R.val * 2 + p.val) * 128 + q.val) % 256 = 2560 + (p.val * 128 + q.val); omega

open Cert.Reference3Ideal.Read in
theorem ref4 (x : S32768x1024.Idx → EReal) (g : S2x1024.Idx → EReal) (w : S2x1024x5888.Idx → EReal) (R : Fin 32768) (q : Fin 1408) :
    val_main_v24 (F := Ideal) x g w (ix2 R q) = val_main_v17 (F := Ideal) x g w (ix2 R ⟨1152 + q.val, by omega⟩) := by
  rw [val_main_v24_apply]
  refine congrArg _ (funext fun a => Fin.ext ?_)
  match a with
  | ⟨0, _⟩ => rfl
  | ⟨1, _⟩ => rfl

open Cert.Reference3Ideal.Read in
theorem ref6 (x : S32768x1024.Idx → EReal) (g : S2x1024.Idx → EReal) (w : S2x1024x5888.Idx → EReal) (R : Fin 32768) (q : Fin 3072) :
    val_main_v32 (F := Ideal) x g w (ix2 R q) = gate (val_main_v17 (F := Ideal) x g w (ix2 R ⟨2816 + q.val, by omega⟩)) := by
  have e : val_main_v25 (F := Ideal) x g w (ix2 R q) = val_main_v17 (F := Ideal) x g w (ix2 R ⟨2816 + q.val, by omega⟩) := by
    rw [val_main_v25_apply]
    refine congrArg _ (funext fun a => Fin.ext ?_)
    match a with
    | ⟨0, _⟩ => rfl
    | ⟨1, _⟩ => rfl
  rw [← e]
  pointwise [val_main_v32, val_main_v31, val_main_v30, val_main_v29, val_main_v28, val_main_v27, val_main_v26, val_main_cst_2, val_main_cst_3, gate]

theorem row_lt (t : Fin cfg0.N) (r : Fin 512) : 512 * t.val + r.val < 32768 := by
  have ht : t.val < 64 := lt_of_lt_of_eq t.isLt N64
  omega

/-- The reference's four results at the arguments. -/
abbrev res3 (c : Dev nD) : S9x32768x128.Idx → EReal := Cert.Reference3Ideal.Read.val_main_v20 (F := Ideal) (aH m c) (aG m c) (aW m c)
abbrev res4 (c : Dev nD) : S32768x1408.Idx → EReal := Cert.Reference3Ideal.Read.val_main_v24 (F := Ideal) (aH m c) (aG m c) (aW m c)
abbrev res5 (c : Dev nD) : S2x32768x128.Idx → EReal := Cert.Reference3Ideal.Read.val_main_v23 (F := Ideal) (aH m c) (aG m c) (aW m c)
abbrev res6 (c : Dev nD) : S32768x3072.Idx → EReal := Cert.Reference3Ideal.Read.val_main_v32 (F := Ideal) (aH m c) (aG m c) (aW m c)

theorem index3 : ∀ t : Fin cfg0.N, (cfg0.win 3).index t 0 = 0 ∧ (cfg0.win 3).index t 1 = t.val ∧ (cfg0.win 3).index t 2 = 0 :=
  (by decide +kernel : ∀ t : Fin grid0.N, win0_3.index t 0 = 0 ∧ win0_3.index t 1 = t.val ∧ win0_3.index t 2 = 0)

/-- What grid point `t` writes to result 0 is block `t` of the reference's array. -/
theorem flushed3_eq (c : Dev nD) (t : Fin cfg0.N) :
    (dats m 0 c).flushed 3 t = ((cfg0.win 3).blk t).view.read (Elt Ideal) (res3 m c) := by
  rw [Value.flushed3, out3_eq]
  funext y
  have hi := index3 t
  have e : ((cfg0.win 3).blk t).view.emb y = (ix3 (y 0) ⟨512 * t.val + (y 1).val, row_lt t (y 1)⟩ (y 2) : S9x32768x128.Idx) := funext fun a => Fin.ext (by
  match a with
  | ⟨0, _⟩ => show win0_3.index t 0 * 9 + 1 * (y 0).val = (y 0).val; rw [hi.1]; omega
  | ⟨1, _⟩ => show win0_3.index t 1 * 512 + 1 * (y 1).val = 512 * t.val + (y 1).val; rw [hi.2.1]; omega
  | ⟨2, _⟩ => show win0_3.index t 2 * 128 + 1 * (y 2).val = (y 2).val; rw [hi.2.2]; omega)
  show blk3 (iblk m c 0 t) (iblk m c 1 t) (iblk m c 2 t) y = res3 m c (((cfg0.win 3).blk t).view.emb y)
  rw [e]
  have hp := proj_block m c t (y 1) ⟨(y 0).val * 128 + (y 2).val, by have h0 : (y 0).val < 9 := (y 0).isLt; have h2 : (y 2).val < 128 := (y 2).isLt; omega⟩ ⟨512 * t.val + (y 1).val, row_lt t (y 1)⟩ rfl
  unfold blk3
  rw [hp]
  exact (ref3 (aH m c) (aG m c) (aW m c) _ _ _).symm

/-- The blocks of result 0 cover it. -/
theorem cover3 (i : S9x32768x128.Idx) :
    ∃ t : Fin cfg0.N, (cfg0.win 3).flush t = true ∧ i ∈ ((cfg0.win 3).blk t).view.set := by
  have hr : (i 1).val < 32768 := (i 1).isLt
  have ht : (i 1).val / 512 < cfg0.N := by rw [show cfg0.N = 64 from N64]; omega
  refine ⟨⟨(i 1).val / 512, ht⟩, flush0_3 _, ?_⟩
  have hi := index3 ⟨(i 1).val / 512, ht⟩
  generalize hq : (⟨(i 1).val / 512, ht⟩ : Fin cfg0.N) = t at hi
  have htv : t.val = (i 1).val / 512 := by rw [← hq]
  show i ∈ ((View.whole main_v4_0).slice (win0_3.rect t)).set
  rw [View.set_slice_whole, Rect.mem_set_unit]
  intro a
  match a with
    | ⟨0, _⟩ => show win0_3.index t 0 * 9 ≤ (i 0).val ∧ (i 0).val < win0_3.index t 0 * 9 + 9; rw [hi.1]; have hb : (i 0).val < 9 := (i 0).isLt; omega
    | ⟨1, _⟩ => show win0_3.index t 1 * 512 ≤ (i 1).val ∧ (i 1).val < win0_3.index t 1 * 512 + 512; rw [hi.2.1]; have hb : (i 1).val < 32768 := (i 1).isLt; omega
    | ⟨2, _⟩ => show win0_3.index t 2 * 128 ≤ (i 2).val ∧ (i 2).val < win0_3.index t 2 * 128 + 128; rw [hi.2.2]; have hb : (i 2).val < 128 := (i 2).isLt; omega

theorem final3 (c : Dev nD) : (dats m 0 c).arrAt 3 cfg0.N = res3 m c :=
  (dats m 0 c).arrAt_eq_of_cover 3 (res3 m c) (fun t _ => flushed3_eq m c t) (cover3)

theorem index4 : ∀ t : Fin cfg0.N, (cfg0.win 4).index t 0 = t.val ∧ (cfg0.win 4).index t 1 = 0 :=
  (by decide +kernel : ∀ t : Fin grid0.N, win0_4.index t 0 = t.val ∧ win0_4.index t 1 = 0)

/-- What grid point `t` writes to result 1 is block `t` of the reference's array. -/
theorem flushed4_eq (c : Dev nD) (t : Fin cfg0.N) :
    (dats m 0 c).flushed 4 t = ((cfg0.win 4).blk t).view.read (Elt Ideal) (res4 m c) := by
  rw [Value.flushed4, out4_eq]
  funext y
  have hi := index4 t
  have e : ((cfg0.win 4).blk t).view.emb y = (ix2 ⟨512 * t.val + (y 0).val, row_lt t (y 0)⟩ (y 1) : S32768x1408.Idx) := funext fun a => Fin.ext (by
  match a with
  | ⟨0, _⟩ => show win0_4.index t 0 * 512 + 1 * (y 0).val = 512 * t.val + (y 0).val; rw [hi.1]; omega
  | ⟨1, _⟩ => show win0_4.index t 1 * 1408 + 1 * (y 1).val = (y 1).val; rw [hi.2]; omega)
  show blk4 (iblk m c 0 t) (iblk m c 1 t) (iblk m c 2 t) y = res4 m c (((cfg0.win 4).blk t).view.emb y)
  rw [e]
  have hp := proj_block m c t (y 0) ⟨1152 + (y 1).val, by have h1 : (y 1).val < 1408 := (y 1).isLt; omega⟩ ⟨512 * t.val + (y 0).val, row_lt t (y 0)⟩ rfl
  unfold blk4
  rw [hp]
  exact (ref4 (aH m c) (aG m c) (aW m c) _ _).symm

/-- The blocks of result 1 cover it. -/
theorem cover4 (i : S32768x1408.Idx) :
    ∃ t : Fin cfg0.N, (cfg0.win 4).flush t = true ∧ i ∈ ((cfg0.win 4).blk t).view.set := by
  have hr : (i 0).val < 32768 := (i 0).isLt
  have ht : (i 0).val / 512 < cfg0.N := by rw [show cfg0.N = 64 from N64]; omega
  refine ⟨⟨(i 0).val / 512, ht⟩, flush0_4 _, ?_⟩
  have hi := index4 ⟨(i 0).val / 512, ht⟩
  generalize hq : (⟨(i 0).val / 512, ht⟩ : Fin cfg0.N) = t at hi
  have htv : t.val = (i 0).val / 512 := by rw [← hq]
  show i ∈ ((View.whole main_v4_1).slice (win0_4.rect t)).set
  rw [View.set_slice_whole, Rect.mem_set_unit]
  intro a
  match a with
    | ⟨0, _⟩ => show win0_4.index t 0 * 512 ≤ (i 0).val ∧ (i 0).val < win0_4.index t 0 * 512 + 512; rw [hi.1]; have hb : (i 0).val < 32768 := (i 0).isLt; omega
    | ⟨1, _⟩ => show win0_4.index t 1 * 1408 ≤ (i 1).val ∧ (i 1).val < win0_4.index t 1 * 1408 + 1408; rw [hi.2]; have hb : (i 1).val < 1408 := (i 1).isLt; omega

theorem final4 (c : Dev nD) : (dats m 0 c).arrAt 4 cfg0.N = res4 m c :=
  (dats m 0 c).arrAt_eq_of_cover 4 (res4 m c) (fun t _ => flushed4_eq m c t) (cover4)

theorem index5 : ∀ t : Fin cfg0.N, (cfg0.win 5).index t 0 = 0 ∧ (cfg0.win 5).index t 1 = t.val ∧ (cfg0.win 5).index t 2 = 0 :=
  (by decide +kernel : ∀ t : Fin grid0.N, win0_5.index t 0 = 0 ∧ win0_5.index t 1 = t.val ∧ win0_5.index t 2 = 0)

/-- What grid point `t` writes to result 2 is block `t` of the reference's array. -/
theorem flushed5_eq (c : Dev nD) (t : Fin cfg0.N) :
    (dats m 0 c).flushed 5 t = ((cfg0.win 5).blk t).view.read (Elt Ideal) (res5 m c) := by
  rw [Value.flushed5, out5_eq]
  funext y
  have hi := index5 t
  have e : ((cfg0.win 5).blk t).view.emb y = (ix3 (y 0) ⟨512 * t.val + (y 1).val, row_lt t (y 1)⟩ (y 2) : S2x32768x128.Idx) := funext fun a => Fin.ext (by
  match a with
  | ⟨0, _⟩ => show win0_5.index t 0 * 2 + 1 * (y 0).val = (y 0).val; rw [hi.1]; omega
  | ⟨1, _⟩ => show win0_5.index t 1 * 512 + 1 * (y 1).val = 512 * t.val + (y 1).val; rw [hi.2.1]; omega
  | ⟨2, _⟩ => show win0_5.index t 2 * 128 + 1 * (y 2).val = (y 2).val; rw [hi.2.2]; omega)
  show blk5 (iblk m c 0 t) (iblk m c 1 t) (iblk m c 2 t) y = res5 m c (((cfg0.win 5).blk t).view.emb y)
  rw [e]
  have hp := proj_block m c t (y 1) ⟨2560 + ((y 0).val * 128 + (y 2).val), by have h0 : (y 0).val < 2 := (y 0).isLt; have h2 : (y 2).val < 128 := (y 2).isLt; omega⟩ ⟨512 * t.val + (y 1).val, row_lt t (y 1)⟩ rfl
  unfold blk5
  rw [hp]
  exact (ref5 (aH m c) (aG m c) (aW m c) _ _ _).symm

/-- The blocks of result 2 cover it. -/
theorem cover5 (i : S2x32768x128.Idx) :
    ∃ t : Fin cfg0.N, (cfg0.win 5).flush t = true ∧ i ∈ ((cfg0.win 5).blk t).view.set := by
  have hr : (i 1).val < 32768 := (i 1).isLt
  have ht : (i 1).val / 512 < cfg0.N := by rw [show cfg0.N = 64 from N64]; omega
  refine ⟨⟨(i 1).val / 512, ht⟩, flush0_5 _, ?_⟩
  have hi := index5 ⟨(i 1).val / 512, ht⟩
  generalize hq : (⟨(i 1).val / 512, ht⟩ : Fin cfg0.N) = t at hi
  have htv : t.val = (i 1).val / 512 := by rw [← hq]
  show i ∈ ((View.whole main_v4_2).slice (win0_5.rect t)).set
  rw [View.set_slice_whole, Rect.mem_set_unit]
  intro a
  match a with
    | ⟨0, _⟩ => show win0_5.index t 0 * 2 ≤ (i 0).val ∧ (i 0).val < win0_5.index t 0 * 2 + 2; rw [hi.1]; have hb : (i 0).val < 2 := (i 0).isLt; omega
    | ⟨1, _⟩ => show win0_5.index t 1 * 512 ≤ (i 1).val ∧ (i 1).val < win0_5.index t 1 * 512 + 512; rw [hi.2.1]; have hb : (i 1).val < 32768 := (i 1).isLt; omega
    | ⟨2, _⟩ => show win0_5.index t 2 * 128 ≤ (i 2).val ∧ (i 2).val < win0_5.index t 2 * 128 + 128; rw [hi.2.2]; have hb : (i 2).val < 128 := (i 2).isLt; omega

theorem final5 (c : Dev nD) : (dats m 0 c).arrAt 5 cfg0.N = res5 m c :=
  (dats m 0 c).arrAt_eq_of_cover 5 (res5 m c) (fun t _ => flushed5_eq m c t) (cover5)

theorem index6 : ∀ t : Fin cfg0.N, (cfg0.win 6).index t 0 = t.val ∧ (cfg0.win 6).index t 1 = 0 :=
  (by decide +kernel : ∀ t : Fin grid0.N, win0_6.index t 0 = t.val ∧ win0_6.index t 1 = 0)

/-- What grid point `t` writes to result 3 is block `t` of the reference's array. -/
theorem flushed6_eq (c : Dev nD) (t : Fin cfg0.N) :
    (dats m 0 c).flushed 6 t = ((cfg0.win 6).blk t).view.read (Elt Ideal) (res6 m c) := by
  rw [Value.flushed6, out6_eq]
  funext y
  have hi := index6 t
  have e : ((cfg0.win 6).blk t).view.emb y = (ix2 ⟨512 * t.val + (y 0).val, row_lt t (y 0)⟩ (y 1) : S32768x3072.Idx) := funext fun a => Fin.ext (by
  match a with
  | ⟨0, _⟩ => show win0_6.index t 0 * 512 + 1 * (y 0).val = 512 * t.val + (y 0).val; rw [hi.1]; omega
  | ⟨1, _⟩ => show win0_6.index t 1 * 3072 + 1 * (y 1).val = (y 1).val; rw [hi.2]; omega)
  show blk6 (iblk m c 0 t) (iblk m c 1 t) (iblk m c 2 t) y = res6 m c (((cfg0.win 6).blk t).view.emb y)
  rw [e]
  have hp := proj_block m c t (y 0) ⟨2816 + (y 1).val, by have h1 : (y 1).val < 3072 := (y 1).isLt; omega⟩ ⟨512 * t.val + (y 0).val, row_lt t (y 0)⟩ rfl
  unfold blk6
  rw [hp]
  exact (ref6 (aH m c) (aG m c) (aW m c) _ _).symm

/-- The blocks of result 3 cover it. -/
theorem cover6 (i : S32768x3072.Idx) :
    ∃ t : Fin cfg0.N, (cfg0.win 6).flush t = true ∧ i ∈ ((cfg0.win 6).blk t).view.set := by
  have hr : (i 0).val < 32768 := (i 0).isLt
  have ht : (i 0).val / 512 < cfg0.N := by rw [show cfg0.N = 64 from N64]; omega
  refine ⟨⟨(i 0).val / 512, ht⟩, flush0_6 _, ?_⟩
  have hi := index6 ⟨(i 0).val / 512, ht⟩
  generalize hq : (⟨(i 0).val / 512, ht⟩ : Fin cfg0.N) = t at hi
  have htv : t.val = (i 0).val / 512 := by rw [← hq]
  show i ∈ ((View.whole main_v4_3).slice (win0_6.rect t)).set
  rw [View.set_slice_whole, Rect.mem_set_unit]
  intro a
  match a with
    | ⟨0, _⟩ => show win0_6.index t 0 * 512 ≤ (i 0).val ∧ (i 0).val < win0_6.index t 0 * 512 + 512; rw [hi.1]; have hb : (i 0).val < 32768 := (i 0).isLt; omega
    | ⟨1, _⟩ => show win0_6.index t 1 * 3072 ≤ (i 1).val ∧ (i 1).val < win0_6.index t 1 * 3072 + 3072; rw [hi.2]; have hb : (i 1).val < 3072 := (i 1).isLt; omega

theorem final6 (c : Dev nD) : (dats m 0 c).arrAt 6 cfg0.N = res6 m c :=
  (dats m 0 c).arrAt_eq_of_cover 6 (res6 m c) (fun t _ => flushed6_eq m c t) (cover6)

/-- The projection's run: its four results at the reference's arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = res3 m c
      ∧ r.2.mem ((c : Thread nD τ).loc main_v4_1) = res4 m c
      ∧ r.2.mem ((c : Thread nD τ).loc main_v4_2) = res5 m c
      ∧ r.2.mem ((c : Thread nD τ).loc main_v4_3) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c),
    (h c).2.2.2.1.trans (final6 m c), (h c).2.2.2.2⟩) (Value.run_blocks m ρ)

end Cert.Kernel3Ideal.Hand

end
-- ==== Proof.Proj.Claims.lean ====
/-
  The claims about the first projection: the frames of the printed programs, that idealizing rewrote nothing, and that
  the kernel computes the reference's four results over the extended reals.
-/
module

public import proofs.«01_k».proof.Defs
public import proofs.«01_k».proof.Proof.Proj.Whole
public import proofs.«01_k».proof.Proof.Gen.Kernel3.Frame
public import proofs.«01_k».proof.Proof.Gen.Reference3Ideal.Run
public import proofs.«01_k».proof.Proof.Gen.Reference3Ideal.Read
public import Idealize.ShloMosaic.Lib.Quiescent

@[expose] public section

set_option maxRecDepth 16384

noncomputable section

open Idealize.ShloMosaic Idealize.ShloMosaic.TcCoe Idealize.SL.Sem

namespace Cert.ProjClaims

theorem frame_k : Cert.quiescent_Kernel3 := fun m ρ _ => Cert.Kernel3.Gen.frame m ρ
theorem frame_ki : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

theorem preserves : Cert.preserves_Kernel3_Kernel3Ideal := trivial

/-- Both programs end with the reference's arrays of the arguments they share. -/
theorem algebraic : Cert.algebraic_Kernel3Ideal_Reference3Ideal := fun m ρ m' ρ' _ hag =>
  ⟨fun c => Cert.Kernel3Ideal.Hand.res3 m c, fun c => Cert.Kernel3Ideal.Hand.res4 m c,
    fun c => Cert.Kernel3Ideal.Hand.res5 m c, fun c => Cert.Kernel3Ideal.Hand.res6 m c,
    Cert.Kernel3Ideal.Hand.run m ρ,
    (θ_run Cert.Reference3Ideal.defs _ _).mono (fun r h c => by
      have e0 := (hag c).1
      have e1 := (hag c).2.1
      have e2 := (hag c).2.2
      refine ⟨((h c).1.trans (Cert.Reference3Ideal.Read.val_main_v20_eq ..)).trans ?_,
        ((h c).2.1.trans (Cert.Reference3Ideal.Read.val_main_v24_eq ..)).trans ?_,
        ((h c).2.2.1.trans (Cert.Reference3Ideal.Read.val_main_v23_eq ..)).trans ?_,
        ((h c).2.2.2.1.trans (Cert.Reference3Ideal.Read.val_main_v32_eq ..)).trans ?_, (h c).2.2.2.2⟩ <;>
      rw [e0, e1, e2]) (Cert.Reference3Ideal.Value.run (F := Ideal) m' ρ')⟩

end Cert.ProjClaims

end
-- ==== Proof.lean ====
/-
  The certificate: the programs' stated facts, then the claims about the dilated attention, about the merge and
  feed-forward call and about the input projection.
-/
module

public import proofs.«01_k».proof.Proof.Gen.Kernel
public import proofs.«01_k».proof.Proof.Gen.Kernel.Skeleton
public import proofs.«01_k».proof.Proof.Gen.Kernel.Loops
public import proofs.«01_k».proof.Proof.Gen.KernelIdeal
public import proofs.«01_k».proof.Proof.Gen.KernelIdeal.Skeleton
public import proofs.«01_k».proof.Proof.Gen.KernelIdeal.Loops
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Attn.Claims
public import proofs.«01_k».proof.Proof.Ffn.Claims
public import proofs.«01_k».proof.Proof.Proj.Claims
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  AttnClaims.pre_facts,
  AttnClaims.frame_k, AttnClaims.frame_ki, AttnClaims.frame_ki_pre, AttnClaims.frame_ri, AttnClaims.frame_ri_pre,
  FfnClaims.frame_k, FfnClaims.frame_ki, FfnClaims.frame_ri, ProjClaims.frame_k, ProjClaims.frame_ki, ProjClaims.frame_ri,
  AttnClaims.preserves, AttnClaims.algebraic, FfnClaims.preserves, FfnClaims.algebraic, ProjClaims.preserves, ProjClaims.algebraic⟩

end Cert.Proof

end
